-- ==== Defs.lean ====
def Pre_Mamba (m : (ℓ : Loc Cert.Mamba.nD Cert.Mamba.τ Cert.Mamba.sig) → Buf (Elt Bits) ℓ) : Prop :=
  True

def Pre_MambaIdeal (m : (ℓ : Loc Cert.MambaIdeal.nD Cert.MambaIdeal.τ Cert.MambaIdeal.sig) → Buf (Elt Ideal) ℓ) : Prop :=
  True

def Pre_MambaRefIdeal (m : (ℓ : Loc Cert.MambaRefIdeal.nD Cert.MambaRefIdeal.τ Cert.MambaRefIdeal.sig) → Buf (Elt Ideal) ℓ) : Prop :=
  True

def quiescent_Mamba [hMamba : Cert.Mamba.Facts] : Prop :=
  ∀ (m : (ℓ : Loc Cert.Mamba.nD Cert.Mamba.τ Cert.Mamba.sig) → Buf (Elt Bits) ℓ) (g : Dev Cert.Mamba.nD → PrngReg), Pre_Mamba m →
    θ_run (Cert.Mamba.defs (F := Bits)) (onTc (τ := Cert.Mamba.τ) (Cert.Mamba.main (F := Bits))) ⟨m, fun _ => 0, g⟩ (fun r => (∀ c : Dev Cert.Mamba.nD,
      r.2.mem ((c.tc : Thread Cert.Mamba.nD Cert.Mamba.τ).loc Cert.Mamba.main_arg0) = m ((c.tc : Thread Cert.Mamba.nD Cert.Mamba.τ).loc Cert.Mamba.main_arg0)
      ∧ r.2.mem ((c.tc : Thread Cert.Mamba.nD Cert.Mamba.τ).loc Cert.Mamba.main_arg1) = m ((c.tc : Thread Cert.Mamba.nD Cert.Mamba.τ).loc Cert.Mamba.main_arg1)
      ∧ r.2.mem ((c.tc : Thread Cert.Mamba.nD Cert.Mamba.τ).loc Cert.Mamba.main_arg2) = m ((c.tc : Thread Cert.Mamba.nD Cert.Mamba.τ).loc Cert.Mamba.main_arg2)
      ∧ r.2.mem ((c.tc : Thread Cert.Mamba.nD Cert.Mamba.τ).loc Cert.Mamba.main_arg3) = m ((c.tc : Thread Cert.Mamba.nD Cert.Mamba.τ).loc Cert.Mamba.main_arg3)
      ∧ r.2.mem ((c.tc : Thread Cert.Mamba.nD Cert.Mamba.τ).loc Cert.Mamba.main_arg4) = m ((c.tc : Thread Cert.Mamba.nD Cert.Mamba.τ).loc Cert.Mamba.main_arg4)
      ∧ r.2.mem ((c.tc : Thread Cert.Mamba.nD Cert.Mamba.τ).loc Cert.Mamba.main_arg5) = m ((c.tc : Thread Cert.Mamba.nD Cert.Mamba.τ).loc Cert.Mamba.main_arg5)
      ∧ r.2.mem ((c.tc : Thread Cert.Mamba.nD Cert.Mamba.τ).loc Cert.Mamba.main_arg6) = m ((c.tc : Thread Cert.Mamba.nD Cert.Mamba.τ).loc Cert.Mamba.main_arg6)
      ∧ r.2.mem ((c.tc : Thread Cert.Mamba.nD Cert.Mamba.τ).loc Cert.Mamba.main_arg7) = m ((c.tc : Thread Cert.Mamba.nD Cert.Mamba.τ).loc Cert.Mamba.main_arg7)
      ∧ r.2.mem ((c.tc : Thread Cert.Mamba.nD Cert.Mamba.τ).loc Cert.Mamba.main_arg8) = m ((c.tc : Thread Cert.Mamba.nD Cert.Mamba.τ).loc Cert.Mamba.main_arg8)
      ∧ r.2.mem ((c.tc : Thread Cert.Mamba.nD Cert.Mamba.τ).loc Cert.Mamba.main_arg9) = m ((c.tc : Thread Cert.Mamba.nD Cert.Mamba.τ).loc Cert.Mamba.main_arg9)
      ∧ r.2.mem ((c.tc : Thread Cert.Mamba.nD Cert.Mamba.τ).loc Cert.Mamba.main_arg10) = m ((c.tc : Thread Cert.Mamba.nD Cert.Mamba.τ).loc Cert.Mamba.main_arg10)
      ∧ r.2.mem ((c.tc : Thread Cert.Mamba.nD Cert.Mamba.τ).loc Cert.Mamba.main_arg11) = m ((c.tc : Thread Cert.Mamba.nD Cert.Mamba.τ).loc Cert.Mamba.main_arg11)
      ∧ r.2.mem ((c.tc : Thread Cert.Mamba.nD Cert.Mamba.τ).loc Cert.Mamba.main_arg12) = m ((c.tc : Thread Cert.Mamba.nD Cert.Mamba.τ).loc Cert.Mamba.main_arg12)
      ∧ r.2.mem ((c.tc : Thread Cert.Mamba.nD Cert.Mamba.τ).loc Cert.Mamba.main_arg13) = m ((c.tc : Thread Cert.Mamba.nD Cert.Mamba.τ).loc Cert.Mamba.main_arg13)
      ∧ r.2.mem ((c.tc : Thread Cert.Mamba.nD Cert.Mamba.τ).loc Cert.Mamba.main_arg14) = m ((c.tc : Thread Cert.Mamba.nD Cert.Mamba.τ).loc Cert.Mamba.main_arg14)
      ∧ r.2.mem ((c.tc : Thread Cert.Mamba.nD Cert.Mamba.τ).loc Cert.Mamba.main_arg15) = m ((c.tc : Thread Cert.Mamba.nD Cert.Mamba.τ).loc Cert.Mamba.main_arg15))
      ∧ r.2.sem = fun _ => 0)

def quiescent_MambaIdeal [hMambaIdeal : Cert.MambaIdeal.Facts] : Prop :=
  ∀ (m : (ℓ : Loc Cert.MambaIdeal.nD Cert.MambaIdeal.τ Cert.MambaIdeal.sig) → Buf (Elt Ideal) ℓ) (g : Dev Cert.MambaIdeal.nD → PrngReg), Pre_MambaIdeal m →
    θ_run (Cert.MambaIdeal.defs (F := Ideal)) (onTc (τ := Cert.MambaIdeal.τ) (Cert.MambaIdeal.main (F := Ideal))) ⟨m, fun _ => 0, g⟩ (fun r => (∀ c : Dev Cert.MambaIdeal.nD,
      r.2.mem ((c.tc : Thread Cert.MambaIdeal.nD Cert.MambaIdeal.τ).loc Cert.MambaIdeal.main_arg0) = m ((c.tc : Thread Cert.MambaIdeal.nD Cert.MambaIdeal.τ).loc Cert.MambaIdeal.main_arg0)
      ∧ r.2.mem ((c.tc : Thread Cert.MambaIdeal.nD Cert.MambaIdeal.τ).loc Cert.MambaIdeal.main_arg1) = m ((c.tc : Thread Cert.MambaIdeal.nD Cert.MambaIdeal.τ).loc Cert.MambaIdeal.main_arg1)
      ∧ r.2.mem ((c.tc : Thread Cert.MambaIdeal.nD Cert.MambaIdeal.τ).loc Cert.MambaIdeal.main_arg2) = m ((c.tc : Thread Cert.MambaIdeal.nD Cert.MambaIdeal.τ).loc Cert.MambaIdeal.main_arg2)
      ∧ r.2.mem ((c.tc : Thread Cert.MambaIdeal.nD Cert.MambaIdeal.τ).loc Cert.MambaIdeal.main_arg3) = m ((c.tc : Thread Cert.MambaIdeal.nD Cert.MambaIdeal.τ).loc Cert.MambaIdeal.main_arg3)
      ∧ r.2.mem ((c.tc : Thread Cert.MambaIdeal.nD Cert.MambaIdeal.τ).loc Cert.MambaIdeal.main_arg4) = m ((c.tc : Thread Cert.MambaIdeal.nD Cert.MambaIdeal.τ).loc Cert.MambaIdeal.main_arg4)
      ∧ r.2.mem ((c.tc : Thread Cert.MambaIdeal.nD Cert.MambaIdeal.τ).loc Cert.MambaIdeal.main_arg5) = m ((c.tc : Thread Cert.MambaIdeal.nD Cert.MambaIdeal.τ).loc Cert.MambaIdeal.main_arg5)
      ∧ r.2.mem ((c.tc : Thread Cert.MambaIdeal.nD Cert.MambaIdeal.τ).loc Cert.MambaIdeal.main_arg6) = m ((c.tc : Thread Cert.MambaIdeal.nD Cert.MambaIdeal.τ).loc Cert.MambaIdeal.main_arg6)
      ∧ r.2.mem ((c.tc : Thread Cert.MambaIdeal.nD Cert.MambaIdeal.τ).loc Cert.MambaIdeal.main_arg7) = m ((c.tc : Thread Cert.MambaIdeal.nD Cert.MambaIdeal.τ).loc Cert.MambaIdeal.main_arg7)
      ∧ r.2.mem ((c.tc : Thread Cert.MambaIdeal.nD Cert.MambaIdeal.τ).loc Cert.MambaIdeal.main_arg8) = m ((c.tc : Thread Cert.MambaIdeal.nD Cert.MambaIdeal.τ).loc Cert.MambaIdeal.main_arg8)
      ∧ r.2.mem ((c.tc : Thread Cert.MambaIdeal.nD Cert.MambaIdeal.τ).loc Cert.MambaIdeal.main_arg9) = m ((c.tc : Thread Cert.MambaIdeal.nD Cert.MambaIdeal.τ).loc Cert.MambaIdeal.main_arg9)
      ∧ r.2.mem ((c.tc : Thread Cert.MambaIdeal.nD Cert.MambaIdeal.τ).loc Cert.MambaIdeal.main_arg10) = m ((c.tc : Thread Cert.MambaIdeal.nD Cert.MambaIdeal.τ).loc Cert.MambaIdeal.main_arg10)
      ∧ r.2.mem ((c.tc : Thread Cert.MambaIdeal.nD Cert.MambaIdeal.τ).loc Cert.MambaIdeal.main_arg11) = m ((c.tc : Thread Cert.MambaIdeal.nD Cert.MambaIdeal.τ).loc Cert.MambaIdeal.main_arg11)
      ∧ r.2.mem ((c.tc : Thread Cert.MambaIdeal.nD Cert.MambaIdeal.τ).loc Cert.MambaIdeal.main_arg12) = m ((c.tc : Thread Cert.MambaIdeal.nD Cert.MambaIdeal.τ).loc Cert.MambaIdeal.main_arg12)
      ∧ r.2.mem ((c.tc : Thread Cert.MambaIdeal.nD Cert.MambaIdeal.τ).loc Cert.MambaIdeal.main_arg13) = m ((c.tc : Thread Cert.MambaIdeal.nD Cert.MambaIdeal.τ).loc Cert.MambaIdeal.main_arg13)
      ∧ r.2.mem ((c.tc : Thread Cert.MambaIdeal.nD Cert.MambaIdeal.τ).loc Cert.MambaIdeal.main_arg14) = m ((c.tc : Thread Cert.MambaIdeal.nD Cert.MambaIdeal.τ).loc Cert.MambaIdeal.main_arg14)
      ∧ r.2.mem ((c.tc : Thread Cert.MambaIdeal.nD Cert.MambaIdeal.τ).loc Cert.MambaIdeal.main_arg15) = m ((c.tc : Thread Cert.MambaIdeal.nD Cert.MambaIdeal.τ).loc Cert.MambaIdeal.main_arg15))
      ∧ r.2.sem = fun _ => 0)

def quiescent_MambaRefIdeal [hMambaRefIdeal : Cert.MambaRefIdeal.Facts] : Prop :=
  ∀ (m : (ℓ : Loc Cert.MambaRefIdeal.nD Cert.MambaRefIdeal.τ Cert.MambaRefIdeal.sig) → Buf (Elt Ideal) ℓ) (g : Dev Cert.MambaRefIdeal.nD → PrngReg), Pre_MambaRefIdeal m →
    θ_run (Cert.MambaRefIdeal.defs (F := Ideal)) (onTc (τ := Cert.MambaRefIdeal.τ) (Cert.MambaRefIdeal.main (F := Ideal))) ⟨m, fun _ => 0, g⟩ (fun r => (∀ c : Dev Cert.MambaRefIdeal.nD,
      r.2.mem ((c.tc : Thread Cert.MambaRefIdeal.nD Cert.MambaRefIdeal.τ).loc Cert.MambaRefIdeal.main_arg0) = m ((c.tc : Thread Cert.MambaRefIdeal.nD Cert.MambaRefIdeal.τ).loc Cert.MambaRefIdeal.main_arg0)
      ∧ r.2.mem ((c.tc : Thread Cert.MambaRefIdeal.nD Cert.MambaRefIdeal.τ).loc Cert.MambaRefIdeal.main_arg1) = m ((c.tc : Thread Cert.MambaRefIdeal.nD Cert.MambaRefIdeal.τ).loc Cert.MambaRefIdeal.main_arg1)
      ∧ r.2.mem ((c.tc : Thread Cert.MambaRefIdeal.nD Cert.MambaRefIdeal.τ).loc Cert.MambaRefIdeal.main_arg2) = m ((c.tc : Thread Cert.MambaRefIdeal.nD Cert.MambaRefIdeal.τ).loc Cert.MambaRefIdeal.main_arg2)
      ∧ r.2.mem ((c.tc : Thread Cert.MambaRefIdeal.nD Cert.MambaRefIdeal.τ).loc Cert.MambaRefIdeal.main_arg3) = m ((c.tc : Thread Cert.MambaRefIdeal.nD Cert.MambaRefIdeal.τ).loc Cert.MambaRefIdeal.main_arg3)
      ∧ r.2.mem ((c.tc : Thread Cert.MambaRefIdeal.nD Cert.MambaRefIdeal.τ).loc Cert.MambaRefIdeal.main_arg4) = m ((c.tc : Thread Cert.MambaRefIdeal.nD Cert.MambaRefIdeal.τ).loc Cert.MambaRefIdeal.main_arg4)
      ∧ r.2.mem ((c.tc : Thread Cert.MambaRefIdeal.nD Cert.MambaRefIdeal.τ).loc Cert.MambaRefIdeal.main_arg5) = m ((c.tc : Thread Cert.MambaRefIdeal.nD Cert.MambaRefIdeal.τ).loc Cert.MambaRefIdeal.main_arg5)
      ∧ r.2.mem ((c.tc : Thread Cert.MambaRefIdeal.nD Cert.MambaRefIdeal.τ).loc Cert.MambaRefIdeal.main_arg6) = m ((c.tc : Thread Cert.MambaRefIdeal.nD Cert.MambaRefIdeal.τ).loc Cert.MambaRefIdeal.main_arg6)
      ∧ r.2.mem ((c.tc : Thread Cert.MambaRefIdeal.nD Cert.MambaRefIdeal.τ).loc Cert.MambaRefIdeal.main_arg7) = m ((c.tc : Thread Cert.MambaRefIdeal.nD Cert.MambaRefIdeal.τ).loc Cert.MambaRefIdeal.main_arg7)
      ∧ r.2.mem ((c.tc : Thread Cert.MambaRefIdeal.nD Cert.MambaRefIdeal.τ).loc Cert.MambaRefIdeal.main_arg8) = m ((c.tc : Thread Cert.MambaRefIdeal.nD Cert.MambaRefIdeal.τ).loc Cert.MambaRefIdeal.main_arg8)
      ∧ r.2.mem ((c.tc : Thread Cert.MambaRefIdeal.nD Cert.MambaRefIdeal.τ).loc Cert.MambaRefIdeal.main_arg9) = m ((c.tc : Thread Cert.MambaRefIdeal.nD Cert.MambaRefIdeal.τ).loc Cert.MambaRefIdeal.main_arg9)
      ∧ r.2.mem ((c.tc : Thread Cert.MambaRefIdeal.nD Cert.MambaRefIdeal.τ).loc Cert.MambaRefIdeal.main_arg10) = m ((c.tc : Thread Cert.MambaRefIdeal.nD Cert.MambaRefIdeal.τ).loc Cert.MambaRefIdeal.main_arg10)
      ∧ r.2.mem ((c.tc : Thread Cert.MambaRefIdeal.nD Cert.MambaRefIdeal.τ).loc Cert.MambaRefIdeal.main_arg11) = m ((c.tc : Thread Cert.MambaRefIdeal.nD Cert.MambaRefIdeal.τ).loc Cert.MambaRefIdeal.main_arg11)
      ∧ r.2.mem ((c.tc : Thread Cert.MambaRefIdeal.nD Cert.MambaRefIdeal.τ).loc Cert.MambaRefIdeal.main_arg12) = m ((c.tc : Thread Cert.MambaRefIdeal.nD Cert.MambaRefIdeal.τ).loc Cert.MambaRefIdeal.main_arg12)
      ∧ r.2.mem ((c.tc : Thread Cert.MambaRefIdeal.nD Cert.MambaRefIdeal.τ).loc Cert.MambaRefIdeal.main_arg13) = m ((c.tc : Thread Cert.MambaRefIdeal.nD Cert.MambaRefIdeal.τ).loc Cert.MambaRefIdeal.main_arg13)
      ∧ r.2.mem ((c.tc : Thread Cert.MambaRefIdeal.nD Cert.MambaRefIdeal.τ).loc Cert.MambaRefIdeal.main_arg14) = m ((c.tc : Thread Cert.MambaRefIdeal.nD Cert.MambaRefIdeal.τ).loc Cert.MambaRefIdeal.main_arg14)
      ∧ r.2.mem ((c.tc : Thread Cert.MambaRefIdeal.nD Cert.MambaRefIdeal.τ).loc Cert.MambaRefIdeal.main_arg15) = m ((c.tc : Thread Cert.MambaRefIdeal.nD Cert.MambaRefIdeal.τ).loc Cert.MambaRefIdeal.main_arg15))
      ∧ r.2.sem = fun _ => 0)

def preserves_Mamba_MambaIdeal : Prop :=
  True

def algebraic_MambaIdeal_MambaRefIdeal [hMambaIdeal : Cert.MambaIdeal.Facts] [hMambaRefIdeal : Cert.MambaRefIdeal.Facts] : Prop :=
  ∀ (m : (ℓ : Loc Cert.MambaIdeal.nD Cert.MambaIdeal.τ Cert.MambaIdeal.sig) → Buf (Elt Ideal) ℓ) (g : Dev Cert.MambaIdeal.nD → PrngReg)
    (m' : (ℓ : Loc Cert.MambaRefIdeal.nD Cert.MambaRefIdeal.τ Cert.MambaRefIdeal.sig) → Buf (Elt Ideal) ℓ) (g' : Dev Cert.MambaRefIdeal.nD → PrngReg), Pre_MambaIdeal m →
    (∀ c : Dev Cert.MambaIdeal.nD,
      m' ((c.tc : Thread Cert.MambaRefIdeal.nD Cert.MambaRefIdeal.τ).loc Cert.MambaRefIdeal.main_arg0) = m ((c.tc : Thread Cert.MambaIdeal.nD Cert.MambaIdeal.τ).loc Cert.MambaIdeal.main_arg0)
      ∧ m' ((c.tc : Thread Cert.MambaRefIdeal.nD Cert.MambaRefIdeal.τ).loc Cert.MambaRefIdeal.main_arg1) = m ((c.tc : Thread Cert.MambaIdeal.nD Cert.MambaIdeal.τ).loc Cert.MambaIdeal.main_arg1)
      ∧ m' ((c.tc : Thread Cert.MambaRefIdeal.nD Cert.MambaRefIdeal.τ).loc Cert.MambaRefIdeal.main_arg2) = m ((c.tc : Thread Cert.MambaIdeal.nD Cert.MambaIdeal.τ).loc Cert.MambaIdeal.main_arg2)
      ∧ m' ((c.tc : Thread Cert.MambaRefIdeal.nD Cert.MambaRefIdeal.τ).loc Cert.MambaRefIdeal.main_arg3) = m ((c.tc : Thread Cert.MambaIdeal.nD Cert.MambaIdeal.τ).loc Cert.MambaIdeal.main_arg3)
      ∧ m' ((c.tc : Thread Cert.MambaRefIdeal.nD Cert.MambaRefIdeal.τ).loc Cert.MambaRefIdeal.main_arg4) = m ((c.tc : Thread Cert.MambaIdeal.nD Cert.MambaIdeal.τ).loc Cert.MambaIdeal.main_arg4)
      ∧ m' ((c.tc : Thread Cert.MambaRefIdeal.nD Cert.MambaRefIdeal.τ).loc Cert.MambaRefIdeal.main_arg5) = m ((c.tc : Thread Cert.MambaIdeal.nD Cert.MambaIdeal.τ).loc Cert.MambaIdeal.main_arg5)
      ∧ m' ((c.tc : Thread Cert.MambaRefIdeal.nD Cert.MambaRefIdeal.τ).loc Cert.MambaRefIdeal.main_arg6) = m ((c.tc : Thread Cert.MambaIdeal.nD Cert.MambaIdeal.τ).loc Cert.MambaIdeal.main_arg6)
      ∧ m' ((c.tc : Thread Cert.MambaRefIdeal.nD Cert.MambaRefIdeal.τ).loc Cert.MambaRefIdeal.main_arg7) = m ((c.tc : Thread Cert.MambaIdeal.nD Cert.MambaIdeal.τ).loc Cert.MambaIdeal.main_arg7)
      ∧ m' ((c.tc : Thread Cert.MambaRefIdeal.nD Cert.MambaRefIdeal.τ).loc Cert.MambaRefIdeal.main_arg8) = m ((c.tc : Thread Cert.MambaIdeal.nD Cert.MambaIdeal.τ).loc Cert.MambaIdeal.main_arg8)
      ∧ m' ((c.tc : Thread Cert.MambaRefIdeal.nD Cert.MambaRefIdeal.τ).loc Cert.MambaRefIdeal.main_arg9) = m ((c.tc : Thread Cert.MambaIdeal.nD Cert.MambaIdeal.τ).loc Cert.MambaIdeal.main_arg9)
      ∧ m' ((c.tc : Thread Cert.MambaRefIdeal.nD Cert.MambaRefIdeal.τ).loc Cert.MambaRefIdeal.main_arg10) = m ((c.tc : Thread Cert.MambaIdeal.nD Cert.MambaIdeal.τ).loc Cert.MambaIdeal.main_arg10)
      ∧ m' ((c.tc : Thread Cert.MambaRefIdeal.nD Cert.MambaRefIdeal.τ).loc Cert.MambaRefIdeal.main_arg11) = m ((c.tc : Thread Cert.MambaIdeal.nD Cert.MambaIdeal.τ).loc Cert.MambaIdeal.main_arg11)
      ∧ m' ((c.tc : Thread Cert.MambaRefIdeal.nD Cert.MambaRefIdeal.τ).loc Cert.MambaRefIdeal.main_arg12) = m ((c.tc : Thread Cert.MambaIdeal.nD Cert.MambaIdeal.τ).loc Cert.MambaIdeal.main_arg12)
      ∧ m' ((c.tc : Thread Cert.MambaRefIdeal.nD Cert.MambaRefIdeal.τ).loc Cert.MambaRefIdeal.main_arg13) = m ((c.tc : Thread Cert.MambaIdeal.nD Cert.MambaIdeal.τ).loc Cert.MambaIdeal.main_arg13)
      ∧ m' ((c.tc : Thread Cert.MambaRefIdeal.nD Cert.MambaRefIdeal.τ).loc Cert.MambaRefIdeal.main_arg14) = m ((c.tc : Thread Cert.MambaIdeal.nD Cert.MambaIdeal.τ).loc Cert.MambaIdeal.main_arg14)
      ∧ m' ((c.tc : Thread Cert.MambaRefIdeal.nD Cert.MambaRefIdeal.τ).loc Cert.MambaRefIdeal.main_arg15) = m ((c.tc : Thread Cert.MambaIdeal.nD Cert.MambaIdeal.τ).loc Cert.MambaIdeal.main_arg15)) →
    ∃ (v0 : (c : Dev Cert.MambaIdeal.nD) → Buf (Elt Ideal) ((c.tc : Thread Cert.MambaIdeal.nD Cert.MambaIdeal.τ).loc Cert.MambaIdeal.main_v12)),
      θ_run (Cert.MambaIdeal.defs (F := Ideal)) (onTc (τ := Cert.MambaIdeal.τ) (Cert.MambaIdeal.main (F := Ideal))) ⟨m, fun _ => 0, g⟩ (fun r => ∀ c : Dev Cert.MambaIdeal.nD,
          r.2.mem ((c.tc : Thread Cert.MambaIdeal.nD Cert.MambaIdeal.τ).loc Cert.MambaIdeal.main_v12) = v0 c
          ∧ r.2.mem ((c.tc : Thread Cert.MambaIdeal.nD Cert.MambaIdeal.τ).loc Cert.MambaIdeal.main_arg0) = m ((c.tc : Thread Cert.MambaIdeal.nD Cert.MambaIdeal.τ).loc Cert.MambaIdeal.main_arg0)
          ∧ r.2.mem ((c.tc : Thread Cert.MambaIdeal.nD Cert.MambaIdeal.τ).loc Cert.MambaIdeal.main_arg1) = m ((c.tc : Thread Cert.MambaIdeal.nD Cert.MambaIdeal.τ).loc Cert.MambaIdeal.main_arg1)
          ∧ r.2.mem ((c.tc : Thread Cert.MambaIdeal.nD Cert.MambaIdeal.τ).loc Cert.MambaIdeal.main_arg2) = m ((c.tc : Thread Cert.MambaIdeal.nD Cert.MambaIdeal.τ).loc Cert.MambaIdeal.main_arg2)
          ∧ r.2.mem ((c.tc : Thread Cert.MambaIdeal.nD Cert.MambaIdeal.τ).loc Cert.MambaIdeal.main_arg3) = m ((c.tc : Thread Cert.MambaIdeal.nD Cert.MambaIdeal.τ).loc Cert.MambaIdeal.main_arg3)
          ∧ r.2.mem ((c.tc : Thread Cert.MambaIdeal.nD Cert.MambaIdeal.τ).loc Cert.MambaIdeal.main_arg4) = m ((c.tc : Thread Cert.MambaIdeal.nD Cert.MambaIdeal.τ).loc Cert.MambaIdeal.main_arg4)
          ∧ r.2.mem ((c.tc : Thread Cert.MambaIdeal.nD Cert.MambaIdeal.τ).loc Cert.MambaIdeal.main_arg5) = m ((c.tc : Thread Cert.MambaIdeal.nD Cert.MambaIdeal.τ).loc Cert.MambaIdeal.main_arg5)
          ∧ r.2.mem ((c.tc : Thread Cert.MambaIdeal.nD Cert.MambaIdeal.τ).loc Cert.MambaIdeal.main_arg6) = m ((c.tc : Thread Cert.MambaIdeal.nD Cert.MambaIdeal.τ).loc Cert.MambaIdeal.main_arg6)
          ∧ r.2.mem ((c.tc : Thread Cert.MambaIdeal.nD Cert.MambaIdeal.τ).loc Cert.MambaIdeal.main_arg7) = m ((c.tc : Thread Cert.MambaIdeal.nD Cert.MambaIdeal.τ).loc Cert.MambaIdeal.main_arg7)
          ∧ r.2.mem ((c.tc : Thread Cert.MambaIdeal.nD Cert.MambaIdeal.τ).loc Cert.MambaIdeal.main_arg8) = m ((c.tc : Thread Cert.MambaIdeal.nD Cert.MambaIdeal.τ).loc Cert.MambaIdeal.main_arg8)
          ∧ r.2.mem ((c.tc : Thread Cert.MambaIdeal.nD Cert.MambaIdeal.τ).loc Cert.MambaIdeal.main_arg9) = m ((c.tc : Thread Cert.MambaIdeal.nD Cert.MambaIdeal.τ).loc Cert.MambaIdeal.main_arg9)
          ∧ r.2.mem ((c.tc : Thread Cert.MambaIdeal.nD Cert.MambaIdeal.τ).loc Cert.MambaIdeal.main_arg10) = m ((c.tc : Thread Cert.MambaIdeal.nD Cert.MambaIdeal.τ).loc Cert.MambaIdeal.main_arg10)
          ∧ r.2.mem ((c.tc : Thread Cert.MambaIdeal.nD Cert.MambaIdeal.τ).loc Cert.MambaIdeal.main_arg11) = m ((c.tc : Thread Cert.MambaIdeal.nD Cert.MambaIdeal.τ).loc Cert.MambaIdeal.main_arg11)
          ∧ r.2.mem ((c.tc : Thread Cert.MambaIdeal.nD Cert.MambaIdeal.τ).loc Cert.MambaIdeal.main_arg12) = m ((c.tc : Thread Cert.MambaIdeal.nD Cert.MambaIdeal.τ).loc Cert.MambaIdeal.main_arg12)
          ∧ r.2.mem ((c.tc : Thread Cert.MambaIdeal.nD Cert.MambaIdeal.τ).loc Cert.MambaIdeal.main_arg13) = m ((c.tc : Thread Cert.MambaIdeal.nD Cert.MambaIdeal.τ).loc Cert.MambaIdeal.main_arg13)
          ∧ r.2.mem ((c.tc : Thread Cert.MambaIdeal.nD Cert.MambaIdeal.τ).loc Cert.MambaIdeal.main_arg14) = m ((c.tc : Thread Cert.MambaIdeal.nD Cert.MambaIdeal.τ).loc Cert.MambaIdeal.main_arg14)
          ∧ r.2.mem ((c.tc : Thread Cert.MambaIdeal.nD Cert.MambaIdeal.τ).loc Cert.MambaIdeal.main_arg15) = m ((c.tc : Thread Cert.MambaIdeal.nD Cert.MambaIdeal.τ).loc Cert.MambaIdeal.main_arg15))
      ∧ θ_run (Cert.MambaRefIdeal.defs (F := Ideal)) (onTc (τ := Cert.MambaRefIdeal.τ) (Cert.MambaRefIdeal.main (F := Ideal))) ⟨m', fun _ => 0, g'⟩ (fun r => ∀ c : Dev Cert.MambaRefIdeal.nD,
          r.2.mem ((c.tc : Thread Cert.MambaRefIdeal.nD Cert.MambaRefIdeal.τ).loc Cert.MambaRefIdeal.main_v179) = v0 c
          ∧ r.2.mem ((c.tc : Thread Cert.MambaRefIdeal.nD Cert.MambaRefIdeal.τ).loc Cert.MambaRefIdeal.main_arg0) = m' ((c.tc : Thread Cert.MambaRefIdeal.nD Cert.MambaRefIdeal.τ).loc Cert.MambaRefIdeal.main_arg0)
          ∧ r.2.mem ((c.tc : Thread Cert.MambaRefIdeal.nD Cert.MambaRefIdeal.τ).loc Cert.MambaRefIdeal.main_arg1) = m' ((c.tc : Thread Cert.MambaRefIdeal.nD Cert.MambaRefIdeal.τ).loc Cert.MambaRefIdeal.main_arg1)
          ∧ r.2.mem ((c.tc : Thread Cert.MambaRefIdeal.nD Cert.MambaRefIdeal.τ).loc Cert.MambaRefIdeal.main_arg2) = m' ((c.tc : Thread Cert.MambaRefIdeal.nD Cert.MambaRefIdeal.τ).loc Cert.MambaRefIdeal.main_arg2)
          ∧ r.2.mem ((c.tc : Thread Cert.MambaRefIdeal.nD Cert.MambaRefIdeal.τ).loc Cert.MambaRefIdeal.main_arg3) = m' ((c.tc : Thread Cert.MambaRefIdeal.nD Cert.MambaRefIdeal.τ).loc Cert.MambaRefIdeal.main_arg3)
          ∧ r.2.mem ((c.tc : Thread Cert.MambaRefIdeal.nD Cert.MambaRefIdeal.τ).loc Cert.MambaRefIdeal.main_arg4) = m' ((c.tc : Thread Cert.MambaRefIdeal.nD Cert.MambaRefIdeal.τ).loc Cert.MambaRefIdeal.main_arg4)
          ∧ r.2.mem ((c.tc : Thread Cert.MambaRefIdeal.nD Cert.MambaRefIdeal.τ).loc Cert.MambaRefIdeal.main_arg5) = m' ((c.tc : Thread Cert.MambaRefIdeal.nD Cert.MambaRefIdeal.τ).loc Cert.MambaRefIdeal.main_arg5)
          ∧ r.2.mem ((c.tc : Thread Cert.MambaRefIdeal.nD Cert.MambaRefIdeal.τ).loc Cert.MambaRefIdeal.main_arg6) = m' ((c.tc : Thread Cert.MambaRefIdeal.nD Cert.MambaRefIdeal.τ).loc Cert.MambaRefIdeal.main_arg6)
          ∧ r.2.mem ((c.tc : Thread Cert.MambaRefIdeal.nD Cert.MambaRefIdeal.τ).loc Cert.MambaRefIdeal.main_arg7) = m' ((c.tc : Thread Cert.MambaRefIdeal.nD Cert.MambaRefIdeal.τ).loc Cert.MambaRefIdeal.main_arg7)
          ∧ r.2.mem ((c.tc : Thread Cert.MambaRefIdeal.nD Cert.MambaRefIdeal.τ).loc Cert.MambaRefIdeal.main_arg8) = m' ((c.tc : Thread Cert.MambaRefIdeal.nD Cert.MambaRefIdeal.τ).loc Cert.MambaRefIdeal.main_arg8)
          ∧ r.2.mem ((c.tc : Thread Cert.MambaRefIdeal.nD Cert.MambaRefIdeal.τ).loc Cert.MambaRefIdeal.main_arg9) = m' ((c.tc : Thread Cert.MambaRefIdeal.nD Cert.MambaRefIdeal.τ).loc Cert.MambaRefIdeal.main_arg9)
          ∧ r.2.mem ((c.tc : Thread Cert.MambaRefIdeal.nD Cert.MambaRefIdeal.τ).loc Cert.MambaRefIdeal.main_arg10) = m' ((c.tc : Thread Cert.MambaRefIdeal.nD Cert.MambaRefIdeal.τ).loc Cert.MambaRefIdeal.main_arg10)
          ∧ r.2.mem ((c.tc : Thread Cert.MambaRefIdeal.nD Cert.MambaRefIdeal.τ).loc Cert.MambaRefIdeal.main_arg11) = m' ((c.tc : Thread Cert.MambaRefIdeal.nD Cert.MambaRefIdeal.τ).loc Cert.MambaRefIdeal.main_arg11)
          ∧ r.2.mem ((c.tc : Thread Cert.MambaRefIdeal.nD Cert.MambaRefIdeal.τ).loc Cert.MambaRefIdeal.main_arg12) = m' ((c.tc : Thread Cert.MambaRefIdeal.nD Cert.MambaRefIdeal.τ).loc Cert.MambaRefIdeal.main_arg12)
          ∧ r.2.mem ((c.tc : Thread Cert.MambaRefIdeal.nD Cert.MambaRefIdeal.τ).loc Cert.MambaRefIdeal.main_arg13) = m' ((c.tc : Thread Cert.MambaRefIdeal.nD Cert.MambaRefIdeal.τ).loc Cert.MambaRefIdeal.main_arg13)
          ∧ r.2.mem ((c.tc : Thread Cert.MambaRefIdeal.nD Cert.MambaRefIdeal.τ).loc Cert.MambaRefIdeal.main_arg14) = m' ((c.tc : Thread Cert.MambaRefIdeal.nD Cert.MambaRefIdeal.τ).loc Cert.MambaRefIdeal.main_arg14)
          ∧ r.2.mem ((c.tc : Thread Cert.MambaRefIdeal.nD Cert.MambaRefIdeal.τ).loc Cert.MambaRefIdeal.main_arg15) = m' ((c.tc : Thread Cert.MambaRefIdeal.nD Cert.MambaRefIdeal.τ).loc Cert.MambaRefIdeal.main_arg15))

def Claim : Prop :=
  ∃ (hMamba : Cert.Mamba.Facts) (hMambaIdeal : Cert.MambaIdeal.Facts) (hMambaRefIdeal : Cert.MambaRefIdeal.Facts),
    quiescent_Mamba (hMamba := hMamba)
    ∧ quiescent_MambaIdeal (hMambaIdeal := hMambaIdeal)
    ∧ quiescent_MambaRefIdeal (hMambaRefIdeal := hMambaRefIdeal)
    ∧ preserves_Mamba_MambaIdeal
    ∧ algebraic_MambaIdeal_MambaRefIdeal (hMambaIdeal := hMambaIdeal) (hMambaRefIdeal := hMambaRefIdeal)
-- ==== Mamba.lean ====
abbrev S256x2048 : Shape := ⟨2, ![256, 2048]⟩
abbrev S6x256 : Shape := ⟨2, ![6, 256]⟩
abbrev S6x1024x256 : Shape := ⟨3, ![6, 1024, 256]⟩
abbrev S6x512x4 : Shape := ⟨3, ![6, 512, 4]⟩
abbrev S6x512 : Shape := ⟨2, ![6, 512]⟩
abbrev S6x48x512 : Shape := ⟨3, ![6, 48, 512]⟩
abbrev S6x512x16 : Shape := ⟨3, ![6, 512, 16]⟩
abbrev S6x256x512 : Shape := ⟨3, ![6, 256, 512]⟩
abbrev S256 : Shape := ⟨1, ![256]⟩
abbrev S64x256 : Shape := ⟨2, ![64, 256]⟩
abbrev S64 : Shape := ⟨1, ![64]⟩
abbrev S1x64 : Shape := ⟨2, ![1, 64]⟩
abbrev S1 : Shape := ⟨1, ![1]⟩
abbrev S2048x256 : Shape := ⟨2, ![2048, 256]⟩
abbrev S8x256x256 : Shape := ⟨3, ![8, 256, 256]⟩
abbrev S6x256x1024 : Shape := ⟨3, ![6, 256, 1024]⟩
abbrev S6x4x512 : Shape := ⟨3, ![6, 4, 512]⟩
abbrev S6x512x48 : Shape := ⟨3, ![6, 512, 48]⟩
abbrev S6x16x512 : Shape := ⟨3, ![6, 16, 512]⟩
abbrev S6x512x256 : Shape := ⟨3, ![6, 512, 256]⟩
abbrev S1x256 : Shape := ⟨2, ![1, 256]⟩
abbrev S256x64 : Shape := ⟨2, ![256, 64]⟩
abbrev S1x1 : Shape := ⟨2, ![1, 1]⟩
abbrev S8x1x256 : Shape := ⟨3, ![8, 1, 256]⟩
abbrev S1x256x256 : Shape := ⟨3, ![1, 256, 256]⟩
abbrev S1x1x256 : Shape := ⟨3, ![1, 1, 256]⟩
abbrev S256x16x512 : Shape := ⟨3, ![256, 16, 512]⟩
abbrev S256x256 : Shape := ⟨2, ![256, 256]⟩
abbrev S256x1 : Shape := ⟨2, ![256, 1]⟩
abbrev S1x256x1024 : Shape := ⟨3, ![1, 256, 1024]⟩
abbrev S256x1024 : Shape := ⟨2, ![256, 1024]⟩
abbrev S256x512 : Shape := ⟨2, ![256, 512]⟩
abbrev S1x1x512 : Shape := ⟨3, ![1, 1, 512]⟩
abbrev S512 : Shape := ⟨1, ![512]⟩
abbrev S1x512 : Shape := ⟨2, ![1, 512]⟩
abbrev S3x512 : Shape := ⟨2, ![3, 512]⟩
abbrev S259x512 : Shape := ⟨2, ![259, 512]⟩
abbrev S2x512 : Shape := ⟨2, ![2, 512]⟩
abbrev S258x512 : Shape := ⟨2, ![258, 512]⟩
abbrev S257x512 : Shape := ⟨2, ![257, 512]⟩
abbrev S1x512x48 : Shape := ⟨3, ![1, 512, 48]⟩
abbrev S512x48 : Shape := ⟨2, ![512, 48]⟩
abbrev S256x48 : Shape := ⟨2, ![256, 48]⟩
abbrev S256x16 : Shape := ⟨2, ![256, 16]⟩
abbrev S1x16x512 : Shape := ⟨3, ![1, 16, 512]⟩
abbrev S16x512 : Shape := ⟨2, ![16, 512]⟩
abbrev S256x1x512 : Shape := ⟨3, ![256, 1, 512]⟩
abbrev S256x16x1 : Shape := ⟨3, ![256, 16, 1]⟩
abbrev S1x512x256 : Shape := ⟨3, ![1, 512, 256]⟩
abbrev S512x256 : Shape := ⟨2, ![512, 256]⟩

abbrev nBuf : Space → Nat
  | .hbm => 29
  | .vmem => 21
  | .smem => 0
  | _ => 0

abbrev bufTy : (tb : Table) → Fin (tcTables nBuf tb) → BufTy
  | .hbm, ⟨0, _⟩ => ⟨S256x2048, .f32⟩
  | .hbm, ⟨1, _⟩ => ⟨S6x256, .f32⟩
  | .hbm, ⟨2, _⟩ => ⟨S6x1024x256, .f32⟩
  | .hbm, ⟨3, _⟩ => ⟨S6x512x4, .f32⟩
  | .hbm, ⟨4, _⟩ => ⟨S6x512, .f32⟩
  | .hbm, ⟨5, _⟩ => ⟨S6x48x512, .f32⟩
  | .hbm, ⟨6, _⟩ => ⟨S6x512x16, .f32⟩
  | .hbm, ⟨7, _⟩ => ⟨S6x512, .f32⟩
  | .hbm, ⟨8, _⟩ => ⟨S6x512x16, .f32⟩
  | .hbm, ⟨9, _⟩ => ⟨S6x512, .f32⟩
  | .hbm, ⟨10, _⟩ => ⟨S6x256x512, .f32⟩
  | .hbm, ⟨11, _⟩ => ⟨S256, .f32⟩
  | .hbm, ⟨12, _⟩ => ⟨S64x256, .f32⟩
  | .hbm, ⟨13, _⟩ => ⟨S64, .f32⟩
  | .hbm, ⟨14, _⟩ => ⟨S1x64, .f32⟩
  | .hbm, ⟨15, _⟩ => ⟨S1, .f32⟩
  | .hbm, ⟨16, _⟩ => ⟨S2048x256, .f32⟩
  | .hbm, ⟨17, _⟩ => ⟨S8x256x256, .f32⟩
  | .hbm, ⟨18, _⟩ => ⟨S6x256x1024, .f32⟩
  | .hbm, ⟨19, _⟩ => ⟨S6x4x512, .f32⟩
  | .hbm, ⟨20, _⟩ => ⟨S6x512x48, .f32⟩
  | .hbm, ⟨21, _⟩ => ⟨S6x16x512, .f32⟩
  | .hbm, ⟨22, _⟩ => ⟨S6x16x512, .f32⟩
  | .hbm, ⟨23, _⟩ => ⟨S6x512x256, .f32⟩
  | .hbm, ⟨24, _⟩ => ⟨S1x256, .f32⟩
  | .hbm, ⟨25, _⟩ => ⟨S256x64, .f32⟩
  | .hbm, ⟨26, _⟩ => ⟨S1x64, .f32⟩
  | .hbm, ⟨27, _⟩ => ⟨S1x1, .f32⟩
  | .hbm, ⟨28, _⟩ => ⟨S8x1x256, .f32⟩
  | .local _ .vmem, ⟨0, _⟩ => ⟨S1x256x256, .f32⟩
  | .local _ .vmem, ⟨1, _⟩ => ⟨S1x256x256, .f32⟩
  | .local _ .vmem, ⟨2, _⟩ => ⟨S6x256, .f32⟩
  | .local _ .vmem, ⟨3, _⟩ => ⟨S6x256x1024, .f32⟩
  | .local _ .vmem, ⟨4, _⟩ => ⟨S6x4x512, .f32⟩
  | .local _ .vmem, ⟨5, _⟩ => ⟨S6x512, .f32⟩
  | .local _ .vmem, ⟨6, _⟩ => ⟨S6x512x48, .f32⟩
  | .local _ .vmem, ⟨7, _⟩ => ⟨S6x16x512, .f32⟩
  | .local _ .vmem, ⟨8, _⟩ => ⟨S6x512, .f32⟩
  | .local _ .vmem, ⟨9, _⟩ => ⟨S6x16x512, .f32⟩
  | .local _ .vmem, ⟨10, _⟩ => ⟨S6x512, .f32⟩
  | .local _ .vmem, ⟨11, _⟩ => ⟨S6x512x256, .f32⟩
  | .local _ .vmem, ⟨12, _⟩ => ⟨S1x256, .f32⟩
  | .local _ .vmem, ⟨13, _⟩ => ⟨S256x64, .f32⟩
  | .local _ .vmem, ⟨14, _⟩ => ⟨S1x64, .f32⟩
  | .local _ .vmem, ⟨15, _⟩ => ⟨S1x64, .f32⟩
  | .local _ .vmem, ⟨16, _⟩ => ⟨S1x1, .f32⟩
  | .local _ .vmem, ⟨17, _⟩ => ⟨S1x1x256, .f32⟩
  | .local _ .vmem, ⟨18, _⟩ => ⟨S1x1x256, .f32⟩
  | .local _ .vmem, ⟨19, _⟩ => ⟨S256x16x512, .f32⟩
  | .local _ .vmem, ⟨20, _⟩ => ⟨S256x16x512, .f32⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg16_1 : Ref sig .tc := ⟨.vmem, 18, rfl⟩
abbrev cc0_scratch0 : Ref sig .tc := ⟨.vmem, 19, rfl⟩
abbrev cc0_scratch1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem16_1 : DmaSem sig := 18

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32_46 : BitVec 32 := 0#32
  let c256_i32 : BitVec 32 := 256#32
  let v116 : BitVec 32 := Scalar.addi c0_i32_46 c256_i32
  let c1_i32 : BitVec 32 := 1#32
  ⟨c0_i32_46, v116, c1_i32⟩
def k0_off1 (k0_t1 : Fin k0_t1_loop.trips) : Fin 3 → Nat :=
  let c0_i32_46 : BitVec 32 := 0#32
  let c1_i32 : BitVec 32 := 1#32
  let arg20 : BitVec 32 := Scf.iv c0_i32_46 c1_i32 k0_t1
  let v866 : Index := Scalar.indexCast arg20
  let c0_397 : Index := 0#32
  let c0_398 : Index := 0#32
  ![v866.toNat, 0, 0]
@[reducible] def k0_t2_loop : Scf.Loop 32 :=
  let c0_i32_107 : BitVec 32 := 0#32
  let c256_i32_108 : BitVec 32 := 256#32
  let v250 : BitVec 32 := Scalar.addi c0_i32_107 c256_i32_108
  let c1_i32_109 : BitVec 32 := 1#32
  ⟨c0_i32_107, v250, c1_i32_109⟩
def k0_off2 (k0_t2 : Fin k0_t2_loop.trips) : Fin 3 → Nat :=
  let c0_i32_107 : BitVec 32 := 0#32
  let c1_i32_109 : BitVec 32 := 1#32
  let arg20 : BitVec 32 := Scf.iv c0_i32_107 c1_i32_109 k0_t2
  let v866 : Index := Scalar.indexCast arg20
  let c0_397 : Index := 0#32
  let c0_398 : Index := 0#32
  ![v866.toNat, 0, 0]
@[reducible] def k0_t3_loop : Scf.Loop 32 :=
  let c0_i32_170 : BitVec 32 := 0#32
  let c256_i32_171 : BitVec 32 := 256#32
  let v384 : BitVec 32 := Scalar.addi c0_i32_170 c256_i32_171
  let c1_i32_172 : BitVec 32 := 1#32
  ⟨c0_i32_170, v384, c1_i32_172⟩
def k0_off3 (k0_t3 : Fin k0_t3_loop.trips) : Fin 3 → Nat :=
  let c0_i32_170 : BitVec 32 := 0#32
  let c1_i32_172 : BitVec 32 := 1#32
  let arg20 : BitVec 32 := Scf.iv c0_i32_170 c1_i32_172 k0_t3
  let v866 : Index := Scalar.indexCast arg20
  let c0_397 : Index := 0#32
  let c0_398 : Index := 0#32
  ![v866.toNat, 0, 0]
@[reducible] def k0_t4_loop : Scf.Loop 32 :=
  let c0_i32_233 : BitVec 32 := 0#32
  let c256_i32_234 : BitVec 32 := 256#32
  let v518 : BitVec 32 := Scalar.addi c0_i32_233 c256_i32_234
  let c1_i32_235 : BitVec 32 := 1#32
  ⟨c0_i32_233, v518, c1_i32_235⟩
def k0_off4 (k0_t4 : Fin k0_t4_loop.trips) : Fin 3 → Nat :=
  let c0_i32_233 : BitVec 32 := 0#32
  let c1_i32_235 : BitVec 32 := 1#32
  let arg20 : BitVec 32 := Scf.iv c0_i32_233 c1_i32_235 k0_t4
  let v866 : Index := Scalar.indexCast arg20
  let c0_397 : Index := 0#32
  let c0_398 : Index := 0#32
  ![v866.toNat, 0, 0]
@[reducible] def k0_t5_loop : Scf.Loop 32 :=
  let c0_i32_295 : BitVec 32 := 0#32
  let c256_i32_296 : BitVec 32 := 256#32
  let v652 : BitVec 32 := Scalar.addi c0_i32_295 c256_i32_296
  let c1_i32_297 : BitVec 32 := 1#32
  ⟨c0_i32_295, v652, c1_i32_297⟩
def k0_off5 (k0_t5 : Fin k0_t5_loop.trips) : Fin 3 → Nat :=
  let c0_i32_295 : BitVec 32 := 0#32
  let c1_i32_297 : BitVec 32 := 1#32
  let arg20 : BitVec 32 := Scf.iv c0_i32_295 c1_i32_297 k0_t5
  let v866 : Index := Scalar.indexCast arg20
  let c0_397 : Index := 0#32
  let c0_398 : Index := 0#32
  ![v866.toNat, 0, 0]
@[reducible] def k0_t6_loop : Scf.Loop 32 :=
  let c0_i32_357 : BitVec 32 := 0#32
  let c256_i32_358 : BitVec 32 := 256#32
  let v786 : BitVec 32 := Scalar.addi c0_i32_357 c256_i32_358
  let c1_i32_359 : BitVec 32 := 1#32
  ⟨c0_i32_357, v786, c1_i32_359⟩
def k0_off6 (k0_t6 : Fin k0_t6_loop.trips) : Fin 3 → Nat :=
  let c0_i32_357 : BitVec 32 := 0#32
  let c1_i32_359 : BitVec 32 := 1#32
  let arg20 : BitVec 32 := Scf.iv c0_i32_357 c1_i32_359 k0_t6
  let v866 : Index := Scalar.indexCast arg20
  let c0_397 : Index := 0#32
  let c0_398 : Index := 0#32
  ![v866.toNat, 0, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S6x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S6x256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S6x4x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S6x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S6x512x48 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S6x16x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S6x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S6x16x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S6x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S6x512x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S256x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x64 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x64 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S1x1x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== MambaRefIdeal.lean ====
abbrev S256x2048 : Shape := ⟨2, ![256, 2048]⟩
abbrev S6x256 : Shape := ⟨2, ![6, 256]⟩
abbrev S6x1024x256 : Shape := ⟨3, ![6, 1024, 256]⟩
abbrev S6x512x4 : Shape := ⟨3, ![6, 512, 4]⟩
abbrev S6x512 : Shape := ⟨2, ![6, 512]⟩
abbrev S6x48x512 : Shape := ⟨3, ![6, 48, 512]⟩
abbrev S6x512x16 : Shape := ⟨3, ![6, 512, 16]⟩
abbrev S6x256x512 : Shape := ⟨3, ![6, 256, 512]⟩
abbrev S256 : Shape := ⟨1, ![256]⟩
abbrev S64x256 : Shape := ⟨2, ![64, 256]⟩
abbrev S64 : Shape := ⟨1, ![64]⟩
abbrev S1x64 : Shape := ⟨2, ![1, 64]⟩
abbrev S1 : Shape := ⟨1, ![1]⟩
abbrev S8x256x256 : Shape := ⟨3, ![8, 256, 256]⟩
abbrev S1x256 : Shape := ⟨2, ![1, 256]⟩
abbrev S1x1024x256 : Shape := ⟨3, ![1, 1024, 256]⟩
abbrev S1024x256 : Shape := ⟨2, ![1024, 256]⟩
abbrev S1x512x4 : Shape := ⟨3, ![1, 512, 4]⟩
abbrev S512x4 : Shape := ⟨2, ![512, 4]⟩
abbrev S1x512 : Shape := ⟨2, ![1, 512]⟩
abbrev S512 : Shape := ⟨1, ![512]⟩
abbrev S1x48x512 : Shape := ⟨3, ![1, 48, 512]⟩
abbrev S48x512 : Shape := ⟨2, ![48, 512]⟩
abbrev S1x512x16 : Shape := ⟨3, ![1, 512, 16]⟩
abbrev S512x16 : Shape := ⟨2, ![512, 16]⟩
abbrev S1x256x512 : Shape := ⟨3, ![1, 256, 512]⟩
abbrev S256x512 : Shape := ⟨2, ![256, 512]⟩
abbrev S_ : Shape := ⟨0, ![]⟩
abbrev S8x256 : Shape := ⟨2, ![8, 256]⟩
abbrev S8x256x1 : Shape := ⟨3, ![8, 256, 1]⟩
abbrev S1x1x256 : Shape := ⟨3, ![1, 1, 256]⟩
abbrev S256x1024 : Shape := ⟨2, ![256, 1024]⟩
abbrev S8x256x1024 : Shape := ⟨3, ![8, 256, 1024]⟩
abbrev S8x256x512 : Shape := ⟨3, ![8, 256, 512]⟩
abbrev S8x259x512 : Shape := ⟨3, ![8, 259, 512]⟩
abbrev S512x1 : Shape := ⟨2, ![512, 1]⟩
abbrev S1x1x512 : Shape := ⟨3, ![1, 1, 512]⟩
abbrev S512x48 : Shape := ⟨2, ![512, 48]⟩
abbrev S8x256x48 : Shape := ⟨3, ![8, 256, 48]⟩
abbrev S8x256x16 : Shape := ⟨3, ![8, 256, 16]⟩
abbrev S16x512 : Shape := ⟨2, ![16, 512]⟩
abbrev S8x256x512x1 : Shape := ⟨4, ![8, 256, 512, 1]⟩
abbrev S1x1x512x16 : Shape := ⟨4, ![1, 1, 512, 16]⟩
abbrev S8x256x512x16 : Shape := ⟨4, ![8, 256, 512, 16]⟩
abbrev S8x256x1x16 : Shape := ⟨4, ![8, 256, 1, 16]⟩
abbrev S8x512x16 : Shape := ⟨3, ![8, 512, 16]⟩
abbrev S256x8x512x16 : Shape := ⟨4, ![256, 8, 512, 16]⟩
abbrev S256x8x16 : Shape := ⟨3, ![256, 8, 16]⟩
abbrev S256x8x512 : Shape := ⟨3, ![256, 8, 512]⟩
abbrev S1x8x512x16 : Shape := ⟨4, ![1, 8, 512, 16]⟩
abbrev S1x8x16 : Shape := ⟨3, ![1, 8, 16]⟩
abbrev S8x16 : Shape := ⟨2, ![8, 16]⟩
abbrev S8x512 : Shape := ⟨2, ![8, 512]⟩
abbrev S1x8x512 : Shape := ⟨3, ![1, 8, 512]⟩
abbrev S512x256 : Shape := ⟨2, ![512, 256]⟩
abbrev S256x64 : Shape := ⟨2, ![256, 64]⟩
abbrev S8x256x64 : Shape := ⟨3, ![8, 256, 64]⟩
abbrev S1x1x64 : Shape := ⟨3, ![1, 1, 64]⟩
abbrev S64x1 : Shape := ⟨2, ![64, 1]⟩
abbrev S1x1x1 : Shape := ⟨3, ![1, 1, 1]⟩
abbrev S8x1 : Shape := ⟨2, ![8, 1]⟩
abbrev S8x1x1 : Shape := ⟨3, ![8, 1, 1]⟩
abbrev S2 : Shape := ⟨1, ![2]⟩
abbrev S8 : Shape := ⟨1, ![8]⟩
abbrev S8x1x256 : Shape := ⟨3, ![8, 1, 256]⟩

abbrev nBuf : Space → Nat
  | .hbm => 1175
  | .vmem => 0
  | .smem => 0
  | _ => 0

abbrev hbmTy0_0 (i : Nat) : BufTy := match i % 128 with
  | 0 => ⟨S256x2048, .f32⟩
  | 1 => ⟨S6x256, .f32⟩
  | 2 => ⟨S6x1024x256, .f32⟩
  | 3 => ⟨S6x512x4, .f32⟩
  | 4 => ⟨S6x512, .f32⟩
  | 5 => ⟨S6x48x512, .f32⟩
  | 6 => ⟨S6x512x16, .f32⟩
  | 7 => ⟨S6x512, .f32⟩
  | 8 => ⟨S6x512x16, .f32⟩
  | 9 => ⟨S6x512, .f32⟩
  | 10 => ⟨S6x256x512, .f32⟩
  | 11 => ⟨S256, .f32⟩
  | 12 => ⟨S64x256, .f32⟩
  | 13 => ⟨S64, .f32⟩
  | 14 => ⟨S1x64, .f32⟩
  | 15 => ⟨S1, .f32⟩
  | 16 => ⟨S8x256x256, .f32⟩
  | 17 => ⟨S1x256, .f32⟩
  | 18 => ⟨S256, .f32⟩
  | 19 => ⟨S1x1024x256, .f32⟩
  | 20 => ⟨S1024x256, .f32⟩
  | 21 => ⟨S1x512x4, .f32⟩
  | 22 => ⟨S512x4, .f32⟩
  | 23 => ⟨S1x512, .f32⟩
  | 24 => ⟨S512, .f32⟩
  | 25 => ⟨S1x48x512, .f32⟩
  | 26 => ⟨S48x512, .f32⟩
  | 27 => ⟨S1x512x16, .f32⟩
  | 28 => ⟨S512x16, .f32⟩
  | 29 => ⟨S1x512, .f32⟩
  | 30 => ⟨S512, .f32⟩
  | 31 => ⟨S1x512x16, .f32⟩
  | 32 => ⟨S512x16, .f32⟩
  | 33 => ⟨S1x512, .f32⟩
  | 34 => ⟨S512, .f32⟩
  | 35 => ⟨S1x256x512, .f32⟩
  | 36 => ⟨S256x512, .f32⟩
  | 37 => ⟨S8x256x256, .f32⟩
  | 38 => ⟨S_, .f32⟩
  | 39 => ⟨S8x256, .f32⟩
  | 40 => ⟨S8x256x1, .f32⟩
  | 41 => ⟨S_, .f32⟩
  | 42 => ⟨S8x256x1, .f32⟩
  | 43 => ⟨S8x256x1, .f32⟩
  | 44 => ⟨S_, .f32⟩
  | 45 => ⟨S8x256x1, .f32⟩
  | 46 => ⟨S8x256x1, .f32⟩
  | 47 => ⟨S8x256x1, .f32⟩
  | 48 => ⟨S8x256x256, .f32⟩
  | 49 => ⟨S8x256x256, .f32⟩
  | 50 => ⟨S1x1x256, .f32⟩
  | 51 => ⟨S8x256x256, .f32⟩
  | 52 => ⟨S8x256x256, .f32⟩
  | 53 => ⟨S256x1024, .f32⟩
  | 54 => ⟨S8x256x1024, .f32⟩
  | 55 => ⟨S8x256x512, .f32⟩
  | 56 => ⟨S8x256x512, .f32⟩
  | 57 => ⟨S_, .i32⟩
  | 58 => ⟨S_, .f32⟩
  | 59 => ⟨S8x259x512, .f32⟩
  | 60 => ⟨S8x256x512, .f32⟩
  | 61 => ⟨S512x1, .f32⟩
  | 62 => ⟨S512, .f32⟩
  | 63 => ⟨S1x1x512, .f32⟩
  | 64 => ⟨S8x256x512, .f32⟩
  | 65 => ⟨S8x256x512, .f32⟩
  | 66 => ⟨S_, .f32⟩
  | 67 => ⟨S8x256x512, .f32⟩
  | 68 => ⟨S8x256x512, .f32⟩
  | 69 => ⟨S8x256x512, .f32⟩
  | 70 => ⟨S512x1, .f32⟩
  | 71 => ⟨S512, .f32⟩
  | 72 => ⟨S1x1x512, .f32⟩
  | 73 => ⟨S8x256x512, .f32⟩
  | 74 => ⟨S8x256x512, .f32⟩
  | 75 => ⟨S8x256x512, .f32⟩
  | 76 => ⟨S8x256x512, .f32⟩
  | 77 => ⟨S512x1, .f32⟩
  | 78 => ⟨S512, .f32⟩
  | 79 => ⟨S1x1x512, .f32⟩
  | 80 => ⟨S8x256x512, .f32⟩
  | 81 => ⟨S8x256x512, .f32⟩
  | 82 => ⟨S8x256x512, .f32⟩
  | 83 => ⟨S8x256x512, .f32⟩
  | 84 => ⟨S512x1, .f32⟩
  | 85 => ⟨S512, .f32⟩
  | 86 => ⟨S1x1x512, .f32⟩
  | 87 => ⟨S8x256x512, .f32⟩
  | 88 => ⟨S8x256x512, .f32⟩
  | 89 => ⟨S8x256x512, .f32⟩
  | 90 => ⟨S1x1x512, .f32⟩
  | 91 => ⟨S8x256x512, .f32⟩
  | 92 => ⟨S8x256x512, .f32⟩
  | 93 => ⟨S8x256x512, .f32⟩
  | 94 => ⟨S8x256x512, .f32⟩
  | 95 => ⟨S_, .f32⟩
  | 96 => ⟨S8x256x512, .f32⟩
  | 97 => ⟨S8x256x512, .f32⟩
  | 98 => ⟨S_, .f32⟩
  | 99 => ⟨S8x256x512, .f32⟩
  | 100 => ⟨S8x256x512, .f32⟩
  | 101 => ⟨S8x256x512, .f32⟩
  | 102 => ⟨S512x48, .f32⟩
  | 103 => ⟨S8x256x48, .f32⟩
  | 104 => ⟨S8x256x16, .f32⟩
  | 105 => ⟨S8x256x16, .f32⟩
  | 106 => ⟨S8x256x16, .f32⟩
  | 107 => ⟨S16x512, .f32⟩
  | 108 => ⟨S8x256x512, .f32⟩
  | 109 => ⟨S1x1x512, .f32⟩
  | 110 => ⟨S8x256x512, .f32⟩
  | 111 => ⟨S8x256x512, .f32⟩
  | 112 => ⟨S_, .f32⟩
  | 113 => ⟨S8x256x512, .f32⟩
  | 114 => ⟨S8x256x512, .f32⟩
  | 115 => ⟨S8x256x512, .f32⟩
  | 116 => ⟨S8x256x512, .f32⟩
  | 117 => ⟨S8x256x512, .i1⟩
  | 118 => ⟨S8x256x512, .f32⟩
  | 119 => ⟨S8x256x512, .f32⟩
  | 120 => ⟨S8x256x512, .f32⟩
  | 121 => ⟨S8x256x512, .f32⟩
  | 122 => ⟨S8x256x512, .f32⟩
  | 123 => ⟨S8x256x512, .f32⟩
  | 124 => ⟨S8x256x512, .f32⟩
  | 125 => ⟨S8x256x512, .f32⟩
  | 126 => ⟨S512x16, .f32⟩
  | 127 => ⟨S512x16, .f32⟩
  | _ => ⟨S256x2048, .f32⟩

abbrev hbmTy0_1 (i : Nat) : BufTy := match i % 128 with
  | 0 => ⟨S8x256x512x1, .f32⟩
  | 1 => ⟨S1x1x512x16, .f32⟩
  | 2 => ⟨S8x256x512x16, .f32⟩
  | 3 => ⟨S8x256x512x16, .f32⟩
  | 4 => ⟨S8x256x512x16, .f32⟩
  | 5 => ⟨S8x256x512x16, .f32⟩
  | 6 => ⟨S8x256x512x1, .f32⟩
  | 7 => ⟨S8x256x1x16, .f32⟩
  | 8 => ⟨S8x256x512x16, .f32⟩
  | 9 => ⟨S8x256x512x16, .f32⟩
  | 10 => ⟨S8x256x512x16, .f32⟩
  | 11 => ⟨S8x256x512x1, .f32⟩
  | 12 => ⟨S8x256x512x16, .f32⟩
  | 13 => ⟨S8x256x512x16, .f32⟩
  | 14 => ⟨S_, .f32⟩
  | 15 => ⟨S8x512x16, .f32⟩
  | 16 => ⟨S256x8x512x16, .f32⟩
  | 17 => ⟨S256x8x512x16, .f32⟩
  | 18 => ⟨S256x8x16, .f32⟩
  | 19 => ⟨S_, .f32⟩
  | 20 => ⟨S256x8x512, .f32⟩
  | 21 => ⟨S_, .i32⟩
  | 22 => ⟨S256x8x512x16, .f32⟩
  | 23 => ⟨S256x8x512x16, .f32⟩
  | 24 => ⟨S256x8x16, .f32⟩
  | 25 => ⟨S_, .i32⟩
  | 26 => ⟨S8x512x16, .f32⟩
  | 27 => ⟨S256x8x512, .f32⟩
  | 28 => ⟨S_, .i32⟩
  | 29 => ⟨S_, .i1⟩
  | 30 => ⟨S_, .i32⟩
  | 31 => ⟨S_, .i32⟩
  | 32 => ⟨S_, .i32⟩
  | 33 => ⟨S1x8x512x16, .f32⟩
  | 34 => ⟨S8x512x16, .f32⟩
  | 35 => ⟨S_, .i32⟩
  | 36 => ⟨S_, .i32⟩
  | 37 => ⟨S_, .i32⟩
  | 38 => ⟨S1x8x512x16, .f32⟩
  | 39 => ⟨S8x512x16, .f32⟩
  | 40 => ⟨S_, .i32⟩
  | 41 => ⟨S_, .i32⟩
  | 42 => ⟨S1x8x16, .f32⟩
  | 43 => ⟨S8x16, .f32⟩
  | 44 => ⟨S8x512x16, .f32⟩
  | 45 => ⟨S8x512x16, .f32⟩
  | 46 => ⟨S8x512, .f32⟩
  | 47 => ⟨S1x8x512, .f32⟩
  | 48 => ⟨S_, .i32⟩
  | 49 => ⟨S_, .i32⟩
  | 50 => ⟨S256x8x512, .f32⟩
  | 51 => ⟨S_, .i32⟩
  | 52 => ⟨S_, .i32⟩
  | 53 => ⟨S8x256x512, .f32⟩
  | 54 => ⟨S1x1x512, .f32⟩
  | 55 => ⟨S8x256x512, .f32⟩
  | 56 => ⟨S8x256x512, .f32⟩
  | 57 => ⟨S8x256x512, .f32⟩
  | 58 => ⟨S8x256x512, .f32⟩
  | 59 => ⟨S8x256x512, .f32⟩
  | 60 => ⟨S_, .f32⟩
  | 61 => ⟨S8x256x512, .f32⟩
  | 62 => ⟨S8x256x512, .f32⟩
  | 63 => ⟨S_, .f32⟩
  | 64 => ⟨S8x256x512, .f32⟩
  | 65 => ⟨S8x256x512, .f32⟩
  | 66 => ⟨S8x256x512, .f32⟩
  | 67 => ⟨S8x256x512, .f32⟩
  | 68 => ⟨S512x256, .f32⟩
  | 69 => ⟨S8x256x256, .f32⟩
  | 70 => ⟨S8x256x256, .f32⟩
  | 71 => ⟨S1x256, .f32⟩
  | 72 => ⟨S256, .f32⟩
  | 73 => ⟨S1x1024x256, .f32⟩
  | 74 => ⟨S1024x256, .f32⟩
  | 75 => ⟨S1x512x4, .f32⟩
  | 76 => ⟨S512x4, .f32⟩
  | 77 => ⟨S1x512, .f32⟩
  | 78 => ⟨S512, .f32⟩
  | 79 => ⟨S1x48x512, .f32⟩
  | 80 => ⟨S48x512, .f32⟩
  | 81 => ⟨S1x512x16, .f32⟩
  | 82 => ⟨S512x16, .f32⟩
  | 83 => ⟨S1x512, .f32⟩
  | 84 => ⟨S512, .f32⟩
  | 85 => ⟨S1x512x16, .f32⟩
  | 86 => ⟨S512x16, .f32⟩
  | 87 => ⟨S1x512, .f32⟩
  | 88 => ⟨S512, .f32⟩
  | 89 => ⟨S1x256x512, .f32⟩
  | 90 => ⟨S256x512, .f32⟩
  | 91 => ⟨S8x256x256, .f32⟩
  | 92 => ⟨S_, .f32⟩
  | 93 => ⟨S8x256, .f32⟩
  | 94 => ⟨S8x256x1, .f32⟩
  | 95 => ⟨S_, .f32⟩
  | 96 => ⟨S8x256x1, .f32⟩
  | 97 => ⟨S8x256x1, .f32⟩
  | 98 => ⟨S_, .f32⟩
  | 99 => ⟨S8x256x1, .f32⟩
  | 100 => ⟨S8x256x1, .f32⟩
  | 101 => ⟨S8x256x1, .f32⟩
  | 102 => ⟨S8x256x256, .f32⟩
  | 103 => ⟨S8x256x256, .f32⟩
  | 104 => ⟨S1x1x256, .f32⟩
  | 105 => ⟨S8x256x256, .f32⟩
  | 106 => ⟨S8x256x256, .f32⟩
  | 107 => ⟨S256x1024, .f32⟩
  | 108 => ⟨S8x256x1024, .f32⟩
  | 109 => ⟨S8x256x512, .f32⟩
  | 110 => ⟨S8x256x512, .f32⟩
  | 111 => ⟨S_, .i32⟩
  | 112 => ⟨S_, .f32⟩
  | 113 => ⟨S8x259x512, .f32⟩
  | 114 => ⟨S8x256x512, .f32⟩
  | 115 => ⟨S512x1, .f32⟩
  | 116 => ⟨S512, .f32⟩
  | 117 => ⟨S1x1x512, .f32⟩
  | 118 => ⟨S8x256x512, .f32⟩
  | 119 => ⟨S8x256x512, .f32⟩
  | 120 => ⟨S_, .f32⟩
  | 121 => ⟨S8x256x512, .f32⟩
  | 122 => ⟨S8x256x512, .f32⟩
  | 123 => ⟨S8x256x512, .f32⟩
  | 124 => ⟨S512x1, .f32⟩
  | 125 => ⟨S512, .f32⟩
  | 126 => ⟨S1x1x512, .f32⟩
  | 127 => ⟨S8x256x512, .f32⟩
  | _ => ⟨S256x2048, .f32⟩

abbrev hbmTy0_2 (i : Nat) : BufTy := match i % 128 with
  | 0 => ⟨S8x256x512, .f32⟩
  | 1 => ⟨S8x256x512, .f32⟩
  | 2 => ⟨S8x256x512, .f32⟩
  | 3 => ⟨S512x1, .f32⟩
  | 4 => ⟨S512, .f32⟩
  | 5 => ⟨S1x1x512, .f32⟩
  | 6 => ⟨S8x256x512, .f32⟩
  | 7 => ⟨S8x256x512, .f32⟩
  | 8 => ⟨S8x256x512, .f32⟩
  | 9 => ⟨S8x256x512, .f32⟩
  | 10 => ⟨S512x1, .f32⟩
  | 11 => ⟨S512, .f32⟩
  | 12 => ⟨S1x1x512, .f32⟩
  | 13 => ⟨S8x256x512, .f32⟩
  | 14 => ⟨S8x256x512, .f32⟩
  | 15 => ⟨S8x256x512, .f32⟩
  | 16 => ⟨S1x1x512, .f32⟩
  | 17 => ⟨S8x256x512, .f32⟩
  | 18 => ⟨S8x256x512, .f32⟩
  | 19 => ⟨S8x256x512, .f32⟩
  | 20 => ⟨S8x256x512, .f32⟩
  | 21 => ⟨S_, .f32⟩
  | 22 => ⟨S8x256x512, .f32⟩
  | 23 => ⟨S8x256x512, .f32⟩
  | 24 => ⟨S_, .f32⟩
  | 25 => ⟨S8x256x512, .f32⟩
  | 26 => ⟨S8x256x512, .f32⟩
  | 27 => ⟨S8x256x512, .f32⟩
  | 28 => ⟨S512x48, .f32⟩
  | 29 => ⟨S8x256x48, .f32⟩
  | 30 => ⟨S8x256x16, .f32⟩
  | 31 => ⟨S8x256x16, .f32⟩
  | 32 => ⟨S8x256x16, .f32⟩
  | 33 => ⟨S16x512, .f32⟩
  | 34 => ⟨S8x256x512, .f32⟩
  | 35 => ⟨S1x1x512, .f32⟩
  | 36 => ⟨S8x256x512, .f32⟩
  | 37 => ⟨S8x256x512, .f32⟩
  | 38 => ⟨S_, .f32⟩
  | 39 => ⟨S8x256x512, .f32⟩
  | 40 => ⟨S8x256x512, .f32⟩
  | 41 => ⟨S8x256x512, .f32⟩
  | 42 => ⟨S8x256x512, .f32⟩
  | 43 => ⟨S8x256x512, .i1⟩
  | 44 => ⟨S8x256x512, .f32⟩
  | 45 => ⟨S8x256x512, .f32⟩
  | 46 => ⟨S8x256x512, .f32⟩
  | 47 => ⟨S8x256x512, .f32⟩
  | 48 => ⟨S8x256x512, .f32⟩
  | 49 => ⟨S8x256x512, .f32⟩
  | 50 => ⟨S8x256x512, .f32⟩
  | 51 => ⟨S8x256x512, .f32⟩
  | 52 => ⟨S512x16, .f32⟩
  | 53 => ⟨S512x16, .f32⟩
  | 54 => ⟨S8x256x512x1, .f32⟩
  | 55 => ⟨S1x1x512x16, .f32⟩
  | 56 => ⟨S8x256x512x16, .f32⟩
  | 57 => ⟨S8x256x512x16, .f32⟩
  | 58 => ⟨S8x256x512x16, .f32⟩
  | 59 => ⟨S8x256x512x16, .f32⟩
  | 60 => ⟨S8x256x512x1, .f32⟩
  | 61 => ⟨S8x256x1x16, .f32⟩
  | 62 => ⟨S8x256x512x16, .f32⟩
  | 63 => ⟨S8x256x512x16, .f32⟩
  | 64 => ⟨S8x256x512x16, .f32⟩
  | 65 => ⟨S8x256x512x1, .f32⟩
  | 66 => ⟨S8x256x512x16, .f32⟩
  | 67 => ⟨S8x256x512x16, .f32⟩
  | 68 => ⟨S_, .f32⟩
  | 69 => ⟨S8x512x16, .f32⟩
  | 70 => ⟨S256x8x512x16, .f32⟩
  | 71 => ⟨S256x8x512x16, .f32⟩
  | 72 => ⟨S256x8x16, .f32⟩
  | 73 => ⟨S_, .f32⟩
  | 74 => ⟨S256x8x512, .f32⟩
  | 75 => ⟨S_, .i32⟩
  | 76 => ⟨S256x8x512x16, .f32⟩
  | 77 => ⟨S256x8x512x16, .f32⟩
  | 78 => ⟨S256x8x16, .f32⟩
  | 79 => ⟨S_, .i32⟩
  | 80 => ⟨S8x512x16, .f32⟩
  | 81 => ⟨S256x8x512, .f32⟩
  | 82 => ⟨S_, .i32⟩
  | 83 => ⟨S_, .i1⟩
  | 84 => ⟨S_, .i32⟩
  | 85 => ⟨S_, .i32⟩
  | 86 => ⟨S_, .i32⟩
  | 87 => ⟨S1x8x512x16, .f32⟩
  | 88 => ⟨S8x512x16, .f32⟩
  | 89 => ⟨S_, .i32⟩
  | 90 => ⟨S_, .i32⟩
  | 91 => ⟨S_, .i32⟩
  | 92 => ⟨S1x8x512x16, .f32⟩
  | 93 => ⟨S8x512x16, .f32⟩
  | 94 => ⟨S_, .i32⟩
  | 95 => ⟨S_, .i32⟩
  | 96 => ⟨S1x8x16, .f32⟩
  | 97 => ⟨S8x16, .f32⟩
  | 98 => ⟨S8x512x16, .f32⟩
  | 99 => ⟨S8x512x16, .f32⟩
  | 100 => ⟨S8x512, .f32⟩
  | 101 => ⟨S1x8x512, .f32⟩
  | 102 => ⟨S_, .i32⟩
  | 103 => ⟨S_, .i32⟩
  | 104 => ⟨S256x8x512, .f32⟩
  | 105 => ⟨S_, .i32⟩
  | 106 => ⟨S_, .i32⟩
  | 107 => ⟨S8x256x512, .f32⟩
  | 108 => ⟨S1x1x512, .f32⟩
  | 109 => ⟨S8x256x512, .f32⟩
  | 110 => ⟨S8x256x512, .f32⟩
  | 111 => ⟨S8x256x512, .f32⟩
  | 112 => ⟨S8x256x512, .f32⟩
  | 113 => ⟨S8x256x512, .f32⟩
  | 114 => ⟨S_, .f32⟩
  | 115 => ⟨S8x256x512, .f32⟩
  | 116 => ⟨S8x256x512, .f32⟩
  | 117 => ⟨S_, .f32⟩
  | 118 => ⟨S8x256x512, .f32⟩
  | 119 => ⟨S8x256x512, .f32⟩
  | 120 => ⟨S8x256x512, .f32⟩
  | 121 => ⟨S8x256x512, .f32⟩
  | 122 => ⟨S512x256, .f32⟩
  | 123 => ⟨S8x256x256, .f32⟩
  | 124 => ⟨S8x256x256, .f32⟩
  | 125 => ⟨S1x256, .f32⟩
  | 126 => ⟨S256, .f32⟩
  | 127 => ⟨S1x1024x256, .f32⟩
  | _ => ⟨S256x2048, .f32⟩

abbrev hbmTy0_3 (i : Nat) : BufTy := match i % 128 with
  | 0 => ⟨S1024x256, .f32⟩
  | 1 => ⟨S1x512x4, .f32⟩
  | 2 => ⟨S512x4, .f32⟩
  | 3 => ⟨S1x512, .f32⟩
  | 4 => ⟨S512, .f32⟩
  | 5 => ⟨S1x48x512, .f32⟩
  | 6 => ⟨S48x512, .f32⟩
  | 7 => ⟨S1x512x16, .f32⟩
  | 8 => ⟨S512x16, .f32⟩
  | 9 => ⟨S1x512, .f32⟩
  | 10 => ⟨S512, .f32⟩
  | 11 => ⟨S1x512x16, .f32⟩
  | 12 => ⟨S512x16, .f32⟩
  | 13 => ⟨S1x512, .f32⟩
  | 14 => ⟨S512, .f32⟩
  | 15 => ⟨S1x256x512, .f32⟩
  | 16 => ⟨S256x512, .f32⟩
  | 17 => ⟨S8x256x256, .f32⟩
  | 18 => ⟨S_, .f32⟩
  | 19 => ⟨S8x256, .f32⟩
  | 20 => ⟨S8x256x1, .f32⟩
  | 21 => ⟨S_, .f32⟩
  | 22 => ⟨S8x256x1, .f32⟩
  | 23 => ⟨S8x256x1, .f32⟩
  | 24 => ⟨S_, .f32⟩
  | 25 => ⟨S8x256x1, .f32⟩
  | 26 => ⟨S8x256x1, .f32⟩
  | 27 => ⟨S8x256x1, .f32⟩
  | 28 => ⟨S8x256x256, .f32⟩
  | 29 => ⟨S8x256x256, .f32⟩
  | 30 => ⟨S1x1x256, .f32⟩
  | 31 => ⟨S8x256x256, .f32⟩
  | 32 => ⟨S8x256x256, .f32⟩
  | 33 => ⟨S256x1024, .f32⟩
  | 34 => ⟨S8x256x1024, .f32⟩
  | 35 => ⟨S8x256x512, .f32⟩
  | 36 => ⟨S8x256x512, .f32⟩
  | 37 => ⟨S_, .i32⟩
  | 38 => ⟨S_, .f32⟩
  | 39 => ⟨S8x259x512, .f32⟩
  | 40 => ⟨S8x256x512, .f32⟩
  | 41 => ⟨S512x1, .f32⟩
  | 42 => ⟨S512, .f32⟩
  | 43 => ⟨S1x1x512, .f32⟩
  | 44 => ⟨S8x256x512, .f32⟩
  | 45 => ⟨S8x256x512, .f32⟩
  | 46 => ⟨S_, .f32⟩
  | 47 => ⟨S8x256x512, .f32⟩
  | 48 => ⟨S8x256x512, .f32⟩
  | 49 => ⟨S8x256x512, .f32⟩
  | 50 => ⟨S512x1, .f32⟩
  | 51 => ⟨S512, .f32⟩
  | 52 => ⟨S1x1x512, .f32⟩
  | 53 => ⟨S8x256x512, .f32⟩
  | 54 => ⟨S8x256x512, .f32⟩
  | 55 => ⟨S8x256x512, .f32⟩
  | 56 => ⟨S8x256x512, .f32⟩
  | 57 => ⟨S512x1, .f32⟩
  | 58 => ⟨S512, .f32⟩
  | 59 => ⟨S1x1x512, .f32⟩
  | 60 => ⟨S8x256x512, .f32⟩
  | 61 => ⟨S8x256x512, .f32⟩
  | 62 => ⟨S8x256x512, .f32⟩
  | 63 => ⟨S8x256x512, .f32⟩
  | 64 => ⟨S512x1, .f32⟩
  | 65 => ⟨S512, .f32⟩
  | 66 => ⟨S1x1x512, .f32⟩
  | 67 => ⟨S8x256x512, .f32⟩
  | 68 => ⟨S8x256x512, .f32⟩
  | 69 => ⟨S8x256x512, .f32⟩
  | 70 => ⟨S1x1x512, .f32⟩
  | 71 => ⟨S8x256x512, .f32⟩
  | 72 => ⟨S8x256x512, .f32⟩
  | 73 => ⟨S8x256x512, .f32⟩
  | 74 => ⟨S8x256x512, .f32⟩
  | 75 => ⟨S_, .f32⟩
  | 76 => ⟨S8x256x512, .f32⟩
  | 77 => ⟨S8x256x512, .f32⟩
  | 78 => ⟨S_, .f32⟩
  | 79 => ⟨S8x256x512, .f32⟩
  | 80 => ⟨S8x256x512, .f32⟩
  | 81 => ⟨S8x256x512, .f32⟩
  | 82 => ⟨S512x48, .f32⟩
  | 83 => ⟨S8x256x48, .f32⟩
  | 84 => ⟨S8x256x16, .f32⟩
  | 85 => ⟨S8x256x16, .f32⟩
  | 86 => ⟨S8x256x16, .f32⟩
  | 87 => ⟨S16x512, .f32⟩
  | 88 => ⟨S8x256x512, .f32⟩
  | 89 => ⟨S1x1x512, .f32⟩
  | 90 => ⟨S8x256x512, .f32⟩
  | 91 => ⟨S8x256x512, .f32⟩
  | 92 => ⟨S_, .f32⟩
  | 93 => ⟨S8x256x512, .f32⟩
  | 94 => ⟨S8x256x512, .f32⟩
  | 95 => ⟨S8x256x512, .f32⟩
  | 96 => ⟨S8x256x512, .f32⟩
  | 97 => ⟨S8x256x512, .i1⟩
  | 98 => ⟨S8x256x512, .f32⟩
  | 99 => ⟨S8x256x512, .f32⟩
  | 100 => ⟨S8x256x512, .f32⟩
  | 101 => ⟨S8x256x512, .f32⟩
  | 102 => ⟨S8x256x512, .f32⟩
  | 103 => ⟨S8x256x512, .f32⟩
  | 104 => ⟨S8x256x512, .f32⟩
  | 105 => ⟨S8x256x512, .f32⟩
  | 106 => ⟨S512x16, .f32⟩
  | 107 => ⟨S512x16, .f32⟩
  | 108 => ⟨S8x256x512x1, .f32⟩
  | 109 => ⟨S1x1x512x16, .f32⟩
  | 110 => ⟨S8x256x512x16, .f32⟩
  | 111 => ⟨S8x256x512x16, .f32⟩
  | 112 => ⟨S8x256x512x16, .f32⟩
  | 113 => ⟨S8x256x512x16, .f32⟩
  | 114 => ⟨S8x256x512x1, .f32⟩
  | 115 => ⟨S8x256x1x16, .f32⟩
  | 116 => ⟨S8x256x512x16, .f32⟩
  | 117 => ⟨S8x256x512x16, .f32⟩
  | 118 => ⟨S8x256x512x16, .f32⟩
  | 119 => ⟨S8x256x512x1, .f32⟩
  | 120 => ⟨S8x256x512x16, .f32⟩
  | 121 => ⟨S8x256x512x16, .f32⟩
  | 122 => ⟨S_, .f32⟩
  | 123 => ⟨S8x512x16, .f32⟩
  | 124 => ⟨S256x8x512x16, .f32⟩
  | 125 => ⟨S256x8x512x16, .f32⟩
  | 126 => ⟨S256x8x16, .f32⟩
  | 127 => ⟨S_, .f32⟩
  | _ => ⟨S256x2048, .f32⟩

abbrev hbmTy0_4 (i : Nat) : BufTy := match i % 128 with
  | 0 => ⟨S256x8x512, .f32⟩
  | 1 => ⟨S_, .i32⟩
  | 2 => ⟨S256x8x512x16, .f32⟩
  | 3 => ⟨S256x8x512x16, .f32⟩
  | 4 => ⟨S256x8x16, .f32⟩
  | 5 => ⟨S_, .i32⟩
  | 6 => ⟨S8x512x16, .f32⟩
  | 7 => ⟨S256x8x512, .f32⟩
  | 8 => ⟨S_, .i32⟩
  | 9 => ⟨S_, .i1⟩
  | 10 => ⟨S_, .i32⟩
  | 11 => ⟨S_, .i32⟩
  | 12 => ⟨S_, .i32⟩
  | 13 => ⟨S1x8x512x16, .f32⟩
  | 14 => ⟨S8x512x16, .f32⟩
  | 15 => ⟨S_, .i32⟩
  | 16 => ⟨S_, .i32⟩
  | 17 => ⟨S_, .i32⟩
  | 18 => ⟨S1x8x512x16, .f32⟩
  | 19 => ⟨S8x512x16, .f32⟩
  | 20 => ⟨S_, .i32⟩
  | 21 => ⟨S_, .i32⟩
  | 22 => ⟨S1x8x16, .f32⟩
  | 23 => ⟨S8x16, .f32⟩
  | 24 => ⟨S8x512x16, .f32⟩
  | 25 => ⟨S8x512x16, .f32⟩
  | 26 => ⟨S8x512, .f32⟩
  | 27 => ⟨S1x8x512, .f32⟩
  | 28 => ⟨S_, .i32⟩
  | 29 => ⟨S_, .i32⟩
  | 30 => ⟨S256x8x512, .f32⟩
  | 31 => ⟨S_, .i32⟩
  | 32 => ⟨S_, .i32⟩
  | 33 => ⟨S8x256x512, .f32⟩
  | 34 => ⟨S1x1x512, .f32⟩
  | 35 => ⟨S8x256x512, .f32⟩
  | 36 => ⟨S8x256x512, .f32⟩
  | 37 => ⟨S8x256x512, .f32⟩
  | 38 => ⟨S8x256x512, .f32⟩
  | 39 => ⟨S8x256x512, .f32⟩
  | 40 => ⟨S_, .f32⟩
  | 41 => ⟨S8x256x512, .f32⟩
  | 42 => ⟨S8x256x512, .f32⟩
  | 43 => ⟨S_, .f32⟩
  | 44 => ⟨S8x256x512, .f32⟩
  | 45 => ⟨S8x256x512, .f32⟩
  | 46 => ⟨S8x256x512, .f32⟩
  | 47 => ⟨S8x256x512, .f32⟩
  | 48 => ⟨S512x256, .f32⟩
  | 49 => ⟨S8x256x256, .f32⟩
  | 50 => ⟨S8x256x256, .f32⟩
  | 51 => ⟨S1x256, .f32⟩
  | 52 => ⟨S256, .f32⟩
  | 53 => ⟨S1x1024x256, .f32⟩
  | 54 => ⟨S1024x256, .f32⟩
  | 55 => ⟨S1x512x4, .f32⟩
  | 56 => ⟨S512x4, .f32⟩
  | 57 => ⟨S1x512, .f32⟩
  | 58 => ⟨S512, .f32⟩
  | 59 => ⟨S1x48x512, .f32⟩
  | 60 => ⟨S48x512, .f32⟩
  | 61 => ⟨S1x512x16, .f32⟩
  | 62 => ⟨S512x16, .f32⟩
  | 63 => ⟨S1x512, .f32⟩
  | 64 => ⟨S512, .f32⟩
  | 65 => ⟨S1x512x16, .f32⟩
  | 66 => ⟨S512x16, .f32⟩
  | 67 => ⟨S1x512, .f32⟩
  | 68 => ⟨S512, .f32⟩
  | 69 => ⟨S1x256x512, .f32⟩
  | 70 => ⟨S256x512, .f32⟩
  | 71 => ⟨S8x256x256, .f32⟩
  | 72 => ⟨S_, .f32⟩
  | 73 => ⟨S8x256, .f32⟩
  | 74 => ⟨S8x256x1, .f32⟩
  | 75 => ⟨S_, .f32⟩
  | 76 => ⟨S8x256x1, .f32⟩
  | 77 => ⟨S8x256x1, .f32⟩
  | 78 => ⟨S_, .f32⟩
  | 79 => ⟨S8x256x1, .f32⟩
  | 80 => ⟨S8x256x1, .f32⟩
  | 81 => ⟨S8x256x1, .f32⟩
  | 82 => ⟨S8x256x256, .f32⟩
  | 83 => ⟨S8x256x256, .f32⟩
  | 84 => ⟨S1x1x256, .f32⟩
  | 85 => ⟨S8x256x256, .f32⟩
  | 86 => ⟨S8x256x256, .f32⟩
  | 87 => ⟨S256x1024, .f32⟩
  | 88 => ⟨S8x256x1024, .f32⟩
  | 89 => ⟨S8x256x512, .f32⟩
  | 90 => ⟨S8x256x512, .f32⟩
  | 91 => ⟨S_, .i32⟩
  | 92 => ⟨S_, .f32⟩
  | 93 => ⟨S8x259x512, .f32⟩
  | 94 => ⟨S8x256x512, .f32⟩
  | 95 => ⟨S512x1, .f32⟩
  | 96 => ⟨S512, .f32⟩
  | 97 => ⟨S1x1x512, .f32⟩
  | 98 => ⟨S8x256x512, .f32⟩
  | 99 => ⟨S8x256x512, .f32⟩
  | 100 => ⟨S_, .f32⟩
  | 101 => ⟨S8x256x512, .f32⟩
  | 102 => ⟨S8x256x512, .f32⟩
  | 103 => ⟨S8x256x512, .f32⟩
  | 104 => ⟨S512x1, .f32⟩
  | 105 => ⟨S512, .f32⟩
  | 106 => ⟨S1x1x512, .f32⟩
  | 107 => ⟨S8x256x512, .f32⟩
  | 108 => ⟨S8x256x512, .f32⟩
  | 109 => ⟨S8x256x512, .f32⟩
  | 110 => ⟨S8x256x512, .f32⟩
  | 111 => ⟨S512x1, .f32⟩
  | 112 => ⟨S512, .f32⟩
  | 113 => ⟨S1x1x512, .f32⟩
  | 114 => ⟨S8x256x512, .f32⟩
  | 115 => ⟨S8x256x512, .f32⟩
  | 116 => ⟨S8x256x512, .f32⟩
  | 117 => ⟨S8x256x512, .f32⟩
  | 118 => ⟨S512x1, .f32⟩
  | 119 => ⟨S512, .f32⟩
  | 120 => ⟨S1x1x512, .f32⟩
  | 121 => ⟨S8x256x512, .f32⟩
  | 122 => ⟨S8x256x512, .f32⟩
  | 123 => ⟨S8x256x512, .f32⟩
  | 124 => ⟨S1x1x512, .f32⟩
  | 125 => ⟨S8x256x512, .f32⟩
  | 126 => ⟨S8x256x512, .f32⟩
  | 127 => ⟨S8x256x512, .f32⟩
  | _ => ⟨S256x2048, .f32⟩

abbrev hbmTy0_5 (i : Nat) : BufTy := match i % 128 with
  | 0 => ⟨S8x256x512, .f32⟩
  | 1 => ⟨S_, .f32⟩
  | 2 => ⟨S8x256x512, .f32⟩
  | 3 => ⟨S8x256x512, .f32⟩
  | 4 => ⟨S_, .f32⟩
  | 5 => ⟨S8x256x512, .f32⟩
  | 6 => ⟨S8x256x512, .f32⟩
  | 7 => ⟨S8x256x512, .f32⟩
  | 8 => ⟨S512x48, .f32⟩
  | 9 => ⟨S8x256x48, .f32⟩
  | 10 => ⟨S8x256x16, .f32⟩
  | 11 => ⟨S8x256x16, .f32⟩
  | 12 => ⟨S8x256x16, .f32⟩
  | 13 => ⟨S16x512, .f32⟩
  | 14 => ⟨S8x256x512, .f32⟩
  | 15 => ⟨S1x1x512, .f32⟩
  | 16 => ⟨S8x256x512, .f32⟩
  | 17 => ⟨S8x256x512, .f32⟩
  | 18 => ⟨S_, .f32⟩
  | 19 => ⟨S8x256x512, .f32⟩
  | 20 => ⟨S8x256x512, .f32⟩
  | 21 => ⟨S8x256x512, .f32⟩
  | 22 => ⟨S8x256x512, .f32⟩
  | 23 => ⟨S8x256x512, .i1⟩
  | 24 => ⟨S8x256x512, .f32⟩
  | 25 => ⟨S8x256x512, .f32⟩
  | 26 => ⟨S8x256x512, .f32⟩
  | 27 => ⟨S8x256x512, .f32⟩
  | 28 => ⟨S8x256x512, .f32⟩
  | 29 => ⟨S8x256x512, .f32⟩
  | 30 => ⟨S8x256x512, .f32⟩
  | 31 => ⟨S8x256x512, .f32⟩
  | 32 => ⟨S512x16, .f32⟩
  | 33 => ⟨S512x16, .f32⟩
  | 34 => ⟨S8x256x512x1, .f32⟩
  | 35 => ⟨S1x1x512x16, .f32⟩
  | 36 => ⟨S8x256x512x16, .f32⟩
  | 37 => ⟨S8x256x512x16, .f32⟩
  | 38 => ⟨S8x256x512x16, .f32⟩
  | 39 => ⟨S8x256x512x16, .f32⟩
  | 40 => ⟨S8x256x512x1, .f32⟩
  | 41 => ⟨S8x256x1x16, .f32⟩
  | 42 => ⟨S8x256x512x16, .f32⟩
  | 43 => ⟨S8x256x512x16, .f32⟩
  | 44 => ⟨S8x256x512x16, .f32⟩
  | 45 => ⟨S8x256x512x1, .f32⟩
  | 46 => ⟨S8x256x512x16, .f32⟩
  | 47 => ⟨S8x256x512x16, .f32⟩
  | 48 => ⟨S_, .f32⟩
  | 49 => ⟨S8x512x16, .f32⟩
  | 50 => ⟨S256x8x512x16, .f32⟩
  | 51 => ⟨S256x8x512x16, .f32⟩
  | 52 => ⟨S256x8x16, .f32⟩
  | 53 => ⟨S_, .f32⟩
  | 54 => ⟨S256x8x512, .f32⟩
  | 55 => ⟨S_, .i32⟩
  | 56 => ⟨S256x8x512x16, .f32⟩
  | 57 => ⟨S256x8x512x16, .f32⟩
  | 58 => ⟨S256x8x16, .f32⟩
  | 59 => ⟨S_, .i32⟩
  | 60 => ⟨S8x512x16, .f32⟩
  | 61 => ⟨S256x8x512, .f32⟩
  | 62 => ⟨S_, .i32⟩
  | 63 => ⟨S_, .i1⟩
  | 64 => ⟨S_, .i32⟩
  | 65 => ⟨S_, .i32⟩
  | 66 => ⟨S_, .i32⟩
  | 67 => ⟨S1x8x512x16, .f32⟩
  | 68 => ⟨S8x512x16, .f32⟩
  | 69 => ⟨S_, .i32⟩
  | 70 => ⟨S_, .i32⟩
  | 71 => ⟨S_, .i32⟩
  | 72 => ⟨S1x8x512x16, .f32⟩
  | 73 => ⟨S8x512x16, .f32⟩
  | 74 => ⟨S_, .i32⟩
  | 75 => ⟨S_, .i32⟩
  | 76 => ⟨S1x8x16, .f32⟩
  | 77 => ⟨S8x16, .f32⟩
  | 78 => ⟨S8x512x16, .f32⟩
  | 79 => ⟨S8x512x16, .f32⟩
  | 80 => ⟨S8x512, .f32⟩
  | 81 => ⟨S1x8x512, .f32⟩
  | 82 => ⟨S_, .i32⟩
  | 83 => ⟨S_, .i32⟩
  | 84 => ⟨S256x8x512, .f32⟩
  | 85 => ⟨S_, .i32⟩
  | 86 => ⟨S_, .i32⟩
  | 87 => ⟨S8x256x512, .f32⟩
  | 88 => ⟨S1x1x512, .f32⟩
  | 89 => ⟨S8x256x512, .f32⟩
  | 90 => ⟨S8x256x512, .f32⟩
  | 91 => ⟨S8x256x512, .f32⟩
  | 92 => ⟨S8x256x512, .f32⟩
  | 93 => ⟨S8x256x512, .f32⟩
  | 94 => ⟨S_, .f32⟩
  | 95 => ⟨S8x256x512, .f32⟩
  | 96 => ⟨S8x256x512, .f32⟩
  | 97 => ⟨S_, .f32⟩
  | 98 => ⟨S8x256x512, .f32⟩
  | 99 => ⟨S8x256x512, .f32⟩
  | 100 => ⟨S8x256x512, .f32⟩
  | 101 => ⟨S8x256x512, .f32⟩
  | 102 => ⟨S512x256, .f32⟩
  | 103 => ⟨S8x256x256, .f32⟩
  | 104 => ⟨S8x256x256, .f32⟩
  | 105 => ⟨S1x256, .f32⟩
  | 106 => ⟨S256, .f32⟩
  | 107 => ⟨S1x1024x256, .f32⟩
  | 108 => ⟨S1024x256, .f32⟩
  | 109 => ⟨S1x512x4, .f32⟩
  | 110 => ⟨S512x4, .f32⟩
  | 111 => ⟨S1x512, .f32⟩
  | 112 => ⟨S512, .f32⟩
  | 113 => ⟨S1x48x512, .f32⟩
  | 114 => ⟨S48x512, .f32⟩
  | 115 => ⟨S1x512x16, .f32⟩
  | 116 => ⟨S512x16, .f32⟩
  | 117 => ⟨S1x512, .f32⟩
  | 118 => ⟨S512, .f32⟩
  | 119 => ⟨S1x512x16, .f32⟩
  | 120 => ⟨S512x16, .f32⟩
  | 121 => ⟨S1x512, .f32⟩
  | 122 => ⟨S512, .f32⟩
  | 123 => ⟨S1x256x512, .f32⟩
  | 124 => ⟨S256x512, .f32⟩
  | 125 => ⟨S8x256x256, .f32⟩
  | 126 => ⟨S_, .f32⟩
  | 127 => ⟨S8x256, .f32⟩
  | _ => ⟨S256x2048, .f32⟩

abbrev hbmTy0_6 (i : Nat) : BufTy := match i % 128 with
  | 0 => ⟨S8x256x1, .f32⟩
  | 1 => ⟨S_, .f32⟩
  | 2 => ⟨S8x256x1, .f32⟩
  | 3 => ⟨S8x256x1, .f32⟩
  | 4 => ⟨S_, .f32⟩
  | 5 => ⟨S8x256x1, .f32⟩
  | 6 => ⟨S8x256x1, .f32⟩
  | 7 => ⟨S8x256x1, .f32⟩
  | 8 => ⟨S8x256x256, .f32⟩
  | 9 => ⟨S8x256x256, .f32⟩
  | 10 => ⟨S1x1x256, .f32⟩
  | 11 => ⟨S8x256x256, .f32⟩
  | 12 => ⟨S8x256x256, .f32⟩
  | 13 => ⟨S256x1024, .f32⟩
  | 14 => ⟨S8x256x1024, .f32⟩
  | 15 => ⟨S8x256x512, .f32⟩
  | 16 => ⟨S8x256x512, .f32⟩
  | 17 => ⟨S_, .i32⟩
  | 18 => ⟨S_, .f32⟩
  | 19 => ⟨S8x259x512, .f32⟩
  | 20 => ⟨S8x256x512, .f32⟩
  | 21 => ⟨S512x1, .f32⟩
  | 22 => ⟨S512, .f32⟩
  | 23 => ⟨S1x1x512, .f32⟩
  | 24 => ⟨S8x256x512, .f32⟩
  | 25 => ⟨S8x256x512, .f32⟩
  | 26 => ⟨S_, .f32⟩
  | 27 => ⟨S8x256x512, .f32⟩
  | 28 => ⟨S8x256x512, .f32⟩
  | 29 => ⟨S8x256x512, .f32⟩
  | 30 => ⟨S512x1, .f32⟩
  | 31 => ⟨S512, .f32⟩
  | 32 => ⟨S1x1x512, .f32⟩
  | 33 => ⟨S8x256x512, .f32⟩
  | 34 => ⟨S8x256x512, .f32⟩
  | 35 => ⟨S8x256x512, .f32⟩
  | 36 => ⟨S8x256x512, .f32⟩
  | 37 => ⟨S512x1, .f32⟩
  | 38 => ⟨S512, .f32⟩
  | 39 => ⟨S1x1x512, .f32⟩
  | 40 => ⟨S8x256x512, .f32⟩
  | 41 => ⟨S8x256x512, .f32⟩
  | 42 => ⟨S8x256x512, .f32⟩
  | 43 => ⟨S8x256x512, .f32⟩
  | 44 => ⟨S512x1, .f32⟩
  | 45 => ⟨S512, .f32⟩
  | 46 => ⟨S1x1x512, .f32⟩
  | 47 => ⟨S8x256x512, .f32⟩
  | 48 => ⟨S8x256x512, .f32⟩
  | 49 => ⟨S8x256x512, .f32⟩
  | 50 => ⟨S1x1x512, .f32⟩
  | 51 => ⟨S8x256x512, .f32⟩
  | 52 => ⟨S8x256x512, .f32⟩
  | 53 => ⟨S8x256x512, .f32⟩
  | 54 => ⟨S8x256x512, .f32⟩
  | 55 => ⟨S_, .f32⟩
  | 56 => ⟨S8x256x512, .f32⟩
  | 57 => ⟨S8x256x512, .f32⟩
  | 58 => ⟨S_, .f32⟩
  | 59 => ⟨S8x256x512, .f32⟩
  | 60 => ⟨S8x256x512, .f32⟩
  | 61 => ⟨S8x256x512, .f32⟩
  | 62 => ⟨S512x48, .f32⟩
  | 63 => ⟨S8x256x48, .f32⟩
  | 64 => ⟨S8x256x16, .f32⟩
  | 65 => ⟨S8x256x16, .f32⟩
  | 66 => ⟨S8x256x16, .f32⟩
  | 67 => ⟨S16x512, .f32⟩
  | 68 => ⟨S8x256x512, .f32⟩
  | 69 => ⟨S1x1x512, .f32⟩
  | 70 => ⟨S8x256x512, .f32⟩
  | 71 => ⟨S8x256x512, .f32⟩
  | 72 => ⟨S_, .f32⟩
  | 73 => ⟨S8x256x512, .f32⟩
  | 74 => ⟨S8x256x512, .f32⟩
  | 75 => ⟨S8x256x512, .f32⟩
  | 76 => ⟨S8x256x512, .f32⟩
  | 77 => ⟨S8x256x512, .i1⟩
  | 78 => ⟨S8x256x512, .f32⟩
  | 79 => ⟨S8x256x512, .f32⟩
  | 80 => ⟨S8x256x512, .f32⟩
  | 81 => ⟨S8x256x512, .f32⟩
  | 82 => ⟨S8x256x512, .f32⟩
  | 83 => ⟨S8x256x512, .f32⟩
  | 84 => ⟨S8x256x512, .f32⟩
  | 85 => ⟨S8x256x512, .f32⟩
  | 86 => ⟨S512x16, .f32⟩
  | 87 => ⟨S512x16, .f32⟩
  | 88 => ⟨S8x256x512x1, .f32⟩
  | 89 => ⟨S1x1x512x16, .f32⟩
  | 90 => ⟨S8x256x512x16, .f32⟩
  | 91 => ⟨S8x256x512x16, .f32⟩
  | 92 => ⟨S8x256x512x16, .f32⟩
  | 93 => ⟨S8x256x512x16, .f32⟩
  | 94 => ⟨S8x256x512x1, .f32⟩
  | 95 => ⟨S8x256x1x16, .f32⟩
  | 96 => ⟨S8x256x512x16, .f32⟩
  | 97 => ⟨S8x256x512x16, .f32⟩
  | 98 => ⟨S8x256x512x16, .f32⟩
  | 99 => ⟨S8x256x512x1, .f32⟩
  | 100 => ⟨S8x256x512x16, .f32⟩
  | 101 => ⟨S8x256x512x16, .f32⟩
  | 102 => ⟨S_, .f32⟩
  | 103 => ⟨S8x512x16, .f32⟩
  | 104 => ⟨S256x8x512x16, .f32⟩
  | 105 => ⟨S256x8x512x16, .f32⟩
  | 106 => ⟨S256x8x16, .f32⟩
  | 107 => ⟨S_, .f32⟩
  | 108 => ⟨S256x8x512, .f32⟩
  | 109 => ⟨S_, .i32⟩
  | 110 => ⟨S256x8x512x16, .f32⟩
  | 111 => ⟨S256x8x512x16, .f32⟩
  | 112 => ⟨S256x8x16, .f32⟩
  | 113 => ⟨S_, .i32⟩
  | 114 => ⟨S8x512x16, .f32⟩
  | 115 => ⟨S256x8x512, .f32⟩
  | 116 => ⟨S_, .i32⟩
  | 117 => ⟨S_, .i1⟩
  | 118 => ⟨S_, .i32⟩
  | 119 => ⟨S_, .i32⟩
  | 120 => ⟨S_, .i32⟩
  | 121 => ⟨S1x8x512x16, .f32⟩
  | 122 => ⟨S8x512x16, .f32⟩
  | 123 => ⟨S_, .i32⟩
  | 124 => ⟨S_, .i32⟩
  | 125 => ⟨S_, .i32⟩
  | 126 => ⟨S1x8x512x16, .f32⟩
  | 127 => ⟨S8x512x16, .f32⟩
  | _ => ⟨S256x2048, .f32⟩

abbrev hbmTy0_7 (i : Nat) : BufTy := match i % 128 with
  | 0 => ⟨S_, .i32⟩
  | 1 => ⟨S_, .i32⟩
  | 2 => ⟨S1x8x16, .f32⟩
  | 3 => ⟨S8x16, .f32⟩
  | 4 => ⟨S8x512x16, .f32⟩
  | 5 => ⟨S8x512x16, .f32⟩
  | 6 => ⟨S8x512, .f32⟩
  | 7 => ⟨S1x8x512, .f32⟩
  | 8 => ⟨S_, .i32⟩
  | 9 => ⟨S_, .i32⟩
  | 10 => ⟨S256x8x512, .f32⟩
  | 11 => ⟨S_, .i32⟩
  | 12 => ⟨S_, .i32⟩
  | 13 => ⟨S8x256x512, .f32⟩
  | 14 => ⟨S1x1x512, .f32⟩
  | 15 => ⟨S8x256x512, .f32⟩
  | 16 => ⟨S8x256x512, .f32⟩
  | 17 => ⟨S8x256x512, .f32⟩
  | 18 => ⟨S8x256x512, .f32⟩
  | 19 => ⟨S8x256x512, .f32⟩
  | 20 => ⟨S_, .f32⟩
  | 21 => ⟨S8x256x512, .f32⟩
  | 22 => ⟨S8x256x512, .f32⟩
  | 23 => ⟨S_, .f32⟩
  | 24 => ⟨S8x256x512, .f32⟩
  | 25 => ⟨S8x256x512, .f32⟩
  | 26 => ⟨S8x256x512, .f32⟩
  | 27 => ⟨S8x256x512, .f32⟩
  | 28 => ⟨S512x256, .f32⟩
  | 29 => ⟨S8x256x256, .f32⟩
  | 30 => ⟨S8x256x256, .f32⟩
  | 31 => ⟨S1x256, .f32⟩
  | 32 => ⟨S256, .f32⟩
  | 33 => ⟨S1x1024x256, .f32⟩
  | 34 => ⟨S1024x256, .f32⟩
  | 35 => ⟨S1x512x4, .f32⟩
  | 36 => ⟨S512x4, .f32⟩
  | 37 => ⟨S1x512, .f32⟩
  | 38 => ⟨S512, .f32⟩
  | 39 => ⟨S1x48x512, .f32⟩
  | 40 => ⟨S48x512, .f32⟩
  | 41 => ⟨S1x512x16, .f32⟩
  | 42 => ⟨S512x16, .f32⟩
  | 43 => ⟨S1x512, .f32⟩
  | 44 => ⟨S512, .f32⟩
  | 45 => ⟨S1x512x16, .f32⟩
  | 46 => ⟨S512x16, .f32⟩
  | 47 => ⟨S1x512, .f32⟩
  | 48 => ⟨S512, .f32⟩
  | 49 => ⟨S1x256x512, .f32⟩
  | 50 => ⟨S256x512, .f32⟩
  | 51 => ⟨S8x256x256, .f32⟩
  | 52 => ⟨S_, .f32⟩
  | 53 => ⟨S8x256, .f32⟩
  | 54 => ⟨S8x256x1, .f32⟩
  | 55 => ⟨S_, .f32⟩
  | 56 => ⟨S8x256x1, .f32⟩
  | 57 => ⟨S8x256x1, .f32⟩
  | 58 => ⟨S_, .f32⟩
  | 59 => ⟨S8x256x1, .f32⟩
  | 60 => ⟨S8x256x1, .f32⟩
  | 61 => ⟨S8x256x1, .f32⟩
  | 62 => ⟨S8x256x256, .f32⟩
  | 63 => ⟨S8x256x256, .f32⟩
  | 64 => ⟨S1x1x256, .f32⟩
  | 65 => ⟨S8x256x256, .f32⟩
  | 66 => ⟨S8x256x256, .f32⟩
  | 67 => ⟨S256x1024, .f32⟩
  | 68 => ⟨S8x256x1024, .f32⟩
  | 69 => ⟨S8x256x512, .f32⟩
  | 70 => ⟨S8x256x512, .f32⟩
  | 71 => ⟨S_, .i32⟩
  | 72 => ⟨S_, .f32⟩
  | 73 => ⟨S8x259x512, .f32⟩
  | 74 => ⟨S8x256x512, .f32⟩
  | 75 => ⟨S512x1, .f32⟩
  | 76 => ⟨S512, .f32⟩
  | 77 => ⟨S1x1x512, .f32⟩
  | 78 => ⟨S8x256x512, .f32⟩
  | 79 => ⟨S8x256x512, .f32⟩
  | 80 => ⟨S_, .f32⟩
  | 81 => ⟨S8x256x512, .f32⟩
  | 82 => ⟨S8x256x512, .f32⟩
  | 83 => ⟨S8x256x512, .f32⟩
  | 84 => ⟨S512x1, .f32⟩
  | 85 => ⟨S512, .f32⟩
  | 86 => ⟨S1x1x512, .f32⟩
  | 87 => ⟨S8x256x512, .f32⟩
  | 88 => ⟨S8x256x512, .f32⟩
  | 89 => ⟨S8x256x512, .f32⟩
  | 90 => ⟨S8x256x512, .f32⟩
  | 91 => ⟨S512x1, .f32⟩
  | 92 => ⟨S512, .f32⟩
  | 93 => ⟨S1x1x512, .f32⟩
  | 94 => ⟨S8x256x512, .f32⟩
  | 95 => ⟨S8x256x512, .f32⟩
  | 96 => ⟨S8x256x512, .f32⟩
  | 97 => ⟨S8x256x512, .f32⟩
  | 98 => ⟨S512x1, .f32⟩
  | 99 => ⟨S512, .f32⟩
  | 100 => ⟨S1x1x512, .f32⟩
  | 101 => ⟨S8x256x512, .f32⟩
  | 102 => ⟨S8x256x512, .f32⟩
  | 103 => ⟨S8x256x512, .f32⟩
  | 104 => ⟨S1x1x512, .f32⟩
  | 105 => ⟨S8x256x512, .f32⟩
  | 106 => ⟨S8x256x512, .f32⟩
  | 107 => ⟨S8x256x512, .f32⟩
  | 108 => ⟨S8x256x512, .f32⟩
  | 109 => ⟨S_, .f32⟩
  | 110 => ⟨S8x256x512, .f32⟩
  | 111 => ⟨S8x256x512, .f32⟩
  | 112 => ⟨S_, .f32⟩
  | 113 => ⟨S8x256x512, .f32⟩
  | 114 => ⟨S8x256x512, .f32⟩
  | 115 => ⟨S8x256x512, .f32⟩
  | 116 => ⟨S512x48, .f32⟩
  | 117 => ⟨S8x256x48, .f32⟩
  | 118 => ⟨S8x256x16, .f32⟩
  | 119 => ⟨S8x256x16, .f32⟩
  | 120 => ⟨S8x256x16, .f32⟩
  | 121 => ⟨S16x512, .f32⟩
  | 122 => ⟨S8x256x512, .f32⟩
  | 123 => ⟨S1x1x512, .f32⟩
  | 124 => ⟨S8x256x512, .f32⟩
  | 125 => ⟨S8x256x512, .f32⟩
  | 126 => ⟨S_, .f32⟩
  | 127 => ⟨S8x256x512, .f32⟩
  | _ => ⟨S256x2048, .f32⟩

abbrev hbmTy0_8 (i : Nat) : BufTy := match i % 128 with
  | 0 => ⟨S8x256x512, .f32⟩
  | 1 => ⟨S8x256x512, .f32⟩
  | 2 => ⟨S8x256x512, .f32⟩
  | 3 => ⟨S8x256x512, .i1⟩
  | 4 => ⟨S8x256x512, .f32⟩
  | 5 => ⟨S8x256x512, .f32⟩
  | 6 => ⟨S8x256x512, .f32⟩
  | 7 => ⟨S8x256x512, .f32⟩
  | 8 => ⟨S8x256x512, .f32⟩
  | 9 => ⟨S8x256x512, .f32⟩
  | 10 => ⟨S8x256x512, .f32⟩
  | 11 => ⟨S8x256x512, .f32⟩
  | 12 => ⟨S512x16, .f32⟩
  | 13 => ⟨S512x16, .f32⟩
  | 14 => ⟨S8x256x512x1, .f32⟩
  | 15 => ⟨S1x1x512x16, .f32⟩
  | 16 => ⟨S8x256x512x16, .f32⟩
  | 17 => ⟨S8x256x512x16, .f32⟩
  | 18 => ⟨S8x256x512x16, .f32⟩
  | 19 => ⟨S8x256x512x16, .f32⟩
  | 20 => ⟨S8x256x512x1, .f32⟩
  | 21 => ⟨S8x256x1x16, .f32⟩
  | 22 => ⟨S8x256x512x16, .f32⟩
  | 23 => ⟨S8x256x512x16, .f32⟩
  | 24 => ⟨S8x256x512x16, .f32⟩
  | 25 => ⟨S8x256x512x1, .f32⟩
  | 26 => ⟨S8x256x512x16, .f32⟩
  | 27 => ⟨S8x256x512x16, .f32⟩
  | 28 => ⟨S_, .f32⟩
  | 29 => ⟨S8x512x16, .f32⟩
  | 30 => ⟨S256x8x512x16, .f32⟩
  | 31 => ⟨S256x8x512x16, .f32⟩
  | 32 => ⟨S256x8x16, .f32⟩
  | 33 => ⟨S_, .f32⟩
  | 34 => ⟨S256x8x512, .f32⟩
  | 35 => ⟨S_, .i32⟩
  | 36 => ⟨S256x8x512x16, .f32⟩
  | 37 => ⟨S256x8x512x16, .f32⟩
  | 38 => ⟨S256x8x16, .f32⟩
  | 39 => ⟨S_, .i32⟩
  | 40 => ⟨S8x512x16, .f32⟩
  | 41 => ⟨S256x8x512, .f32⟩
  | 42 => ⟨S_, .i32⟩
  | 43 => ⟨S_, .i1⟩
  | 44 => ⟨S_, .i32⟩
  | 45 => ⟨S_, .i32⟩
  | 46 => ⟨S_, .i32⟩
  | 47 => ⟨S1x8x512x16, .f32⟩
  | 48 => ⟨S8x512x16, .f32⟩
  | 49 => ⟨S_, .i32⟩
  | 50 => ⟨S_, .i32⟩
  | 51 => ⟨S_, .i32⟩
  | 52 => ⟨S1x8x512x16, .f32⟩
  | 53 => ⟨S8x512x16, .f32⟩
  | 54 => ⟨S_, .i32⟩
  | 55 => ⟨S_, .i32⟩
  | 56 => ⟨S1x8x16, .f32⟩
  | 57 => ⟨S8x16, .f32⟩
  | 58 => ⟨S8x512x16, .f32⟩
  | 59 => ⟨S8x512x16, .f32⟩
  | 60 => ⟨S8x512, .f32⟩
  | 61 => ⟨S1x8x512, .f32⟩
  | 62 => ⟨S_, .i32⟩
  | 63 => ⟨S_, .i32⟩
  | 64 => ⟨S256x8x512, .f32⟩
  | 65 => ⟨S_, .i32⟩
  | 66 => ⟨S_, .i32⟩
  | 67 => ⟨S8x256x512, .f32⟩
  | 68 => ⟨S1x1x512, .f32⟩
  | 69 => ⟨S8x256x512, .f32⟩
  | 70 => ⟨S8x256x512, .f32⟩
  | 71 => ⟨S8x256x512, .f32⟩
  | 72 => ⟨S8x256x512, .f32⟩
  | 73 => ⟨S8x256x512, .f32⟩
  | 74 => ⟨S_, .f32⟩
  | 75 => ⟨S8x256x512, .f32⟩
  | 76 => ⟨S8x256x512, .f32⟩
  | 77 => ⟨S_, .f32⟩
  | 78 => ⟨S8x256x512, .f32⟩
  | 79 => ⟨S8x256x512, .f32⟩
  | 80 => ⟨S8x256x512, .f32⟩
  | 81 => ⟨S8x256x512, .f32⟩
  | 82 => ⟨S512x256, .f32⟩
  | 83 => ⟨S8x256x256, .f32⟩
  | 84 => ⟨S8x256x256, .f32⟩
  | 85 => ⟨S8x256x256, .f32⟩
  | 86 => ⟨S_, .f32⟩
  | 87 => ⟨S8x256, .f32⟩
  | 88 => ⟨S8x256x1, .f32⟩
  | 89 => ⟨S_, .f32⟩
  | 90 => ⟨S8x256x1, .f32⟩
  | 91 => ⟨S8x256x1, .f32⟩
  | 92 => ⟨S_, .f32⟩
  | 93 => ⟨S8x256x1, .f32⟩
  | 94 => ⟨S8x256x1, .f32⟩
  | 95 => ⟨S8x256x1, .f32⟩
  | 96 => ⟨S8x256x256, .f32⟩
  | 97 => ⟨S8x256x256, .f32⟩
  | 98 => ⟨S1x1x256, .f32⟩
  | 99 => ⟨S8x256x256, .f32⟩
  | 100 => ⟨S8x256x256, .f32⟩
  | 101 => ⟨S256x64, .f32⟩
  | 102 => ⟨S8x256x64, .f32⟩
  | 103 => ⟨S1x1x64, .f32⟩
  | 104 => ⟨S8x256x64, .f32⟩
  | 105 => ⟨S8x256x64, .f32⟩
  | 106 => ⟨S8x256x64, .f32⟩
  | 107 => ⟨S8x256x64, .f32⟩
  | 108 => ⟨S_, .f32⟩
  | 109 => ⟨S8x256x64, .f32⟩
  | 110 => ⟨S8x256x64, .f32⟩
  | 111 => ⟨S8x256x64, .f32⟩
  | 112 => ⟨S_, .f32⟩
  | 113 => ⟨S8x256x64, .f32⟩
  | 114 => ⟨S8x256x64, .f32⟩
  | 115 => ⟨S8x256x64, .f32⟩
  | 116 => ⟨S_, .f32⟩
  | 117 => ⟨S8x256x64, .f32⟩
  | 118 => ⟨S8x256x64, .f32⟩
  | 119 => ⟨S_, .f32⟩
  | 120 => ⟨S8x256x64, .f32⟩
  | 121 => ⟨S8x256x64, .f32⟩
  | 122 => ⟨S8x256x64, .f32⟩
  | 123 => ⟨S64x1, .f32⟩
  | 124 => ⟨S8x256x1, .f32⟩
  | 125 => ⟨S1x1x1, .f32⟩
  | 126 => ⟨S8x256x1, .f32⟩
  | 127 => ⟨S8x256x1, .f32⟩
  | _ => ⟨S256x2048, .f32⟩

abbrev hbmTy0_9 (i : Nat) : BufTy := match i % 128 with
  | 0 => ⟨S_, .f32⟩
  | 1 => ⟨S8x1, .f32⟩
  | 2 => ⟨S_, .f32⟩
  | 3 => ⟨S8x1, .f32⟩
  | 4 => ⟨S8x1, .f32⟩
  | 5 => ⟨S8x1x1, .f32⟩
  | 6 => ⟨S8x256x1, .f32⟩
  | 7 => ⟨S8x256x1, .f32⟩
  | 8 => ⟨S8x256x1, .f32⟩
  | 9 => ⟨S_, .f32⟩
  | 10 => ⟨S8x1, .f32⟩
  | 11 => ⟨S8x1x1, .f32⟩
  | 12 => ⟨S8x256x1, .f32⟩
  | 13 => ⟨S8x256x1, .f32⟩
  | 14 => ⟨S_, .i32⟩
  | 15 => ⟨S1, .i32⟩
  | 16 => ⟨S_, .i32⟩
  | 17 => ⟨S1, .i32⟩
  | 18 => ⟨S2, .i32⟩
  | 19 => ⟨S_, .f32⟩
  | 20 => ⟨S8, .f32⟩
  | 21 => ⟨S8x256x1, .f32⟩
  | 22 => ⟨S8x1x256, .f32⟩
  | _ => ⟨S256x2048, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | _ => ⟨S256x2048, .f32⟩

abbrev bufTy : (tb : Table) → Fin (tcTables nBuf tb) → BufTy
  | .hbm, ⟨i, _⟩ => hbmTy i
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_call0_v0 : Ref sig .tc := ⟨.hbm, 37, rfl⟩
abbrev main_call0_cst : Ref sig .tc := ⟨.hbm, 38, rfl⟩
abbrev main_call0_v1 : Ref sig .tc := ⟨.hbm, 39, rfl⟩
abbrev main_call0_v2 : Ref sig .tc := ⟨.hbm, 40, rfl⟩
abbrev main_call0_cst_0 : Ref sig .tc := ⟨.hbm, 41, rfl⟩
abbrev main_call0_v3 : Ref sig .tc := ⟨.hbm, 42, rfl⟩
abbrev main_call0_v4 : Ref sig .tc := ⟨.hbm, 43, rfl⟩
abbrev main_call0_cst_1 : Ref sig .tc := ⟨.hbm, 44, rfl⟩
abbrev main_call0_v5 : Ref sig .tc := ⟨.hbm, 45, rfl⟩
abbrev main_call0_v6 : Ref sig .tc := ⟨.hbm, 46, rfl⟩
abbrev main_call0_v7 : Ref sig .tc := ⟨.hbm, 47, rfl⟩
abbrev main_call0_v8 : Ref sig .tc := ⟨.hbm, 48, rfl⟩
abbrev main_call0_v9 : Ref sig .tc := ⟨.hbm, 49, rfl⟩
abbrev main_call0_v10 : Ref sig .tc := ⟨.hbm, 50, rfl⟩
abbrev main_call0_v11 : Ref sig .tc := ⟨.hbm, 51, rfl⟩
abbrev main_call0_v12 : Ref sig .tc := ⟨.hbm, 52, rfl⟩
abbrev main_call0_v13 : Ref sig .tc := ⟨.hbm, 53, rfl⟩
abbrev main_call0_v14 : Ref sig .tc := ⟨.hbm, 54, rfl⟩
abbrev main_call0_v15 : Ref sig .tc := ⟨.hbm, 55, rfl⟩
abbrev main_call0_v16 : Ref sig .tc := ⟨.hbm, 56, rfl⟩
abbrev main_call0_c : Ref sig .tc := ⟨.hbm, 57, rfl⟩
abbrev main_call0_call0_v0 : Ref sig .tc := ⟨.hbm, 58, rfl⟩
abbrev main_call0_v17 : Ref sig .tc := ⟨.hbm, 59, rfl⟩
abbrev main_call0_v18 : Ref sig .tc := ⟨.hbm, 60, rfl⟩
abbrev main_call0_v19 : Ref sig .tc := ⟨.hbm, 61, rfl⟩
abbrev main_call0_v20 : Ref sig .tc := ⟨.hbm, 62, rfl⟩
abbrev main_call0_v21 : Ref sig .tc := ⟨.hbm, 63, rfl⟩
abbrev main_call0_v22 : Ref sig .tc := ⟨.hbm, 64, rfl⟩
abbrev main_call0_v23 : Ref sig .tc := ⟨.hbm, 65, rfl⟩
abbrev main_call0_cst_2 : Ref sig .tc := ⟨.hbm, 66, rfl⟩
abbrev main_call0_v24 : Ref sig .tc := ⟨.hbm, 67, rfl⟩
abbrev main_call0_v25 : Ref sig .tc := ⟨.hbm, 68, rfl⟩
abbrev main_call0_v26 : Ref sig .tc := ⟨.hbm, 69, rfl⟩
abbrev main_call0_v27 : Ref sig .tc := ⟨.hbm, 70, rfl⟩
abbrev main_call0_v28 : Ref sig .tc := ⟨.hbm, 71, rfl⟩
abbrev main_call0_v29 : Ref sig .tc := ⟨.hbm, 72, rfl⟩
abbrev main_call0_v30 : Ref sig .tc := ⟨.hbm, 73, rfl⟩
abbrev main_call0_v31 : Ref sig .tc := ⟨.hbm, 74, rfl⟩
abbrev main_call0_v32 : Ref sig .tc := ⟨.hbm, 75, rfl⟩
abbrev main_call0_v33 : Ref sig .tc := ⟨.hbm, 76, rfl⟩
abbrev main_call0_v34 : Ref sig .tc := ⟨.hbm, 77, rfl⟩
abbrev main_call0_v35 : Ref sig .tc := ⟨.hbm, 78, rfl⟩
abbrev main_call0_v36 : Ref sig .tc := ⟨.hbm, 79, rfl⟩
abbrev main_call0_v37 : Ref sig .tc := ⟨.hbm, 80, rfl⟩
abbrev main_call0_v38 : Ref sig .tc := ⟨.hbm, 81, rfl⟩
abbrev main_call0_v39 : Ref sig .tc := ⟨.hbm, 82, rfl⟩
abbrev main_call0_v40 : Ref sig .tc := ⟨.hbm, 83, rfl⟩
abbrev main_call0_v41 : Ref sig .tc := ⟨.hbm, 84, rfl⟩
abbrev main_call0_v42 : Ref sig .tc := ⟨.hbm, 85, rfl⟩
abbrev main_call0_v43 : Ref sig .tc := ⟨.hbm, 86, rfl⟩
abbrev main_call0_v44 : Ref sig .tc := ⟨.hbm, 87, rfl⟩
abbrev main_call0_v45 : Ref sig .tc := ⟨.hbm, 88, rfl⟩
abbrev main_call0_v46 : Ref sig .tc := ⟨.hbm, 89, rfl⟩
abbrev main_call0_v47 : Ref sig .tc := ⟨.hbm, 90, rfl⟩
abbrev main_call0_v48 : Ref sig .tc := ⟨.hbm, 91, rfl⟩
abbrev main_call0_v49 : Ref sig .tc := ⟨.hbm, 92, rfl⟩
abbrev main_call0_call1_v0 : Ref sig .tc := ⟨.hbm, 93, rfl⟩
abbrev main_call0_call1_v1 : Ref sig .tc := ⟨.hbm, 94, rfl⟩
abbrev main_call0_call1_cst : Ref sig .tc := ⟨.hbm, 95, rfl⟩
abbrev main_call0_call1_v2 : Ref sig .tc := ⟨.hbm, 96, rfl⟩
abbrev main_call0_call1_v3 : Ref sig .tc := ⟨.hbm, 97, rfl⟩
abbrev main_call0_call1_cst_0 : Ref sig .tc := ⟨.hbm, 98, rfl⟩
abbrev main_call0_call1_v4 : Ref sig .tc := ⟨.hbm, 99, rfl⟩
abbrev main_call0_call1_v5 : Ref sig .tc := ⟨.hbm, 100, rfl⟩
abbrev main_call0_v50 : Ref sig .tc := ⟨.hbm, 101, rfl⟩
abbrev main_call0_v51 : Ref sig .tc := ⟨.hbm, 102, rfl⟩
abbrev main_call0_v52 : Ref sig .tc := ⟨.hbm, 103, rfl⟩
abbrev main_call0_v53 : Ref sig .tc := ⟨.hbm, 104, rfl⟩
abbrev main_call0_v54 : Ref sig .tc := ⟨.hbm, 105, rfl⟩
abbrev main_call0_v55 : Ref sig .tc := ⟨.hbm, 106, rfl⟩
abbrev main_call0_v56 : Ref sig .tc := ⟨.hbm, 107, rfl⟩
abbrev main_call0_v57 : Ref sig .tc := ⟨.hbm, 108, rfl⟩
abbrev main_call0_v58 : Ref sig .tc := ⟨.hbm, 109, rfl⟩
abbrev main_call0_v59 : Ref sig .tc := ⟨.hbm, 110, rfl⟩
abbrev main_call0_v60 : Ref sig .tc := ⟨.hbm, 111, rfl⟩
abbrev main_call0_call2_cst : Ref sig .tc := ⟨.hbm, 112, rfl⟩
abbrev main_call0_call2_v0 : Ref sig .tc := ⟨.hbm, 113, rfl⟩
abbrev main_call0_call2_v1 : Ref sig .tc := ⟨.hbm, 114, rfl⟩
abbrev main_call0_call2_v2 : Ref sig .tc := ⟨.hbm, 115, rfl⟩
abbrev main_call0_call2_v3 : Ref sig .tc := ⟨.hbm, 116, rfl⟩
abbrev main_call0_call2_v4 : Ref sig .tc := ⟨.hbm, 117, rfl⟩
abbrev main_call0_call2_v5 : Ref sig .tc := ⟨.hbm, 118, rfl⟩
abbrev main_call0_call2_v6 : Ref sig .tc := ⟨.hbm, 119, rfl⟩
abbrev main_call0_call2_v7 : Ref sig .tc := ⟨.hbm, 120, rfl⟩
abbrev main_call0_call2_v8 : Ref sig .tc := ⟨.hbm, 121, rfl⟩
abbrev main_call0_call2_v9 : Ref sig .tc := ⟨.hbm, 122, rfl⟩
abbrev main_call0_call2_v10 : Ref sig .tc := ⟨.hbm, 123, rfl⟩
abbrev main_call0_call2_v11 : Ref sig .tc := ⟨.hbm, 124, rfl⟩
abbrev main_call0_v61 : Ref sig .tc := ⟨.hbm, 125, rfl⟩
abbrev main_call0_v62 : Ref sig .tc := ⟨.hbm, 126, rfl⟩
abbrev main_call0_v63 : Ref sig .tc := ⟨.hbm, 127, rfl⟩
abbrev main_call0_v64 : Ref sig .tc := ⟨.hbm, 128, rfl⟩
abbrev main_call0_v65 : Ref sig .tc := ⟨.hbm, 129, rfl⟩
abbrev main_call0_v66 : Ref sig .tc := ⟨.hbm, 130, rfl⟩
abbrev main_call0_v67 : Ref sig .tc := ⟨.hbm, 131, rfl⟩
abbrev main_call0_v68 : Ref sig .tc := ⟨.hbm, 132, rfl⟩
abbrev main_call0_v69 : Ref sig .tc := ⟨.hbm, 133, rfl⟩
abbrev main_call0_v70 : Ref sig .tc := ⟨.hbm, 134, rfl⟩
abbrev main_call0_v71 : Ref sig .tc := ⟨.hbm, 135, rfl⟩
abbrev main_call0_v72 : Ref sig .tc := ⟨.hbm, 136, rfl⟩
abbrev main_call0_v73 : Ref sig .tc := ⟨.hbm, 137, rfl⟩
abbrev main_call0_v74 : Ref sig .tc := ⟨.hbm, 138, rfl⟩
abbrev main_call0_v75 : Ref sig .tc := ⟨.hbm, 139, rfl⟩
abbrev main_call0_v76 : Ref sig .tc := ⟨.hbm, 140, rfl⟩
abbrev main_call0_v77 : Ref sig .tc := ⟨.hbm, 141, rfl⟩
abbrev main_call0_cst_3 : Ref sig .tc := ⟨.hbm, 142, rfl⟩
abbrev main_call0_v78 : Ref sig .tc := ⟨.hbm, 143, rfl⟩
abbrev main_call0_v79 : Ref sig .tc := ⟨.hbm, 144, rfl⟩
abbrev main_call0_v80 : Ref sig .tc := ⟨.hbm, 145, rfl⟩
abbrev main_call0_v81 : Ref sig .tc := ⟨.hbm, 146, rfl⟩
abbrev main_call0_cst_4 : Ref sig .tc := ⟨.hbm, 147, rfl⟩
abbrev main_call0_v82 : Ref sig .tc := ⟨.hbm, 148, rfl⟩
abbrev main_call0_c_5 : Ref sig .tc := ⟨.hbm, 149, rfl⟩
abbrev main_call0_v83_0 : Ref sig .tc := ⟨.hbm, 150, rfl⟩
abbrev main_call0_v83_1 : Ref sig .tc := ⟨.hbm, 151, rfl⟩
abbrev main_call0_v83_2 : Ref sig .tc := ⟨.hbm, 152, rfl⟩
abbrev main_call0_v83_3 : Ref sig .tc := ⟨.hbm, 153, rfl⟩
abbrev main_call0_v83_4 : Ref sig .tc := ⟨.hbm, 154, rfl⟩
abbrev main_call0_v83_5 : Ref sig .tc := ⟨.hbm, 155, rfl⟩
abbrev main_call0_while0c_c_11 : Ref sig .tc := ⟨.hbm, 156, rfl⟩
abbrev main_call0_while0c_v94 : Ref sig .tc := ⟨.hbm, 157, rfl⟩
abbrev main_call0_while0b_call3_c : Ref sig .tc := ⟨.hbm, 158, rfl⟩
abbrev main_call0_while0b_call3_c_0 : Ref sig .tc := ⟨.hbm, 159, rfl⟩
abbrev main_call0_while0b_call3_c_1 : Ref sig .tc := ⟨.hbm, 160, rfl⟩
abbrev main_call0_while0b_call3_v0 : Ref sig .tc := ⟨.hbm, 161, rfl⟩
abbrev main_call0_while0b_v94 : Ref sig .tc := ⟨.hbm, 162, rfl⟩
abbrev main_call0_while0b_call4_c : Ref sig .tc := ⟨.hbm, 163, rfl⟩
abbrev main_call0_while0b_call4_c_0 : Ref sig .tc := ⟨.hbm, 164, rfl⟩
abbrev main_call0_while0b_call4_c_1 : Ref sig .tc := ⟨.hbm, 165, rfl⟩
abbrev main_call0_while0b_call4_v0 : Ref sig .tc := ⟨.hbm, 166, rfl⟩
abbrev main_call0_while0b_v95 : Ref sig .tc := ⟨.hbm, 167, rfl⟩
abbrev main_call0_while0b_call5_c : Ref sig .tc := ⟨.hbm, 168, rfl⟩
abbrev main_call0_while0b_call5_c_0 : Ref sig .tc := ⟨.hbm, 169, rfl⟩
abbrev main_call0_while0b_call5_v0 : Ref sig .tc := ⟨.hbm, 170, rfl⟩
abbrev main_call0_while0b_v96 : Ref sig .tc := ⟨.hbm, 171, rfl⟩
abbrev main_call0_while0b_v97 : Ref sig .tc := ⟨.hbm, 172, rfl⟩
abbrev main_call0_while0b_v98 : Ref sig .tc := ⟨.hbm, 173, rfl⟩
abbrev main_call0_while0b_v99 : Ref sig .tc := ⟨.hbm, 174, rfl⟩
abbrev main_call0_while0b_call6_v0 : Ref sig .tc := ⟨.hbm, 175, rfl⟩
abbrev main_call0_while0b_call6_c : Ref sig .tc := ⟨.hbm, 176, rfl⟩
abbrev main_call0_while0b_call6_c_0 : Ref sig .tc := ⟨.hbm, 177, rfl⟩
abbrev main_call0_while0b_v100 : Ref sig .tc := ⟨.hbm, 178, rfl⟩
abbrev main_call0_while0b_c_11 : Ref sig .tc := ⟨.hbm, 179, rfl⟩
abbrev main_call0_while0b_v101 : Ref sig .tc := ⟨.hbm, 180, rfl⟩
abbrev main_call0_v84 : Ref sig .tc := ⟨.hbm, 181, rfl⟩
abbrev main_call0_v85 : Ref sig .tc := ⟨.hbm, 182, rfl⟩
abbrev main_call0_v86 : Ref sig .tc := ⟨.hbm, 183, rfl⟩
abbrev main_call0_v87 : Ref sig .tc := ⟨.hbm, 184, rfl⟩
abbrev main_call0_v88 : Ref sig .tc := ⟨.hbm, 185, rfl⟩
abbrev main_call0_call7_v0 : Ref sig .tc := ⟨.hbm, 186, rfl⟩
abbrev main_call0_call7_v1 : Ref sig .tc := ⟨.hbm, 187, rfl⟩
abbrev main_call0_call7_cst : Ref sig .tc := ⟨.hbm, 188, rfl⟩
abbrev main_call0_call7_v2 : Ref sig .tc := ⟨.hbm, 189, rfl⟩
abbrev main_call0_call7_v3 : Ref sig .tc := ⟨.hbm, 190, rfl⟩
abbrev main_call0_call7_cst_0 : Ref sig .tc := ⟨.hbm, 191, rfl⟩
abbrev main_call0_call7_v4 : Ref sig .tc := ⟨.hbm, 192, rfl⟩
abbrev main_call0_call7_v5 : Ref sig .tc := ⟨.hbm, 193, rfl⟩
abbrev main_call0_v89 : Ref sig .tc := ⟨.hbm, 194, rfl⟩
abbrev main_call0_v90 : Ref sig .tc := ⟨.hbm, 195, rfl⟩
abbrev main_call0_v91 : Ref sig .tc := ⟨.hbm, 196, rfl⟩
abbrev main_call0_v92 : Ref sig .tc := ⟨.hbm, 197, rfl⟩
abbrev main_v21 : Ref sig .tc := ⟨.hbm, 198, rfl⟩
abbrev main_v22 : Ref sig .tc := ⟨.hbm, 199, rfl⟩
abbrev main_v23 : Ref sig .tc := ⟨.hbm, 200, rfl⟩
abbrev main_v24 : Ref sig .tc := ⟨.hbm, 201, rfl⟩
abbrev main_v25 : Ref sig .tc := ⟨.hbm, 202, rfl⟩
abbrev main_v26 : Ref sig .tc := ⟨.hbm, 203, rfl⟩
abbrev main_v27 : Ref sig .tc := ⟨.hbm, 204, rfl⟩
abbrev main_v28 : Ref sig .tc := ⟨.hbm, 205, rfl⟩
abbrev main_v29 : Ref sig .tc := ⟨.hbm, 206, rfl⟩
abbrev main_v30 : Ref sig .tc := ⟨.hbm, 207, rfl⟩
abbrev main_v31 : Ref sig .tc := ⟨.hbm, 208, rfl⟩
abbrev main_v32 : Ref sig .tc := ⟨.hbm, 209, rfl⟩
abbrev main_v33 : Ref sig .tc := ⟨.hbm, 210, rfl⟩
abbrev main_v34 : Ref sig .tc := ⟨.hbm, 211, rfl⟩
abbrev main_v35 : Ref sig .tc := ⟨.hbm, 212, rfl⟩
abbrev main_v36 : Ref sig .tc := ⟨.hbm, 213, rfl⟩
abbrev main_v37 : Ref sig .tc := ⟨.hbm, 214, rfl⟩
abbrev main_v38 : Ref sig .tc := ⟨.hbm, 215, rfl⟩
abbrev main_v39 : Ref sig .tc := ⟨.hbm, 216, rfl⟩
abbrev main_v40 : Ref sig .tc := ⟨.hbm, 217, rfl⟩
abbrev main_v41 : Ref sig .tc := ⟨.hbm, 218, rfl⟩
abbrev main_call1_v0 : Ref sig .tc := ⟨.hbm, 219, rfl⟩
abbrev main_call1_cst : Ref sig .tc := ⟨.hbm, 220, rfl⟩
abbrev main_call1_v1 : Ref sig .tc := ⟨.hbm, 221, rfl⟩
abbrev main_call1_v2 : Ref sig .tc := ⟨.hbm, 222, rfl⟩
abbrev main_call1_cst_0 : Ref sig .tc := ⟨.hbm, 223, rfl⟩
abbrev main_call1_v3 : Ref sig .tc := ⟨.hbm, 224, rfl⟩
abbrev main_call1_v4 : Ref sig .tc := ⟨.hbm, 225, rfl⟩
abbrev main_call1_cst_1 : Ref sig .tc := ⟨.hbm, 226, rfl⟩
abbrev main_call1_v5 : Ref sig .tc := ⟨.hbm, 227, rfl⟩
abbrev main_call1_v6 : Ref sig .tc := ⟨.hbm, 228, rfl⟩
abbrev main_call1_v7 : Ref sig .tc := ⟨.hbm, 229, rfl⟩
abbrev main_call1_v8 : Ref sig .tc := ⟨.hbm, 230, rfl⟩
abbrev main_call1_v9 : Ref sig .tc := ⟨.hbm, 231, rfl⟩
abbrev main_call1_v10 : Ref sig .tc := ⟨.hbm, 232, rfl⟩
abbrev main_call1_v11 : Ref sig .tc := ⟨.hbm, 233, rfl⟩
abbrev main_call1_v12 : Ref sig .tc := ⟨.hbm, 234, rfl⟩
abbrev main_call1_v13 : Ref sig .tc := ⟨.hbm, 235, rfl⟩
abbrev main_call1_v14 : Ref sig .tc := ⟨.hbm, 236, rfl⟩
abbrev main_call1_v15 : Ref sig .tc := ⟨.hbm, 237, rfl⟩
abbrev main_call1_v16 : Ref sig .tc := ⟨.hbm, 238, rfl⟩
abbrev main_call1_c : Ref sig .tc := ⟨.hbm, 239, rfl⟩
abbrev main_call1_call0_v0 : Ref sig .tc := ⟨.hbm, 240, rfl⟩
abbrev main_call1_v17 : Ref sig .tc := ⟨.hbm, 241, rfl⟩
abbrev main_call1_v18 : Ref sig .tc := ⟨.hbm, 242, rfl⟩
abbrev main_call1_v19 : Ref sig .tc := ⟨.hbm, 243, rfl⟩
abbrev main_call1_v20 : Ref sig .tc := ⟨.hbm, 244, rfl⟩
abbrev main_call1_v21 : Ref sig .tc := ⟨.hbm, 245, rfl⟩
abbrev main_call1_v22 : Ref sig .tc := ⟨.hbm, 246, rfl⟩
abbrev main_call1_v23 : Ref sig .tc := ⟨.hbm, 247, rfl⟩
abbrev main_call1_cst_2 : Ref sig .tc := ⟨.hbm, 248, rfl⟩
abbrev main_call1_v24 : Ref sig .tc := ⟨.hbm, 249, rfl⟩
abbrev main_call1_v25 : Ref sig .tc := ⟨.hbm, 250, rfl⟩
abbrev main_call1_v26 : Ref sig .tc := ⟨.hbm, 251, rfl⟩
abbrev main_call1_v27 : Ref sig .tc := ⟨.hbm, 252, rfl⟩
abbrev main_call1_v28 : Ref sig .tc := ⟨.hbm, 253, rfl⟩
abbrev main_call1_v29 : Ref sig .tc := ⟨.hbm, 254, rfl⟩
abbrev main_call1_v30 : Ref sig .tc := ⟨.hbm, 255, rfl⟩
abbrev main_call1_v31 : Ref sig .tc := ⟨.hbm, 256, rfl⟩
abbrev main_call1_v32 : Ref sig .tc := ⟨.hbm, 257, rfl⟩
abbrev main_call1_v33 : Ref sig .tc := ⟨.hbm, 258, rfl⟩
abbrev main_call1_v34 : Ref sig .tc := ⟨.hbm, 259, rfl⟩
abbrev main_call1_v35 : Ref sig .tc := ⟨.hbm, 260, rfl⟩
abbrev main_call1_v36 : Ref sig .tc := ⟨.hbm, 261, rfl⟩
abbrev main_call1_v37 : Ref sig .tc := ⟨.hbm, 262, rfl⟩
abbrev main_call1_v38 : Ref sig .tc := ⟨.hbm, 263, rfl⟩
abbrev main_call1_v39 : Ref sig .tc := ⟨.hbm, 264, rfl⟩
abbrev main_call1_v40 : Ref sig .tc := ⟨.hbm, 265, rfl⟩
abbrev main_call1_v41 : Ref sig .tc := ⟨.hbm, 266, rfl⟩
abbrev main_call1_v42 : Ref sig .tc := ⟨.hbm, 267, rfl⟩
abbrev main_call1_v43 : Ref sig .tc := ⟨.hbm, 268, rfl⟩
abbrev main_call1_v44 : Ref sig .tc := ⟨.hbm, 269, rfl⟩
abbrev main_call1_v45 : Ref sig .tc := ⟨.hbm, 270, rfl⟩
abbrev main_call1_v46 : Ref sig .tc := ⟨.hbm, 271, rfl⟩
abbrev main_call1_v47 : Ref sig .tc := ⟨.hbm, 272, rfl⟩
abbrev main_call1_v48 : Ref sig .tc := ⟨.hbm, 273, rfl⟩
abbrev main_call1_v49 : Ref sig .tc := ⟨.hbm, 274, rfl⟩
abbrev main_call1_call1_v0 : Ref sig .tc := ⟨.hbm, 275, rfl⟩
abbrev main_call1_call1_v1 : Ref sig .tc := ⟨.hbm, 276, rfl⟩
abbrev main_call1_call1_cst : Ref sig .tc := ⟨.hbm, 277, rfl⟩
abbrev main_call1_call1_v2 : Ref sig .tc := ⟨.hbm, 278, rfl⟩
abbrev main_call1_call1_v3 : Ref sig .tc := ⟨.hbm, 279, rfl⟩
abbrev main_call1_call1_cst_0 : Ref sig .tc := ⟨.hbm, 280, rfl⟩
abbrev main_call1_call1_v4 : Ref sig .tc := ⟨.hbm, 281, rfl⟩
abbrev main_call1_call1_v5 : Ref sig .tc := ⟨.hbm, 282, rfl⟩
abbrev main_call1_v50 : Ref sig .tc := ⟨.hbm, 283, rfl⟩
abbrev main_call1_v51 : Ref sig .tc := ⟨.hbm, 284, rfl⟩
abbrev main_call1_v52 : Ref sig .tc := ⟨.hbm, 285, rfl⟩
abbrev main_call1_v53 : Ref sig .tc := ⟨.hbm, 286, rfl⟩
abbrev main_call1_v54 : Ref sig .tc := ⟨.hbm, 287, rfl⟩
abbrev main_call1_v55 : Ref sig .tc := ⟨.hbm, 288, rfl⟩
abbrev main_call1_v56 : Ref sig .tc := ⟨.hbm, 289, rfl⟩
abbrev main_call1_v57 : Ref sig .tc := ⟨.hbm, 290, rfl⟩
abbrev main_call1_v58 : Ref sig .tc := ⟨.hbm, 291, rfl⟩
abbrev main_call1_v59 : Ref sig .tc := ⟨.hbm, 292, rfl⟩
abbrev main_call1_v60 : Ref sig .tc := ⟨.hbm, 293, rfl⟩
abbrev main_call1_call2_cst : Ref sig .tc := ⟨.hbm, 294, rfl⟩
abbrev main_call1_call2_v0 : Ref sig .tc := ⟨.hbm, 295, rfl⟩
abbrev main_call1_call2_v1 : Ref sig .tc := ⟨.hbm, 296, rfl⟩
abbrev main_call1_call2_v2 : Ref sig .tc := ⟨.hbm, 297, rfl⟩
abbrev main_call1_call2_v3 : Ref sig .tc := ⟨.hbm, 298, rfl⟩
abbrev main_call1_call2_v4 : Ref sig .tc := ⟨.hbm, 299, rfl⟩
abbrev main_call1_call2_v5 : Ref sig .tc := ⟨.hbm, 300, rfl⟩
abbrev main_call1_call2_v6 : Ref sig .tc := ⟨.hbm, 301, rfl⟩
abbrev main_call1_call2_v7 : Ref sig .tc := ⟨.hbm, 302, rfl⟩
abbrev main_call1_call2_v8 : Ref sig .tc := ⟨.hbm, 303, rfl⟩
abbrev main_call1_call2_v9 : Ref sig .tc := ⟨.hbm, 304, rfl⟩
abbrev main_call1_call2_v10 : Ref sig .tc := ⟨.hbm, 305, rfl⟩
abbrev main_call1_call2_v11 : Ref sig .tc := ⟨.hbm, 306, rfl⟩
abbrev main_call1_v61 : Ref sig .tc := ⟨.hbm, 307, rfl⟩
abbrev main_call1_v62 : Ref sig .tc := ⟨.hbm, 308, rfl⟩
abbrev main_call1_v63 : Ref sig .tc := ⟨.hbm, 309, rfl⟩
abbrev main_call1_v64 : Ref sig .tc := ⟨.hbm, 310, rfl⟩
abbrev main_call1_v65 : Ref sig .tc := ⟨.hbm, 311, rfl⟩
abbrev main_call1_v66 : Ref sig .tc := ⟨.hbm, 312, rfl⟩
abbrev main_call1_v67 : Ref sig .tc := ⟨.hbm, 313, rfl⟩
abbrev main_call1_v68 : Ref sig .tc := ⟨.hbm, 314, rfl⟩
abbrev main_call1_v69 : Ref sig .tc := ⟨.hbm, 315, rfl⟩
abbrev main_call1_v70 : Ref sig .tc := ⟨.hbm, 316, rfl⟩
abbrev main_call1_v71 : Ref sig .tc := ⟨.hbm, 317, rfl⟩
abbrev main_call1_v72 : Ref sig .tc := ⟨.hbm, 318, rfl⟩
abbrev main_call1_v73 : Ref sig .tc := ⟨.hbm, 319, rfl⟩
abbrev main_call1_v74 : Ref sig .tc := ⟨.hbm, 320, rfl⟩
abbrev main_call1_v75 : Ref sig .tc := ⟨.hbm, 321, rfl⟩
abbrev main_call1_v76 : Ref sig .tc := ⟨.hbm, 322, rfl⟩
abbrev main_call1_v77 : Ref sig .tc := ⟨.hbm, 323, rfl⟩
abbrev main_call1_cst_3 : Ref sig .tc := ⟨.hbm, 324, rfl⟩
abbrev main_call1_v78 : Ref sig .tc := ⟨.hbm, 325, rfl⟩
abbrev main_call1_v79 : Ref sig .tc := ⟨.hbm, 326, rfl⟩
abbrev main_call1_v80 : Ref sig .tc := ⟨.hbm, 327, rfl⟩
abbrev main_call1_v81 : Ref sig .tc := ⟨.hbm, 328, rfl⟩
abbrev main_call1_cst_4 : Ref sig .tc := ⟨.hbm, 329, rfl⟩
abbrev main_call1_v82 : Ref sig .tc := ⟨.hbm, 330, rfl⟩
abbrev main_call1_c_5 : Ref sig .tc := ⟨.hbm, 331, rfl⟩
abbrev main_call1_v83_0 : Ref sig .tc := ⟨.hbm, 332, rfl⟩
abbrev main_call1_v83_1 : Ref sig .tc := ⟨.hbm, 333, rfl⟩
abbrev main_call1_v83_2 : Ref sig .tc := ⟨.hbm, 334, rfl⟩
abbrev main_call1_v83_3 : Ref sig .tc := ⟨.hbm, 335, rfl⟩
abbrev main_call1_v83_4 : Ref sig .tc := ⟨.hbm, 336, rfl⟩
abbrev main_call1_v83_5 : Ref sig .tc := ⟨.hbm, 337, rfl⟩
abbrev main_call1_while0c_c_11 : Ref sig .tc := ⟨.hbm, 338, rfl⟩
abbrev main_call1_while0c_v94 : Ref sig .tc := ⟨.hbm, 339, rfl⟩
abbrev main_call1_while0b_call3_c : Ref sig .tc := ⟨.hbm, 340, rfl⟩
abbrev main_call1_while0b_call3_c_0 : Ref sig .tc := ⟨.hbm, 341, rfl⟩
abbrev main_call1_while0b_call3_c_1 : Ref sig .tc := ⟨.hbm, 342, rfl⟩
abbrev main_call1_while0b_call3_v0 : Ref sig .tc := ⟨.hbm, 343, rfl⟩
abbrev main_call1_while0b_v94 : Ref sig .tc := ⟨.hbm, 344, rfl⟩
abbrev main_call1_while0b_call4_c : Ref sig .tc := ⟨.hbm, 345, rfl⟩
abbrev main_call1_while0b_call4_c_0 : Ref sig .tc := ⟨.hbm, 346, rfl⟩
abbrev main_call1_while0b_call4_c_1 : Ref sig .tc := ⟨.hbm, 347, rfl⟩
abbrev main_call1_while0b_call4_v0 : Ref sig .tc := ⟨.hbm, 348, rfl⟩
abbrev main_call1_while0b_v95 : Ref sig .tc := ⟨.hbm, 349, rfl⟩
abbrev main_call1_while0b_call5_c : Ref sig .tc := ⟨.hbm, 350, rfl⟩
abbrev main_call1_while0b_call5_c_0 : Ref sig .tc := ⟨.hbm, 351, rfl⟩
abbrev main_call1_while0b_call5_v0 : Ref sig .tc := ⟨.hbm, 352, rfl⟩
abbrev main_call1_while0b_v96 : Ref sig .tc := ⟨.hbm, 353, rfl⟩
abbrev main_call1_while0b_v97 : Ref sig .tc := ⟨.hbm, 354, rfl⟩
abbrev main_call1_while0b_v98 : Ref sig .tc := ⟨.hbm, 355, rfl⟩
abbrev main_call1_while0b_v99 : Ref sig .tc := ⟨.hbm, 356, rfl⟩
abbrev main_call1_while0b_call6_v0 : Ref sig .tc := ⟨.hbm, 357, rfl⟩
abbrev main_call1_while0b_call6_c : Ref sig .tc := ⟨.hbm, 358, rfl⟩
abbrev main_call1_while0b_call6_c_0 : Ref sig .tc := ⟨.hbm, 359, rfl⟩
abbrev main_call1_while0b_v100 : Ref sig .tc := ⟨.hbm, 360, rfl⟩
abbrev main_call1_while0b_c_11 : Ref sig .tc := ⟨.hbm, 361, rfl⟩
abbrev main_call1_while0b_v101 : Ref sig .tc := ⟨.hbm, 362, rfl⟩
abbrev main_call1_v84 : Ref sig .tc := ⟨.hbm, 363, rfl⟩
abbrev main_call1_v85 : Ref sig .tc := ⟨.hbm, 364, rfl⟩
abbrev main_call1_v86 : Ref sig .tc := ⟨.hbm, 365, rfl⟩
abbrev main_call1_v87 : Ref sig .tc := ⟨.hbm, 366, rfl⟩
abbrev main_call1_v88 : Ref sig .tc := ⟨.hbm, 367, rfl⟩
abbrev main_call1_call7_v0 : Ref sig .tc := ⟨.hbm, 368, rfl⟩
abbrev main_call1_call7_v1 : Ref sig .tc := ⟨.hbm, 369, rfl⟩
abbrev main_call1_call7_cst : Ref sig .tc := ⟨.hbm, 370, rfl⟩
abbrev main_call1_call7_v2 : Ref sig .tc := ⟨.hbm, 371, rfl⟩
abbrev main_call1_call7_v3 : Ref sig .tc := ⟨.hbm, 372, rfl⟩
abbrev main_call1_call7_cst_0 : Ref sig .tc := ⟨.hbm, 373, rfl⟩
abbrev main_call1_call7_v4 : Ref sig .tc := ⟨.hbm, 374, rfl⟩
abbrev main_call1_call7_v5 : Ref sig .tc := ⟨.hbm, 375, rfl⟩
abbrev main_call1_v89 : Ref sig .tc := ⟨.hbm, 376, rfl⟩
abbrev main_call1_v90 : Ref sig .tc := ⟨.hbm, 377, rfl⟩
abbrev main_call1_v91 : Ref sig .tc := ⟨.hbm, 378, rfl⟩
abbrev main_call1_v92 : Ref sig .tc := ⟨.hbm, 379, rfl⟩
abbrev main_v42 : Ref sig .tc := ⟨.hbm, 380, rfl⟩
abbrev main_v43 : Ref sig .tc := ⟨.hbm, 381, rfl⟩
abbrev main_v44 : Ref sig .tc := ⟨.hbm, 382, rfl⟩
abbrev main_v45 : Ref sig .tc := ⟨.hbm, 383, rfl⟩
abbrev main_v46 : Ref sig .tc := ⟨.hbm, 384, rfl⟩
abbrev main_v47 : Ref sig .tc := ⟨.hbm, 385, rfl⟩
abbrev main_v48 : Ref sig .tc := ⟨.hbm, 386, rfl⟩
abbrev main_v49 : Ref sig .tc := ⟨.hbm, 387, rfl⟩
abbrev main_v50 : Ref sig .tc := ⟨.hbm, 388, rfl⟩
abbrev main_v51 : Ref sig .tc := ⟨.hbm, 389, rfl⟩
abbrev main_v52 : Ref sig .tc := ⟨.hbm, 390, rfl⟩
abbrev main_v53 : Ref sig .tc := ⟨.hbm, 391, rfl⟩
abbrev main_v54 : Ref sig .tc := ⟨.hbm, 392, rfl⟩
abbrev main_v55 : Ref sig .tc := ⟨.hbm, 393, rfl⟩
abbrev main_v56 : Ref sig .tc := ⟨.hbm, 394, rfl⟩
abbrev main_v57 : Ref sig .tc := ⟨.hbm, 395, rfl⟩
abbrev main_v58 : Ref sig .tc := ⟨.hbm, 396, rfl⟩
abbrev main_v59 : Ref sig .tc := ⟨.hbm, 397, rfl⟩
abbrev main_v60 : Ref sig .tc := ⟨.hbm, 398, rfl⟩
abbrev main_v61 : Ref sig .tc := ⟨.hbm, 399, rfl⟩
abbrev main_v62 : Ref sig .tc := ⟨.hbm, 400, rfl⟩
abbrev main_call2_v0 : Ref sig .tc := ⟨.hbm, 401, rfl⟩
abbrev main_call2_cst : Ref sig .tc := ⟨.hbm, 402, rfl⟩
abbrev main_call2_v1 : Ref sig .tc := ⟨.hbm, 403, rfl⟩
abbrev main_call2_v2 : Ref sig .tc := ⟨.hbm, 404, rfl⟩
abbrev main_call2_cst_0 : Ref sig .tc := ⟨.hbm, 405, rfl⟩
abbrev main_call2_v3 : Ref sig .tc := ⟨.hbm, 406, rfl⟩
abbrev main_call2_v4 : Ref sig .tc := ⟨.hbm, 407, rfl⟩
abbrev main_call2_cst_1 : Ref sig .tc := ⟨.hbm, 408, rfl⟩
abbrev main_call2_v5 : Ref sig .tc := ⟨.hbm, 409, rfl⟩
abbrev main_call2_v6 : Ref sig .tc := ⟨.hbm, 410, rfl⟩
abbrev main_call2_v7 : Ref sig .tc := ⟨.hbm, 411, rfl⟩
abbrev main_call2_v8 : Ref sig .tc := ⟨.hbm, 412, rfl⟩
abbrev main_call2_v9 : Ref sig .tc := ⟨.hbm, 413, rfl⟩
abbrev main_call2_v10 : Ref sig .tc := ⟨.hbm, 414, rfl⟩
abbrev main_call2_v11 : Ref sig .tc := ⟨.hbm, 415, rfl⟩
abbrev main_call2_v12 : Ref sig .tc := ⟨.hbm, 416, rfl⟩
abbrev main_call2_v13 : Ref sig .tc := ⟨.hbm, 417, rfl⟩
abbrev main_call2_v14 : Ref sig .tc := ⟨.hbm, 418, rfl⟩
abbrev main_call2_v15 : Ref sig .tc := ⟨.hbm, 419, rfl⟩
abbrev main_call2_v16 : Ref sig .tc := ⟨.hbm, 420, rfl⟩
abbrev main_call2_c : Ref sig .tc := ⟨.hbm, 421, rfl⟩
abbrev main_call2_call0_v0 : Ref sig .tc := ⟨.hbm, 422, rfl⟩
abbrev main_call2_v17 : Ref sig .tc := ⟨.hbm, 423, rfl⟩
abbrev main_call2_v18 : Ref sig .tc := ⟨.hbm, 424, rfl⟩
abbrev main_call2_v19 : Ref sig .tc := ⟨.hbm, 425, rfl⟩
abbrev main_call2_v20 : Ref sig .tc := ⟨.hbm, 426, rfl⟩
abbrev main_call2_v21 : Ref sig .tc := ⟨.hbm, 427, rfl⟩
abbrev main_call2_v22 : Ref sig .tc := ⟨.hbm, 428, rfl⟩
abbrev main_call2_v23 : Ref sig .tc := ⟨.hbm, 429, rfl⟩
abbrev main_call2_cst_2 : Ref sig .tc := ⟨.hbm, 430, rfl⟩
abbrev main_call2_v24 : Ref sig .tc := ⟨.hbm, 431, rfl⟩
abbrev main_call2_v25 : Ref sig .tc := ⟨.hbm, 432, rfl⟩
abbrev main_call2_v26 : Ref sig .tc := ⟨.hbm, 433, rfl⟩
abbrev main_call2_v27 : Ref sig .tc := ⟨.hbm, 434, rfl⟩
abbrev main_call2_v28 : Ref sig .tc := ⟨.hbm, 435, rfl⟩
abbrev main_call2_v29 : Ref sig .tc := ⟨.hbm, 436, rfl⟩
abbrev main_call2_v30 : Ref sig .tc := ⟨.hbm, 437, rfl⟩
abbrev main_call2_v31 : Ref sig .tc := ⟨.hbm, 438, rfl⟩
abbrev main_call2_v32 : Ref sig .tc := ⟨.hbm, 439, rfl⟩
abbrev main_call2_v33 : Ref sig .tc := ⟨.hbm, 440, rfl⟩
abbrev main_call2_v34 : Ref sig .tc := ⟨.hbm, 441, rfl⟩
abbrev main_call2_v35 : Ref sig .tc := ⟨.hbm, 442, rfl⟩
abbrev main_call2_v36 : Ref sig .tc := ⟨.hbm, 443, rfl⟩
abbrev main_call2_v37 : Ref sig .tc := ⟨.hbm, 444, rfl⟩
abbrev main_call2_v38 : Ref sig .tc := ⟨.hbm, 445, rfl⟩
abbrev main_call2_v39 : Ref sig .tc := ⟨.hbm, 446, rfl⟩
abbrev main_call2_v40 : Ref sig .tc := ⟨.hbm, 447, rfl⟩
abbrev main_call2_v41 : Ref sig .tc := ⟨.hbm, 448, rfl⟩
abbrev main_call2_v42 : Ref sig .tc := ⟨.hbm, 449, rfl⟩
abbrev main_call2_v43 : Ref sig .tc := ⟨.hbm, 450, rfl⟩
abbrev main_call2_v44 : Ref sig .tc := ⟨.hbm, 451, rfl⟩
abbrev main_call2_v45 : Ref sig .tc := ⟨.hbm, 452, rfl⟩
abbrev main_call2_v46 : Ref sig .tc := ⟨.hbm, 453, rfl⟩
abbrev main_call2_v47 : Ref sig .tc := ⟨.hbm, 454, rfl⟩
abbrev main_call2_v48 : Ref sig .tc := ⟨.hbm, 455, rfl⟩
abbrev main_call2_v49 : Ref sig .tc := ⟨.hbm, 456, rfl⟩
abbrev main_call2_call1_v0 : Ref sig .tc := ⟨.hbm, 457, rfl⟩
abbrev main_call2_call1_v1 : Ref sig .tc := ⟨.hbm, 458, rfl⟩
abbrev main_call2_call1_cst : Ref sig .tc := ⟨.hbm, 459, rfl⟩
abbrev main_call2_call1_v2 : Ref sig .tc := ⟨.hbm, 460, rfl⟩
abbrev main_call2_call1_v3 : Ref sig .tc := ⟨.hbm, 461, rfl⟩
abbrev main_call2_call1_cst_0 : Ref sig .tc := ⟨.hbm, 462, rfl⟩
abbrev main_call2_call1_v4 : Ref sig .tc := ⟨.hbm, 463, rfl⟩
abbrev main_call2_call1_v5 : Ref sig .tc := ⟨.hbm, 464, rfl⟩
abbrev main_call2_v50 : Ref sig .tc := ⟨.hbm, 465, rfl⟩
abbrev main_call2_v51 : Ref sig .tc := ⟨.hbm, 466, rfl⟩
abbrev main_call2_v52 : Ref sig .tc := ⟨.hbm, 467, rfl⟩
abbrev main_call2_v53 : Ref sig .tc := ⟨.hbm, 468, rfl⟩
abbrev main_call2_v54 : Ref sig .tc := ⟨.hbm, 469, rfl⟩
abbrev main_call2_v55 : Ref sig .tc := ⟨.hbm, 470, rfl⟩
abbrev main_call2_v56 : Ref sig .tc := ⟨.hbm, 471, rfl⟩
abbrev main_call2_v57 : Ref sig .tc := ⟨.hbm, 472, rfl⟩
abbrev main_call2_v58 : Ref sig .tc := ⟨.hbm, 473, rfl⟩
abbrev main_call2_v59 : Ref sig .tc := ⟨.hbm, 474, rfl⟩
abbrev main_call2_v60 : Ref sig .tc := ⟨.hbm, 475, rfl⟩
abbrev main_call2_call2_cst : Ref sig .tc := ⟨.hbm, 476, rfl⟩
abbrev main_call2_call2_v0 : Ref sig .tc := ⟨.hbm, 477, rfl⟩
abbrev main_call2_call2_v1 : Ref sig .tc := ⟨.hbm, 478, rfl⟩
abbrev main_call2_call2_v2 : Ref sig .tc := ⟨.hbm, 479, rfl⟩
abbrev main_call2_call2_v3 : Ref sig .tc := ⟨.hbm, 480, rfl⟩
abbrev main_call2_call2_v4 : Ref sig .tc := ⟨.hbm, 481, rfl⟩
abbrev main_call2_call2_v5 : Ref sig .tc := ⟨.hbm, 482, rfl⟩
abbrev main_call2_call2_v6 : Ref sig .tc := ⟨.hbm, 483, rfl⟩
abbrev main_call2_call2_v7 : Ref sig .tc := ⟨.hbm, 484, rfl⟩
abbrev main_call2_call2_v8 : Ref sig .tc := ⟨.hbm, 485, rfl⟩
abbrev main_call2_call2_v9 : Ref sig .tc := ⟨.hbm, 486, rfl⟩
abbrev main_call2_call2_v10 : Ref sig .tc := ⟨.hbm, 487, rfl⟩
abbrev main_call2_call2_v11 : Ref sig .tc := ⟨.hbm, 488, rfl⟩
abbrev main_call2_v61 : Ref sig .tc := ⟨.hbm, 489, rfl⟩
abbrev main_call2_v62 : Ref sig .tc := ⟨.hbm, 490, rfl⟩
abbrev main_call2_v63 : Ref sig .tc := ⟨.hbm, 491, rfl⟩
abbrev main_call2_v64 : Ref sig .tc := ⟨.hbm, 492, rfl⟩
abbrev main_call2_v65 : Ref sig .tc := ⟨.hbm, 493, rfl⟩
abbrev main_call2_v66 : Ref sig .tc := ⟨.hbm, 494, rfl⟩
abbrev main_call2_v67 : Ref sig .tc := ⟨.hbm, 495, rfl⟩
abbrev main_call2_v68 : Ref sig .tc := ⟨.hbm, 496, rfl⟩
abbrev main_call2_v69 : Ref sig .tc := ⟨.hbm, 497, rfl⟩
abbrev main_call2_v70 : Ref sig .tc := ⟨.hbm, 498, rfl⟩
abbrev main_call2_v71 : Ref sig .tc := ⟨.hbm, 499, rfl⟩
abbrev main_call2_v72 : Ref sig .tc := ⟨.hbm, 500, rfl⟩
abbrev main_call2_v73 : Ref sig .tc := ⟨.hbm, 501, rfl⟩
abbrev main_call2_v74 : Ref sig .tc := ⟨.hbm, 502, rfl⟩
abbrev main_call2_v75 : Ref sig .tc := ⟨.hbm, 503, rfl⟩
abbrev main_call2_v76 : Ref sig .tc := ⟨.hbm, 504, rfl⟩
abbrev main_call2_v77 : Ref sig .tc := ⟨.hbm, 505, rfl⟩
abbrev main_call2_cst_3 : Ref sig .tc := ⟨.hbm, 506, rfl⟩
abbrev main_call2_v78 : Ref sig .tc := ⟨.hbm, 507, rfl⟩
abbrev main_call2_v79 : Ref sig .tc := ⟨.hbm, 508, rfl⟩
abbrev main_call2_v80 : Ref sig .tc := ⟨.hbm, 509, rfl⟩
abbrev main_call2_v81 : Ref sig .tc := ⟨.hbm, 510, rfl⟩
abbrev main_call2_cst_4 : Ref sig .tc := ⟨.hbm, 511, rfl⟩
abbrev main_call2_v82 : Ref sig .tc := ⟨.hbm, 512, rfl⟩
abbrev main_call2_c_5 : Ref sig .tc := ⟨.hbm, 513, rfl⟩
abbrev main_call2_v83_0 : Ref sig .tc := ⟨.hbm, 514, rfl⟩
abbrev main_call2_v83_1 : Ref sig .tc := ⟨.hbm, 515, rfl⟩
abbrev main_call2_v83_2 : Ref sig .tc := ⟨.hbm, 516, rfl⟩
abbrev main_call2_v83_3 : Ref sig .tc := ⟨.hbm, 517, rfl⟩
abbrev main_call2_v83_4 : Ref sig .tc := ⟨.hbm, 518, rfl⟩
abbrev main_call2_v83_5 : Ref sig .tc := ⟨.hbm, 519, rfl⟩
abbrev main_call2_while0c_c_11 : Ref sig .tc := ⟨.hbm, 520, rfl⟩
abbrev main_call2_while0c_v94 : Ref sig .tc := ⟨.hbm, 521, rfl⟩
abbrev main_call2_while0b_call3_c : Ref sig .tc := ⟨.hbm, 522, rfl⟩
abbrev main_call2_while0b_call3_c_0 : Ref sig .tc := ⟨.hbm, 523, rfl⟩
abbrev main_call2_while0b_call3_c_1 : Ref sig .tc := ⟨.hbm, 524, rfl⟩
abbrev main_call2_while0b_call3_v0 : Ref sig .tc := ⟨.hbm, 525, rfl⟩
abbrev main_call2_while0b_v94 : Ref sig .tc := ⟨.hbm, 526, rfl⟩
abbrev main_call2_while0b_call4_c : Ref sig .tc := ⟨.hbm, 527, rfl⟩
abbrev main_call2_while0b_call4_c_0 : Ref sig .tc := ⟨.hbm, 528, rfl⟩
abbrev main_call2_while0b_call4_c_1 : Ref sig .tc := ⟨.hbm, 529, rfl⟩
abbrev main_call2_while0b_call4_v0 : Ref sig .tc := ⟨.hbm, 530, rfl⟩
abbrev main_call2_while0b_v95 : Ref sig .tc := ⟨.hbm, 531, rfl⟩
abbrev main_call2_while0b_call5_c : Ref sig .tc := ⟨.hbm, 532, rfl⟩
abbrev main_call2_while0b_call5_c_0 : Ref sig .tc := ⟨.hbm, 533, rfl⟩
abbrev main_call2_while0b_call5_v0 : Ref sig .tc := ⟨.hbm, 534, rfl⟩
abbrev main_call2_while0b_v96 : Ref sig .tc := ⟨.hbm, 535, rfl⟩
abbrev main_call2_while0b_v97 : Ref sig .tc := ⟨.hbm, 536, rfl⟩
abbrev main_call2_while0b_v98 : Ref sig .tc := ⟨.hbm, 537, rfl⟩
abbrev main_call2_while0b_v99 : Ref sig .tc := ⟨.hbm, 538, rfl⟩
abbrev main_call2_while0b_call6_v0 : Ref sig .tc := ⟨.hbm, 539, rfl⟩
abbrev main_call2_while0b_call6_c : Ref sig .tc := ⟨.hbm, 540, rfl⟩
abbrev main_call2_while0b_call6_c_0 : Ref sig .tc := ⟨.hbm, 541, rfl⟩
abbrev main_call2_while0b_v100 : Ref sig .tc := ⟨.hbm, 542, rfl⟩
abbrev main_call2_while0b_c_11 : Ref sig .tc := ⟨.hbm, 543, rfl⟩
abbrev main_call2_while0b_v101 : Ref sig .tc := ⟨.hbm, 544, rfl⟩
abbrev main_call2_v84 : Ref sig .tc := ⟨.hbm, 545, rfl⟩
abbrev main_call2_v85 : Ref sig .tc := ⟨.hbm, 546, rfl⟩
abbrev main_call2_v86 : Ref sig .tc := ⟨.hbm, 547, rfl⟩
abbrev main_call2_v87 : Ref sig .tc := ⟨.hbm, 548, rfl⟩
abbrev main_call2_v88 : Ref sig .tc := ⟨.hbm, 549, rfl⟩
abbrev main_call2_call7_v0 : Ref sig .tc := ⟨.hbm, 550, rfl⟩
abbrev main_call2_call7_v1 : Ref sig .tc := ⟨.hbm, 551, rfl⟩
abbrev main_call2_call7_cst : Ref sig .tc := ⟨.hbm, 552, rfl⟩
abbrev main_call2_call7_v2 : Ref sig .tc := ⟨.hbm, 553, rfl⟩
abbrev main_call2_call7_v3 : Ref sig .tc := ⟨.hbm, 554, rfl⟩
abbrev main_call2_call7_cst_0 : Ref sig .tc := ⟨.hbm, 555, rfl⟩
abbrev main_call2_call7_v4 : Ref sig .tc := ⟨.hbm, 556, rfl⟩
abbrev main_call2_call7_v5 : Ref sig .tc := ⟨.hbm, 557, rfl⟩
abbrev main_call2_v89 : Ref sig .tc := ⟨.hbm, 558, rfl⟩
abbrev main_call2_v90 : Ref sig .tc := ⟨.hbm, 559, rfl⟩
abbrev main_call2_v91 : Ref sig .tc := ⟨.hbm, 560, rfl⟩
abbrev main_call2_v92 : Ref sig .tc := ⟨.hbm, 561, rfl⟩
abbrev main_v63 : Ref sig .tc := ⟨.hbm, 562, rfl⟩
abbrev main_v64 : Ref sig .tc := ⟨.hbm, 563, rfl⟩
abbrev main_v65 : Ref sig .tc := ⟨.hbm, 564, rfl⟩
abbrev main_v66 : Ref sig .tc := ⟨.hbm, 565, rfl⟩
abbrev main_v67 : Ref sig .tc := ⟨.hbm, 566, rfl⟩
abbrev main_v68 : Ref sig .tc := ⟨.hbm, 567, rfl⟩
abbrev main_v69 : Ref sig .tc := ⟨.hbm, 568, rfl⟩
abbrev main_v70 : Ref sig .tc := ⟨.hbm, 569, rfl⟩
abbrev main_v71 : Ref sig .tc := ⟨.hbm, 570, rfl⟩
abbrev main_v72 : Ref sig .tc := ⟨.hbm, 571, rfl⟩
abbrev main_v73 : Ref sig .tc := ⟨.hbm, 572, rfl⟩
abbrev main_v74 : Ref sig .tc := ⟨.hbm, 573, rfl⟩
abbrev main_v75 : Ref sig .tc := ⟨.hbm, 574, rfl⟩
abbrev main_v76 : Ref sig .tc := ⟨.hbm, 575, rfl⟩
abbrev main_v77 : Ref sig .tc := ⟨.hbm, 576, rfl⟩
abbrev main_v78 : Ref sig .tc := ⟨.hbm, 577, rfl⟩
abbrev main_v79 : Ref sig .tc := ⟨.hbm, 578, rfl⟩
abbrev main_v80 : Ref sig .tc := ⟨.hbm, 579, rfl⟩
abbrev main_v81 : Ref sig .tc := ⟨.hbm, 580, rfl⟩
abbrev main_v82 : Ref sig .tc := ⟨.hbm, 581, rfl⟩
abbrev main_v83 : Ref sig .tc := ⟨.hbm, 582, rfl⟩
abbrev main_call3_v0 : Ref sig .tc := ⟨.hbm, 583, rfl⟩
abbrev main_call3_cst : Ref sig .tc := ⟨.hbm, 584, rfl⟩
abbrev main_call3_v1 : Ref sig .tc := ⟨.hbm, 585, rfl⟩
abbrev main_call3_v2 : Ref sig .tc := ⟨.hbm, 586, rfl⟩
abbrev main_call3_cst_0 : Ref sig .tc := ⟨.hbm, 587, rfl⟩
abbrev main_call3_v3 : Ref sig .tc := ⟨.hbm, 588, rfl⟩
abbrev main_call3_v4 : Ref sig .tc := ⟨.hbm, 589, rfl⟩
abbrev main_call3_cst_1 : Ref sig .tc := ⟨.hbm, 590, rfl⟩
abbrev main_call3_v5 : Ref sig .tc := ⟨.hbm, 591, rfl⟩
abbrev main_call3_v6 : Ref sig .tc := ⟨.hbm, 592, rfl⟩
abbrev main_call3_v7 : Ref sig .tc := ⟨.hbm, 593, rfl⟩
abbrev main_call3_v8 : Ref sig .tc := ⟨.hbm, 594, rfl⟩
abbrev main_call3_v9 : Ref sig .tc := ⟨.hbm, 595, rfl⟩
abbrev main_call3_v10 : Ref sig .tc := ⟨.hbm, 596, rfl⟩
abbrev main_call3_v11 : Ref sig .tc := ⟨.hbm, 597, rfl⟩
abbrev main_call3_v12 : Ref sig .tc := ⟨.hbm, 598, rfl⟩
abbrev main_call3_v13 : Ref sig .tc := ⟨.hbm, 599, rfl⟩
abbrev main_call3_v14 : Ref sig .tc := ⟨.hbm, 600, rfl⟩
abbrev main_call3_v15 : Ref sig .tc := ⟨.hbm, 601, rfl⟩
abbrev main_call3_v16 : Ref sig .tc := ⟨.hbm, 602, rfl⟩
abbrev main_call3_c : Ref sig .tc := ⟨.hbm, 603, rfl⟩
abbrev main_call3_call0_v0 : Ref sig .tc := ⟨.hbm, 604, rfl⟩
abbrev main_call3_v17 : Ref sig .tc := ⟨.hbm, 605, rfl⟩
abbrev main_call3_v18 : Ref sig .tc := ⟨.hbm, 606, rfl⟩
abbrev main_call3_v19 : Ref sig .tc := ⟨.hbm, 607, rfl⟩
abbrev main_call3_v20 : Ref sig .tc := ⟨.hbm, 608, rfl⟩
abbrev main_call3_v21 : Ref sig .tc := ⟨.hbm, 609, rfl⟩
abbrev main_call3_v22 : Ref sig .tc := ⟨.hbm, 610, rfl⟩
abbrev main_call3_v23 : Ref sig .tc := ⟨.hbm, 611, rfl⟩
abbrev main_call3_cst_2 : Ref sig .tc := ⟨.hbm, 612, rfl⟩
abbrev main_call3_v24 : Ref sig .tc := ⟨.hbm, 613, rfl⟩
abbrev main_call3_v25 : Ref sig .tc := ⟨.hbm, 614, rfl⟩
abbrev main_call3_v26 : Ref sig .tc := ⟨.hbm, 615, rfl⟩
abbrev main_call3_v27 : Ref sig .tc := ⟨.hbm, 616, rfl⟩
abbrev main_call3_v28 : Ref sig .tc := ⟨.hbm, 617, rfl⟩
abbrev main_call3_v29 : Ref sig .tc := ⟨.hbm, 618, rfl⟩
abbrev main_call3_v30 : Ref sig .tc := ⟨.hbm, 619, rfl⟩
abbrev main_call3_v31 : Ref sig .tc := ⟨.hbm, 620, rfl⟩
abbrev main_call3_v32 : Ref sig .tc := ⟨.hbm, 621, rfl⟩
abbrev main_call3_v33 : Ref sig .tc := ⟨.hbm, 622, rfl⟩
abbrev main_call3_v34 : Ref sig .tc := ⟨.hbm, 623, rfl⟩
abbrev main_call3_v35 : Ref sig .tc := ⟨.hbm, 624, rfl⟩
abbrev main_call3_v36 : Ref sig .tc := ⟨.hbm, 625, rfl⟩
abbrev main_call3_v37 : Ref sig .tc := ⟨.hbm, 626, rfl⟩
abbrev main_call3_v38 : Ref sig .tc := ⟨.hbm, 627, rfl⟩
abbrev main_call3_v39 : Ref sig .tc := ⟨.hbm, 628, rfl⟩
abbrev main_call3_v40 : Ref sig .tc := ⟨.hbm, 629, rfl⟩
abbrev main_call3_v41 : Ref sig .tc := ⟨.hbm, 630, rfl⟩
abbrev main_call3_v42 : Ref sig .tc := ⟨.hbm, 631, rfl⟩
abbrev main_call3_v43 : Ref sig .tc := ⟨.hbm, 632, rfl⟩
abbrev main_call3_v44 : Ref sig .tc := ⟨.hbm, 633, rfl⟩
abbrev main_call3_v45 : Ref sig .tc := ⟨.hbm, 634, rfl⟩
abbrev main_call3_v46 : Ref sig .tc := ⟨.hbm, 635, rfl⟩
abbrev main_call3_v47 : Ref sig .tc := ⟨.hbm, 636, rfl⟩
abbrev main_call3_v48 : Ref sig .tc := ⟨.hbm, 637, rfl⟩
abbrev main_call3_v49 : Ref sig .tc := ⟨.hbm, 638, rfl⟩
abbrev main_call3_call1_v0 : Ref sig .tc := ⟨.hbm, 639, rfl⟩
abbrev main_call3_call1_v1 : Ref sig .tc := ⟨.hbm, 640, rfl⟩
abbrev main_call3_call1_cst : Ref sig .tc := ⟨.hbm, 641, rfl⟩
abbrev main_call3_call1_v2 : Ref sig .tc := ⟨.hbm, 642, rfl⟩
abbrev main_call3_call1_v3 : Ref sig .tc := ⟨.hbm, 643, rfl⟩
abbrev main_call3_call1_cst_0 : Ref sig .tc := ⟨.hbm, 644, rfl⟩
abbrev main_call3_call1_v4 : Ref sig .tc := ⟨.hbm, 645, rfl⟩
abbrev main_call3_call1_v5 : Ref sig .tc := ⟨.hbm, 646, rfl⟩
abbrev main_call3_v50 : Ref sig .tc := ⟨.hbm, 647, rfl⟩
abbrev main_call3_v51 : Ref sig .tc := ⟨.hbm, 648, rfl⟩
abbrev main_call3_v52 : Ref sig .tc := ⟨.hbm, 649, rfl⟩
abbrev main_call3_v53 : Ref sig .tc := ⟨.hbm, 650, rfl⟩
abbrev main_call3_v54 : Ref sig .tc := ⟨.hbm, 651, rfl⟩
abbrev main_call3_v55 : Ref sig .tc := ⟨.hbm, 652, rfl⟩
abbrev main_call3_v56 : Ref sig .tc := ⟨.hbm, 653, rfl⟩
abbrev main_call3_v57 : Ref sig .tc := ⟨.hbm, 654, rfl⟩
abbrev main_call3_v58 : Ref sig .tc := ⟨.hbm, 655, rfl⟩
abbrev main_call3_v59 : Ref sig .tc := ⟨.hbm, 656, rfl⟩
abbrev main_call3_v60 : Ref sig .tc := ⟨.hbm, 657, rfl⟩
abbrev main_call3_call2_cst : Ref sig .tc := ⟨.hbm, 658, rfl⟩
abbrev main_call3_call2_v0 : Ref sig .tc := ⟨.hbm, 659, rfl⟩
abbrev main_call3_call2_v1 : Ref sig .tc := ⟨.hbm, 660, rfl⟩
abbrev main_call3_call2_v2 : Ref sig .tc := ⟨.hbm, 661, rfl⟩
abbrev main_call3_call2_v3 : Ref sig .tc := ⟨.hbm, 662, rfl⟩
abbrev main_call3_call2_v4 : Ref sig .tc := ⟨.hbm, 663, rfl⟩
abbrev main_call3_call2_v5 : Ref sig .tc := ⟨.hbm, 664, rfl⟩
abbrev main_call3_call2_v6 : Ref sig .tc := ⟨.hbm, 665, rfl⟩
abbrev main_call3_call2_v7 : Ref sig .tc := ⟨.hbm, 666, rfl⟩
abbrev main_call3_call2_v8 : Ref sig .tc := ⟨.hbm, 667, rfl⟩
abbrev main_call3_call2_v9 : Ref sig .tc := ⟨.hbm, 668, rfl⟩
abbrev main_call3_call2_v10 : Ref sig .tc := ⟨.hbm, 669, rfl⟩
abbrev main_call3_call2_v11 : Ref sig .tc := ⟨.hbm, 670, rfl⟩
abbrev main_call3_v61 : Ref sig .tc := ⟨.hbm, 671, rfl⟩
abbrev main_call3_v62 : Ref sig .tc := ⟨.hbm, 672, rfl⟩
abbrev main_call3_v63 : Ref sig .tc := ⟨.hbm, 673, rfl⟩
abbrev main_call3_v64 : Ref sig .tc := ⟨.hbm, 674, rfl⟩
abbrev main_call3_v65 : Ref sig .tc := ⟨.hbm, 675, rfl⟩
abbrev main_call3_v66 : Ref sig .tc := ⟨.hbm, 676, rfl⟩
abbrev main_call3_v67 : Ref sig .tc := ⟨.hbm, 677, rfl⟩
abbrev main_call3_v68 : Ref sig .tc := ⟨.hbm, 678, rfl⟩
abbrev main_call3_v69 : Ref sig .tc := ⟨.hbm, 679, rfl⟩
abbrev main_call3_v70 : Ref sig .tc := ⟨.hbm, 680, rfl⟩
abbrev main_call3_v71 : Ref sig .tc := ⟨.hbm, 681, rfl⟩
abbrev main_call3_v72 : Ref sig .tc := ⟨.hbm, 682, rfl⟩
abbrev main_call3_v73 : Ref sig .tc := ⟨.hbm, 683, rfl⟩
abbrev main_call3_v74 : Ref sig .tc := ⟨.hbm, 684, rfl⟩
abbrev main_call3_v75 : Ref sig .tc := ⟨.hbm, 685, rfl⟩
abbrev main_call3_v76 : Ref sig .tc := ⟨.hbm, 686, rfl⟩
abbrev main_call3_v77 : Ref sig .tc := ⟨.hbm, 687, rfl⟩
abbrev main_call3_cst_3 : Ref sig .tc := ⟨.hbm, 688, rfl⟩
abbrev main_call3_v78 : Ref sig .tc := ⟨.hbm, 689, rfl⟩
abbrev main_call3_v79 : Ref sig .tc := ⟨.hbm, 690, rfl⟩
abbrev main_call3_v80 : Ref sig .tc := ⟨.hbm, 691, rfl⟩
abbrev main_call3_v81 : Ref sig .tc := ⟨.hbm, 692, rfl⟩
abbrev main_call3_cst_4 : Ref sig .tc := ⟨.hbm, 693, rfl⟩
abbrev main_call3_v82 : Ref sig .tc := ⟨.hbm, 694, rfl⟩
abbrev main_call3_c_5 : Ref sig .tc := ⟨.hbm, 695, rfl⟩
abbrev main_call3_v83_0 : Ref sig .tc := ⟨.hbm, 696, rfl⟩
abbrev main_call3_v83_1 : Ref sig .tc := ⟨.hbm, 697, rfl⟩
abbrev main_call3_v83_2 : Ref sig .tc := ⟨.hbm, 698, rfl⟩
abbrev main_call3_v83_3 : Ref sig .tc := ⟨.hbm, 699, rfl⟩
abbrev main_call3_v83_4 : Ref sig .tc := ⟨.hbm, 700, rfl⟩
abbrev main_call3_v83_5 : Ref sig .tc := ⟨.hbm, 701, rfl⟩
abbrev main_call3_while0c_c_11 : Ref sig .tc := ⟨.hbm, 702, rfl⟩
abbrev main_call3_while0c_v94 : Ref sig .tc := ⟨.hbm, 703, rfl⟩
abbrev main_call3_while0b_call3_c : Ref sig .tc := ⟨.hbm, 704, rfl⟩
abbrev main_call3_while0b_call3_c_0 : Ref sig .tc := ⟨.hbm, 705, rfl⟩
abbrev main_call3_while0b_call3_c_1 : Ref sig .tc := ⟨.hbm, 706, rfl⟩
abbrev main_call3_while0b_call3_v0 : Ref sig .tc := ⟨.hbm, 707, rfl⟩
abbrev main_call3_while0b_v94 : Ref sig .tc := ⟨.hbm, 708, rfl⟩
abbrev main_call3_while0b_call4_c : Ref sig .tc := ⟨.hbm, 709, rfl⟩
abbrev main_call3_while0b_call4_c_0 : Ref sig .tc := ⟨.hbm, 710, rfl⟩
abbrev main_call3_while0b_call4_c_1 : Ref sig .tc := ⟨.hbm, 711, rfl⟩
abbrev main_call3_while0b_call4_v0 : Ref sig .tc := ⟨.hbm, 712, rfl⟩
abbrev main_call3_while0b_v95 : Ref sig .tc := ⟨.hbm, 713, rfl⟩
abbrev main_call3_while0b_call5_c : Ref sig .tc := ⟨.hbm, 714, rfl⟩
abbrev main_call3_while0b_call5_c_0 : Ref sig .tc := ⟨.hbm, 715, rfl⟩
abbrev main_call3_while0b_call5_v0 : Ref sig .tc := ⟨.hbm, 716, rfl⟩
abbrev main_call3_while0b_v96 : Ref sig .tc := ⟨.hbm, 717, rfl⟩
abbrev main_call3_while0b_v97 : Ref sig .tc := ⟨.hbm, 718, rfl⟩
abbrev main_call3_while0b_v98 : Ref sig .tc := ⟨.hbm, 719, rfl⟩
abbrev main_call3_while0b_v99 : Ref sig .tc := ⟨.hbm, 720, rfl⟩
abbrev main_call3_while0b_call6_v0 : Ref sig .tc := ⟨.hbm, 721, rfl⟩
abbrev main_call3_while0b_call6_c : Ref sig .tc := ⟨.hbm, 722, rfl⟩
abbrev main_call3_while0b_call6_c_0 : Ref sig .tc := ⟨.hbm, 723, rfl⟩
abbrev main_call3_while0b_v100 : Ref sig .tc := ⟨.hbm, 724, rfl⟩
abbrev main_call3_while0b_c_11 : Ref sig .tc := ⟨.hbm, 725, rfl⟩
abbrev main_call3_while0b_v101 : Ref sig .tc := ⟨.hbm, 726, rfl⟩
abbrev main_call3_v84 : Ref sig .tc := ⟨.hbm, 727, rfl⟩
abbrev main_call3_v85 : Ref sig .tc := ⟨.hbm, 728, rfl⟩
abbrev main_call3_v86 : Ref sig .tc := ⟨.hbm, 729, rfl⟩
abbrev main_call3_v87 : Ref sig .tc := ⟨.hbm, 730, rfl⟩
abbrev main_call3_v88 : Ref sig .tc := ⟨.hbm, 731, rfl⟩
abbrev main_call3_call7_v0 : Ref sig .tc := ⟨.hbm, 732, rfl⟩
abbrev main_call3_call7_v1 : Ref sig .tc := ⟨.hbm, 733, rfl⟩
abbrev main_call3_call7_cst : Ref sig .tc := ⟨.hbm, 734, rfl⟩
abbrev main_call3_call7_v2 : Ref sig .tc := ⟨.hbm, 735, rfl⟩
abbrev main_call3_call7_v3 : Ref sig .tc := ⟨.hbm, 736, rfl⟩
abbrev main_call3_call7_cst_0 : Ref sig .tc := ⟨.hbm, 737, rfl⟩
abbrev main_call3_call7_v4 : Ref sig .tc := ⟨.hbm, 738, rfl⟩
abbrev main_call3_call7_v5 : Ref sig .tc := ⟨.hbm, 739, rfl⟩
abbrev main_call3_v89 : Ref sig .tc := ⟨.hbm, 740, rfl⟩
abbrev main_call3_v90 : Ref sig .tc := ⟨.hbm, 741, rfl⟩
abbrev main_call3_v91 : Ref sig .tc := ⟨.hbm, 742, rfl⟩
abbrev main_call3_v92 : Ref sig .tc := ⟨.hbm, 743, rfl⟩
abbrev main_v84 : Ref sig .tc := ⟨.hbm, 744, rfl⟩
abbrev main_v85 : Ref sig .tc := ⟨.hbm, 745, rfl⟩
abbrev main_v86 : Ref sig .tc := ⟨.hbm, 746, rfl⟩
abbrev main_v87 : Ref sig .tc := ⟨.hbm, 747, rfl⟩
abbrev main_v88 : Ref sig .tc := ⟨.hbm, 748, rfl⟩
abbrev main_v89 : Ref sig .tc := ⟨.hbm, 749, rfl⟩
abbrev main_v90 : Ref sig .tc := ⟨.hbm, 750, rfl⟩
abbrev main_v91 : Ref sig .tc := ⟨.hbm, 751, rfl⟩
abbrev main_v92 : Ref sig .tc := ⟨.hbm, 752, rfl⟩
abbrev main_v93 : Ref sig .tc := ⟨.hbm, 753, rfl⟩
abbrev main_v94 : Ref sig .tc := ⟨.hbm, 754, rfl⟩
abbrev main_v95 : Ref sig .tc := ⟨.hbm, 755, rfl⟩
abbrev main_v96 : Ref sig .tc := ⟨.hbm, 756, rfl⟩
abbrev main_v97 : Ref sig .tc := ⟨.hbm, 757, rfl⟩
abbrev main_v98 : Ref sig .tc := ⟨.hbm, 758, rfl⟩
abbrev main_v99 : Ref sig .tc := ⟨.hbm, 759, rfl⟩
abbrev main_v100 : Ref sig .tc := ⟨.hbm, 760, rfl⟩
abbrev main_v101 : Ref sig .tc := ⟨.hbm, 761, rfl⟩
abbrev main_v102 : Ref sig .tc := ⟨.hbm, 762, rfl⟩
abbrev main_v103 : Ref sig .tc := ⟨.hbm, 763, rfl⟩
abbrev main_v104 : Ref sig .tc := ⟨.hbm, 764, rfl⟩
abbrev main_call4_v0 : Ref sig .tc := ⟨.hbm, 765, rfl⟩
abbrev main_call4_cst : Ref sig .tc := ⟨.hbm, 766, rfl⟩
abbrev main_call4_v1 : Ref sig .tc := ⟨.hbm, 767, rfl⟩
abbrev main_call4_v2 : Ref sig .tc := ⟨.hbm, 768, rfl⟩
abbrev main_call4_cst_0 : Ref sig .tc := ⟨.hbm, 769, rfl⟩
abbrev main_call4_v3 : Ref sig .tc := ⟨.hbm, 770, rfl⟩
abbrev main_call4_v4 : Ref sig .tc := ⟨.hbm, 771, rfl⟩
abbrev main_call4_cst_1 : Ref sig .tc := ⟨.hbm, 772, rfl⟩
abbrev main_call4_v5 : Ref sig .tc := ⟨.hbm, 773, rfl⟩
abbrev main_call4_v6 : Ref sig .tc := ⟨.hbm, 774, rfl⟩
abbrev main_call4_v7 : Ref sig .tc := ⟨.hbm, 775, rfl⟩
abbrev main_call4_v8 : Ref sig .tc := ⟨.hbm, 776, rfl⟩
abbrev main_call4_v9 : Ref sig .tc := ⟨.hbm, 777, rfl⟩
abbrev main_call4_v10 : Ref sig .tc := ⟨.hbm, 778, rfl⟩
abbrev main_call4_v11 : Ref sig .tc := ⟨.hbm, 779, rfl⟩
abbrev main_call4_v12 : Ref sig .tc := ⟨.hbm, 780, rfl⟩
abbrev main_call4_v13 : Ref sig .tc := ⟨.hbm, 781, rfl⟩
abbrev main_call4_v14 : Ref sig .tc := ⟨.hbm, 782, rfl⟩
abbrev main_call4_v15 : Ref sig .tc := ⟨.hbm, 783, rfl⟩
abbrev main_call4_v16 : Ref sig .tc := ⟨.hbm, 784, rfl⟩
abbrev main_call4_c : Ref sig .tc := ⟨.hbm, 785, rfl⟩
abbrev main_call4_call0_v0 : Ref sig .tc := ⟨.hbm, 786, rfl⟩
abbrev main_call4_v17 : Ref sig .tc := ⟨.hbm, 787, rfl⟩
abbrev main_call4_v18 : Ref sig .tc := ⟨.hbm, 788, rfl⟩
abbrev main_call4_v19 : Ref sig .tc := ⟨.hbm, 789, rfl⟩
abbrev main_call4_v20 : Ref sig .tc := ⟨.hbm, 790, rfl⟩
abbrev main_call4_v21 : Ref sig .tc := ⟨.hbm, 791, rfl⟩
abbrev main_call4_v22 : Ref sig .tc := ⟨.hbm, 792, rfl⟩
abbrev main_call4_v23 : Ref sig .tc := ⟨.hbm, 793, rfl⟩
abbrev main_call4_cst_2 : Ref sig .tc := ⟨.hbm, 794, rfl⟩
abbrev main_call4_v24 : Ref sig .tc := ⟨.hbm, 795, rfl⟩
abbrev main_call4_v25 : Ref sig .tc := ⟨.hbm, 796, rfl⟩
abbrev main_call4_v26 : Ref sig .tc := ⟨.hbm, 797, rfl⟩
abbrev main_call4_v27 : Ref sig .tc := ⟨.hbm, 798, rfl⟩
abbrev main_call4_v28 : Ref sig .tc := ⟨.hbm, 799, rfl⟩
abbrev main_call4_v29 : Ref sig .tc := ⟨.hbm, 800, rfl⟩
abbrev main_call4_v30 : Ref sig .tc := ⟨.hbm, 801, rfl⟩
abbrev main_call4_v31 : Ref sig .tc := ⟨.hbm, 802, rfl⟩
abbrev main_call4_v32 : Ref sig .tc := ⟨.hbm, 803, rfl⟩
abbrev main_call4_v33 : Ref sig .tc := ⟨.hbm, 804, rfl⟩
abbrev main_call4_v34 : Ref sig .tc := ⟨.hbm, 805, rfl⟩
abbrev main_call4_v35 : Ref sig .tc := ⟨.hbm, 806, rfl⟩
abbrev main_call4_v36 : Ref sig .tc := ⟨.hbm, 807, rfl⟩
abbrev main_call4_v37 : Ref sig .tc := ⟨.hbm, 808, rfl⟩
abbrev main_call4_v38 : Ref sig .tc := ⟨.hbm, 809, rfl⟩
abbrev main_call4_v39 : Ref sig .tc := ⟨.hbm, 810, rfl⟩
abbrev main_call4_v40 : Ref sig .tc := ⟨.hbm, 811, rfl⟩
abbrev main_call4_v41 : Ref sig .tc := ⟨.hbm, 812, rfl⟩
abbrev main_call4_v42 : Ref sig .tc := ⟨.hbm, 813, rfl⟩
abbrev main_call4_v43 : Ref sig .tc := ⟨.hbm, 814, rfl⟩
abbrev main_call4_v44 : Ref sig .tc := ⟨.hbm, 815, rfl⟩
abbrev main_call4_v45 : Ref sig .tc := ⟨.hbm, 816, rfl⟩
abbrev main_call4_v46 : Ref sig .tc := ⟨.hbm, 817, rfl⟩
abbrev main_call4_v47 : Ref sig .tc := ⟨.hbm, 818, rfl⟩
abbrev main_call4_v48 : Ref sig .tc := ⟨.hbm, 819, rfl⟩
abbrev main_call4_v49 : Ref sig .tc := ⟨.hbm, 820, rfl⟩
abbrev main_call4_call1_v0 : Ref sig .tc := ⟨.hbm, 821, rfl⟩
abbrev main_call4_call1_v1 : Ref sig .tc := ⟨.hbm, 822, rfl⟩
abbrev main_call4_call1_cst : Ref sig .tc := ⟨.hbm, 823, rfl⟩
abbrev main_call4_call1_v2 : Ref sig .tc := ⟨.hbm, 824, rfl⟩
abbrev main_call4_call1_v3 : Ref sig .tc := ⟨.hbm, 825, rfl⟩
abbrev main_call4_call1_cst_0 : Ref sig .tc := ⟨.hbm, 826, rfl⟩
abbrev main_call4_call1_v4 : Ref sig .tc := ⟨.hbm, 827, rfl⟩
abbrev main_call4_call1_v5 : Ref sig .tc := ⟨.hbm, 828, rfl⟩
abbrev main_call4_v50 : Ref sig .tc := ⟨.hbm, 829, rfl⟩
abbrev main_call4_v51 : Ref sig .tc := ⟨.hbm, 830, rfl⟩
abbrev main_call4_v52 : Ref sig .tc := ⟨.hbm, 831, rfl⟩
abbrev main_call4_v53 : Ref sig .tc := ⟨.hbm, 832, rfl⟩
abbrev main_call4_v54 : Ref sig .tc := ⟨.hbm, 833, rfl⟩
abbrev main_call4_v55 : Ref sig .tc := ⟨.hbm, 834, rfl⟩
abbrev main_call4_v56 : Ref sig .tc := ⟨.hbm, 835, rfl⟩
abbrev main_call4_v57 : Ref sig .tc := ⟨.hbm, 836, rfl⟩
abbrev main_call4_v58 : Ref sig .tc := ⟨.hbm, 837, rfl⟩
abbrev main_call4_v59 : Ref sig .tc := ⟨.hbm, 838, rfl⟩
abbrev main_call4_v60 : Ref sig .tc := ⟨.hbm, 839, rfl⟩
abbrev main_call4_call2_cst : Ref sig .tc := ⟨.hbm, 840, rfl⟩
abbrev main_call4_call2_v0 : Ref sig .tc := ⟨.hbm, 841, rfl⟩
abbrev main_call4_call2_v1 : Ref sig .tc := ⟨.hbm, 842, rfl⟩
abbrev main_call4_call2_v2 : Ref sig .tc := ⟨.hbm, 843, rfl⟩
abbrev main_call4_call2_v3 : Ref sig .tc := ⟨.hbm, 844, rfl⟩
abbrev main_call4_call2_v4 : Ref sig .tc := ⟨.hbm, 845, rfl⟩
abbrev main_call4_call2_v5 : Ref sig .tc := ⟨.hbm, 846, rfl⟩
abbrev main_call4_call2_v6 : Ref sig .tc := ⟨.hbm, 847, rfl⟩
abbrev main_call4_call2_v7 : Ref sig .tc := ⟨.hbm, 848, rfl⟩
abbrev main_call4_call2_v8 : Ref sig .tc := ⟨.hbm, 849, rfl⟩
abbrev main_call4_call2_v9 : Ref sig .tc := ⟨.hbm, 850, rfl⟩
abbrev main_call4_call2_v10 : Ref sig .tc := ⟨.hbm, 851, rfl⟩
abbrev main_call4_call2_v11 : Ref sig .tc := ⟨.hbm, 852, rfl⟩
abbrev main_call4_v61 : Ref sig .tc := ⟨.hbm, 853, rfl⟩
abbrev main_call4_v62 : Ref sig .tc := ⟨.hbm, 854, rfl⟩
abbrev main_call4_v63 : Ref sig .tc := ⟨.hbm, 855, rfl⟩
abbrev main_call4_v64 : Ref sig .tc := ⟨.hbm, 856, rfl⟩
abbrev main_call4_v65 : Ref sig .tc := ⟨.hbm, 857, rfl⟩
abbrev main_call4_v66 : Ref sig .tc := ⟨.hbm, 858, rfl⟩
abbrev main_call4_v67 : Ref sig .tc := ⟨.hbm, 859, rfl⟩
abbrev main_call4_v68 : Ref sig .tc := ⟨.hbm, 860, rfl⟩
abbrev main_call4_v69 : Ref sig .tc := ⟨.hbm, 861, rfl⟩
abbrev main_call4_v70 : Ref sig .tc := ⟨.hbm, 862, rfl⟩
abbrev main_call4_v71 : Ref sig .tc := ⟨.hbm, 863, rfl⟩
abbrev main_call4_v72 : Ref sig .tc := ⟨.hbm, 864, rfl⟩
abbrev main_call4_v73 : Ref sig .tc := ⟨.hbm, 865, rfl⟩
abbrev main_call4_v74 : Ref sig .tc := ⟨.hbm, 866, rfl⟩
abbrev main_call4_v75 : Ref sig .tc := ⟨.hbm, 867, rfl⟩
abbrev main_call4_v76 : Ref sig .tc := ⟨.hbm, 868, rfl⟩
abbrev main_call4_v77 : Ref sig .tc := ⟨.hbm, 869, rfl⟩
abbrev main_call4_cst_3 : Ref sig .tc := ⟨.hbm, 870, rfl⟩
abbrev main_call4_v78 : Ref sig .tc := ⟨.hbm, 871, rfl⟩
abbrev main_call4_v79 : Ref sig .tc := ⟨.hbm, 872, rfl⟩
abbrev main_call4_v80 : Ref sig .tc := ⟨.hbm, 873, rfl⟩
abbrev main_call4_v81 : Ref sig .tc := ⟨.hbm, 874, rfl⟩
abbrev main_call4_cst_4 : Ref sig .tc := ⟨.hbm, 875, rfl⟩
abbrev main_call4_v82 : Ref sig .tc := ⟨.hbm, 876, rfl⟩
abbrev main_call4_c_5 : Ref sig .tc := ⟨.hbm, 877, rfl⟩
abbrev main_call4_v83_0 : Ref sig .tc := ⟨.hbm, 878, rfl⟩
abbrev main_call4_v83_1 : Ref sig .tc := ⟨.hbm, 879, rfl⟩
abbrev main_call4_v83_2 : Ref sig .tc := ⟨.hbm, 880, rfl⟩
abbrev main_call4_v83_3 : Ref sig .tc := ⟨.hbm, 881, rfl⟩
abbrev main_call4_v83_4 : Ref sig .tc := ⟨.hbm, 882, rfl⟩
abbrev main_call4_v83_5 : Ref sig .tc := ⟨.hbm, 883, rfl⟩
abbrev main_call4_while0c_c_11 : Ref sig .tc := ⟨.hbm, 884, rfl⟩
abbrev main_call4_while0c_v94 : Ref sig .tc := ⟨.hbm, 885, rfl⟩
abbrev main_call4_while0b_call3_c : Ref sig .tc := ⟨.hbm, 886, rfl⟩
abbrev main_call4_while0b_call3_c_0 : Ref sig .tc := ⟨.hbm, 887, rfl⟩
abbrev main_call4_while0b_call3_c_1 : Ref sig .tc := ⟨.hbm, 888, rfl⟩
abbrev main_call4_while0b_call3_v0 : Ref sig .tc := ⟨.hbm, 889, rfl⟩
abbrev main_call4_while0b_v94 : Ref sig .tc := ⟨.hbm, 890, rfl⟩
abbrev main_call4_while0b_call4_c : Ref sig .tc := ⟨.hbm, 891, rfl⟩
abbrev main_call4_while0b_call4_c_0 : Ref sig .tc := ⟨.hbm, 892, rfl⟩
abbrev main_call4_while0b_call4_c_1 : Ref sig .tc := ⟨.hbm, 893, rfl⟩
abbrev main_call4_while0b_call4_v0 : Ref sig .tc := ⟨.hbm, 894, rfl⟩
abbrev main_call4_while0b_v95 : Ref sig .tc := ⟨.hbm, 895, rfl⟩
abbrev main_call4_while0b_call5_c : Ref sig .tc := ⟨.hbm, 896, rfl⟩
abbrev main_call4_while0b_call5_c_0 : Ref sig .tc := ⟨.hbm, 897, rfl⟩
abbrev main_call4_while0b_call5_v0 : Ref sig .tc := ⟨.hbm, 898, rfl⟩
abbrev main_call4_while0b_v96 : Ref sig .tc := ⟨.hbm, 899, rfl⟩
abbrev main_call4_while0b_v97 : Ref sig .tc := ⟨.hbm, 900, rfl⟩
abbrev main_call4_while0b_v98 : Ref sig .tc := ⟨.hbm, 901, rfl⟩
abbrev main_call4_while0b_v99 : Ref sig .tc := ⟨.hbm, 902, rfl⟩
abbrev main_call4_while0b_call6_v0 : Ref sig .tc := ⟨.hbm, 903, rfl⟩
abbrev main_call4_while0b_call6_c : Ref sig .tc := ⟨.hbm, 904, rfl⟩
abbrev main_call4_while0b_call6_c_0 : Ref sig .tc := ⟨.hbm, 905, rfl⟩
abbrev main_call4_while0b_v100 : Ref sig .tc := ⟨.hbm, 906, rfl⟩
abbrev main_call4_while0b_c_11 : Ref sig .tc := ⟨.hbm, 907, rfl⟩
abbrev main_call4_while0b_v101 : Ref sig .tc := ⟨.hbm, 908, rfl⟩
abbrev main_call4_v84 : Ref sig .tc := ⟨.hbm, 909, rfl⟩
abbrev main_call4_v85 : Ref sig .tc := ⟨.hbm, 910, rfl⟩
abbrev main_call4_v86 : Ref sig .tc := ⟨.hbm, 911, rfl⟩
abbrev main_call4_v87 : Ref sig .tc := ⟨.hbm, 912, rfl⟩
abbrev main_call4_v88 : Ref sig .tc := ⟨.hbm, 913, rfl⟩
abbrev main_call4_call7_v0 : Ref sig .tc := ⟨.hbm, 914, rfl⟩
abbrev main_call4_call7_v1 : Ref sig .tc := ⟨.hbm, 915, rfl⟩
abbrev main_call4_call7_cst : Ref sig .tc := ⟨.hbm, 916, rfl⟩
abbrev main_call4_call7_v2 : Ref sig .tc := ⟨.hbm, 917, rfl⟩
abbrev main_call4_call7_v3 : Ref sig .tc := ⟨.hbm, 918, rfl⟩
abbrev main_call4_call7_cst_0 : Ref sig .tc := ⟨.hbm, 919, rfl⟩
abbrev main_call4_call7_v4 : Ref sig .tc := ⟨.hbm, 920, rfl⟩
abbrev main_call4_call7_v5 : Ref sig .tc := ⟨.hbm, 921, rfl⟩
abbrev main_call4_v89 : Ref sig .tc := ⟨.hbm, 922, rfl⟩
abbrev main_call4_v90 : Ref sig .tc := ⟨.hbm, 923, rfl⟩
abbrev main_call4_v91 : Ref sig .tc := ⟨.hbm, 924, rfl⟩
abbrev main_call4_v92 : Ref sig .tc := ⟨.hbm, 925, rfl⟩
abbrev main_v105 : Ref sig .tc := ⟨.hbm, 926, rfl⟩
abbrev main_v106 : Ref sig .tc := ⟨.hbm, 927, rfl⟩
abbrev main_v107 : Ref sig .tc := ⟨.hbm, 928, rfl⟩
abbrev main_v108 : Ref sig .tc := ⟨.hbm, 929, rfl⟩
abbrev main_v109 : Ref sig .tc := ⟨.hbm, 930, rfl⟩
abbrev main_v110 : Ref sig .tc := ⟨.hbm, 931, rfl⟩
abbrev main_v111 : Ref sig .tc := ⟨.hbm, 932, rfl⟩
abbrev main_v112 : Ref sig .tc := ⟨.hbm, 933, rfl⟩
abbrev main_v113 : Ref sig .tc := ⟨.hbm, 934, rfl⟩
abbrev main_v114 : Ref sig .tc := ⟨.hbm, 935, rfl⟩
abbrev main_v115 : Ref sig .tc := ⟨.hbm, 936, rfl⟩
abbrev main_v116 : Ref sig .tc := ⟨.hbm, 937, rfl⟩
abbrev main_v117 : Ref sig .tc := ⟨.hbm, 938, rfl⟩
abbrev main_v118 : Ref sig .tc := ⟨.hbm, 939, rfl⟩
abbrev main_v119 : Ref sig .tc := ⟨.hbm, 940, rfl⟩
abbrev main_v120 : Ref sig .tc := ⟨.hbm, 941, rfl⟩
abbrev main_v121 : Ref sig .tc := ⟨.hbm, 942, rfl⟩
abbrev main_v122 : Ref sig .tc := ⟨.hbm, 943, rfl⟩
abbrev main_v123 : Ref sig .tc := ⟨.hbm, 944, rfl⟩
abbrev main_v124 : Ref sig .tc := ⟨.hbm, 945, rfl⟩
abbrev main_v125 : Ref sig .tc := ⟨.hbm, 946, rfl⟩
abbrev main_call5_v0 : Ref sig .tc := ⟨.hbm, 947, rfl⟩
abbrev main_call5_cst : Ref sig .tc := ⟨.hbm, 948, rfl⟩
abbrev main_call5_v1 : Ref sig .tc := ⟨.hbm, 949, rfl⟩
abbrev main_call5_v2 : Ref sig .tc := ⟨.hbm, 950, rfl⟩
abbrev main_call5_cst_0 : Ref sig .tc := ⟨.hbm, 951, rfl⟩
abbrev main_call5_v3 : Ref sig .tc := ⟨.hbm, 952, rfl⟩
abbrev main_call5_v4 : Ref sig .tc := ⟨.hbm, 953, rfl⟩
abbrev main_call5_cst_1 : Ref sig .tc := ⟨.hbm, 954, rfl⟩
abbrev main_call5_v5 : Ref sig .tc := ⟨.hbm, 955, rfl⟩
abbrev main_call5_v6 : Ref sig .tc := ⟨.hbm, 956, rfl⟩
abbrev main_call5_v7 : Ref sig .tc := ⟨.hbm, 957, rfl⟩
abbrev main_call5_v8 : Ref sig .tc := ⟨.hbm, 958, rfl⟩
abbrev main_call5_v9 : Ref sig .tc := ⟨.hbm, 959, rfl⟩
abbrev main_call5_v10 : Ref sig .tc := ⟨.hbm, 960, rfl⟩
abbrev main_call5_v11 : Ref sig .tc := ⟨.hbm, 961, rfl⟩
abbrev main_call5_v12 : Ref sig .tc := ⟨.hbm, 962, rfl⟩
abbrev main_call5_v13 : Ref sig .tc := ⟨.hbm, 963, rfl⟩
abbrev main_call5_v14 : Ref sig .tc := ⟨.hbm, 964, rfl⟩
abbrev main_call5_v15 : Ref sig .tc := ⟨.hbm, 965, rfl⟩
abbrev main_call5_v16 : Ref sig .tc := ⟨.hbm, 966, rfl⟩
abbrev main_call5_c : Ref sig .tc := ⟨.hbm, 967, rfl⟩
abbrev main_call5_call0_v0 : Ref sig .tc := ⟨.hbm, 968, rfl⟩
abbrev main_call5_v17 : Ref sig .tc := ⟨.hbm, 969, rfl⟩
abbrev main_call5_v18 : Ref sig .tc := ⟨.hbm, 970, rfl⟩
abbrev main_call5_v19 : Ref sig .tc := ⟨.hbm, 971, rfl⟩
abbrev main_call5_v20 : Ref sig .tc := ⟨.hbm, 972, rfl⟩
abbrev main_call5_v21 : Ref sig .tc := ⟨.hbm, 973, rfl⟩
abbrev main_call5_v22 : Ref sig .tc := ⟨.hbm, 974, rfl⟩
abbrev main_call5_v23 : Ref sig .tc := ⟨.hbm, 975, rfl⟩
abbrev main_call5_cst_2 : Ref sig .tc := ⟨.hbm, 976, rfl⟩
abbrev main_call5_v24 : Ref sig .tc := ⟨.hbm, 977, rfl⟩
abbrev main_call5_v25 : Ref sig .tc := ⟨.hbm, 978, rfl⟩
abbrev main_call5_v26 : Ref sig .tc := ⟨.hbm, 979, rfl⟩
abbrev main_call5_v27 : Ref sig .tc := ⟨.hbm, 980, rfl⟩
abbrev main_call5_v28 : Ref sig .tc := ⟨.hbm, 981, rfl⟩
abbrev main_call5_v29 : Ref sig .tc := ⟨.hbm, 982, rfl⟩
abbrev main_call5_v30 : Ref sig .tc := ⟨.hbm, 983, rfl⟩
abbrev main_call5_v31 : Ref sig .tc := ⟨.hbm, 984, rfl⟩
abbrev main_call5_v32 : Ref sig .tc := ⟨.hbm, 985, rfl⟩
abbrev main_call5_v33 : Ref sig .tc := ⟨.hbm, 986, rfl⟩
abbrev main_call5_v34 : Ref sig .tc := ⟨.hbm, 987, rfl⟩
abbrev main_call5_v35 : Ref sig .tc := ⟨.hbm, 988, rfl⟩
abbrev main_call5_v36 : Ref sig .tc := ⟨.hbm, 989, rfl⟩
abbrev main_call5_v37 : Ref sig .tc := ⟨.hbm, 990, rfl⟩
abbrev main_call5_v38 : Ref sig .tc := ⟨.hbm, 991, rfl⟩
abbrev main_call5_v39 : Ref sig .tc := ⟨.hbm, 992, rfl⟩
abbrev main_call5_v40 : Ref sig .tc := ⟨.hbm, 993, rfl⟩
abbrev main_call5_v41 : Ref sig .tc := ⟨.hbm, 994, rfl⟩
abbrev main_call5_v42 : Ref sig .tc := ⟨.hbm, 995, rfl⟩
abbrev main_call5_v43 : Ref sig .tc := ⟨.hbm, 996, rfl⟩
abbrev main_call5_v44 : Ref sig .tc := ⟨.hbm, 997, rfl⟩
abbrev main_call5_v45 : Ref sig .tc := ⟨.hbm, 998, rfl⟩
abbrev main_call5_v46 : Ref sig .tc := ⟨.hbm, 999, rfl⟩
abbrev main_call5_v47 : Ref sig .tc := ⟨.hbm, 1000, rfl⟩
abbrev main_call5_v48 : Ref sig .tc := ⟨.hbm, 1001, rfl⟩
abbrev main_call5_v49 : Ref sig .tc := ⟨.hbm, 1002, rfl⟩
abbrev main_call5_call1_v0 : Ref sig .tc := ⟨.hbm, 1003, rfl⟩
abbrev main_call5_call1_v1 : Ref sig .tc := ⟨.hbm, 1004, rfl⟩
abbrev main_call5_call1_cst : Ref sig .tc := ⟨.hbm, 1005, rfl⟩
abbrev main_call5_call1_v2 : Ref sig .tc := ⟨.hbm, 1006, rfl⟩
abbrev main_call5_call1_v3 : Ref sig .tc := ⟨.hbm, 1007, rfl⟩
abbrev main_call5_call1_cst_0 : Ref sig .tc := ⟨.hbm, 1008, rfl⟩
abbrev main_call5_call1_v4 : Ref sig .tc := ⟨.hbm, 1009, rfl⟩
abbrev main_call5_call1_v5 : Ref sig .tc := ⟨.hbm, 1010, rfl⟩
abbrev main_call5_v50 : Ref sig .tc := ⟨.hbm, 1011, rfl⟩
abbrev main_call5_v51 : Ref sig .tc := ⟨.hbm, 1012, rfl⟩
abbrev main_call5_v52 : Ref sig .tc := ⟨.hbm, 1013, rfl⟩
abbrev main_call5_v53 : Ref sig .tc := ⟨.hbm, 1014, rfl⟩
abbrev main_call5_v54 : Ref sig .tc := ⟨.hbm, 1015, rfl⟩
abbrev main_call5_v55 : Ref sig .tc := ⟨.hbm, 1016, rfl⟩
abbrev main_call5_v56 : Ref sig .tc := ⟨.hbm, 1017, rfl⟩
abbrev main_call5_v57 : Ref sig .tc := ⟨.hbm, 1018, rfl⟩
abbrev main_call5_v58 : Ref sig .tc := ⟨.hbm, 1019, rfl⟩
abbrev main_call5_v59 : Ref sig .tc := ⟨.hbm, 1020, rfl⟩
abbrev main_call5_v60 : Ref sig .tc := ⟨.hbm, 1021, rfl⟩
abbrev main_call5_call2_cst : Ref sig .tc := ⟨.hbm, 1022, rfl⟩
abbrev main_call5_call2_v0 : Ref sig .tc := ⟨.hbm, 1023, rfl⟩
abbrev main_call5_call2_v1 : Ref sig .tc := ⟨.hbm, 1024, rfl⟩
abbrev main_call5_call2_v2 : Ref sig .tc := ⟨.hbm, 1025, rfl⟩
abbrev main_call5_call2_v3 : Ref sig .tc := ⟨.hbm, 1026, rfl⟩
abbrev main_call5_call2_v4 : Ref sig .tc := ⟨.hbm, 1027, rfl⟩
abbrev main_call5_call2_v5 : Ref sig .tc := ⟨.hbm, 1028, rfl⟩
abbrev main_call5_call2_v6 : Ref sig .tc := ⟨.hbm, 1029, rfl⟩
abbrev main_call5_call2_v7 : Ref sig .tc := ⟨.hbm, 1030, rfl⟩
abbrev main_call5_call2_v8 : Ref sig .tc := ⟨.hbm, 1031, rfl⟩
abbrev main_call5_call2_v9 : Ref sig .tc := ⟨.hbm, 1032, rfl⟩
abbrev main_call5_call2_v10 : Ref sig .tc := ⟨.hbm, 1033, rfl⟩
abbrev main_call5_call2_v11 : Ref sig .tc := ⟨.hbm, 1034, rfl⟩
abbrev main_call5_v61 : Ref sig .tc := ⟨.hbm, 1035, rfl⟩
abbrev main_call5_v62 : Ref sig .tc := ⟨.hbm, 1036, rfl⟩
abbrev main_call5_v63 : Ref sig .tc := ⟨.hbm, 1037, rfl⟩
abbrev main_call5_v64 : Ref sig .tc := ⟨.hbm, 1038, rfl⟩
abbrev main_call5_v65 : Ref sig .tc := ⟨.hbm, 1039, rfl⟩
abbrev main_call5_v66 : Ref sig .tc := ⟨.hbm, 1040, rfl⟩
abbrev main_call5_v67 : Ref sig .tc := ⟨.hbm, 1041, rfl⟩
abbrev main_call5_v68 : Ref sig .tc := ⟨.hbm, 1042, rfl⟩
abbrev main_call5_v69 : Ref sig .tc := ⟨.hbm, 1043, rfl⟩
abbrev main_call5_v70 : Ref sig .tc := ⟨.hbm, 1044, rfl⟩
abbrev main_call5_v71 : Ref sig .tc := ⟨.hbm, 1045, rfl⟩
abbrev main_call5_v72 : Ref sig .tc := ⟨.hbm, 1046, rfl⟩
abbrev main_call5_v73 : Ref sig .tc := ⟨.hbm, 1047, rfl⟩
abbrev main_call5_v74 : Ref sig .tc := ⟨.hbm, 1048, rfl⟩
abbrev main_call5_v75 : Ref sig .tc := ⟨.hbm, 1049, rfl⟩
abbrev main_call5_v76 : Ref sig .tc := ⟨.hbm, 1050, rfl⟩
abbrev main_call5_v77 : Ref sig .tc := ⟨.hbm, 1051, rfl⟩
abbrev main_call5_cst_3 : Ref sig .tc := ⟨.hbm, 1052, rfl⟩
abbrev main_call5_v78 : Ref sig .tc := ⟨.hbm, 1053, rfl⟩
abbrev main_call5_v79 : Ref sig .tc := ⟨.hbm, 1054, rfl⟩
abbrev main_call5_v80 : Ref sig .tc := ⟨.hbm, 1055, rfl⟩
abbrev main_call5_v81 : Ref sig .tc := ⟨.hbm, 1056, rfl⟩
abbrev main_call5_cst_4 : Ref sig .tc := ⟨.hbm, 1057, rfl⟩
abbrev main_call5_v82 : Ref sig .tc := ⟨.hbm, 1058, rfl⟩
abbrev main_call5_c_5 : Ref sig .tc := ⟨.hbm, 1059, rfl⟩
abbrev main_call5_v83_0 : Ref sig .tc := ⟨.hbm, 1060, rfl⟩
abbrev main_call5_v83_1 : Ref sig .tc := ⟨.hbm, 1061, rfl⟩
abbrev main_call5_v83_2 : Ref sig .tc := ⟨.hbm, 1062, rfl⟩
abbrev main_call5_v83_3 : Ref sig .tc := ⟨.hbm, 1063, rfl⟩
abbrev main_call5_v83_4 : Ref sig .tc := ⟨.hbm, 1064, rfl⟩
abbrev main_call5_v83_5 : Ref sig .tc := ⟨.hbm, 1065, rfl⟩
abbrev main_call5_while0c_c_11 : Ref sig .tc := ⟨.hbm, 1066, rfl⟩
abbrev main_call5_while0c_v94 : Ref sig .tc := ⟨.hbm, 1067, rfl⟩
abbrev main_call5_while0b_call3_c : Ref sig .tc := ⟨.hbm, 1068, rfl⟩
abbrev main_call5_while0b_call3_c_0 : Ref sig .tc := ⟨.hbm, 1069, rfl⟩
abbrev main_call5_while0b_call3_c_1 : Ref sig .tc := ⟨.hbm, 1070, rfl⟩
abbrev main_call5_while0b_call3_v0 : Ref sig .tc := ⟨.hbm, 1071, rfl⟩
abbrev main_call5_while0b_v94 : Ref sig .tc := ⟨.hbm, 1072, rfl⟩
abbrev main_call5_while0b_call4_c : Ref sig .tc := ⟨.hbm, 1073, rfl⟩
abbrev main_call5_while0b_call4_c_0 : Ref sig .tc := ⟨.hbm, 1074, rfl⟩
abbrev main_call5_while0b_call4_c_1 : Ref sig .tc := ⟨.hbm, 1075, rfl⟩
abbrev main_call5_while0b_call4_v0 : Ref sig .tc := ⟨.hbm, 1076, rfl⟩
abbrev main_call5_while0b_v95 : Ref sig .tc := ⟨.hbm, 1077, rfl⟩
abbrev main_call5_while0b_call5_c : Ref sig .tc := ⟨.hbm, 1078, rfl⟩
abbrev main_call5_while0b_call5_c_0 : Ref sig .tc := ⟨.hbm, 1079, rfl⟩
abbrev main_call5_while0b_call5_v0 : Ref sig .tc := ⟨.hbm, 1080, rfl⟩
abbrev main_call5_while0b_v96 : Ref sig .tc := ⟨.hbm, 1081, rfl⟩
abbrev main_call5_while0b_v97 : Ref sig .tc := ⟨.hbm, 1082, rfl⟩
abbrev main_call5_while0b_v98 : Ref sig .tc := ⟨.hbm, 1083, rfl⟩
abbrev main_call5_while0b_v99 : Ref sig .tc := ⟨.hbm, 1084, rfl⟩
abbrev main_call5_while0b_call6_v0 : Ref sig .tc := ⟨.hbm, 1085, rfl⟩
abbrev main_call5_while0b_call6_c : Ref sig .tc := ⟨.hbm, 1086, rfl⟩
abbrev main_call5_while0b_call6_c_0 : Ref sig .tc := ⟨.hbm, 1087, rfl⟩
abbrev main_call5_while0b_v100 : Ref sig .tc := ⟨.hbm, 1088, rfl⟩
abbrev main_call5_while0b_c_11 : Ref sig .tc := ⟨.hbm, 1089, rfl⟩
abbrev main_call5_while0b_v101 : Ref sig .tc := ⟨.hbm, 1090, rfl⟩
abbrev main_call5_v84 : Ref sig .tc := ⟨.hbm, 1091, rfl⟩
abbrev main_call5_v85 : Ref sig .tc := ⟨.hbm, 1092, rfl⟩
abbrev main_call5_v86 : Ref sig .tc := ⟨.hbm, 1093, rfl⟩
abbrev main_call5_v87 : Ref sig .tc := ⟨.hbm, 1094, rfl⟩
abbrev main_call5_v88 : Ref sig .tc := ⟨.hbm, 1095, rfl⟩
abbrev main_call5_call7_v0 : Ref sig .tc := ⟨.hbm, 1096, rfl⟩
abbrev main_call5_call7_v1 : Ref sig .tc := ⟨.hbm, 1097, rfl⟩
abbrev main_call5_call7_cst : Ref sig .tc := ⟨.hbm, 1098, rfl⟩
abbrev main_call5_call7_v2 : Ref sig .tc := ⟨.hbm, 1099, rfl⟩
abbrev main_call5_call7_v3 : Ref sig .tc := ⟨.hbm, 1100, rfl⟩
abbrev main_call5_call7_cst_0 : Ref sig .tc := ⟨.hbm, 1101, rfl⟩
abbrev main_call5_call7_v4 : Ref sig .tc := ⟨.hbm, 1102, rfl⟩
abbrev main_call5_call7_v5 : Ref sig .tc := ⟨.hbm, 1103, rfl⟩
abbrev main_call5_v89 : Ref sig .tc := ⟨.hbm, 1104, rfl⟩
abbrev main_call5_v90 : Ref sig .tc := ⟨.hbm, 1105, rfl⟩
abbrev main_call5_v91 : Ref sig .tc := ⟨.hbm, 1106, rfl⟩
abbrev main_call5_v92 : Ref sig .tc := ⟨.hbm, 1107, rfl⟩
abbrev main_v126 : Ref sig .tc := ⟨.hbm, 1108, rfl⟩
abbrev main_v127 : Ref sig .tc := ⟨.hbm, 1109, rfl⟩
abbrev main_cst : Ref sig .tc := ⟨.hbm, 1110, rfl⟩
abbrev main_v128 : Ref sig .tc := ⟨.hbm, 1111, rfl⟩
abbrev main_v129 : Ref sig .tc := ⟨.hbm, 1112, rfl⟩
abbrev main_cst_0 : Ref sig .tc := ⟨.hbm, 1113, rfl⟩
abbrev main_v130 : Ref sig .tc := ⟨.hbm, 1114, rfl⟩
abbrev main_v131 : Ref sig .tc := ⟨.hbm, 1115, rfl⟩
abbrev main_cst_1 : Ref sig .tc := ⟨.hbm, 1116, rfl⟩
abbrev main_v132 : Ref sig .tc := ⟨.hbm, 1117, rfl⟩
abbrev main_v133 : Ref sig .tc := ⟨.hbm, 1118, rfl⟩
abbrev main_v134 : Ref sig .tc := ⟨.hbm, 1119, rfl⟩
abbrev main_v135 : Ref sig .tc := ⟨.hbm, 1120, rfl⟩
abbrev main_v136 : Ref sig .tc := ⟨.hbm, 1121, rfl⟩
abbrev main_v137 : Ref sig .tc := ⟨.hbm, 1122, rfl⟩
abbrev main_v138 : Ref sig .tc := ⟨.hbm, 1123, rfl⟩
abbrev main_v139 : Ref sig .tc := ⟨.hbm, 1124, rfl⟩
abbrev main_v140 : Ref sig .tc := ⟨.hbm, 1125, rfl⟩
abbrev main_v141 : Ref sig .tc := ⟨.hbm, 1126, rfl⟩
abbrev main_v142 : Ref sig .tc := ⟨.hbm, 1127, rfl⟩
abbrev main_v143 : Ref sig .tc := ⟨.hbm, 1128, rfl⟩
abbrev main_v144 : Ref sig .tc := ⟨.hbm, 1129, rfl⟩
abbrev main_v145 : Ref sig .tc := ⟨.hbm, 1130, rfl⟩
abbrev main_v146 : Ref sig .tc := ⟨.hbm, 1131, rfl⟩
abbrev main_cst_2 : Ref sig .tc := ⟨.hbm, 1132, rfl⟩
abbrev main_v147 : Ref sig .tc := ⟨.hbm, 1133, rfl⟩
abbrev main_v148 : Ref sig .tc := ⟨.hbm, 1134, rfl⟩
abbrev main_v149 : Ref sig .tc := ⟨.hbm, 1135, rfl⟩
abbrev main_cst_3 : Ref sig .tc := ⟨.hbm, 1136, rfl⟩
abbrev main_v150 : Ref sig .tc := ⟨.hbm, 1137, rfl⟩
abbrev main_v151 : Ref sig .tc := ⟨.hbm, 1138, rfl⟩
abbrev main_v152 : Ref sig .tc := ⟨.hbm, 1139, rfl⟩
abbrev main_cst_4 : Ref sig .tc := ⟨.hbm, 1140, rfl⟩
abbrev main_v153 : Ref sig .tc := ⟨.hbm, 1141, rfl⟩
abbrev main_v154 : Ref sig .tc := ⟨.hbm, 1142, rfl⟩
abbrev main_cst_5 : Ref sig .tc := ⟨.hbm, 1143, rfl⟩
abbrev main_v155 : Ref sig .tc := ⟨.hbm, 1144, rfl⟩
abbrev main_v156 : Ref sig .tc := ⟨.hbm, 1145, rfl⟩
abbrev main_v157 : Ref sig .tc := ⟨.hbm, 1146, rfl⟩
abbrev main_v158 : Ref sig .tc := ⟨.hbm, 1147, rfl⟩
abbrev main_v159 : Ref sig .tc := ⟨.hbm, 1148, rfl⟩
abbrev main_v160 : Ref sig .tc := ⟨.hbm, 1149, rfl⟩
abbrev main_v161 : Ref sig .tc := ⟨.hbm, 1150, rfl⟩
abbrev main_v162 : Ref sig .tc := ⟨.hbm, 1151, rfl⟩
abbrev main_cst_6 : Ref sig .tc := ⟨.hbm, 1152, rfl⟩
abbrev main_v163 : Ref sig .tc := ⟨.hbm, 1153, rfl⟩
abbrev main_cst_7 : Ref sig .tc := ⟨.hbm, 1154, rfl⟩
abbrev main_v164 : Ref sig .tc := ⟨.hbm, 1155, rfl⟩
abbrev main_v165 : Ref sig .tc := ⟨.hbm, 1156, rfl⟩
abbrev main_v166 : Ref sig .tc := ⟨.hbm, 1157, rfl⟩
abbrev main_v167 : Ref sig .tc := ⟨.hbm, 1158, rfl⟩
abbrev main_v168 : Ref sig .tc := ⟨.hbm, 1159, rfl⟩
abbrev main_v169 : Ref sig .tc := ⟨.hbm, 1160, rfl⟩
abbrev main_cst_8 : Ref sig .tc := ⟨.hbm, 1161, rfl⟩
abbrev main_v170 : Ref sig .tc := ⟨.hbm, 1162, rfl⟩
abbrev main_v171 : Ref sig .tc := ⟨.hbm, 1163, rfl⟩
abbrev main_v172 : Ref sig .tc := ⟨.hbm, 1164, rfl⟩
abbrev main_v173 : Ref sig .tc := ⟨.hbm, 1165, rfl⟩
abbrev main_c : Ref sig .tc := ⟨.hbm, 1166, rfl⟩
abbrev main_v174 : Ref sig .tc := ⟨.hbm, 1167, rfl⟩
abbrev main_c_9 : Ref sig .tc := ⟨.hbm, 1168, rfl⟩
abbrev main_v175 : Ref sig .tc := ⟨.hbm, 1169, rfl⟩
abbrev main_v176 : Ref sig .tc := ⟨.hbm, 1170, rfl⟩
abbrev main_cst_10 : Ref sig .tc := ⟨.hbm, 1171, rfl⟩
abbrev main_v177 : Ref sig .tc := ⟨.hbm, 1172, rfl⟩
abbrev main_v178 : Ref sig .tc := ⟨.hbm, 1173, rfl⟩
abbrev main_v179 : Ref sig .tc := ⟨.hbm, 1174, rfl⟩

abbrev nD : Nat := 1
abbrev τ : Topo := Topo.v7x

variable {F : FTy → Type} [FloatOps F]

abbrev main_while0_count : Scf.Loop 32 := ⟨0#32, 256#32, 1#32⟩

abbrev main_while1_count : Scf.Loop 32 := ⟨0#32, 256#32, 1#32⟩

abbrev main_while2_count : Scf.Loop 32 := ⟨0#32, 256#32, 1#32⟩

abbrev main_while3_count : Scf.Loop 32 := ⟨0#32, 256#32, 1#32⟩

abbrev main_while4_count : Scf.Loop 32 := ⟨0#32, 256#32, 1#32⟩

abbrev main_while5_count : Scf.Loop 32 := ⟨0#32, 256#32, 1#32⟩
-- ==== Proof.Spec.lean ====
module

public import Idealize.ShloMosaic.Lib.Pointwise
public import Idealize.ShloMosaic.PureOps.Ideal

@[expose] public section

/-!
# The network as plain mathematics

One sequence of 256 steps with 256 features passes six layers and a small head.  Everything here is a function of indices on the extended reals, with no program in it; the two programs are
each shown to compute it.
-/

noncomputable section

namespace Cert.Spec

open Idealize.ShloMosaic

/-- A sequence: 256 steps of 256 features. -/
abbrev Steps := Fin 256 → Fin 256 → EReal

/-- The weights of one layer. -/
structure Layer where
  nw : Fin 256 → EReal
  inW : Fin 1024 → Fin 256 → EReal
  cw : Fin 512 → Fin 4 → EReal
  cb : Fin 512 → EReal
  xW : Fin 48 → Fin 512 → EReal
  dW : Fin 512 → Fin 16 → EReal
  db : Fin 512 → EReal
  alog : Fin 512 → Fin 16 → EReal
  skip : Fin 512 → EReal
  outW : Fin 256 → Fin 512 → EReal

/-- The weights of the head. -/
structure Head where
  nf : Fin 256 → EReal
  w1 : Fin 64 → Fin 256 → EReal
  b1 : Fin 64 → EReal
  w2 : Fin 64 → EReal
  b2 : EReal

/-- A value times its logistic. -/
def silu (v : EReal) : EReal := v * Ideal.logistic v

/-- The logarithm of one plus the exponential, in the form that does not overflow. -/
def softplus (v : EReal) : EReal := max v 0 + Ideal.log1p (Ideal.exp (0 - FloatOps.absf (F := Ideal) (φ := .f32) v))

/-- The inverse root of a step's mean square plus a small constant. -/
def scale (x : Fin 256 → EReal) : EReal :=
  Ideal.rsqrt (Ideal.div (∑ k, x k * x k) (Ideal.ofBits .f32 0x43800000#32) + Ideal.ofBits .f32 0x3727C5AC#32)

/-- A step after normalisation by its scale and the weights `w`. -/
def rms (w x : Fin 256 → EReal) (k : Fin 256) : EReal := x k * scale x * w k

namespace Layer

variable (L : Layer) (x : Steps)

/-- The input projection of every step. -/
def xz (t : Fin 256) (j : Fin 1024) : EReal := ∑ k, rms L.nw (x t) k * L.inW j k

/-- The first half of the projection. -/
def xin (t : Fin 256) (d : Fin 512) : EReal := L.xz x t ⟨d.val, by omega⟩

/-- The second half of the projection, the gate. -/
def z (t : Fin 256) (d : Fin 512) : EReal := L.xz x t ⟨512 + d.val, by omega⟩

/-- The first half `s` steps earlier, zero before the start. -/
def back (s : ℕ) (t : Fin 256) (d : Fin 512) : EReal := if t.val < s then 0 else L.xin x ⟨t.val - s, by omega⟩ d

/-- The causal convolution over four steps, before its activation. -/
def pre (t : Fin 256) (d : Fin 512) : EReal :=
  L.xin x t d * L.cw d 3 + L.back x 3 t d * L.cw d 0 + L.back x 2 t d * L.cw d 1 + L.back x 1 t d * L.cw d 2 + L.cb d

/-- The convolution after its activation. -/
def xc (t : Fin 256) (d : Fin 512) : EReal := silu (L.pre x t d)

/-- The projection that holds the step size's factors, the input matrix and the output matrix. -/
def dbc (t : Fin 256) (j : Fin 48) : EReal := ∑ d, L.xc x t d * L.xW j d

/-- The step size. -/
def delta (t : Fin 256) (d : Fin 512) : EReal := softplus (∑ r : Fin 16, L.dbc x t ⟨r.val, by omega⟩ * L.dW d r + L.db d)

/-- The factor by which a state decays at a step. -/
def decay (t : Fin 256) (n : Fin 16) (d : Fin 512) : EReal := Ideal.exp (L.delta x t d * (0 - Ideal.exp (L.alog d n)))

/-- What a step adds to a state. -/
def inp (t : Fin 256) (n : Fin 16) (d : Fin 512) : EReal := L.delta x t d * L.xc x t d * L.dbc x t ⟨16 + n.val, by omega⟩

end Layer

/-- The states before step `k` of a linear recurrence with factors `a` and inputs `b`. -/
def state (a b : Fin 256 → Fin 16 → Fin 512 → EReal) : ℕ → Fin 16 → Fin 512 → EReal
  | 0 => fun _ _ => 0
  | k + 1 => fun n d => if h : k < 256 then a ⟨k, h⟩ n d * state a b k n d + b ⟨k, h⟩ n d else 0

theorem state_succ (a b : Fin 256 → Fin 16 → Fin 512 → EReal) {k : ℕ} (h : k < 256) (n : Fin 16) (d : Fin 512) :
    state a b (k + 1) n d = a ⟨k, h⟩ n d * state a b k n d + b ⟨k, h⟩ n d := by
  rw [state]; exact dif_pos h

namespace Layer

variable (L : Layer) (x : Steps)

/-- The layer's states, read out, with the skip and the gate. -/
def mix (t : Fin 256) (d : Fin 512) : EReal :=
  (∑ n : Fin 16, state (L.decay x) (L.inp x) (t.val + 1) n d * L.dbc x t ⟨32 + n.val, by omega⟩ + L.xc x t d * L.skip d)
    * silu (L.z x t d)

/-- The sequence after the layer. -/
def out (t : Fin 256) (j : Fin 256) : EReal := x t j + ∑ d, L.mix x t d * L.outW j d

end Layer

/-- The activation of the head's hidden values, in its form with the hyperbolic tangent. -/
def gelu (v : EReal) : EReal :=
  v * (Ideal.ofBits .f32 0x3F000000#32 * (1
    + Ideal.tanh (Ideal.ofBits .f32 0x3F4C422A#32 * (v + Ideal.ofBits .f32 0x3D372713#32 * (v * (v * v))))))

namespace Head

variable (H : Head) (x : Steps)

/-- The hidden values of a step. -/
def hid (t : Fin 256) (q : Fin 64) : EReal := ∑ k, rms H.nf (x t) k * H.w1 q k + H.b1 q

/-- The score of a step. -/
def logit (t : Fin 256) : EReal := ∑ q, gelu (H.hid x t q) * H.w2 q + H.b2

/-- The greatest score. -/
def top : EReal := Finset.univ.fold max (Ideal.ofBits .f32 0xFF800000#32) (H.logit x)

/-- The exponential of a score against the greatest. -/
def weight (t : Fin 256) : EReal := Ideal.exp (H.logit x t - H.top x)

/-- The share of each step, with zero at the first. -/
def result (t : Fin 256) : EReal := if t = 0 then 0 else Ideal.div (H.weight x t) (∑ s, H.weight x s)

end Head

/-- The sequence after the six layers. -/
def layers (w : Fin 6 → Layer) (x : Steps) : Steps :=
  (w 5).out ((w 4).out ((w 3).out ((w 2).out ((w 1).out ((w 0).out x)))))

/-- The network's result for one sequence. -/
def net (w : Fin 6 → Layer) (H : Head) (x : Steps) (t : Fin 256) : EReal := H.result (layers w x) t

end Cert.Spec
-- ==== Proof.KernelLayer.lean ====
module

public import proofs.«01_k».proof.Proof.Spec
public import proofs.«01_k».proof.Proof.Gen.MambaIdeal.Skeleton

@[expose] public section

set_option maxRecDepth 16384

/-!
# One layer as the kernel computes it

The vectors of one layer, as functions of the layer's input and the loaded weights, and each of them read at an index: the quantity of the mathematics.
-/

noncomputable section

namespace Cert.KLayer

open Cert.MambaIdeal Cert.MambaIdeal.Gen Idealize.ShloMosaic Cert.Spec

local notation "𝔽" => Ideal

/-- A vector of the kernel over the extended reals. -/
abbrev Vc (S : Shape) := FVec Ideal S .f32

/-- The rows of weights one layer loads. -/
structure Loads where
  nw : Vc S1x256
  inW : Vc S1x256x1024
  cw0 : Vc S1x1x512
  cw1 : Vc S1x1x512
  cw2 : Vc S1x1x512
  cw3 : Vc S1x1x512
  cb : Vc S1x512
  xW : Vc S1x512x48
  dW : Vc S1x16x512
  db : Vc S1x512
  alog : Vc S1x16x512
  skip : Vc S1x512
  outW : Vc S1x512x256

/-- The loaded rows are the weights of the layer `L`. -/
structure Loads.Are (P : Loads) (L : Layer) : Prop where
  nw : ∀ k, P.nw (ix2 0 k) = L.nw k
  inW : ∀ j k, P.inW (ix3 0 k j) = L.inW j k
  cw0 : ∀ d, P.cw0 (ix3 0 0 d) = L.cw d 0
  cw1 : ∀ d, P.cw1 (ix3 0 0 d) = L.cw d 1
  cw2 : ∀ d, P.cw2 (ix3 0 0 d) = L.cw d 2
  cw3 : ∀ d, P.cw3 (ix3 0 0 d) = L.cw d 3
  cb : ∀ d, P.cb (ix2 0 d) = L.cb d
  xW : ∀ j d, P.xW (ix3 0 d j) = L.xW j d
  dW : ∀ d r, P.dW (ix3 0 r d) = L.dW d r
  db : ∀ d, P.db (ix2 0 d) = L.db d
  alog : ∀ d n, P.alog (ix3 0 n d) = L.alog d n
  skip : ∀ d, P.skip (ix2 0 d) = L.skip d
  outW : ∀ j d, P.outW (ix3 0 d j) = L.outW j d

/-- The normalised rows' factor, as a column. -/
def scaleV (x : Vc S256x256) : Vc S256x1 :=
  rsqrt (addf (divf (shapeCast S256x1 (multiReduction .add [1] S256 (mulf x x) 0x00000000#32 reduces_S256x256_S256 (.inl rfl) rfl) shapeCasts_S256_S256x1)
    (broadcast S256x1 (Scalar.ofBits .f32 0x43800000#32))) (broadcast S256x1 (Scalar.ofBits .f32 0x3727C5AC#32)))

/-- The input projection. -/
def xzV (P : Loads) (x : Vc S256x256) : Vc S256x1024 :=
  matmul dot_S256x256_S256x1024_S256x1024_1_0_0_1_n_n none
    (mulf (mulf x (broadcastTo S256x256 (scaleV x) broadcasts_S256x1_S256x256))
      (broadcastTo S256x256 (shapeCast S1x256 (shapeCast S256 P.nw shapeCasts_S1x256_S256) shapeCasts_S256_S1x256) broadcasts_S1x256_S256x256))
    (shapeCast S256x1024 P.inW shapeCasts_S1x256x1024_S256x1024) (constant S256x1024 .f32 0x00000000#32)

/-- Its first half. -/
def xinV (P : Loads) (x : Vc S256x256) : Vc S256x512 := extractStridedSlice S256x512 ![0, 0] (xzV P x) slices_S256x1024_o0_0_S256x512
/-- Its second half. -/
def zV (P : Loads) (x : Vc S256x256) : Vc S256x512 := extractStridedSlice S256x512 ![0, 512] (xzV P x) slices_S256x1024_o0_512_S256x512
/-- The convolution after its activation. -/
def xcV (P : Loads) (x : Vc S256x256) : Vc S256x512 := k0_pay25 (xinV P x) (k0_pay24 P.cw3) P.cw0 P.cw1 P.cw2 P.cb
/-- The projection of the convolution. -/
def dbcV (P : Loads) (x : Vc S256x256) : Vc S256x48 := k0_pay26 (xinV P x) (k0_pay24 P.cw3) P.cw0 P.cw1 P.cw2 P.cb P.xW
/-- The step size. -/
def deltaV (P : Loads) (x : Vc S256x256) : Vc S256x512 := k0_pay28 (dbcV P x) P.dW P.db
/-- The decays. -/
def decayV (P : Loads) (x : Vc S256x256) : Vc S256x16x512 := k0_pay29 (dbcV P x) P.dW P.db P.alog
/-- The inputs. -/
def inpV (P : Loads) (x : Vc S256x256) : Vc S256x16x512 := k0_pay32 (k0_pay30 (xcV P x) (dbcV P x) P.dW P.db) (k0_pay31 (dbcV P x))
/-- The states after each step, of decays `a` and inputs `b`. -/
def scanV (a b : Vc S256x16x512) : Vc S256x16x512 := fun i =>
  state (fun t n d => a (ix3 t n d)) (fun t n d => b (ix3 t n d)) ((i 0).val + 1) (i 1) (i 2)
/-- The layer's result, given the states. -/
def outWith (P : Loads) (x : Vc S256x256) (s : Vc S256x16x512) : Vc S256x256 :=
  k0_pay20 x (zV P x) (xcV P x) (k0_pay27 (dbcV P x)) s P.skip P.outW
/-- The layer's result. -/
def outV (P : Loads) (x : Vc S256x256) : Vc S256x256 := outWith P x (scanV (decayV P x) (inpV P x))

/-- The padding's zero, as the program writes it. -/
theorem zero_word : (((0#32 : BitVec 32).toInt : ℝ) : EReal) = 0 := by norm_num

variable {P : Loads} {L : Layer} (h : P.Are L) {x : Vc S256x256} {X : Steps} (hx : ∀ t k, x (ix2 t k) = X t k)

include h hx

theorem xz_at (t : Fin 256) (j : Fin 1024) : xzV P x (ix2 t j) = L.xz X t j := by
  unfold xzV scaleV; pointwise
  simp only [hx, h.nw, h.inW]; rfl

theorem xin_at (t : Fin 256) (d : Fin 512) : xinV P x (ix2 t d) = L.xin X t d := by
  unfold xinV; pointwise
  rw [xz_at h hx]; rfl

theorem z_at (t : Fin 256) (d : Fin 512) : zV P x (ix2 t d) = L.z X t d := by
  unfold zV; pointwise
  rw [xz_at h hx]; rfl

theorem xc_at (t : Fin 256) (d : Fin 512) : xcV P x (ix2 t d) = L.xc X t d := by
  unfold xcV k0_pay25 k0_pay24; pointwise
  simp only [xin_at h hx, h.cw0, h.cw1, h.cw2, h.cw3, h.cb, zero_word]; rfl

theorem dbc_at (t : Fin 256) (j : Fin 48) : dbcV P x (ix2 t j) = L.dbc X t j := by
  show k0_pay26 _ _ _ _ _ _ _ _ = _
  unfold k0_pay26
  change (matmul _ none (xcV P x) _ _ : Vc S256x48) _ = _
  pointwise
  simp only [xc_at h hx, h.xW]; rfl

theorem delta_at (t : Fin 256) (d : Fin 512) : deltaV P x (ix2 t d) = L.delta X t d := by
  unfold deltaV k0_pay28; pointwise
  simp only [dbc_at h hx, h.dW, h.db]
  rw [if_neg (fun e => e rfl)]; rfl

theorem decay_at (t : Fin 256) (n : Fin 16) (d : Fin 512) : decayV P x (ix3 t n d) = L.decay X t n d := by
  unfold decayV k0_pay29; pointwise
  rw [show k0_pay28 (dbcV P x) P.dW P.db = deltaV P x from rfl]
  simp only [delta_at h hx, h.alog]; rfl

theorem inp_at (t : Fin 256) (n : Fin 16) (d : Fin 512) : inpV P x (ix3 t n d) = L.inp X t n d := by
  unfold inpV k0_pay32 k0_pay30 k0_pay31; pointwise
  rw [show k0_pay28 (dbcV P x) P.dW P.db = deltaV P x from rfl]
  simp only [delta_at h hx, xc_at h hx, dbc_at h hx]; rfl

theorem out_at (t j : Fin 256) : outV P x (ix2 t j) = L.out X t j := by
  unfold outV outWith k0_pay20 k0_pay27; pointwise
  simp only [hx, xc_at h hx, dbc_at h hx, z_at h hx, h.skip, h.outW, scanV]
  simp only [decay_at h hx, inp_at h hx]; rfl

end Cert.KLayer
-- ==== Proof.KernelScan.lean ====
module

public import proofs.«01_k».proof.Proof.KernelLayer
public import Idealize.ShloMosaic.Lib.WritesUnit
public import Idealize.ShloMosaic.Lib.VecWindow

@[expose] public section

set_option maxRecDepth 16384

/-!
# The recurrence as the kernel runs it

A loop over the steps carries the state, reads the step's decay and input from two buffers, and stores the new state over the decay.
-/

noncomputable section

namespace Cert.KScan

open Cert.MambaIdeal Cert.MambaIdeal.Gen Idealize.ShloMosaic Cert.Spec Cert.KLayer

/-- The row of one step. -/
abbrev row (o : Fin 3 → ℕ) (inb : ∀ a, o a + S1x16x512.size a ≤ S256x16x512.size a) : Rect S256x16x512 :=
  Rect.unit (s := S256x16x512) o S1x16x512.size inb

/-- What the loop carries: the state and the rows stored so far. -/
abbrev Carry := Vc S1x16x512 × List (View.Piece (Elt Ideal) S256x16x512 .f32)

section

variable {v w : View sig .tc .vmem S256x16x512 .f32} {G : v.ty.Contents (Elt Ideal)} {H : w.ty.Contents (Elt Ideal)}
  {n : ℕ} {off : Fin n → Fin 3 → ℕ} {inb : ∀ k a, off k a + S1x16x512.size a ≤ S256x16x512.size a} {st : ℕ → Carry} {a b a' b' : Vc S256x16x512} {A B : List (View.Piece (Elt Ideal) S256x16x512 .f32)}

/-- The loop starts from the zero state and steps by the recurrence, storing each new state in its row. -/
structure Runs (v w : View sig .tc .vmem S256x16x512 .f32) (G : v.ty.Contents (Elt Ideal)) (H : w.ty.Contents (Elt Ideal))
    (n : ℕ) (off : Fin n → Fin 3 → ℕ) (inb : ∀ k a, off k a + S1x16x512.size a ≤ S256x16x512.size a) (st : ℕ → Carry) : Prop where
  count : n = 256
  place : ∀ k, off k = ![k.val, 0, 0]
  zero : st 0 = (k0_pay17, [])
  succ : ∀ k : Fin n, st (k.val + 1) =
    (k0_pay18 (st k.val).1 (v.readAt (Elt Ideal) (row (off k) (inb k)).toLoadRect (v.writes (Elt Ideal) G (st k.val).2))
        (w.readAt (Elt Ideal) (row (off k) (inb k)).toLoadRect H),
      ⟨row (off k) (inb k), k0_pay19 (st k.val).1 (v.readAt (Elt Ideal) (row (off k) (inb k)).toLoadRect (v.writes (Elt Ideal) G (st k.val).2))
        (w.readAt (Elt Ideal) (row (off k) (inb k)).toLoadRect H)⟩ :: (st k.val).2)

/-- Reading the row of a step is reading the buffer at that step. -/
theorem row_at (u : View sig .tc .vmem S256x16x512 .f32) (f : u.ty.Contents (Elt Ideal)) {o : Fin 3 → ℕ} (i : ∀ a, o a + S1x16x512.size a ≤ S256x16x512.size a)
    (k : Fin 256) (ho : o = ![k.val, 0, 0]) (q : Fin 16) (d : Fin 512) :
    u.readAt (Elt Ideal) (row o i).toLoadRect f (ix3 0 q d) = u.read (Elt Ideal) f (ix3 k q d) := by
  subst ho
  rw [View.readAt_apply]
  congr 1
  funext a
  apply Fin.ext
  match a with
  | ⟨0, _⟩ => show k.val + 1 * 0 = k.val; omega
  | ⟨1, _⟩ => show 0 + 1 * q.val = q.val; omega
  | ⟨2, _⟩ => show 0 + 1 * d.val = d.val; omega

theorem pay18_at (s a b : Vc S1x16x512) (q : Fin 16) (d : Fin 512) :
    k0_pay18 s a b (ix3 0 q d) = a (ix3 0 q d) * s (ix3 0 q d) + b (ix3 0 q d) := by
  unfold k0_pay18; pointwise

theorem pay19_at (s a b : Vc S1x16x512) (q : Fin 16) (d : Fin 512) :
    k0_pay19 s a b (ix3 0 q d) = a (ix3 0 q d) * s (ix3 0 q d) + b (ix3 0 q d) := by
  unfold k0_pay19 k0_pay18; pointwise

theorem pay17_at (q : Fin 16) (d : Fin 512) : (k0_pay17 : Vc S1x16x512) (ix3 0 q d) = 0 := by
  unfold k0_pay17; pointwise

/-- Before trip `k` the carried value is the state, and the rows below `k` hold the states after their steps. -/
theorem invariant (S : Runs v w G H n off inb st) (k : ℕ) (hk : k ≤ 256) :
    (∀ q d, (st k).1 (ix3 0 q d)
        = state (fun t q d => v.read (Elt Ideal) G (ix3 t q d)) (fun t q d => w.read (Elt Ideal) H (ix3 t q d)) k q d) ∧
      ∀ (t : Fin 256) (q : Fin 16) (d : Fin 512), v.read (Elt Ideal) (v.writes (Elt Ideal) G (st k).2) (ix3 t q d)
        = if t.val < k then state (fun t q d => v.read (Elt Ideal) G (ix3 t q d)) (fun t q d => w.read (Elt Ideal) H (ix3 t q d)) (t.val + 1) q d
          else v.read (Elt Ideal) G (ix3 t q d) := by
  obtain ⟨rfl, place, zero, succ⟩ := S
  induction k with
  | zero =>
    rw [zero]
    refine ⟨fun q d => ?_, fun t q d => ?_⟩
    · exact pay17_at q d
    · rw [if_neg (Nat.not_lt_zero _)]; rfl
  | succ k ih =>
    obtain ⟨hv, hr⟩ := ih (by omega)
    have hs := succ ⟨k, by omega⟩
    have hp : off ⟨k, by omega⟩ = ![k, 0, 0] := place ⟨k, by omega⟩
    dsimp only at hs
    have hnew : ∀ q d, v.readAt (Elt Ideal) (row (off ⟨k, by omega⟩) (inb ⟨k, by omega⟩)).toLoadRect (v.writes (Elt Ideal) G (st k).2) (ix3 0 q d)
          * (st k).1 (ix3 0 q d) + w.readAt (Elt Ideal) (row (off ⟨k, by omega⟩) (inb ⟨k, by omega⟩)).toLoadRect H (ix3 0 q d)
        = state (fun t q d => v.read (Elt Ideal) G (ix3 t q d)) (fun t q d => w.read (Elt Ideal) H (ix3 t q d)) (k + 1) q d := by
      intro q d
      rw [row_at v _ _ ⟨k, by omega⟩ hp, row_at w _ _ ⟨k, by omega⟩ hp, hr, if_neg (Nat.lt_irrefl _), hv, state_succ _ _ (by omega)]
    rw [hs]
    refine ⟨fun q d => (pay18_at _ _ _ q d).trans (hnew q d), fun t q d => ?_⟩
    · by_cases ht : t.val = k
      · rw [if_pos (by omega)]
        rw [View.read_writes_cons_unit_of_mem v G (inb ⟨k, by omega⟩) _ _ (ix3 t q d) (ix3 0 q d) hp (fun a => by
          match a with
          | ⟨0, _⟩ => show t.val = k + 0; omega
          | ⟨1, _⟩ => show q.val = 0 + q.val; omega
          | ⟨2, _⟩ => show d.val = 0 + d.val; omega)]
        rw [ht]; exact (pay19_at _ _ _ q d).trans (hnew q d)
      · rw [View.read_writes_cons_unit_of_not_mem v G (inb ⟨k, by omega⟩) _ _ (ix3 t q d) hp 0 (by
          show t.val < k ∨ k + 1 ≤ t.val; omega), hr]
        by_cases h' : t.val < k
        · rw [if_pos h', if_pos (by omega)]
        · rw [if_neg h', if_neg (by omega)]

/-- After the loop the buffer of decays, filled before the loop with `a` over earlier pieces, reads as the states of decays `a` and inputs `b`. -/
theorem scan {L : List (View.Piece (Elt Ideal) S256x16x512 .f32)} (S : Runs v w (v.writes (Elt Ideal) v.junk L) H n off inb st) {N : ℕ} (hN : N = n)
    (hL : L = ⟨Rect.unit (s := S256x16x512) ![0, 0, 0] S256x16x512.size inb_S256x16x512_S256x16x512_0_0_0, a'⟩ :: A) (ha : a' = a)
    (hH : H = w.writes (Elt Ideal) w.junk (⟨Rect.unit (s := S256x16x512) ![0, 0, 0] S256x16x512.size inb_S256x16x512_S256x16x512_0_0_0, b'⟩ :: B)) (hb : b' = b) :
    v.readCov ((st N).2 ++ L)
      (Rect.unit (s := S256x16x512) ![0, 0, 0] S256x16x512.size inb_S256x16x512_S256x16x512_0_0_0).toLoadRect = scanV a b := by
  subst hL hH ha hb
  subst hN
  have hN : N = 256 := S.count
  have hz : ∀ (u : View sig .tc .vmem S256x16x512 .f32) (f : u.ty.Contents (Elt Ideal)) (e : Vc S256x16x512)
      (E : List (View.Piece (Elt Ideal) S256x16x512 .f32)), u.read (Elt Ideal) (u.writes (Elt Ideal) f
        (⟨Rect.unit (s := S256x16x512) ![0, 0, 0] S256x16x512.size inb_S256x16x512_S256x16x512_0_0_0, e⟩ :: E)) = e :=
    fun u f e E => View.read_writes_full u f _ e E
  funext i
  obtain ⟨t, q, d, rfl⟩ : ∃ (t : Fin 256) (q : Fin 16) (d : Fin 512), i = ix3 t q d := ⟨i 0, i 1, i 2, eq_ix3 i⟩
  have hi := (invariant S N (by omega)).2 t q d
  rw [if_pos (by omega)] at hi
  simp only [hz] at hi
  unfold View.readCov
  rw [View.writes_append]
  show v.readAt (Elt Ideal) (Rect.unit (s := S256x16x512) _ S256x16x512.size _).toLoadRect _ _ = _
  rw [View.readAt_full]
  exact hi

end

end Cert.KScan
-- ==== Proof.KernelCuts.lean ====
module

public import proofs.«01_k».proof.Proof.KernelLayer

@[expose] public section

set_option maxRecDepth 16384

/-!
# The same layer, cut differently

The six layers do the same arithmetic, each cut into values at other places.  Here each layer's cut of the decays, of the inputs and of the result is shown to be the one layer function.
-/

noncomputable section

namespace Cert.KCut

open Cert.MambaIdeal Cert.MambaIdeal.Gen Idealize.ShloMosaic Cert.Spec Cert.KLayer

/-- Layer 0's decays. -/
theorem decay0 (P : Loads) (v0 : Vc S1x256x256) :
    k0_pay15 (k0_pay12 (k0_pay4 v0 P.nw P.inW) (k0_pay6 v0 P.nw P.inW P.cw3 P.cw0) k0_pay7 P.cw1 P.cw2 P.cb P.xW P.dW P.db) (Scalar.ofBits .f32 0#32 : Ideal .f32) k0_pay13 P.alog = decayV P (k0_pay2 v0) := rfl

/-- Layer 0's inputs. -/
theorem inp0 (P : Loads) (v0 : Vc S1x256x256) :
    k0_pay16 (k0_pay8 (k0_pay4 v0 P.nw P.inW) (k0_pay6 v0 P.nw P.inW P.cw3 P.cw0) k0_pay7 P.cw1 P.cw2 P.cb) (k0_pay10 (k0_pay4 v0 P.nw P.inW) (k0_pay6 v0 P.nw P.inW P.cw3 P.cw0) k0_pay7 P.cw1 P.cw2 P.cb P.xW) (k0_pay12 (k0_pay4 v0 P.nw P.inW) (k0_pay6 v0 P.nw P.inW P.cw3 P.cw0) k0_pay7 P.cw1 P.cw2 P.cb P.xW P.dW P.db) (Scalar.ofBits .f32 0#32 : Ideal .f32) k0_pay13 = inpV P (k0_pay2 v0) := rfl

/-- Layer 0's result. -/
theorem out0 (P : Loads) (v0 : Vc S1x256x256) (s : Vc S256x16x512) :
    k0_pay20 (k0_pay2 v0) (k0_pay5 v0 P.nw P.inW) (k0_pay8 (k0_pay4 v0 P.nw P.inW) (k0_pay6 v0 P.nw P.inW P.cw3 P.cw0) k0_pay7 P.cw1 P.cw2 P.cb) (k0_pay11 (k0_pay4 v0 P.nw P.inW) (k0_pay6 v0 P.nw P.inW P.cw3 P.cw0) k0_pay7 P.cw1 P.cw2 P.cb P.xW) s P.skip P.outW = outWith P (k0_pay2 v0) s := rfl

/-- Layer 1's decays. -/
theorem decay1 (P : Loads) (w_r : Vc S256x256) (w_r_2 : Vc S256x512) (w_r_4 : Vc S256x512) (w_r_6 : Vc S256x16) (w_v118 : Vc S256x16x512) (w_skip_0 : Vc S1x512) (w_outW_0 : Vc S1x512x256) :
    k0_pay29 (k0_pay26 (k0_pay22 w_r w_r_2 w_r_4 w_r_6 w_v118 w_skip_0 w_outW_0 P.nw P.inW) (k0_pay24 P.cw3) P.cw0 P.cw1 P.cw2 P.cb P.xW) P.dW P.db P.alog = decayV P (k0_pay20 w_r w_r_2 w_r_4 w_r_6 w_v118 w_skip_0 w_outW_0) := rfl

/-- Layer 1's inputs. -/
theorem inp1 (P : Loads) (w_r : Vc S256x256) (w_r_2 : Vc S256x512) (w_r_4 : Vc S256x512) (w_r_6 : Vc S256x16) (w_v118 : Vc S256x16x512) (w_skip_0 : Vc S1x512) (w_outW_0 : Vc S1x512x256) :
    k0_pay32 (k0_pay30 (k0_pay25 (k0_pay22 w_r w_r_2 w_r_4 w_r_6 w_v118 w_skip_0 w_outW_0 P.nw P.inW) (k0_pay24 P.cw3) P.cw0 P.cw1 P.cw2 P.cb) (k0_pay26 (k0_pay22 w_r w_r_2 w_r_4 w_r_6 w_v118 w_skip_0 w_outW_0 P.nw P.inW) (k0_pay24 P.cw3) P.cw0 P.cw1 P.cw2 P.cb P.xW) P.dW P.db) (k0_pay31 (k0_pay26 (k0_pay22 w_r w_r_2 w_r_4 w_r_6 w_v118 w_skip_0 w_outW_0 P.nw P.inW) (k0_pay24 P.cw3) P.cw0 P.cw1 P.cw2 P.cb P.xW)) = inpV P (k0_pay20 w_r w_r_2 w_r_4 w_r_6 w_v118 w_skip_0 w_outW_0) := rfl

/-- Layer 1's result. -/
theorem out1 (P : Loads) (w_r : Vc S256x256) (w_r_2 : Vc S256x512) (w_r_4 : Vc S256x512) (w_r_6 : Vc S256x16) (w_v118 : Vc S256x16x512) (w_skip_0 : Vc S1x512) (w_outW_0 : Vc S1x512x256) (s : Vc S256x16x512) :
    k0_pay36 (k0_pay20 w_r w_r_2 w_r_4 w_r_6 w_v118 w_skip_0 w_outW_0) (k0_pay23 w_r w_r_2 w_r_4 w_r_6 w_v118 w_skip_0 w_outW_0 P.nw P.inW) (k0_pay25 (k0_pay22 w_r w_r_2 w_r_4 w_r_6 w_v118 w_skip_0 w_outW_0 P.nw P.inW) (k0_pay24 P.cw3) P.cw0 P.cw1 P.cw2 P.cb) (k0_pay27 (k0_pay26 (k0_pay22 w_r w_r_2 w_r_4 w_r_6 w_v118 w_skip_0 w_outW_0 P.nw P.inW) (k0_pay24 P.cw3) P.cw0 P.cw1 P.cw2 P.cb P.xW)) s P.skip P.outW = outWith P (k0_pay20 w_r w_r_2 w_r_4 w_r_6 w_v118 w_skip_0 w_outW_0) s := rfl

/-- Layer 2's decays. -/
theorem decay2 (P : Loads) (w_r_8 : Vc S256x256) (w_r_10 : Vc S256x512) (w_r_12 : Vc S256x512) (w_r_14 : Vc S256x16) (w_v252 : Vc S256x16x512) (w_skip_1 : Vc S1x512) (w_outW_1 : Vc S1x512x256) :
    k0_pay51 (k0_pay48 (k0_pay41 (k0_pay37 w_r_8 w_r_10 w_r_12 w_r_14 w_v252 w_skip_1 w_outW_1) P.nw P.inW P.cw3 P.cw0 P.cw1) (k0_pay42 (k0_pay37 w_r_8 w_r_10 w_r_12 w_r_14 w_v252 w_skip_1 w_outW_1) P.nw P.inW) (k0_pay43 P.cw2) P.cb P.xW P.dW P.db) (k0_pay49 P.alog) k0_pay50 = decayV P (k0_pay36 w_r_8 w_r_10 w_r_12 w_r_14 w_v252 w_skip_1 w_outW_1) := rfl

/-- Layer 2's inputs. -/
theorem inp2 (P : Loads) (w_r_8 : Vc S256x256) (w_r_10 : Vc S256x512) (w_r_12 : Vc S256x512) (w_r_14 : Vc S256x16) (w_v252 : Vc S256x16x512) (w_skip_1 : Vc S1x512) (w_outW_1 : Vc S1x512x256) :
    k0_pay52 (k0_pay44 (k0_pay41 (k0_pay37 w_r_8 w_r_10 w_r_12 w_r_14 w_v252 w_skip_1 w_outW_1) P.nw P.inW P.cw3 P.cw0 P.cw1) (k0_pay42 (k0_pay37 w_r_8 w_r_10 w_r_12 w_r_14 w_v252 w_skip_1 w_outW_1) P.nw P.inW) (k0_pay43 P.cw2) P.cb) (k0_pay46 (k0_pay41 (k0_pay37 w_r_8 w_r_10 w_r_12 w_r_14 w_v252 w_skip_1 w_outW_1) P.nw P.inW P.cw3 P.cw0 P.cw1) (k0_pay42 (k0_pay37 w_r_8 w_r_10 w_r_12 w_r_14 w_v252 w_skip_1 w_outW_1) P.nw P.inW) (k0_pay43 P.cw2) P.cb P.xW) (k0_pay48 (k0_pay41 (k0_pay37 w_r_8 w_r_10 w_r_12 w_r_14 w_v252 w_skip_1 w_outW_1) P.nw P.inW P.cw3 P.cw0 P.cw1) (k0_pay42 (k0_pay37 w_r_8 w_r_10 w_r_12 w_r_14 w_v252 w_skip_1 w_outW_1) P.nw P.inW) (k0_pay43 P.cw2) P.cb P.xW P.dW P.db) = inpV P (k0_pay36 w_r_8 w_r_10 w_r_12 w_r_14 w_v252 w_skip_1 w_outW_1) := rfl

/-- Layer 2's result. -/
theorem out2 (P : Loads) (w_r_8 : Vc S256x256) (w_r_10 : Vc S256x512) (w_r_12 : Vc S256x512) (w_r_14 : Vc S256x16) (w_v252 : Vc S256x16x512) (w_skip_1 : Vc S1x512) (w_outW_1 : Vc S1x512x256) (s : Vc S256x16x512) :
    k0_pay58 (k0_pay36 w_r_8 w_r_10 w_r_12 w_r_14 w_v252 w_skip_1 w_outW_1) (k0_pay56 (k0_pay40 (k0_pay37 w_r_8 w_r_10 w_r_12 w_r_14 w_v252 w_skip_1 w_outW_1) P.nw P.inW) (k0_pay44 (k0_pay41 (k0_pay37 w_r_8 w_r_10 w_r_12 w_r_14 w_v252 w_skip_1 w_outW_1) P.nw P.inW P.cw3 P.cw0 P.cw1) (k0_pay42 (k0_pay37 w_r_8 w_r_10 w_r_12 w_r_14 w_v252 w_skip_1 w_outW_1) P.nw P.inW) (k0_pay43 P.cw2) P.cb) (k0_pay47 (k0_pay41 (k0_pay37 w_r_8 w_r_10 w_r_12 w_r_14 w_v252 w_skip_1 w_outW_1) P.nw P.inW P.cw3 P.cw0 P.cw1) (k0_pay42 (k0_pay37 w_r_8 w_r_10 w_r_12 w_r_14 w_v252 w_skip_1 w_outW_1) P.nw P.inW) (k0_pay43 P.cw2) P.cb P.xW) s P.skip) (k0_pay57 P.outW) = outWith P (k0_pay36 w_r_8 w_r_10 w_r_12 w_r_14 w_v252 w_skip_1 w_outW_1) s := rfl

/-- Layer 3's decays. -/
theorem decay3 (P : Loads) (w_r_17 : Vc S256x256) (w_r_29 : Vc S256x512) (w_r_30 : Vc S512x256) :
    k0_pay72 (k0_pay68 (k0_pay60 w_r_17 w_r_29 w_r_30 P.nw P.inW) (k0_pay62 w_r_17 w_r_29 w_r_30 P.nw P.inW P.cw3 P.cw0) (k0_pay63 w_r_17 w_r_29 w_r_30 P.nw P.inW) P.cw1 P.cw2 P.cb P.xW P.dW P.db) (Scalar.ofBits .f32 0#32 : Ideal .f32) (k0_pay69 (k0_pay60 w_r_17 w_r_29 w_r_30 P.nw P.inW) (k0_pay62 w_r_17 w_r_29 w_r_30 P.nw P.inW P.cw3 P.cw0) (k0_pay63 w_r_17 w_r_29 w_r_30 P.nw P.inW) P.cw1 P.cw2 P.cb P.xW P.dW P.db) (k0_pay70 (k0_pay60 w_r_17 w_r_29 w_r_30 P.nw P.inW) (k0_pay62 w_r_17 w_r_29 w_r_30 P.nw P.inW P.cw3 P.cw0) (k0_pay63 w_r_17 w_r_29 w_r_30 P.nw P.inW) P.cw1 P.cw2 P.cb P.xW P.dW P.db) P.alog = decayV P (k0_pay58 w_r_17 w_r_29 w_r_30) := rfl

/-- Layer 3's inputs. -/
theorem inp3 (P : Loads) (w_r_17 : Vc S256x256) (w_r_29 : Vc S256x512) (w_r_30 : Vc S512x256) :
    k0_pay73 (k0_pay64 (k0_pay60 w_r_17 w_r_29 w_r_30 P.nw P.inW) (k0_pay62 w_r_17 w_r_29 w_r_30 P.nw P.inW P.cw3 P.cw0) (k0_pay63 w_r_17 w_r_29 w_r_30 P.nw P.inW) P.cw1 P.cw2 P.cb) (k0_pay66 (k0_pay60 w_r_17 w_r_29 w_r_30 P.nw P.inW) (k0_pay62 w_r_17 w_r_29 w_r_30 P.nw P.inW P.cw3 P.cw0) (k0_pay63 w_r_17 w_r_29 w_r_30 P.nw P.inW) P.cw1 P.cw2 P.cb P.xW) (k0_pay68 (k0_pay60 w_r_17 w_r_29 w_r_30 P.nw P.inW) (k0_pay62 w_r_17 w_r_29 w_r_30 P.nw P.inW P.cw3 P.cw0) (k0_pay63 w_r_17 w_r_29 w_r_30 P.nw P.inW) P.cw1 P.cw2 P.cb P.xW P.dW P.db) (Scalar.ofBits .f32 0#32 : Ideal .f32) (k0_pay69 (k0_pay60 w_r_17 w_r_29 w_r_30 P.nw P.inW) (k0_pay62 w_r_17 w_r_29 w_r_30 P.nw P.inW P.cw3 P.cw0) (k0_pay63 w_r_17 w_r_29 w_r_30 P.nw P.inW) P.cw1 P.cw2 P.cb P.xW P.dW P.db) (k0_pay70 (k0_pay60 w_r_17 w_r_29 w_r_30 P.nw P.inW) (k0_pay62 w_r_17 w_r_29 w_r_30 P.nw P.inW P.cw3 P.cw0) (k0_pay63 w_r_17 w_r_29 w_r_30 P.nw P.inW) P.cw1 P.cw2 P.cb P.xW P.dW P.db) = inpV P (k0_pay58 w_r_17 w_r_29 w_r_30) := rfl

/-- Layer 3's result. -/
theorem out3 (P : Loads) (w_r_17 : Vc S256x256) (w_r_29 : Vc S256x512) (w_r_30 : Vc S512x256) (s : Vc S256x16x512) :
    k0_pay78 (k0_pay58 w_r_17 w_r_29 w_r_30) (k0_pay61 w_r_17 w_r_29 w_r_30 P.nw P.inW) (k0_pay64 (k0_pay60 w_r_17 w_r_29 w_r_30 P.nw P.inW) (k0_pay62 w_r_17 w_r_29 w_r_30 P.nw P.inW P.cw3 P.cw0) (k0_pay63 w_r_17 w_r_29 w_r_30 P.nw P.inW) P.cw1 P.cw2 P.cb) s (k0_pay77 (k0_pay67 (k0_pay60 w_r_17 w_r_29 w_r_30 P.nw P.inW) (k0_pay62 w_r_17 w_r_29 w_r_30 P.nw P.inW P.cw3 P.cw0) (k0_pay63 w_r_17 w_r_29 w_r_30 P.nw P.inW) P.cw1 P.cw2 P.cb P.xW)) P.skip P.outW = outWith P (k0_pay58 w_r_17 w_r_29 w_r_30) s := rfl

/-- Layer 4's decays. -/
theorem decay4 (P : Loads) (w_r_31 : Vc S256x256) (w_r_33 : Vc S256x512) (w_r_36 : Vc S256x512) (w_v520 : Vc S256x16x512) (w_r_42 : Vc S256x16x512) (w_skip_3 : Vc S1x512) (w_outW_3 : Vc S1x512x256) :
    k0_pay89 (k0_pay85 (k0_pay80 w_r_31 w_r_33 w_r_36 w_v520 w_r_42 w_skip_3 w_outW_3 P.nw P.inW) (k0_pay82 w_r_31 w_r_33 w_r_36 w_v520 w_r_42 w_skip_3 w_outW_3 P.nw P.inW P.cw3) (0#32) P.cw0 P.cw1 P.cw2 P.cb P.xW) P.dW P.db P.alog = decayV P (k0_pay78 w_r_31 w_r_33 w_r_36 w_v520 w_r_42 w_skip_3 w_outW_3) := rfl

/-- Layer 4's inputs. -/
theorem inp4 (P : Loads) (w_r_31 : Vc S256x256) (w_r_33 : Vc S256x512) (w_r_36 : Vc S256x512) (w_v520 : Vc S256x16x512) (w_r_42 : Vc S256x16x512) (w_skip_3 : Vc S1x512) (w_outW_3 : Vc S1x512x256) :
    k0_pay91 (k0_pay90 (k0_pay83 (k0_pay80 w_r_31 w_r_33 w_r_36 w_v520 w_r_42 w_skip_3 w_outW_3 P.nw P.inW) (k0_pay82 w_r_31 w_r_33 w_r_36 w_v520 w_r_42 w_skip_3 w_outW_3 P.nw P.inW P.cw3) (0#32) P.cw0 P.cw1 P.cw2 P.cb) (k0_pay85 (k0_pay80 w_r_31 w_r_33 w_r_36 w_v520 w_r_42 w_skip_3 w_outW_3 P.nw P.inW) (k0_pay82 w_r_31 w_r_33 w_r_36 w_v520 w_r_42 w_skip_3 w_outW_3 P.nw P.inW P.cw3) (0#32) P.cw0 P.cw1 P.cw2 P.cb P.xW) (k0_pay86 (k0_pay80 w_r_31 w_r_33 w_r_36 w_v520 w_r_42 w_skip_3 w_outW_3 P.nw P.inW) (k0_pay82 w_r_31 w_r_33 w_r_36 w_v520 w_r_42 w_skip_3 w_outW_3 P.nw P.inW P.cw3) (0#32) P.cw0 P.cw1 P.cw2 P.cb P.xW) P.dW P.db) = inpV P (k0_pay78 w_r_31 w_r_33 w_r_36 w_v520 w_r_42 w_skip_3 w_outW_3) := rfl

/-- Layer 4's result. -/
theorem out4 (P : Loads) (w_r_31 : Vc S256x256) (w_r_33 : Vc S256x512) (w_r_36 : Vc S256x512) (w_v520 : Vc S256x16x512) (w_r_42 : Vc S256x16x512) (w_skip_3 : Vc S1x512) (w_outW_3 : Vc S1x512x256) (s : Vc S256x16x512) :
    k0_pay95 (k0_pay78 w_r_31 w_r_33 w_r_36 w_v520 w_r_42 w_skip_3 w_outW_3) (k0_pay81 w_r_31 w_r_33 w_r_36 w_v520 w_r_42 w_skip_3 w_outW_3 P.nw P.inW) (k0_pay83 (k0_pay80 w_r_31 w_r_33 w_r_36 w_v520 w_r_42 w_skip_3 w_outW_3 P.nw P.inW) (k0_pay82 w_r_31 w_r_33 w_r_36 w_v520 w_r_42 w_skip_3 w_outW_3 P.nw P.inW P.cw3) (0#32) P.cw0 P.cw1 P.cw2 P.cb) (k0_pay87 (k0_pay80 w_r_31 w_r_33 w_r_36 w_v520 w_r_42 w_skip_3 w_outW_3 P.nw P.inW) (k0_pay82 w_r_31 w_r_33 w_r_36 w_v520 w_r_42 w_skip_3 w_outW_3 P.nw P.inW P.cw3) (0#32) P.cw0 P.cw1 P.cw2 P.cb P.xW) s P.skip P.outW = outWith P (k0_pay78 w_r_31 w_r_33 w_r_36 w_v520 w_r_42 w_skip_3 w_outW_3) s := rfl

/-- Layer 5's decays. -/
theorem decay5 (P : Loads) (w_r_43 : Vc S256x256) (w_r_45 : Vc S256x512) (w_r_47 : Vc S256x512) (w_r_50 : Vc S256x16) (w_v654 : Vc S256x16x512) (w_skip_4 : Vc S1x512) (w_outW_4 : Vc S1x512x256) :
    k0_pay108 (k0_pay106 (k0_pay100 (k0_pay96 w_r_43 w_r_45 w_r_47 w_r_50 w_v654 w_skip_4 w_outW_4) (k0_pay97 P.nw) P.inW P.cw3 P.cw0 P.cw1 P.cw2) P.cb P.xW P.dW P.db) (k0_pay107 P.alog) = decayV P (k0_pay95 w_r_43 w_r_45 w_r_47 w_r_50 w_v654 w_skip_4 w_outW_4) := rfl

/-- Layer 5's inputs. -/
theorem inp5 (P : Loads) (w_r_43 : Vc S256x256) (w_r_45 : Vc S256x512) (w_r_47 : Vc S256x512) (w_r_50 : Vc S256x16) (w_v654 : Vc S256x16x512) (w_skip_4 : Vc S1x512) (w_outW_4 : Vc S1x512x256) :
    k0_pay109 (k0_pay101 (k0_pay100 (k0_pay96 w_r_43 w_r_45 w_r_47 w_r_50 w_v654 w_skip_4 w_outW_4) (k0_pay97 P.nw) P.inW P.cw3 P.cw0 P.cw1 P.cw2) P.cb) (k0_pay103 (k0_pay100 (k0_pay96 w_r_43 w_r_45 w_r_47 w_r_50 w_v654 w_skip_4 w_outW_4) (k0_pay97 P.nw) P.inW P.cw3 P.cw0 P.cw1 P.cw2) P.cb P.xW) (k0_pay105 (k0_pay100 (k0_pay96 w_r_43 w_r_45 w_r_47 w_r_50 w_v654 w_skip_4 w_outW_4) (k0_pay97 P.nw) P.inW P.cw3 P.cw0 P.cw1 P.cw2) P.cb P.xW P.dW P.db) = inpV P (k0_pay95 w_r_43 w_r_45 w_r_47 w_r_50 w_v654 w_skip_4 w_outW_4) := rfl

/-- Layer 5's result. -/
theorem out5 (P : Loads) (w_r_43 : Vc S256x256) (w_r_45 : Vc S256x512) (w_r_47 : Vc S256x512) (w_r_50 : Vc S256x16) (w_v654 : Vc S256x16x512) (w_skip_4 : Vc S1x512) (w_outW_4 : Vc S1x512x256) (s : Vc S256x16x512) :
    k0_pay113 (k0_pay95 w_r_43 w_r_45 w_r_47 w_r_50 w_v654 w_skip_4 w_outW_4) (k0_pay99 (k0_pay96 w_r_43 w_r_45 w_r_47 w_r_50 w_v654 w_skip_4 w_outW_4) (k0_pay97 P.nw) P.inW) (k0_pay101 (k0_pay100 (k0_pay96 w_r_43 w_r_45 w_r_47 w_r_50 w_v654 w_skip_4 w_outW_4) (k0_pay97 P.nw) P.inW P.cw3 P.cw0 P.cw1 P.cw2) P.cb) (k0_pay104 (k0_pay100 (k0_pay96 w_r_43 w_r_45 w_r_47 w_r_50 w_v654 w_skip_4 w_outW_4) (k0_pay97 P.nw) P.inW P.cw3 P.cw0 P.cw1 P.cw2) P.cb P.xW) s P.skip P.outW = outWith P (k0_pay95 w_r_43 w_r_45 w_r_47 w_r_50 w_v654 w_skip_4 w_outW_4) s := rfl

end Cert.KCut
-- ==== Proof.KernelRuns.lean ====
module

public import proofs.«01_k».proof.Proof.KernelScan
public import proofs.«01_k».proof.Proof.KernelCuts
public import proofs.«01_k».proof.Proof.Gen.MambaIdeal.Frame
public import Idealize.ShloMosaic.Lib.WordArith.Masks

@[expose] public section

set_option maxRecDepth 16384

/-!
# The layers in the kernel's run

What one grid point of the kernel holds after each of its six layers is the layer's vector function of what it held before.
-/

noncomputable section

namespace Cert.KWords

open Cert.MambaIdeal Cert.MambaIdeal.Gen Idealize.ShloMosaic Cert.Spec Cert.KLayer Cert.KScan

/-- One row `l` of a buffer of six rows, as loaded. -/
abbrev ld2 {n : ℕ} {u : Memref sig .tc .vmem (⟨2, ![6, n]⟩ : Shape) .f32} (hu : u.IsWhole) (x : Vc (⟨2, ![6, n]⟩ : Shape)) (l : ℕ)
    (inb : ∀ a, (![l, 0] : Fin 2 → ℕ) a + (⟨2, ![1, n]⟩ : Shape).size a ≤ (⟨2, ![6, n]⟩ : Shape).size a) : Vc (⟨2, ![1, n]⟩ : Shape) :=
  View.readAt (Elt Ideal) u.view (Rect.unit (s := ⟨2, ![6, n]⟩) ![l, 0] (⟨2, ![1, n]⟩ : Shape).size inb).toLoadRect (hu.unread x)

/-- One matrix, or one row `r` of one matrix, of a buffer of six, as loaded. -/
abbrev ld3 {n k : ℕ} (n' : ℕ) {u : Memref sig .tc .vmem (⟨3, ![6, n, k]⟩ : Shape) .f32} (hu : u.IsWhole) (x : Vc (⟨3, ![6, n, k]⟩ : Shape)) (l r : ℕ)
    (inb : ∀ a, (![l, r, 0] : Fin 3 → ℕ) a + (⟨3, ![1, n', k]⟩ : Shape).size a ≤ (⟨3, ![6, n, k]⟩ : Shape).size a) : Vc (⟨3, ![1, n', k]⟩ : Shape) :=
  View.readAt (Elt Ideal) u.view (Rect.unit (s := ⟨3, ![6, n, k]⟩) ![l, r, 0] (⟨3, ![1, n', k]⟩ : Shape).size inb).toLoadRect (hu.unread x)

/-- A loaded row at an index. -/
theorem ld2_at {n : ℕ} {u : Memref sig .tc .vmem (⟨2, ![6, n]⟩ : Shape) .f32} (hu : u.IsWhole) (x : Vc (⟨2, ![6, n]⟩ : Shape)) (l : Fin 6) (inb) (j : Fin n) :
    ld2 hu x l.val inb (ix2 0 j) = x (ix2 l j) := by
  show View.read (Elt Ideal) u.view (hu.unread x) _ = _
  rw [hu.read_unread]
  congr 1
  funext a
  apply Fin.ext
  match a with
  | ⟨0, _⟩ => show l.val + 1 * 0 = l.val; omega
  | ⟨1, _⟩ => show 0 + 1 * j.val = j.val; omega

/-- A loaded matrix at an index. -/
theorem ld3_at {n k n' : ℕ} {u : Memref sig .tc .vmem (⟨3, ![6, n, k]⟩ : Shape) .f32} (hu : u.IsWhole) (x : Vc (⟨3, ![6, n, k]⟩ : Shape)) (l : Fin 6) (r : ℕ) (inb)
    (p : Fin n') (q : Fin n) (hpq : q.val = r + p.val) (j : Fin k) : ld3 n' hu x l.val r inb (ix3 0 p j) = x (ix3 l q j) := by
  show View.read (Elt Ideal) u.view (hu.unread x) _ = _
  rw [hu.read_unread]
  congr 1
  funext a
  apply Fin.ext
  match a with
  | ⟨0, _⟩ => show l.val + 1 * 0 = l.val; omega
  | ⟨1, _⟩ => show r + 1 * p.val = q.val; omega
  | ⟨2, _⟩ => show 0 + 1 * j.val = j.val; omega

/-- The weights of layer `l`, in the kernel's layout. -/
def weights (x1 : Vc S6x256) (x2 : Vc S6x256x1024) (x3 : Vc S6x4x512) (x4 : Vc S6x512) (x5 : Vc S6x512x48) (x6 : Vc S6x16x512) (x7 : Vc S6x512)
    (x8 : Vc S6x16x512) (x9 : Vc S6x512) (x10 : Vc S6x512x256) (l : Fin 6) : Layer where
  nw k := x1 (ix2 l k)
  inW j k := x2 (ix3 l k j)
  cw d r := x3 (ix3 l r d)
  cb d := x4 (ix2 l d)
  xW j d := x5 (ix3 l d j)
  dW d r := x6 (ix3 l r d)
  db d := x7 (ix2 l d)
  alog d n := x8 (ix3 l n d)
  skip d := x9 (ix2 l d)
  outW j d := x10 (ix3 l d j)

/-- A row of six is within them. -/
theorem in2 {n l : ℕ} (h : l < 6) : ∀ a, (![l, 0] : Fin 2 → ℕ) a + (⟨2, ![1, n]⟩ : Shape).size a ≤ (⟨2, ![6, n]⟩ : Shape).size a
  | ⟨0, _⟩ => (show l + 1 ≤ 6 by omega)
  | ⟨1, _⟩ => (show 0 + n ≤ n by omega)

/-- Some rows of a matrix of six are within them. -/
theorem in3 {n k n' l r : ℕ} (h : l < 6) (hr : r + n' ≤ n) :
    ∀ a, (![l, r, 0] : Fin 3 → ℕ) a + (⟨3, ![1, n', k]⟩ : Shape).size a ≤ (⟨3, ![6, n, k]⟩ : Shape).size a
  | ⟨0, _⟩ => (show l + 1 ≤ 6 by omega)
  | ⟨1, _⟩ => (show r + n' ≤ n by omega)
  | ⟨2, _⟩ => (show 0 + k ≤ k by omega)

/-- A step's row begins at the step. -/
theorem off_of (k : ℕ) (hk : k < 256) : (![(Scalar.indexCast (Scf.iv 0#32 1#32 k) : Index).toNat, 0, 0] : Fin 3 → ℕ) = ![k, 0, 0] := by
  have : (Scalar.indexCast (Scf.iv 0#32 1#32 k) : Index).toNat = k := by
    show (Scf.iv 0#32 1#32 k : BitVec 32).toNat = k
    exact WordArith.toNat_iv_zero_one k (by omega)
  rw [this]

theorem offs1 (k : Fin k0_t1_loop.trips) : k0_off1 k = ![k.val, 0, 0] := off_of k.val (lt_of_lt_of_le k.isLt k0_t1_abs.2.1)
theorem offs2 (k : Fin k0_t2_loop.trips) : k0_off2 k = ![k.val, 0, 0] := off_of k.val (lt_of_lt_of_le k.isLt k0_t2_abs.2.1)
theorem offs3 (k : Fin k0_t3_loop.trips) : k0_off3 k = ![k.val, 0, 0] := off_of k.val (lt_of_lt_of_le k.isLt k0_t3_abs.2.1)
theorem offs4 (k : Fin k0_t4_loop.trips) : k0_off4 k = ![k.val, 0, 0] := off_of k.val (lt_of_lt_of_le k.isLt k0_t4_abs.2.1)
theorem offs5 (k : Fin k0_t5_loop.trips) : k0_off5 k = ![k.val, 0, 0] := off_of k.val (lt_of_lt_of_le k.isLt k0_t5_abs.2.1)
theorem offs6 (k : Fin k0_t6_loop.trips) : k0_off6 k = ![k.val, 0, 0] := off_of k.val (lt_of_lt_of_le k.isLt k0_t6_abs.2.1)

/-- The loop of layer 0 runs the recurrence. -/
theorem runs1 (c : Dev nD) (i : grid0.Coords) (arg1 : Memref sig .tc .vmem S1x256x256 .f32) (harg1 : arg1.IsWhole) (arg2 : Memref sig .tc .vmem S6x256 .f32) (harg2 : arg2.IsWhole) (arg3 : Memref sig .tc .vmem S6x256x1024 .f32) (harg3 : arg3.IsWhole) (arg4 : Memref sig .tc .vmem S6x4x512 .f32) (harg4 : arg4.IsWhole) (arg5 : Memref sig .tc .vmem S6x512 .f32) (harg5 : arg5.IsWhole) (arg6 : Memref sig .tc .vmem S6x512x48 .f32) (harg6 : arg6.IsWhole) (arg7 : Memref sig .tc .vmem S6x16x512 .f32) (harg7 : arg7.IsWhole) (arg8 : Memref sig .tc .vmem S6x512 .f32) (harg8 : arg8.IsWhole) (arg9 : Memref sig .tc .vmem S6x16x512 .f32) (harg9 : arg9.IsWhole) (arg10 : Memref sig .tc .vmem S6x512 .f32) (harg10 : arg10.IsWhole) (arg11 : Memref sig .tc .vmem S6x512x256 .f32) (harg11 : arg11.IsWhole) (arg12 : Memref sig .tc .vmem S1x256 .f32) (harg12 : arg12.IsWhole) (arg13 : Memref sig .tc .vmem S256x64 .f32) (harg13 : arg13.IsWhole) (arg14 : Memref sig .tc .vmem S1x64 .f32) (harg14 : arg14.IsWhole) (arg15 : Memref sig .tc .vmem S1x64 .f32) (harg15 : arg15.IsWhole) (arg16 : Memref sig .tc .vmem S1x1 .f32) (harg16 : arg16.IsWhole) (arg17 : Memref sig .tc .vmem S1x1x256 .f32) (harg17 : arg17.IsWhole) (arg18 : Memref sig .tc .vmem S256x16x512 .f32) (harg18 : arg18.IsWhole) (arg19 : Memref sig .tc .vmem S256x16x512 .f32) (harg19 : arg19.IsWhole)
    (v63 : FVec Ideal S256x512 .f32) (v68 : FVec Ideal S256x16 .f32) (v77 : FVec Ideal S256x512 .f32) (cst_33 : Ideal .f32) (v78 : FVec Ideal S256x512 .f32) (X : BufTy.Contents (Elt Ideal) arg19.view.ty) (G : BufTy.Contents (Elt Ideal) arg18.view.ty) :
    Runs arg18.view arg19.view G X k0_t1_loop.trips k0_off1 k0_off1_inb
      (st_k0_t1 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v63 v68 v77 cst_33 v78 X G k0_pay17) := by
  refine ⟨by decide, offs1, rfl, fun k => ?_⟩
  rw [st_k0_t1_succ]
  unfold tripR_k0_t1 tripL_k0_t1 trip_k0_t1
  rfl

/-- The loop of layer 1 runs the recurrence. -/
theorem runs2 (c : Dev nD) (i : grid0.Coords) (arg1 : Memref sig .tc .vmem S1x256x256 .f32) (harg1 : arg1.IsWhole) (arg2 : Memref sig .tc .vmem S6x256 .f32) (harg2 : arg2.IsWhole) (arg3 : Memref sig .tc .vmem S6x256x1024 .f32) (harg3 : arg3.IsWhole) (arg4 : Memref sig .tc .vmem S6x4x512 .f32) (harg4 : arg4.IsWhole) (arg5 : Memref sig .tc .vmem S6x512 .f32) (harg5 : arg5.IsWhole) (arg6 : Memref sig .tc .vmem S6x512x48 .f32) (harg6 : arg6.IsWhole) (arg7 : Memref sig .tc .vmem S6x16x512 .f32) (harg7 : arg7.IsWhole) (arg8 : Memref sig .tc .vmem S6x512 .f32) (harg8 : arg8.IsWhole) (arg9 : Memref sig .tc .vmem S6x16x512 .f32) (harg9 : arg9.IsWhole) (arg10 : Memref sig .tc .vmem S6x512 .f32) (harg10 : arg10.IsWhole) (arg11 : Memref sig .tc .vmem S6x512x256 .f32) (harg11 : arg11.IsWhole) (arg12 : Memref sig .tc .vmem S1x256 .f32) (harg12 : arg12.IsWhole) (arg13 : Memref sig .tc .vmem S256x64 .f32) (harg13 : arg13.IsWhole) (arg14 : Memref sig .tc .vmem S1x64 .f32) (harg14 : arg14.IsWhole) (arg15 : Memref sig .tc .vmem S1x64 .f32) (harg15 : arg15.IsWhole) (arg16 : Memref sig .tc .vmem S1x1 .f32) (harg16 : arg16.IsWhole) (arg17 : Memref sig .tc .vmem S1x1x256 .f32) (harg17 : arg17.IsWhole) (arg18 : Memref sig .tc .vmem S256x16x512 .f32) (harg18 : arg18.IsWhole) (arg19 : Memref sig .tc .vmem S256x16x512 .f32) (harg19 : arg19.IsWhole)
    (v135 : FVec Ideal S256x256 .f32) (v155 : FVec Ideal S256x512 .f32) (v197 : FVec Ideal S256x512 .f32) (v203 : FVec Ideal S256x16 .f32) (v243 : FVec Ideal S256x16x512 .f32) (v244 : FVec Ideal S256x16x512 .f32) (X : BufTy.Contents (Elt Ideal) arg19.view.ty) (G : BufTy.Contents (Elt Ideal) arg18.view.ty) :
    Runs arg18.view arg19.view G X k0_t2_loop.trips k0_off2 k0_off2_inb
      (st_k0_t2 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v135 v155 v197 v203 v243 v244 X G k0_pay17) := by
  refine ⟨by decide, offs2, rfl, fun k => ?_⟩
  rw [st_k0_t2_succ]
  unfold tripR_k0_t2 tripL_k0_t2 trip_k0_t2
  rfl

/-- The loop of layer 2 runs the recurrence. -/
theorem runs3 (c : Dev nD) (i : grid0.Coords) (arg1 : Memref sig .tc .vmem S1x256x256 .f32) (harg1 : arg1.IsWhole) (arg2 : Memref sig .tc .vmem S6x256 .f32) (harg2 : arg2.IsWhole) (arg3 : Memref sig .tc .vmem S6x256x1024 .f32) (harg3 : arg3.IsWhole) (arg4 : Memref sig .tc .vmem S6x4x512 .f32) (harg4 : arg4.IsWhole) (arg5 : Memref sig .tc .vmem S6x512 .f32) (harg5 : arg5.IsWhole) (arg6 : Memref sig .tc .vmem S6x512x48 .f32) (harg6 : arg6.IsWhole) (arg7 : Memref sig .tc .vmem S6x16x512 .f32) (harg7 : arg7.IsWhole) (arg8 : Memref sig .tc .vmem S6x512 .f32) (harg8 : arg8.IsWhole) (arg9 : Memref sig .tc .vmem S6x16x512 .f32) (harg9 : arg9.IsWhole) (arg10 : Memref sig .tc .vmem S6x512 .f32) (harg10 : arg10.IsWhole) (arg11 : Memref sig .tc .vmem S6x512x256 .f32) (harg11 : arg11.IsWhole) (arg12 : Memref sig .tc .vmem S1x256 .f32) (harg12 : arg12.IsWhole) (arg13 : Memref sig .tc .vmem S256x64 .f32) (harg13 : arg13.IsWhole) (arg14 : Memref sig .tc .vmem S1x64 .f32) (harg14 : arg14.IsWhole) (arg15 : Memref sig .tc .vmem S1x64 .f32) (harg15 : arg15.IsWhole) (arg16 : Memref sig .tc .vmem S1x1 .f32) (harg16 : arg16.IsWhole) (arg17 : Memref sig .tc .vmem S1x1x256 .f32) (harg17 : arg17.IsWhole) (arg18 : Memref sig .tc .vmem S256x16x512 .f32) (harg18 : arg18.IsWhole) (arg19 : Memref sig .tc .vmem S256x16x512 .f32) (harg19 : arg19.IsWhole)
    (v289 : FVec Ideal S256x512 .f32) (v331 : FVec Ideal S256x512 .f32) (v336 : FVec Ideal S256x16 .f32) (v337 : FVec Ideal S256x16 .f32) (v359 : FVec Ideal S256x512 .f32) (v362 : FVec Ideal S16x512 .f32) (v363 : FVec Ideal S16x512 .f32) (X : BufTy.Contents (Elt Ideal) arg19.view.ty) (G : BufTy.Contents (Elt Ideal) arg18.view.ty) :
    Runs arg18.view arg19.view G X k0_t3_loop.trips k0_off3 k0_off3_inb
      (st_k0_t3 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v289 v331 v336 v337 v359 v362 v363 X G k0_pay17) := by
  refine ⟨by decide, offs3, rfl, fun k => ?_⟩
  rw [st_k0_t3_succ]
  unfold tripR_k0_t3 tripL_k0_t3 trip_k0_t3
  rfl

/-- The loop of layer 3 runs the recurrence. -/
theorem runs4 (c : Dev nD) (i : grid0.Coords) (arg1 : Memref sig .tc .vmem S1x256x256 .f32) (harg1 : arg1.IsWhole) (arg2 : Memref sig .tc .vmem S6x256 .f32) (harg2 : arg2.IsWhole) (arg3 : Memref sig .tc .vmem S6x256x1024 .f32) (harg3 : arg3.IsWhole) (arg4 : Memref sig .tc .vmem S6x4x512 .f32) (harg4 : arg4.IsWhole) (arg5 : Memref sig .tc .vmem S6x512 .f32) (harg5 : arg5.IsWhole) (arg6 : Memref sig .tc .vmem S6x512x48 .f32) (harg6 : arg6.IsWhole) (arg7 : Memref sig .tc .vmem S6x16x512 .f32) (harg7 : arg7.IsWhole) (arg8 : Memref sig .tc .vmem S6x512 .f32) (harg8 : arg8.IsWhole) (arg9 : Memref sig .tc .vmem S6x16x512 .f32) (harg9 : arg9.IsWhole) (arg10 : Memref sig .tc .vmem S6x512 .f32) (harg10 : arg10.IsWhole) (arg11 : Memref sig .tc .vmem S6x512x256 .f32) (harg11 : arg11.IsWhole) (arg12 : Memref sig .tc .vmem S1x256 .f32) (harg12 : arg12.IsWhole) (arg13 : Memref sig .tc .vmem S256x64 .f32) (harg13 : arg13.IsWhole) (arg14 : Memref sig .tc .vmem S1x64 .f32) (harg14 : arg14.IsWhole) (arg15 : Memref sig .tc .vmem S1x64 .f32) (harg15 : arg15.IsWhole) (arg16 : Memref sig .tc .vmem S1x1 .f32) (harg16 : arg16.IsWhole) (arg17 : Memref sig .tc .vmem S1x1x256 .f32) (harg17 : arg17.IsWhole) (arg18 : Memref sig .tc .vmem S256x16x512 .f32) (harg18 : arg18.IsWhole) (arg19 : Memref sig .tc .vmem S256x16x512 .f32) (harg19 : arg19.IsWhole)
    (v465 : FVec Ideal S256x512 .f32) (v470 : FVec Ideal S256x16 .f32) (v471 : FVec Ideal S256x16 .f32) (v479 : FVec Ideal S256x512 .f32) (cst_220 : Ideal .f32) (v481 : FVec Ideal S256x512 .f32) (v483 : FVec Ideal S256x512 .f32) (X : BufTy.Contents (Elt Ideal) arg19.view.ty) (G : BufTy.Contents (Elt Ideal) arg18.view.ty) :
    Runs arg18.view arg19.view G X k0_t4_loop.trips k0_off4 k0_off4_inb
      (st_k0_t4 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v465 v470 v471 v479 cst_220 v481 v483 X G k0_pay17) := by
  refine ⟨by decide, offs4, rfl, fun k => ?_⟩
  rw [st_k0_t4_succ]
  unfold tripR_k0_t4 tripL_k0_t4 trip_k0_t4
  rfl

/-- The loop of layer 4 runs the recurrence. -/
theorem runs5 (c : Dev nD) (i : grid0.Coords) (arg1 : Memref sig .tc .vmem S1x256x256 .f32) (harg1 : arg1.IsWhole) (arg2 : Memref sig .tc .vmem S6x256 .f32) (harg2 : arg2.IsWhole) (arg3 : Memref sig .tc .vmem S6x256x1024 .f32) (harg3 : arg3.IsWhole) (arg4 : Memref sig .tc .vmem S6x4x512 .f32) (harg4 : arg4.IsWhole) (arg5 : Memref sig .tc .vmem S6x512 .f32) (harg5 : arg5.IsWhole) (arg6 : Memref sig .tc .vmem S6x512x48 .f32) (harg6 : arg6.IsWhole) (arg7 : Memref sig .tc .vmem S6x16x512 .f32) (harg7 : arg7.IsWhole) (arg8 : Memref sig .tc .vmem S6x512 .f32) (harg8 : arg8.IsWhole) (arg9 : Memref sig .tc .vmem S6x16x512 .f32) (harg9 : arg9.IsWhole) (arg10 : Memref sig .tc .vmem S6x512 .f32) (harg10 : arg10.IsWhole) (arg11 : Memref sig .tc .vmem S6x512x256 .f32) (harg11 : arg11.IsWhole) (arg12 : Memref sig .tc .vmem S1x256 .f32) (harg12 : arg12.IsWhole) (arg13 : Memref sig .tc .vmem S256x64 .f32) (harg13 : arg13.IsWhole) (arg14 : Memref sig .tc .vmem S1x64 .f32) (harg14 : arg14.IsWhole) (arg15 : Memref sig .tc .vmem S1x64 .f32) (harg15 : arg15.IsWhole) (arg16 : Memref sig .tc .vmem S1x1 .f32) (harg16 : arg16.IsWhole) (arg17 : Memref sig .tc .vmem S1x1x256 .f32) (harg17 : arg17.IsWhole) (arg18 : Memref sig .tc .vmem S256x16x512 .f32) (harg18 : arg18.IsWhole) (arg19 : Memref sig .tc .vmem S256x16x512 .f32) (harg19 : arg19.IsWhole)
    (v537 : FVec Ideal S256x256 .f32) (v557 : FVec Ideal S256x512 .f32) (v599 : FVec Ideal S256x512 .f32) (v605 : FVec Ideal S256x16 .f32) (v647 : FVec Ideal S256x16x512 .f32) (X : BufTy.Contents (Elt Ideal) arg19.view.ty) (G : BufTy.Contents (Elt Ideal) arg18.view.ty) :
    Runs arg18.view arg19.view G X k0_t5_loop.trips k0_off5 k0_off5_inb
      (st_k0_t5 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v537 v557 v599 v605 v647 X G k0_pay17) := by
  refine ⟨by decide, offs5, rfl, fun k => ?_⟩
  rw [st_k0_t5_succ]
  unfold tripR_k0_t5 tripL_k0_t5 trip_k0_t5
  rfl

/-- The loop of layer 5 runs the recurrence. -/
theorem runs6 (c : Dev nD) (i : grid0.Coords) (arg1 : Memref sig .tc .vmem S1x256x256 .f32) (harg1 : arg1.IsWhole) (arg2 : Memref sig .tc .vmem S6x256 .f32) (harg2 : arg2.IsWhole) (arg3 : Memref sig .tc .vmem S6x256x1024 .f32) (harg3 : arg3.IsWhole) (arg4 : Memref sig .tc .vmem S6x4x512 .f32) (harg4 : arg4.IsWhole) (arg5 : Memref sig .tc .vmem S6x512 .f32) (harg5 : arg5.IsWhole) (arg6 : Memref sig .tc .vmem S6x512x48 .f32) (harg6 : arg6.IsWhole) (arg7 : Memref sig .tc .vmem S6x16x512 .f32) (harg7 : arg7.IsWhole) (arg8 : Memref sig .tc .vmem S6x512 .f32) (harg8 : arg8.IsWhole) (arg9 : Memref sig .tc .vmem S6x16x512 .f32) (harg9 : arg9.IsWhole) (arg10 : Memref sig .tc .vmem S6x512 .f32) (harg10 : arg10.IsWhole) (arg11 : Memref sig .tc .vmem S6x512x256 .f32) (harg11 : arg11.IsWhole) (arg12 : Memref sig .tc .vmem S1x256 .f32) (harg12 : arg12.IsWhole) (arg13 : Memref sig .tc .vmem S256x64 .f32) (harg13 : arg13.IsWhole) (arg14 : Memref sig .tc .vmem S1x64 .f32) (harg14 : arg14.IsWhole) (arg15 : Memref sig .tc .vmem S1x64 .f32) (harg15 : arg15.IsWhole) (arg16 : Memref sig .tc .vmem S1x1 .f32) (harg16 : arg16.IsWhole) (arg17 : Memref sig .tc .vmem S1x1x256 .f32) (harg17 : arg17.IsWhole) (arg18 : Memref sig .tc .vmem S256x16x512 .f32) (harg18 : arg18.IsWhole) (arg19 : Memref sig .tc .vmem S256x16x512 .f32) (harg19 : arg19.IsWhole)
    (v671 : FVec Ideal S256x256 .f32) (v691 : FVec Ideal S256x512 .f32) (v733 : FVec Ideal S256x512 .f32) (v738 : FVec Ideal S256x16 .f32) (v739 : FVec Ideal S256x16 .f32) (v761 : FVec Ideal S256x512 .f32) (v767 : FVec Ideal S256x1x512 .f32) (v768 : FVec Ideal S1x16x512 .f32) (X : BufTy.Contents (Elt Ideal) arg19.view.ty) (G : BufTy.Contents (Elt Ideal) arg18.view.ty) :
    Runs arg18.view arg19.view G X k0_t6_loop.trips k0_off6 k0_off6_inb
      (st_k0_t6 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v671 v691 v733 v738 v739 v761 v767 v768 X G k0_pay17) := by
  refine ⟨by decide, offs6, rfl, fun k => ?_⟩
  rw [st_k0_t6_succ]
  unfold tripR_k0_t6 tripL_k0_t6 trip_k0_t6
  rfl

section

variable (c : Dev nD) (i : grid0.Coords)
  (arg1 : Memref sig .tc .vmem S1x256x256 .f32) (harg1 : arg1.IsWhole)
  (arg2 : Memref sig .tc .vmem S6x256 .f32) (harg2 : arg2.IsWhole)
  (arg3 : Memref sig .tc .vmem S6x256x1024 .f32) (harg3 : arg3.IsWhole)
  (arg4 : Memref sig .tc .vmem S6x4x512 .f32) (harg4 : arg4.IsWhole)
  (arg5 : Memref sig .tc .vmem S6x512 .f32) (harg5 : arg5.IsWhole)
  (arg6 : Memref sig .tc .vmem S6x512x48 .f32) (harg6 : arg6.IsWhole)
  (arg7 : Memref sig .tc .vmem S6x16x512 .f32) (harg7 : arg7.IsWhole)
  (arg8 : Memref sig .tc .vmem S6x512 .f32) (harg8 : arg8.IsWhole)
  (arg9 : Memref sig .tc .vmem S6x16x512 .f32) (harg9 : arg9.IsWhole)
  (arg10 : Memref sig .tc .vmem S6x512 .f32) (harg10 : arg10.IsWhole)
  (arg11 : Memref sig .tc .vmem S6x512x256 .f32) (harg11 : arg11.IsWhole)
  (arg12 : Memref sig .tc .vmem S1x256 .f32) (harg12 : arg12.IsWhole)
  (arg13 : Memref sig .tc .vmem S256x64 .f32) (harg13 : arg13.IsWhole)
  (arg14 : Memref sig .tc .vmem S1x64 .f32) (harg14 : arg14.IsWhole)
  (arg15 : Memref sig .tc .vmem S1x64 .f32) (harg15 : arg15.IsWhole)
  (arg16 : Memref sig .tc .vmem S1x1 .f32) (harg16 : arg16.IsWhole)
  (arg17 : Memref sig .tc .vmem S1x1x256 .f32) (harg17 : arg17.IsWhole)
  (arg18 : Memref sig .tc .vmem S256x16x512 .f32) (harg18 : arg18.IsWhole)
  (arg19 : Memref sig .tc .vmem S256x16x512 .f32) (harg19 : arg19.IsWhole)
  (x0 : Vc S1x256x256)  (x1 : Vc S6x256)  (x2 : Vc S6x256x1024)  (x3 : Vc S6x4x512)  (x4 : Vc S6x512)  (x5 : Vc S6x512x48)  (x6 : Vc S6x16x512)  (x7 : Vc S6x512)  (x8 : Vc S6x16x512)  (x9 : Vc S6x512)  (x10 : Vc S6x512x256)

/-- The rows of weights layer `l` loads. -/
def loads (l : ℕ) (h : l < 6) : Loads where
  nw := ld2 harg2 x1 l (in2 h)
  inW := ld3 256 harg3 x2 l 0 (in3 h (by omega))
  cw0 := ld3 1 harg4 x3 l 0 (in3 h (by omega))
  cw1 := ld3 1 harg4 x3 l 1 (in3 h (by omega))
  cw2 := ld3 1 harg4 x3 l 2 (in3 h (by omega))
  cw3 := ld3 1 harg4 x3 l 3 (in3 h (by omega))
  cb := ld2 harg5 x4 l (in2 h)
  xW := ld3 512 harg6 x5 l 0 (in3 h (by omega))
  dW := ld3 16 harg7 x6 l 0 (in3 h (by omega))
  db := ld2 harg8 x7 l (in2 h)
  alog := ld3 16 harg9 x8 l 0 (in3 h (by omega))
  skip := ld2 harg10 x9 l (in2 h)
  outW := ld3 512 harg11 x10 l 0 (in3 h (by omega))

/-- They are the layer's weights. -/
theorem loads_are (l : Fin 6) : (loads arg2 harg2 arg3 harg3 arg4 harg4 arg5 harg5 arg6 harg6 arg7 harg7 arg8 harg8 arg9 harg9 arg10 harg10 arg11 harg11 x1 x2 x3 x4 x5 x6 x7 x8 x9 x10 l.val l.isLt).Are (weights x1 x2 x3 x4 x5 x6 x7 x8 x9 x10 l) where
  nw k := ld2_at harg2 x1 l _ k
  inW j k := ld3_at harg3 x2 l 0 _ k k (by omega) j
  cw0 d := ld3_at harg4 x3 l 0 _ 0 0 rfl d
  cw1 d := ld3_at harg4 x3 l 1 _ 0 1 rfl d
  cw2 d := ld3_at harg4 x3 l 2 _ 0 2 rfl d
  cw3 d := ld3_at harg4 x3 l 3 _ 0 3 rfl d
  cb d := ld2_at harg5 x4 l _ d
  xW j d := ld3_at harg6 x5 l 0 _ d d (by omega) j
  dW d r := ld3_at harg7 x6 l 0 _ r r (by omega) d
  db d := ld2_at harg8 x7 l _ d
  alog d n := ld3_at harg9 x8 l 0 _ n n (by omega) d
  skip d := ld2_at harg10 x9 l _ d
  outW j d := ld3_at harg11 x10 l 0 _ d d (by omega) j

/-- The sequence as loaded. -/
abbrev start : Vc S256x256 :=
  k0_pay2 (View.readAt (Elt Ideal) arg1.view (Rect.unit (s := S1x256x256) ![0, 0, 0] S1x256x256.size inb_S1x256x256_S1x256x256_0_0_0).toLoadRect (harg1.unread x0))

end

end Cert.KWords
-- ==== Proof.KernelWords.lean ====
module

public import proofs.«01_k».proof.Proof.KernelRuns
public import proofs.«01_k».proof.Proof.KernelCuts

@[expose] public section

set_option maxRecDepth 16384

/-!
# The layers in the kernel's run

What one grid point of the kernel holds after each of its six layers is the layer's vector function of what it held before.
-/

noncomputable section

namespace Cert.KWords

open Cert.MambaIdeal Cert.MambaIdeal.Gen Idealize.ShloMosaic Cert.Spec Cert.KLayer Cert.KScan

variable (c : Dev nD) (i : grid0.Coords)
  (arg1 : Memref sig .tc .vmem S1x256x256 .f32) (harg1 : arg1.IsWhole)
  (arg2 : Memref sig .tc .vmem S6x256 .f32) (harg2 : arg2.IsWhole)
  (arg3 : Memref sig .tc .vmem S6x256x1024 .f32) (harg3 : arg3.IsWhole)
  (arg4 : Memref sig .tc .vmem S6x4x512 .f32) (harg4 : arg4.IsWhole)
  (arg5 : Memref sig .tc .vmem S6x512 .f32) (harg5 : arg5.IsWhole)
  (arg6 : Memref sig .tc .vmem S6x512x48 .f32) (harg6 : arg6.IsWhole)
  (arg7 : Memref sig .tc .vmem S6x16x512 .f32) (harg7 : arg7.IsWhole)
  (arg8 : Memref sig .tc .vmem S6x512 .f32) (harg8 : arg8.IsWhole)
  (arg9 : Memref sig .tc .vmem S6x16x512 .f32) (harg9 : arg9.IsWhole)
  (arg10 : Memref sig .tc .vmem S6x512 .f32) (harg10 : arg10.IsWhole)
  (arg11 : Memref sig .tc .vmem S6x512x256 .f32) (harg11 : arg11.IsWhole)
  (arg12 : Memref sig .tc .vmem S1x256 .f32) (harg12 : arg12.IsWhole)
  (arg13 : Memref sig .tc .vmem S256x64 .f32) (harg13 : arg13.IsWhole)
  (arg14 : Memref sig .tc .vmem S1x64 .f32) (harg14 : arg14.IsWhole)
  (arg15 : Memref sig .tc .vmem S1x64 .f32) (harg15 : arg15.IsWhole)
  (arg16 : Memref sig .tc .vmem S1x1 .f32) (harg16 : arg16.IsWhole)
  (arg17 : Memref sig .tc .vmem S1x1x256 .f32) (harg17 : arg17.IsWhole)
  (arg18 : Memref sig .tc .vmem S256x16x512 .f32) (harg18 : arg18.IsWhole)
  (arg19 : Memref sig .tc .vmem S256x16x512 .f32) (harg19 : arg19.IsWhole)
  (x0 : Vc S1x256x256)  (x1 : Vc S6x256)  (x2 : Vc S6x256x1024)  (x3 : Vc S6x4x512)  (x4 : Vc S6x512)  (x5 : Vc S6x512x48)  (x6 : Vc S6x16x512)  (x7 : Vc S6x512)  (x8 : Vc S6x16x512)  (x9 : Vc S6x512)  (x10 : Vc S6x512x256)

/-- The states in layer 0. -/
theorem scan0 : kernelRun0_A.sl.v118 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8
    = scanV (decayV (loads arg2 harg2 arg3 harg3 arg4 harg4 arg5 harg5 arg6 harg6 arg7 harg7 arg8 harg8 arg9 harg9 arg10 harg10 arg11 harg11 x1 x2 x3 x4 x5 x6 x7 x8 x9 x10 0 (by decide)) (start arg1 harg1 x0)) (inpV (loads arg2 harg2 arg3 harg3 arg4 harg4 arg5 harg5 arg6 harg6 arg7 harg7 arg8 harg8 arg9 harg9 arg10 harg10 arg11 harg11 x1 x2 x3 x4 x5 x6 x7 x8 x9 x10 0 (by decide)) (start arg1 harg1 x0)) := by
  unfold kernelRun0_A.sl.v118
  refine scan (runs1 ..) rfl rfl ?_ rfl ?_
  · unfold kernelRun0_A.sl.r_7 kernelRun0_A.sl.r_3 kernelRun0_A.sl.r_1 kernelRun0_A.sl.cst_33
    have e := KCut.decay0 (loads arg2 harg2 arg3 harg3 arg4 harg4 arg5 harg5 arg6 harg6 arg7 harg7 arg8 harg8 arg9 harg9 arg10 harg10 arg11 harg11 x1 x2 x3 x4 x5 x6 x7 x8 x9 x10 0 (by decide)) (View.readAt (Elt Ideal) arg1.view (Rect.unit (s := S1x256x256) ![0, 0, 0] S1x256x256.size inb_S1x256x256_S1x256x256_0_0_0).toLoadRect (harg1.unread x0))
    dsimp only [loads] at e
    unfold loads
    exact e
  · unfold kernelRun0_A.sl.r_7 kernelRun0_A.sl.r_5 kernelRun0_A.sl.r_4 kernelRun0_A.sl.r_3 kernelRun0_A.sl.r_1 kernelRun0_A.sl.cst_33
    have e := KCut.inp0 (loads arg2 harg2 arg3 harg3 arg4 harg4 arg5 harg5 arg6 harg6 arg7 harg7 arg8 harg8 arg9 harg9 arg10 harg10 arg11 harg11 x1 x2 x3 x4 x5 x6 x7 x8 x9 x10 0 (by decide)) (View.readAt (Elt Ideal) arg1.view (Rect.unit (s := S1x256x256) ![0, 0, 0] S1x256x256.size inb_S1x256x256_S1x256x256_0_0_0).toLoadRect (harg1.unread x0))
    dsimp only [loads] at e
    unfold loads
    exact e

/-- The sequence after layer 0. -/
theorem layer0 : kernelRun0_A.sl.r_8 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10
    = outV (loads arg2 harg2 arg3 harg3 arg4 harg4 arg5 harg5 arg6 harg6 arg7 harg7 arg8 harg8 arg9 harg9 arg10 harg10 arg11 harg11 x1 x2 x3 x4 x5 x6 x7 x8 x9 x10 0 (by decide)) (start arg1 harg1 x0) := by
  unfold outV
  rw [← scan0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10]
  unfold kernelRun0_A.sl.r_8 kernelRun0_A.sl.r_6 kernelRun0_A.sl.r_4 kernelRun0_A.sl.r_3 kernelRun0_A.sl.r_2 kernelRun0_A.sl.r_1 kernelRun0_A.sl.r
  have e := KCut.out0 (loads arg2 harg2 arg3 harg3 arg4 harg4 arg5 harg5 arg6 harg6 arg7 harg7 arg8 harg8 arg9 harg9 arg10 harg10 arg11 harg11 x1 x2 x3 x4 x5 x6 x7 x8 x9 x10 0 (by decide)) (View.readAt (Elt Ideal) arg1.view (Rect.unit (s := S1x256x256) ![0, 0, 0] S1x256x256.size inb_S1x256x256_S1x256x256_0_0_0).toLoadRect (harg1.unread x0)) (kernelRun0_A.sl.v118 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8)
  dsimp only [loads] at e
  unfold loads
  exact e

/-- The states in layer 1. -/
theorem scan1 : kernelRun0_A.sl.v252 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10
    = scanV (decayV (loads arg2 harg2 arg3 harg3 arg4 harg4 arg5 harg5 arg6 harg6 arg7 harg7 arg8 harg8 arg9 harg9 arg10 harg10 arg11 harg11 x1 x2 x3 x4 x5 x6 x7 x8 x9 x10 1 (by decide)) (kernelRun0_A.sl.r_8 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10)) (inpV (loads arg2 harg2 arg3 harg3 arg4 harg4 arg5 harg5 arg6 harg6 arg7 harg7 arg8 harg8 arg9 harg9 arg10 harg10 arg11 harg11 x1 x2 x3 x4 x5 x6 x7 x8 x9 x10 1 (by decide)) (kernelRun0_A.sl.r_8 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10)) := by
  unfold kernelRun0_A.sl.v252
  refine scan (runs2 ..) rfl rfl ?_ rfl ?_
  · unfold kernelRun0_A.sl.r_13 kernelRun0_A.sl.r_11 kernelRun0_A.sl.r_9
    have e := KCut.decay1 (loads arg2 harg2 arg3 harg3 arg4 harg4 arg5 harg5 arg6 harg6 arg7 harg7 arg8 harg8 arg9 harg9 arg10 harg10 arg11 harg11 x1 x2 x3 x4 x5 x6 x7 x8 x9 x10 1 (by decide)) (kernelRun0_A.sl.r (F := Ideal) c arg1 harg1 x0) (kernelRun0_A.sl.r_2 (F := Ideal) c arg1 harg1 arg2 harg2 arg3 harg3 x0 x1 x2) (kernelRun0_A.sl.r_4 (F := Ideal) c arg1 harg1 arg2 harg2 arg3 harg3 arg4 harg4 arg5 harg5 x0 x1 x2 x3 x4) (kernelRun0_A.sl.r_6 (F := Ideal) c arg1 harg1 arg2 harg2 arg3 harg3 arg4 harg4 arg5 harg5 arg6 harg6 x0 x1 x2 x3 x4 x5) (kernelRun0_A.sl.v118 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8) (loads arg2 harg2 arg3 harg3 arg4 harg4 arg5 harg5 arg6 harg6 arg7 harg7 arg8 harg8 arg9 harg9 arg10 harg10 arg11 harg11 x1 x2 x3 x4 x5 x6 x7 x8 x9 x10 0 (by decide)).skip (loads arg2 harg2 arg3 harg3 arg4 harg4 arg5 harg5 arg6 harg6 arg7 harg7 arg8 harg8 arg9 harg9 arg10 harg10 arg11 harg11 x1 x2 x3 x4 x5 x6 x7 x8 x9 x10 0 (by decide)).outW
    dsimp only [loads] at e
    unfold loads
    exact e
  · unfold kernelRun0_A.sl.r_16 kernelRun0_A.sl.r_15 kernelRun0_A.sl.r_13 kernelRun0_A.sl.r_12 kernelRun0_A.sl.r_11 kernelRun0_A.sl.r_9
    have e := KCut.inp1 (loads arg2 harg2 arg3 harg3 arg4 harg4 arg5 harg5 arg6 harg6 arg7 harg7 arg8 harg8 arg9 harg9 arg10 harg10 arg11 harg11 x1 x2 x3 x4 x5 x6 x7 x8 x9 x10 1 (by decide)) (kernelRun0_A.sl.r (F := Ideal) c arg1 harg1 x0) (kernelRun0_A.sl.r_2 (F := Ideal) c arg1 harg1 arg2 harg2 arg3 harg3 x0 x1 x2) (kernelRun0_A.sl.r_4 (F := Ideal) c arg1 harg1 arg2 harg2 arg3 harg3 arg4 harg4 arg5 harg5 x0 x1 x2 x3 x4) (kernelRun0_A.sl.r_6 (F := Ideal) c arg1 harg1 arg2 harg2 arg3 harg3 arg4 harg4 arg5 harg5 arg6 harg6 x0 x1 x2 x3 x4 x5) (kernelRun0_A.sl.v118 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8) (loads arg2 harg2 arg3 harg3 arg4 harg4 arg5 harg5 arg6 harg6 arg7 harg7 arg8 harg8 arg9 harg9 arg10 harg10 arg11 harg11 x1 x2 x3 x4 x5 x6 x7 x8 x9 x10 0 (by decide)).skip (loads arg2 harg2 arg3 harg3 arg4 harg4 arg5 harg5 arg6 harg6 arg7 harg7 arg8 harg8 arg9 harg9 arg10 harg10 arg11 harg11 x1 x2 x3 x4 x5 x6 x7 x8 x9 x10 0 (by decide)).outW
    dsimp only [loads] at e
    unfold loads
    exact e

/-- The sequence after layer 1. -/
theorem layer1 : kernelRun0_A.sl.r_17 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10
    = outV (loads arg2 harg2 arg3 harg3 arg4 harg4 arg5 harg5 arg6 harg6 arg7 harg7 arg8 harg8 arg9 harg9 arg10 harg10 arg11 harg11 x1 x2 x3 x4 x5 x6 x7 x8 x9 x10 1 (by decide)) (kernelRun0_A.sl.r_8 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10) := by
  unfold outV
  rw [← scan1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10]
  unfold kernelRun0_A.sl.r_17 kernelRun0_A.sl.r_14 kernelRun0_A.sl.r_13 kernelRun0_A.sl.r_12 kernelRun0_A.sl.r_11 kernelRun0_A.sl.r_10 kernelRun0_A.sl.r_9
  have e := KCut.out1 (loads arg2 harg2 arg3 harg3 arg4 harg4 arg5 harg5 arg6 harg6 arg7 harg7 arg8 harg8 arg9 harg9 arg10 harg10 arg11 harg11 x1 x2 x3 x4 x5 x6 x7 x8 x9 x10 1 (by decide)) (kernelRun0_A.sl.r (F := Ideal) c arg1 harg1 x0) (kernelRun0_A.sl.r_2 (F := Ideal) c arg1 harg1 arg2 harg2 arg3 harg3 x0 x1 x2) (kernelRun0_A.sl.r_4 (F := Ideal) c arg1 harg1 arg2 harg2 arg3 harg3 arg4 harg4 arg5 harg5 x0 x1 x2 x3 x4) (kernelRun0_A.sl.r_6 (F := Ideal) c arg1 harg1 arg2 harg2 arg3 harg3 arg4 harg4 arg5 harg5 arg6 harg6 x0 x1 x2 x3 x4 x5) (kernelRun0_A.sl.v118 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8) (loads arg2 harg2 arg3 harg3 arg4 harg4 arg5 harg5 arg6 harg6 arg7 harg7 arg8 harg8 arg9 harg9 arg10 harg10 arg11 harg11 x1 x2 x3 x4 x5 x6 x7 x8 x9 x10 0 (by decide)).skip (loads arg2 harg2 arg3 harg3 arg4 harg4 arg5 harg5 arg6 harg6 arg7 harg7 arg8 harg8 arg9 harg9 arg10 harg10 arg11 harg11 x1 x2 x3 x4 x5 x6 x7 x8 x9 x10 0 (by decide)).outW (kernelRun0_A.sl.v252 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10)
  dsimp only [loads] at e
  unfold loads
  exact e

/-- The states in layer 2. -/
theorem scan2 : kernelRun0_A.sl.v386 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10
    = scanV (decayV (loads arg2 harg2 arg3 harg3 arg4 harg4 arg5 harg5 arg6 harg6 arg7 harg7 arg8 harg8 arg9 harg9 arg10 harg10 arg11 harg11 x1 x2 x3 x4 x5 x6 x7 x8 x9 x10 2 (by decide)) (kernelRun0_A.sl.r_17 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10)) (inpV (loads arg2 harg2 arg3 harg3 arg4 harg4 arg5 harg5 arg6 harg6 arg7 harg7 arg8 harg8 arg9 harg9 arg10 harg10 arg11 harg11 x1 x2 x3 x4 x5 x6 x7 x8 x9 x10 2 (by decide)) (kernelRun0_A.sl.r_17 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10)) := by
  unfold kernelRun0_A.sl.v386
  refine scan (runs3 ..) rfl rfl ?_ rfl ?_
  · unfold kernelRun0_A.sl.r_28 kernelRun0_A.sl.r_27 kernelRun0_A.sl.r_23 kernelRun0_A.sl.r_22 kernelRun0_A.sl.r_21 kernelRun0_A.sl.r_19 kernelRun0_A.sl.r_18
    have e := KCut.decay2 (loads arg2 harg2 arg3 harg3 arg4 harg4 arg5 harg5 arg6 harg6 arg7 harg7 arg8 harg8 arg9 harg9 arg10 harg10 arg11 harg11 x1 x2 x3 x4 x5 x6 x7 x8 x9 x10 2 (by decide)) (kernelRun0_A.sl.r_8 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10) (kernelRun0_A.sl.r_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10) (kernelRun0_A.sl.r_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10) (kernelRun0_A.sl.r_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10) (kernelRun0_A.sl.v252 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10) (loads arg2 harg2 arg3 harg3 arg4 harg4 arg5 harg5 arg6 harg6 arg7 harg7 arg8 harg8 arg9 harg9 arg10 harg10 arg11 harg11 x1 x2 x3 x4 x5 x6 x7 x8 x9 x10 1 (by decide)).skip (loads arg2 harg2 arg3 harg3 arg4 harg4 arg5 harg5 arg6 harg6 arg7 harg7 arg8 harg8 arg9 harg9 arg10 harg10 arg11 harg11 x1 x2 x3 x4 x5 x6 x7 x8 x9 x10 1 (by decide)).outW
    dsimp only [loads] at e
    unfold loads
    exact e
  · unfold kernelRun0_A.sl.r_27 kernelRun0_A.sl.r_25 kernelRun0_A.sl.r_24 kernelRun0_A.sl.r_23 kernelRun0_A.sl.r_22 kernelRun0_A.sl.r_21 kernelRun0_A.sl.r_19 kernelRun0_A.sl.r_18
    have e := KCut.inp2 (loads arg2 harg2 arg3 harg3 arg4 harg4 arg5 harg5 arg6 harg6 arg7 harg7 arg8 harg8 arg9 harg9 arg10 harg10 arg11 harg11 x1 x2 x3 x4 x5 x6 x7 x8 x9 x10 2 (by decide)) (kernelRun0_A.sl.r_8 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10) (kernelRun0_A.sl.r_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10) (kernelRun0_A.sl.r_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10) (kernelRun0_A.sl.r_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10) (kernelRun0_A.sl.v252 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10) (loads arg2 harg2 arg3 harg3 arg4 harg4 arg5 harg5 arg6 harg6 arg7 harg7 arg8 harg8 arg9 harg9 arg10 harg10 arg11 harg11 x1 x2 x3 x4 x5 x6 x7 x8 x9 x10 1 (by decide)).skip (loads arg2 harg2 arg3 harg3 arg4 harg4 arg5 harg5 arg6 harg6 arg7 harg7 arg8 harg8 arg9 harg9 arg10 harg10 arg11 harg11 x1 x2 x3 x4 x5 x6 x7 x8 x9 x10 1 (by decide)).outW
    dsimp only [loads] at e
    unfold loads
    exact e

/-- The sequence after layer 2. -/
theorem layer2 : kernelRun0_A.sl.r_31 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10
    = outV (loads arg2 harg2 arg3 harg3 arg4 harg4 arg5 harg5 arg6 harg6 arg7 harg7 arg8 harg8 arg9 harg9 arg10 harg10 arg11 harg11 x1 x2 x3 x4 x5 x6 x7 x8 x9 x10 2 (by decide)) (kernelRun0_A.sl.r_17 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10) := by
  unfold outV
  rw [← scan2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10]
  unfold kernelRun0_A.sl.r_31 kernelRun0_A.sl.r_30 kernelRun0_A.sl.r_29 kernelRun0_A.sl.r_26 kernelRun0_A.sl.r_24 kernelRun0_A.sl.r_23 kernelRun0_A.sl.r_22 kernelRun0_A.sl.r_21 kernelRun0_A.sl.r_20 kernelRun0_A.sl.r_19 kernelRun0_A.sl.r_18
  have e := KCut.out2 (loads arg2 harg2 arg3 harg3 arg4 harg4 arg5 harg5 arg6 harg6 arg7 harg7 arg8 harg8 arg9 harg9 arg10 harg10 arg11 harg11 x1 x2 x3 x4 x5 x6 x7 x8 x9 x10 2 (by decide)) (kernelRun0_A.sl.r_8 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10) (kernelRun0_A.sl.r_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10) (kernelRun0_A.sl.r_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10) (kernelRun0_A.sl.r_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10) (kernelRun0_A.sl.v252 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10) (loads arg2 harg2 arg3 harg3 arg4 harg4 arg5 harg5 arg6 harg6 arg7 harg7 arg8 harg8 arg9 harg9 arg10 harg10 arg11 harg11 x1 x2 x3 x4 x5 x6 x7 x8 x9 x10 1 (by decide)).skip (loads arg2 harg2 arg3 harg3 arg4 harg4 arg5 harg5 arg6 harg6 arg7 harg7 arg8 harg8 arg9 harg9 arg10 harg10 arg11 harg11 x1 x2 x3 x4 x5 x6 x7 x8 x9 x10 1 (by decide)).outW (kernelRun0_A.sl.v386 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10)
  dsimp only [loads] at e
  unfold loads
  exact e

/-- The states in layer 3. -/
theorem scan3 : kernelRun0_A.sl.v520 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10
    = scanV (decayV (loads arg2 harg2 arg3 harg3 arg4 harg4 arg5 harg5 arg6 harg6 arg7 harg7 arg8 harg8 arg9 harg9 arg10 harg10 arg11 harg11 x1 x2 x3 x4 x5 x6 x7 x8 x9 x10 3 (by decide)) (kernelRun0_A.sl.r_31 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10)) (inpV (loads arg2 harg2 arg3 harg3 arg4 harg4 arg5 harg5 arg6 harg6 arg7 harg7 arg8 harg8 arg9 harg9 arg10 harg10 arg11 harg11 x1 x2 x3 x4 x5 x6 x7 x8 x9 x10 3 (by decide)) (kernelRun0_A.sl.r_31 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10)) := by
  unfold kernelRun0_A.sl.v520
  refine scan (runs4 ..) rfl rfl ?_ rfl ?_
  · unfold kernelRun0_A.sl.r_41 kernelRun0_A.sl.r_40 kernelRun0_A.sl.r_39 kernelRun0_A.sl.r_35 kernelRun0_A.sl.r_34 kernelRun0_A.sl.r_32 kernelRun0_A.sl.cst_220
    have e := KCut.decay3 (loads arg2 harg2 arg3 harg3 arg4 harg4 arg5 harg5 arg6 harg6 arg7 harg7 arg8 harg8 arg9 harg9 arg10 harg10 arg11 harg11 x1 x2 x3 x4 x5 x6 x7 x8 x9 x10 3 (by decide)) (kernelRun0_A.sl.r_17 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10) (kernelRun0_A.sl.r_29 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10) (kernelRun0_A.sl.r_30 (F := Ideal) c arg11 harg11 x10)
    dsimp only [loads] at e
    unfold loads
    exact e
  · unfold kernelRun0_A.sl.r_41 kernelRun0_A.sl.r_40 kernelRun0_A.sl.r_39 kernelRun0_A.sl.r_37 kernelRun0_A.sl.r_36 kernelRun0_A.sl.r_35 kernelRun0_A.sl.r_34 kernelRun0_A.sl.r_32 kernelRun0_A.sl.cst_220
    have e := KCut.inp3 (loads arg2 harg2 arg3 harg3 arg4 harg4 arg5 harg5 arg6 harg6 arg7 harg7 arg8 harg8 arg9 harg9 arg10 harg10 arg11 harg11 x1 x2 x3 x4 x5 x6 x7 x8 x9 x10 3 (by decide)) (kernelRun0_A.sl.r_17 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10) (kernelRun0_A.sl.r_29 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10) (kernelRun0_A.sl.r_30 (F := Ideal) c arg11 harg11 x10)
    dsimp only [loads] at e
    unfold loads
    exact e

/-- The sequence after layer 3. -/
theorem layer3 : kernelRun0_A.sl.r_43 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10
    = outV (loads arg2 harg2 arg3 harg3 arg4 harg4 arg5 harg5 arg6 harg6 arg7 harg7 arg8 harg8 arg9 harg9 arg10 harg10 arg11 harg11 x1 x2 x3 x4 x5 x6 x7 x8 x9 x10 3 (by decide)) (kernelRun0_A.sl.r_31 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10) := by
  unfold outV
  rw [← scan3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10]
  unfold kernelRun0_A.sl.r_43 kernelRun0_A.sl.r_42 kernelRun0_A.sl.r_38 kernelRun0_A.sl.r_36 kernelRun0_A.sl.r_35 kernelRun0_A.sl.r_34 kernelRun0_A.sl.r_33 kernelRun0_A.sl.r_32
  have e := KCut.out3 (loads arg2 harg2 arg3 harg3 arg4 harg4 arg5 harg5 arg6 harg6 arg7 harg7 arg8 harg8 arg9 harg9 arg10 harg10 arg11 harg11 x1 x2 x3 x4 x5 x6 x7 x8 x9 x10 3 (by decide)) (kernelRun0_A.sl.r_17 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10) (kernelRun0_A.sl.r_29 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10) (kernelRun0_A.sl.r_30 (F := Ideal) c arg11 harg11 x10) (kernelRun0_A.sl.v520 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10)
  dsimp only [loads] at e
  unfold loads
  exact e

/-- The states in layer 4. -/
theorem scan4 : kernelRun0_A.sl.v654 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10
    = scanV (decayV (loads arg2 harg2 arg3 harg3 arg4 harg4 arg5 harg5 arg6 harg6 arg7 harg7 arg8 harg8 arg9 harg9 arg10 harg10 arg11 harg11 x1 x2 x3 x4 x5 x6 x7 x8 x9 x10 4 (by decide)) (kernelRun0_A.sl.r_43 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10)) (inpV (loads arg2 harg2 arg3 harg3 arg4 harg4 arg5 harg5 arg6 harg6 arg7 harg7 arg8 harg8 arg9 harg9 arg10 harg10 arg11 harg11 x1 x2 x3 x4 x5 x6 x7 x8 x9 x10 4 (by decide)) (kernelRun0_A.sl.r_43 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10)) := by
  unfold kernelRun0_A.sl.v654
  refine scan (runs5 ..) rfl rfl ?_ rfl ?_
  · unfold kernelRun0_A.sl.r_48 kernelRun0_A.sl.r_46 kernelRun0_A.sl.r_44
    have e := KCut.decay4 (loads arg2 harg2 arg3 harg3 arg4 harg4 arg5 harg5 arg6 harg6 arg7 harg7 arg8 harg8 arg9 harg9 arg10 harg10 arg11 harg11 x1 x2 x3 x4 x5 x6 x7 x8 x9 x10 4 (by decide)) (kernelRun0_A.sl.r_31 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10) (kernelRun0_A.sl.r_33 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10) (kernelRun0_A.sl.r_36 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10) (kernelRun0_A.sl.v520 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10) (kernelRun0_A.sl.r_42 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10) (loads arg2 harg2 arg3 harg3 arg4 harg4 arg5 harg5 arg6 harg6 arg7 harg7 arg8 harg8 arg9 harg9 arg10 harg10 arg11 harg11 x1 x2 x3 x4 x5 x6 x7 x8 x9 x10 3 (by decide)).skip (loads arg2 harg2 arg3 harg3 arg4 harg4 arg5 harg5 arg6 harg6 arg7 harg7 arg8 harg8 arg9 harg9 arg10 harg10 arg11 harg11 x1 x2 x3 x4 x5 x6 x7 x8 x9 x10 3 (by decide)).outW
    dsimp only [loads] at e
    unfold loads
    exact e
  · unfold kernelRun0_A.sl.r_51 kernelRun0_A.sl.r_49 kernelRun0_A.sl.r_48 kernelRun0_A.sl.r_47 kernelRun0_A.sl.r_46 kernelRun0_A.sl.r_44
    have e := KCut.inp4 (loads arg2 harg2 arg3 harg3 arg4 harg4 arg5 harg5 arg6 harg6 arg7 harg7 arg8 harg8 arg9 harg9 arg10 harg10 arg11 harg11 x1 x2 x3 x4 x5 x6 x7 x8 x9 x10 4 (by decide)) (kernelRun0_A.sl.r_31 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10) (kernelRun0_A.sl.r_33 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10) (kernelRun0_A.sl.r_36 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10) (kernelRun0_A.sl.v520 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10) (kernelRun0_A.sl.r_42 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10) (loads arg2 harg2 arg3 harg3 arg4 harg4 arg5 harg5 arg6 harg6 arg7 harg7 arg8 harg8 arg9 harg9 arg10 harg10 arg11 harg11 x1 x2 x3 x4 x5 x6 x7 x8 x9 x10 3 (by decide)).skip (loads arg2 harg2 arg3 harg3 arg4 harg4 arg5 harg5 arg6 harg6 arg7 harg7 arg8 harg8 arg9 harg9 arg10 harg10 arg11 harg11 x1 x2 x3 x4 x5 x6 x7 x8 x9 x10 3 (by decide)).outW
    dsimp only [loads] at e
    unfold loads
    exact e

/-- The sequence after layer 4. -/
theorem layer4 : kernelRun0_A.sl.r_52 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10
    = outV (loads arg2 harg2 arg3 harg3 arg4 harg4 arg5 harg5 arg6 harg6 arg7 harg7 arg8 harg8 arg9 harg9 arg10 harg10 arg11 harg11 x1 x2 x3 x4 x5 x6 x7 x8 x9 x10 4 (by decide)) (kernelRun0_A.sl.r_43 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10) := by
  unfold outV
  rw [← scan4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10]
  unfold kernelRun0_A.sl.r_52 kernelRun0_A.sl.r_50 kernelRun0_A.sl.r_47 kernelRun0_A.sl.r_46 kernelRun0_A.sl.r_45 kernelRun0_A.sl.r_44
  have e := KCut.out4 (loads arg2 harg2 arg3 harg3 arg4 harg4 arg5 harg5 arg6 harg6 arg7 harg7 arg8 harg8 arg9 harg9 arg10 harg10 arg11 harg11 x1 x2 x3 x4 x5 x6 x7 x8 x9 x10 4 (by decide)) (kernelRun0_A.sl.r_31 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10) (kernelRun0_A.sl.r_33 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10) (kernelRun0_A.sl.r_36 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10) (kernelRun0_A.sl.v520 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10) (kernelRun0_A.sl.r_42 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10) (loads arg2 harg2 arg3 harg3 arg4 harg4 arg5 harg5 arg6 harg6 arg7 harg7 arg8 harg8 arg9 harg9 arg10 harg10 arg11 harg11 x1 x2 x3 x4 x5 x6 x7 x8 x9 x10 3 (by decide)).skip (loads arg2 harg2 arg3 harg3 arg4 harg4 arg5 harg5 arg6 harg6 arg7 harg7 arg8 harg8 arg9 harg9 arg10 harg10 arg11 harg11 x1 x2 x3 x4 x5 x6 x7 x8 x9 x10 3 (by decide)).outW (kernelRun0_A.sl.v654 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10)
  dsimp only [loads] at e
  unfold loads
  exact e

/-- The states in layer 5. -/
theorem scan5 : kernelRun0_A.sl.v788 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10
    = scanV (decayV (loads arg2 harg2 arg3 harg3 arg4 harg4 arg5 harg5 arg6 harg6 arg7 harg7 arg8 harg8 arg9 harg9 arg10 harg10 arg11 harg11 x1 x2 x3 x4 x5 x6 x7 x8 x9 x10 5 (by decide)) (kernelRun0_A.sl.r_52 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10)) (inpV (loads arg2 harg2 arg3 harg3 arg4 harg4 arg5 harg5 arg6 harg6 arg7 harg7 arg8 harg8 arg9 harg9 arg10 harg10 arg11 harg11 x1 x2 x3 x4 x5 x6 x7 x8 x9 x10 5 (by decide)) (kernelRun0_A.sl.r_52 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10)) := by
  unfold kernelRun0_A.sl.v788
  refine scan (runs6 ..) rfl rfl ?_ rfl ?_
  · unfold kernelRun0_A.sl.r_62 kernelRun0_A.sl.r_61 kernelRun0_A.sl.r_56 kernelRun0_A.sl.r_54 kernelRun0_A.sl.r_53
    have e := KCut.decay5 (loads arg2 harg2 arg3 harg3 arg4 harg4 arg5 harg5 arg6 harg6 arg7 harg7 arg8 harg8 arg9 harg9 arg10 harg10 arg11 harg11 x1 x2 x3 x4 x5 x6 x7 x8 x9 x10 5 (by decide)) (kernelRun0_A.sl.r_43 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10) (kernelRun0_A.sl.r_45 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10) (kernelRun0_A.sl.r_47 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10) (kernelRun0_A.sl.r_50 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10) (kernelRun0_A.sl.v654 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10) (loads arg2 harg2 arg3 harg3 arg4 harg4 arg5 harg5 arg6 harg6 arg7 harg7 arg8 harg8 arg9 harg9 arg10 harg10 arg11 harg11 x1 x2 x3 x4 x5 x6 x7 x8 x9 x10 4 (by decide)).skip (loads arg2 harg2 arg3 harg3 arg4 harg4 arg5 harg5 arg6 harg6 arg7 harg7 arg8 harg8 arg9 harg9 arg10 harg10 arg11 harg11 x1 x2 x3 x4 x5 x6 x7 x8 x9 x10 4 (by decide)).outW
    dsimp only [loads] at e
    unfold loads
    exact e
  · unfold kernelRun0_A.sl.r_60 kernelRun0_A.sl.r_58 kernelRun0_A.sl.r_57 kernelRun0_A.sl.r_56 kernelRun0_A.sl.r_54 kernelRun0_A.sl.r_53
    have e := KCut.inp5 (loads arg2 harg2 arg3 harg3 arg4 harg4 arg5 harg5 arg6 harg6 arg7 harg7 arg8 harg8 arg9 harg9 arg10 harg10 arg11 harg11 x1 x2 x3 x4 x5 x6 x7 x8 x9 x10 5 (by decide)) (kernelRun0_A.sl.r_43 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10) (kernelRun0_A.sl.r_45 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10) (kernelRun0_A.sl.r_47 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10) (kernelRun0_A.sl.r_50 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10) (kernelRun0_A.sl.v654 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10) (loads arg2 harg2 arg3 harg3 arg4 harg4 arg5 harg5 arg6 harg6 arg7 harg7 arg8 harg8 arg9 harg9 arg10 harg10 arg11 harg11 x1 x2 x3 x4 x5 x6 x7 x8 x9 x10 4 (by decide)).skip (loads arg2 harg2 arg3 harg3 arg4 harg4 arg5 harg5 arg6 harg6 arg7 harg7 arg8 harg8 arg9 harg9 arg10 harg10 arg11 harg11 x1 x2 x3 x4 x5 x6 x7 x8 x9 x10 4 (by decide)).outW
    dsimp only [loads] at e
    unfold loads
    exact e

/-- The sequence after layer 5. -/
theorem layer5 : kernelRun0_A.sl.r_63 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10
    = outV (loads arg2 harg2 arg3 harg3 arg4 harg4 arg5 harg5 arg6 harg6 arg7 harg7 arg8 harg8 arg9 harg9 arg10 harg10 arg11 harg11 x1 x2 x3 x4 x5 x6 x7 x8 x9 x10 5 (by decide)) (kernelRun0_A.sl.r_52 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10) := by
  unfold outV
  rw [← scan5 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10]
  unfold kernelRun0_A.sl.r_63 kernelRun0_A.sl.r_59 kernelRun0_A.sl.r_57 kernelRun0_A.sl.r_56 kernelRun0_A.sl.r_55 kernelRun0_A.sl.r_54 kernelRun0_A.sl.r_53
  have e := KCut.out5 (loads arg2 harg2 arg3 harg3 arg4 harg4 arg5 harg5 arg6 harg6 arg7 harg7 arg8 harg8 arg9 harg9 arg10 harg10 arg11 harg11 x1 x2 x3 x4 x5 x6 x7 x8 x9 x10 5 (by decide)) (kernelRun0_A.sl.r_43 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10) (kernelRun0_A.sl.r_45 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10) (kernelRun0_A.sl.r_47 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10) (kernelRun0_A.sl.r_50 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10) (kernelRun0_A.sl.v654 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10) (loads arg2 harg2 arg3 harg3 arg4 harg4 arg5 harg5 arg6 harg6 arg7 harg7 arg8 harg8 arg9 harg9 arg10 harg10 arg11 harg11 x1 x2 x3 x4 x5 x6 x7 x8 x9 x10 4 (by decide)).skip (loads arg2 harg2 arg3 harg3 arg4 harg4 arg5 harg5 arg6 harg6 arg7 harg7 arg8 harg8 arg9 harg9 arg10 harg10 arg11 harg11 x1 x2 x3 x4 x5 x6 x7 x8 x9 x10 4 (by decide)).outW (kernelRun0_A.sl.v788 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10)
  dsimp only [loads] at e
  unfold loads
  exact e

end Cert.KWords
-- ==== Proof.KernelHead.lean ====
module

public import proofs.«01_k».proof.Proof.KernelLayer
public import Idealize.ShloMosaic.Lib.WordArith.Masks

@[expose] public section

set_option maxRecDepth 16384

/-!
# The head as the kernel computes it

The kernel's last vector, read at an index: the head's result on the sequence after the last layer.
-/

noncomputable section

namespace Cert.KHead

open Cert.MambaIdeal Cert.MambaIdeal.Gen Idealize.ShloMosaic Cert.Spec Cert.KLayer

/-- The scores before their last summand. -/
theorem scores_at {x : Vc S256x256} {X : Steps} (hx : ∀ t k, x (ix2 t k) = X t k) {nf : Vc S1x256} {w1 : Vc S256x64} {b1 w2 : Vc S1x64} {H : Head}
    (hnf : ∀ k, nf (ix2 0 k) = H.nf k) (hw1 : ∀ q k, w1 (ix2 k q) = H.w1 q k) (hb1 : ∀ q, b1 (ix2 0 q) = H.b1 q) (hw2 : ∀ q, w2 (ix2 0 q) = H.w2 q)
    (t : Fin 256) : k0_pay114 x nf w1 b1 w2 (ix2 t 0) = ∑ q, gelu (H.hid X t q) * H.w2 q := by
  unfold k0_pay114; pointwise
  simp only [hx, hnf, hw1, hb1, hw2]; rfl

/-- The last vector of the kernel. -/
theorem result_at {x : Vc S256x256} {X : Steps} (hx : ∀ t k, x (ix2 t k) = X t k) {nf : Vc S1x256} {w1 : Vc S256x64} {b1 w2 : Vc S1x64} {b2 : Vc S1x1} {H : Head}
    (hnf : ∀ k, nf (ix2 0 k) = H.nf k) (hw1 : ∀ q k, w1 (ix2 k q) = H.w1 q k) (hb1 : ∀ q, b1 (ix2 0 q) = H.b1 q) (hw2 : ∀ q, w2 (ix2 0 q) = H.w2 q)
    (hb2 : b2 (ix2 0 0) = H.b2) (t : Fin 256) : k0_pay1 (k0_pay114 x nf w1 b1 w2) (k0_pay115 b2) (ix3 0 0 t) = H.result X t := by
  have hs := scores_at hx hnf hw1 hb1 hw2
  generalize k0_pay114 x nf w1 b1 w2 = s at hs
  unfold k0_pay1 k0_pay115; pointwise
  simp only [hs, hb2]
  unfold Head.result Head.weight Head.top
  by_cases ht : t = 0
  · subst ht
    rw [if_pos rfl]; rfl
  · rw [if_neg ht]
    have hne : ¬ BitVec.ofNat 32 t.val = 0#32 := fun e => ht (Fin.ext (by
      have := congrArg BitVec.toNat e
      rw [BitVec.toNat_ofNat, Nat.mod_eq_of_lt (by omega)] at this
      exact this))
    rw [show IntOp.cmpi CmpIPredicate.eq (BitVec.ofNat 32 t.val) 0#32 = 0#1 by
      show BitVec.ofBool (BitVec.ofNat 32 t.val == 0#32) = 0#1
      rw [beq_eq_false_iff_ne.mpr hne]; rfl]
    rfl

end Cert.KHead
-- ==== Proof.KernelPoint.lean ====
module

public import proofs.«01_k».proof.Proof.KernelWords
public import proofs.«01_k».proof.Proof.KernelHead
public import Idealize.ShloMosaic.Lib.Pipeline.ValueKit

@[expose] public section

set_option maxRecDepth 16384

/-!
# One grid point of the kernel

What one grid point leaves in the output's buffer: the network's result for the sequence of that point.
-/

noncomputable section

namespace Cert.KPoint

open Cert.MambaIdeal Cert.MambaIdeal.Gen Idealize.ShloMosaic Cert.Spec Cert.KLayer Cert.KScan Cert.KWords

/-- Two zero offsets. -/
theorem zero2 : (![0, 0] : Fin 2 → ℕ) = 0 := by decide
/-- Three zero offsets. -/
theorem zero3 : (![0, 0, 0] : Fin 3 → ℕ) = 0 := by decide

/-- The head's weights as the kernel's blocks hold them. -/
def head (x11 : Vc S1x256) (x12 : Vc S256x64) (x13 x14 : Vc S1x64) (x15 : Vc S1x1) : Head where
  nf k := x11 (ix2 0 k)
  w1 q k := x12 (ix2 k q)
  b1 q := x13 (ix2 0 q)
  w2 q := x14 (ix2 0 q)
  b2 := x15 (ix2 0 0)

/-- The loaded sequence at an index. -/
theorem start_at (arg1 : Memref sig .tc .vmem S1x256x256 .f32) (harg1 : arg1.IsWhole) (x0 : Vc S1x256x256) (t k : Fin 256) :
    start arg1 harg1 x0 (ix2 t k) = x0 (ix3 0 t k) := by
  show k0_pay2 _ _ = _
  unfold k0_pay2
  simp only [View.readAt_eq_ld, harg1.read_unread, View.ld_unit_zero (S := S1x256x256) zero3]
  pointwise

variable (c : Dev nD) (i : grid0.Coords)
  (arg1 : Memref sig .tc .vmem S1x256x256 .f32) (harg1 : arg1.IsWhole)
  (arg2 : Memref sig .tc .vmem S6x256 .f32) (harg2 : arg2.IsWhole)
  (arg3 : Memref sig .tc .vmem S6x256x1024 .f32) (harg3 : arg3.IsWhole)
  (arg4 : Memref sig .tc .vmem S6x4x512 .f32) (harg4 : arg4.IsWhole)
  (arg5 : Memref sig .tc .vmem S6x512 .f32) (harg5 : arg5.IsWhole)
  (arg6 : Memref sig .tc .vmem S6x512x48 .f32) (harg6 : arg6.IsWhole)
  (arg7 : Memref sig .tc .vmem S6x16x512 .f32) (harg7 : arg7.IsWhole)
  (arg8 : Memref sig .tc .vmem S6x512 .f32) (harg8 : arg8.IsWhole)
  (arg9 : Memref sig .tc .vmem S6x16x512 .f32) (harg9 : arg9.IsWhole)
  (arg10 : Memref sig .tc .vmem S6x512 .f32) (harg10 : arg10.IsWhole)
  (arg11 : Memref sig .tc .vmem S6x512x256 .f32) (harg11 : arg11.IsWhole)
  (arg12 : Memref sig .tc .vmem S1x256 .f32) (harg12 : arg12.IsWhole)
  (arg13 : Memref sig .tc .vmem S256x64 .f32) (harg13 : arg13.IsWhole)
  (arg14 : Memref sig .tc .vmem S1x64 .f32) (harg14 : arg14.IsWhole)
  (arg15 : Memref sig .tc .vmem S1x64 .f32) (harg15 : arg15.IsWhole)
  (arg16 : Memref sig .tc .vmem S1x1 .f32) (harg16 : arg16.IsWhole)
  (arg17 : Memref sig .tc .vmem S1x1x256 .f32) (harg17 : arg17.IsWhole)
  (arg18 : Memref sig .tc .vmem S256x16x512 .f32) (harg18 : arg18.IsWhole)
  (arg19 : Memref sig .tc .vmem S256x16x512 .f32) (harg19 : arg19.IsWhole)
  (x0 : Vc S1x256x256)  (x1 : Vc S6x256)  (x2 : Vc S6x256x1024)  (x3 : Vc S6x4x512)  (x4 : Vc S6x512)  (x5 : Vc S6x512x48)  (x6 : Vc S6x16x512)  (x7 : Vc S6x512)  (x8 : Vc S6x16x512)  (x9 : Vc S6x512)  (x10 : Vc S6x512x256) (x11 : Vc S1x256) (x12 : Vc S256x64) (x13 : Vc S1x64) (x14 : Vc S1x64) (x15 : Vc S1x1)

/-- The sequence after the last layer. -/
theorem layers_at (t j : Fin 256) : (kernelRun0_A.sl.r_63 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10) (ix2 t j)
    = layers (weights x1 x2 x3 x4 x5 x6 x7 x8 x9 x10) (fun t k => x0 (ix3 0 t k)) t j := by
  have h0 := start_at arg1 harg1 x0
  have h1 := out_at (loads_are arg2 harg2 arg3 harg3 arg4 harg4 arg5 harg5 arg6 harg6 arg7 harg7 arg8 harg8 arg9 harg9 arg10 harg10 arg11 harg11 x1 x2 x3 x4 x5 x6 x7 x8 x9 x10 0) h0
  rw [show outV (loads arg2 harg2 arg3 harg3 arg4 harg4 arg5 harg5 arg6 harg6 arg7 harg7 arg8 harg8 arg9 harg9 arg10 harg10 arg11 harg11 x1 x2 x3 x4 x5 x6 x7 x8 x9 x10 ((0 : Fin 6).val) _) _ = _ from (layer0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10).symm] at h1
  have h2 := out_at (loads_are arg2 harg2 arg3 harg3 arg4 harg4 arg5 harg5 arg6 harg6 arg7 harg7 arg8 harg8 arg9 harg9 arg10 harg10 arg11 harg11 x1 x2 x3 x4 x5 x6 x7 x8 x9 x10 1) h1
  rw [show outV (loads arg2 harg2 arg3 harg3 arg4 harg4 arg5 harg5 arg6 harg6 arg7 harg7 arg8 harg8 arg9 harg9 arg10 harg10 arg11 harg11 x1 x2 x3 x4 x5 x6 x7 x8 x9 x10 ((1 : Fin 6).val) _) _ = _ from (layer1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10).symm] at h2
  have h3 := out_at (loads_are arg2 harg2 arg3 harg3 arg4 harg4 arg5 harg5 arg6 harg6 arg7 harg7 arg8 harg8 arg9 harg9 arg10 harg10 arg11 harg11 x1 x2 x3 x4 x5 x6 x7 x8 x9 x10 2) h2
  rw [show outV (loads arg2 harg2 arg3 harg3 arg4 harg4 arg5 harg5 arg6 harg6 arg7 harg7 arg8 harg8 arg9 harg9 arg10 harg10 arg11 harg11 x1 x2 x3 x4 x5 x6 x7 x8 x9 x10 ((2 : Fin 6).val) _) _ = _ from (layer2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10).symm] at h3
  have h4 := out_at (loads_are arg2 harg2 arg3 harg3 arg4 harg4 arg5 harg5 arg6 harg6 arg7 harg7 arg8 harg8 arg9 harg9 arg10 harg10 arg11 harg11 x1 x2 x3 x4 x5 x6 x7 x8 x9 x10 3) h3
  rw [show outV (loads arg2 harg2 arg3 harg3 arg4 harg4 arg5 harg5 arg6 harg6 arg7 harg7 arg8 harg8 arg9 harg9 arg10 harg10 arg11 harg11 x1 x2 x3 x4 x5 x6 x7 x8 x9 x10 ((3 : Fin 6).val) _) _ = _ from (layer3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10).symm] at h4
  have h5 := out_at (loads_are arg2 harg2 arg3 harg3 arg4 harg4 arg5 harg5 arg6 harg6 arg7 harg7 arg8 harg8 arg9 harg9 arg10 harg10 arg11 harg11 x1 x2 x3 x4 x5 x6 x7 x8 x9 x10 4) h4
  rw [show outV (loads arg2 harg2 arg3 harg3 arg4 harg4 arg5 harg5 arg6 harg6 arg7 harg7 arg8 harg8 arg9 harg9 arg10 harg10 arg11 harg11 x1 x2 x3 x4 x5 x6 x7 x8 x9 x10 ((4 : Fin 6).val) _) _ = _ from (layer4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10).symm] at h5
  have h6 := out_at (loads_are arg2 harg2 arg3 harg3 arg4 harg4 arg5 harg5 arg6 harg6 arg7 harg7 arg8 harg8 arg9 harg9 arg10 harg10 arg11 harg11 x1 x2 x3 x4 x5 x6 x7 x8 x9 x10 5) h5
  rw [show outV (loads arg2 harg2 arg3 harg3 arg4 harg4 arg5 harg5 arg6 harg6 arg7 harg7 arg8 harg8 arg9 harg9 arg10 harg10 arg11 harg11 x1 x2 x3 x4 x5 x6 x7 x8 x9 x10 ((5 : Fin 6).val) _) _ = _ from (layer5 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10).symm] at h6
  exact h6 t j

/-- The output's buffer after the point. -/
theorem out_point (t : Fin 256) : out0_A_16 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 x13 x14 x15 (ix3 0 0 t)
    = net (weights x1 x2 x3 x4 x5 x6 x7 x8 x9 x10) (head x11 x12 x13 x14 x15) (fun t k => x0 (ix3 0 t k)) t := by
  have hr := KHead.result_at (layers_at c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10) (nf := x11) (w1 := x12) (b1 := x13) (w2 := x14) (b2 := x15) (H := head x11 x12 x13 x14 x15) (fun _ => rfl) (fun _ _ => rfl) (fun _ => rfl) (fun _ => rfl) rfl t
  unfold net
  refine Eq.trans ?_ hr
  refine congrFun ?_ (ix3 0 0 t)
  unfold out0_A_16
  rw [View.read_writes_eq_canon _ _ _ (cover0_A_16 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 x13 x14 x15)]
  unfold kernelRun0_A
  dsimp only
  rw [View.canon_unit_zero (S := S1x1x256) zero3]
  unfold kernelRun0_A.sl.r_64 kernelRun0_A.sl.r_65
  simp only [View.readAt_eq_ld, harg12.read_unread, harg13.read_unread, harg14.read_unread, harg15.read_unread, harg16.read_unread,
    View.ld_unit_zero (S := S1x256) zero2, View.ld_unit_zero (S := S256x64) zero2, View.ld_unit_zero (S := S1x64) zero2, View.ld_unit_zero (S := S1x1) zero2]

end Cert.KPoint
-- ==== Proof.Args.lean ====
module

public import proofs.«01_k».proof.Proof.Spec

@[expose] public section

/-!
# The arguments as weights

The sixteen arguments, read as the sequences, the six layers' weights and the head's weights.
-/

noncomputable section

namespace Cert.Args

open Idealize.ShloMosaic Cert.Spec

/-- An argument of the given shape. -/
abbrev Arr (s : Shape) := FVec Ideal s .f32

/-- The sixteen arguments. -/
structure Arrays where
  a0 : Arr ⟨2, ![256, 2048]⟩
  a1 : Arr ⟨2, ![6, 256]⟩
  a2 : Arr ⟨3, ![6, 1024, 256]⟩
  a3 : Arr ⟨3, ![6, 512, 4]⟩
  a4 : Arr ⟨2, ![6, 512]⟩
  a5 : Arr ⟨3, ![6, 48, 512]⟩
  a6 : Arr ⟨3, ![6, 512, 16]⟩
  a7 : Arr ⟨2, ![6, 512]⟩
  a8 : Arr ⟨3, ![6, 512, 16]⟩
  a9 : Arr ⟨2, ![6, 512]⟩
  a10 : Arr ⟨3, ![6, 256, 512]⟩
  a11 : Arr ⟨1, ![256]⟩
  a12 : Arr ⟨2, ![64, 256]⟩
  a13 : Arr ⟨1, ![64]⟩
  a14 : Arr ⟨2, ![1, 64]⟩
  a15 : Arr ⟨1, ![1]⟩

namespace Arrays

variable (A : Arrays)

/-- The weights of one layer. -/
def layer (l : Fin 6) : Layer where
  nw k := A.a1 (ix2 l k)
  inW j k := A.a2 (ix3 l j k)
  cw d r := A.a3 (ix3 l d r)
  cb d := A.a4 (ix2 l d)
  xW j d := A.a5 (ix3 l j d)
  dW d r := A.a6 (ix3 l d r)
  db d := A.a7 (ix2 l d)
  alog d n := A.a8 (ix3 l d n)
  skip d := A.a9 (ix2 l d)
  outW j d := A.a10 (ix3 l j d)

/-- The weights of the head. -/
def head : Head where
  nf k := A.a11 (ix1 k)
  w1 q k := A.a12 (ix2 q k)
  b1 q := A.a13 (ix1 q)
  w2 q := A.a14 (ix2 0 q)
  b2 := A.a15 (ix1 0)

/-- The size of the first argument is that of eight sequences. -/
theorem casts : (⟨2, ![256, 2048]⟩ : Shape).ShapeCasts ⟨3, ![8, 256, 256]⟩ := by decide

/-- The eight sequences. -/
def seq (e : Fin 8) : Steps := fun t k => shapeCast (⟨3, ![8, 256, 256]⟩ : Shape) A.a0 casts (ix3 e t k)

/-- The result for one sequence. -/
def result (e : Fin 8) (t : Fin 256) : EReal := net A.layer A.head (A.seq e) t

end Arrays

end Cert.Args
-- ==== Proof.Line.lean ====
module

public import Idealize.ShloMosaic.Lib.StableHlo.RunLoop

/-!
Reading a straight line of host operations in which no buffer is written twice or read before it is written:
at the end of such a line every operation's equation holds of the final contents.
-/

@[expose] public section

noncomputable section

namespace Cert.Line

open Idealize Idealize.ShloMosaic Idealize.ShloMosaic.StableHlo

variable {τ : Topo} {sig : RefSig} {F : FTy → Type}

/-- A TensorCore reference as a buffer of the device. -/
abbrev dr (r : Ref sig .tc) : DevRef τ sig := Proc.devRef .tc r

variable (τ sig F) in
/-- A host operation with the references it reads, the one it writes, and that its result depends on those it reads. -/
structure Op where
  /-- The operation. -/
  op : HloOp τ sig (Elt F)
  /-- What it reads. -/
  reads : List (Ref sig .tc)
  /-- What it writes. -/
  write : Ref sig .tc
  /-- It writes that reference only. -/
  writes_eq : op.writes = {dr write}
  /-- It touches TensorCore references only. -/
  bufs_sub : op.bufs ⊆ tcRefs τ sig
  /-- It allocates nothing. -/
  fresh_eq : op.fresh = ∅
  /-- Its result depends on what it reads. -/
  congr : ∀ V W : Valuation τ sig (Elt F), (∀ r ∈ reads, V (dr r) = W (dr r)) → op.result V (dr write) = op.result W (dr write)

/-- The operations of a list. -/
abbrev ops (l : List (Op τ sig F)) : List (HloOp τ sig (Elt F)) := l.map Op.op

/-- The references a list reads and writes, in order. -/
abbrev shape (l : List (Op τ sig F)) : List (List (Ref sig .tc) × Ref sig .tc) := l.map fun o => (o.reads, o.write)

/-- No operation reads what it writes, and none writes what it or an earlier operation touches. -/
def once : List (List (Ref sig .tc) × Ref sig .tc) → Bool
  | [] => true
  | o :: rest => decide (o.2 ∉ o.1) && (rest.all fun p => decide (p.2 ∉ o.2 :: o.1)) && once rest

/-- The list does not write the reference. -/
def spares (l : List (List (Ref sig .tc) × Ref sig .tc)) (r : Ref sig .tc) : Bool := l.all fun p => decide (p.2 ≠ r)

/-- The operation's equation holds of these contents. -/
def Op.Holds (o : Op τ sig F) (W : Valuation τ sig (Elt F)) : Prop := W (dr o.write) = o.op.result W (dr o.write)

theorem ops_plain (l : List (Op τ sig F)) : Plain [ops l] := fun o ho => by
  obtain rfl := List.mem_singleton.mp ho
  refine ⟨fun op h => ?_, fun op h => ?_⟩ <;> obtain ⟨o, -, rfl⟩ := List.mem_map.mp h
  exacts [o.bufs_sub, o.fresh_eq]

theorem Op.result_ne (o : Op τ sig F) (V : Valuation τ sig (Elt F)) {r : Ref sig .tc} (h : o.write ≠ r) :
    o.op.result V (dr r) = V (dr r) :=
  HloOp.result_of_not_mem _ _ (by rw [o.writes_eq, Finset.mem_singleton]; exact devRef_ne_of_ne (Ne.symm h))

/-- A reference a list does not write keeps its contents. -/
theorem after_spares : ∀ (l : List (Op τ sig F)) (V : Valuation τ sig (Elt F)) (r : Ref sig .tc), spares (shape l) r = true →
    after (ops l) V (dr r) = V (dr r)
  | [], _, _, _ => rfl
  | o :: l, V, r, h => by
    simp only [spares, shape, List.map_cons, List.all_cons, Bool.and_eq_true, decide_eq_true_eq] at h
    rw [ops, List.map_cons, after_cons]
    exact (after_spares l _ r h.2).trans (o.result_ne V h.1)

/-- After a list that writes nothing twice and nothing after it was read, every operation's equation holds. -/
theorem holds_after : ∀ (l : List (Op τ sig F)) (V : Valuation τ sig (Elt F)), once (shape l) = true →
    ∀ o ∈ l, o.Holds (after (ops l) V)
  | [], _, _, _, h => nomatch h
  | o :: l, V, h, p, hp => by
    simp only [once, shape, List.map_cons, Bool.and_eq_true, decide_eq_true_eq] at h
    obtain ⟨⟨h1, h2⟩, h3⟩ := h
    have hsp : ∀ r ∈ o.write :: o.reads, spares (shape l) r = true := fun r hr => by
      simp only [spares, List.all_eq_true, decide_eq_true_eq] at h2 ⊢
      exact fun q hq e => h2 q hq (e ▸ hr)
    rw [ops, List.map_cons, after_cons]
    rcases List.mem_cons.mp hp with rfl | hp
    · show after (ops l) (p.op.result V) (dr p.write) = _
      rw [after_spares l _ _ (hsp _ List.mem_cons_self)]
      refine p.congr _ _ fun r hr => ?_
      refine Eq.symm ((after_spares l (p.op.result V) r (hsp r (List.mem_cons_of_mem _ hr))).trans (p.result_ne V ?_))
      rintro rfl
      exact h1 hr
    · exact holds_after l _ h3 p hp

/-- The contents of a typed reference. -/
def val {T : BufTy} (W : Valuation τ sig (Elt F)) (x : TRef sig T) : T.Contents (Elt F) := x.ofBuf (W (dr x.ref))

theorem val_of (W : Valuation τ sig (Elt F)) (r : Ref sig .tc) (h1 h2) :
    val W (⟨r, rfl, h1, h2⟩ : TRef sig r.ty) = W (dr r) := rfl

theorem val_congr {T : BufTy} {V W : Valuation τ sig (Elt F)} {x : TRef sig T} (h : V (dr x.ref) = W (dr x.ref)) : val V x = val W x :=
  congrArg x.ofBuf h

theorem val_spares {T : BufTy} (l : List (Op τ sig F)) (V : Valuation τ sig (Elt F)) (x : TRef sig T) (h : spares (shape l) x.ref = true) :
    val (after (ops l) V) x = val V x := val_congr (after_spares l V x.ref h)

theorem ofBuf_iff {T : BufTy} (y : TRef sig T) (u : y.ref.ty.Contents (Elt F)) (v : T.Contents (Elt F)) :
    u = y.toBuf v ↔ y.ofBuf u = v := by
  obtain ⟨r, h, _, _⟩ := y
  subst h
  exact Iff.rfl

variable {T Tx Ta Tb Tc Ty : BufTy}

section Builders

/-- A constant. -/
def nullary (y : TRef sig Ty) (v : Ty.Contents (Elt F)) : Op τ sig F where
  op := TRef.nullary y v
  reads := []
  write := y.ref
  writes_eq := rfl
  bufs_sub := nullary_bufs_sub ..
  fresh_eq := rfl
  congr V W _ := by rw [nullary_result, nullary_result]

/-- An operation of one operand. -/
def unary (x : TRef sig Tx) (y : TRef sig Ty) (f : Tx.Contents (Elt F) → Ty.Contents (Elt F)) : Op τ sig F where
  op := TRef.unary x y f
  reads := [x.ref]
  write := y.ref
  writes_eq := rfl
  bufs_sub := unary_bufs_sub ..
  fresh_eq := rfl
  congr V W h := by rw [unary_result, unary_result, h x.ref (by simp)]

/-- An operation of two operands. -/
def binary (a : TRef sig Ta) (b : TRef sig Tb) (y : TRef sig Ty)
    (f : Ta.Contents (Elt F) → Tb.Contents (Elt F) → Ty.Contents (Elt F)) : Op τ sig F where
  op := TRef.binary a b y f
  reads := [a.ref, b.ref]
  write := y.ref
  writes_eq := rfl
  bufs_sub := binary_bufs_sub ..
  fresh_eq := rfl
  congr V W h := by rw [binary_result, binary_result, h a.ref (by simp), h b.ref (by simp)]

/-- An operation of three operands. -/
def ternary (c : TRef sig Tc) (a : TRef sig Ta) (b : TRef sig Tb) (y : TRef sig Ty)
    (f : Tc.Contents (Elt F) → Ta.Contents (Elt F) → Tb.Contents (Elt F) → Ty.Contents (Elt F)) : Op τ sig F where
  op := TRef.ternary c a b y f
  reads := [c.ref, a.ref, b.ref]
  write := y.ref
  writes_eq := rfl
  bufs_sub := ternary_bufs_sub ..
  fresh_eq := rfl
  congr V W h := by
    rw [ternary_result, ternary_result, h c.ref (by simp), h a.ref (by simp), h b.ref (by simp)]

/-- A reshape. -/
def reshape (x : TRef sig Tx) (y : TRef sig Ty) (he : Tx.elt = Ty.elt) (hn : Tx.shape.ShapeCasts Ty.shape) : Op τ sig F where
  op := TRef.reshape x y he hn
  reads := [x.ref]
  write := y.ref
  writes_eq := rfl
  bufs_sub := reshape_bufs_sub ..
  fresh_eq := rfl
  congr V W h := by rw [reshape_result, reshape_result, h x.ref (by simp)]

/-- An operation of one operand and index operands. -/
def unaryIndexed (a : TRef sig Ta) {n : Nat} (ix : Fin n → TRef sig T) (y : TRef sig Ty)
    (f : Ta.Contents (Elt F) → (Fin n → T.Contents (Elt F)) → Ty.Contents (Elt F)) : Op τ sig F where
  op := TRef.unaryIndexed a ix y f
  reads := a.ref :: List.ofFn fun k => (ix k).ref
  write := y.ref
  writes_eq := rfl
  bufs_sub := unaryIndexed_bufs_sub ..
  fresh_eq := rfl
  congr V W h := by
    rw [unaryIndexed_result, unaryIndexed_result, h a.ref (by simp)]
    congr 2
    funext k
    rw [h (ix k).ref (by simp)]

/-- An operation of two operands and index operands. -/
def binaryIndexed (a : TRef sig Ta) (b : TRef sig Tb) {n : Nat} (ix : Fin n → TRef sig T) (y : TRef sig Ty)
    (f : Ta.Contents (Elt F) → Tb.Contents (Elt F) → (Fin n → T.Contents (Elt F)) → Ty.Contents (Elt F)) : Op τ sig F where
  op := TRef.binaryIndexed a b ix y f
  reads := a.ref :: b.ref :: List.ofFn fun k => (ix k).ref
  write := y.ref
  writes_eq := rfl
  bufs_sub := binaryIndexed_bufs_sub ..
  fresh_eq := rfl
  congr V W h := by
    rw [binaryIndexed_result, binaryIndexed_result, h a.ref (by simp), h b.ref (by simp)]
    congr 2
    funext k
    rw [h (ix k).ref (by simp)]

variable (W : Valuation τ sig (Elt F))

theorem holds_nullary (y : TRef sig Ty) (v : Ty.Contents (Elt F)) : (nullary y v).Holds W ↔ val W y = v := by
  show W (dr y.ref) = (TRef.nullary y v).result W (dr y.ref) ↔ _
  rw [nullary_result]; exact ofBuf_iff y _ _

theorem holds_unary (x : TRef sig Tx) (y : TRef sig Ty) (f : Tx.Contents (Elt F) → Ty.Contents (Elt F)) :
    (unary x y f).Holds W ↔ val W y = f (val W x) := by
  show W (dr y.ref) = (TRef.unary x y f).result W (dr y.ref) ↔ _
  rw [unary_result]; exact ofBuf_iff y _ _

theorem holds_binary (a : TRef sig Ta) (b : TRef sig Tb) (y : TRef sig Ty)
    (f : Ta.Contents (Elt F) → Tb.Contents (Elt F) → Ty.Contents (Elt F)) :
    (binary a b y f).Holds W ↔ val W y = f (val W a) (val W b) := by
  show W (dr y.ref) = (TRef.binary a b y f).result W (dr y.ref) ↔ _
  rw [binary_result]; exact ofBuf_iff y _ _

theorem holds_ternary (c : TRef sig Tc) (a : TRef sig Ta) (b : TRef sig Tb) (y : TRef sig Ty)
    (f : Tc.Contents (Elt F) → Ta.Contents (Elt F) → Tb.Contents (Elt F) → Ty.Contents (Elt F)) :
    (ternary c a b y f).Holds W ↔ val W y = f (val W c) (val W a) (val W b) := by
  show W (dr y.ref) = (TRef.ternary c a b y f).result W (dr y.ref) ↔ _
  rw [ternary_result]; exact ofBuf_iff y _ _

theorem holds_reshape (x : TRef sig Tx) (y : TRef sig Ty) (he : Tx.elt = Ty.elt) (hn : Tx.shape.ShapeCasts Ty.shape) :
    (reshape x y he hn).Holds W ↔ val W y = fun i => he ▸ shapeCast Ty.shape (val W x) hn i := by
  show W (dr y.ref) = (TRef.reshape x y he hn).result W (dr y.ref) ↔ _
  rw [reshape_result]
  obtain ⟨ry, hy, _, _⟩ := y
  obtain ⟨rx, hx, _, _⟩ := x
  subst hy hx
  exact Iff.rfl

theorem holds_unaryIndexed (a : TRef sig Ta) {n : Nat} (ix : Fin n → TRef sig T) (y : TRef sig Ty)
    (f : Ta.Contents (Elt F) → (Fin n → T.Contents (Elt F)) → Ty.Contents (Elt F)) :
    (unaryIndexed a ix y f).Holds W ↔ val W y = f (val W a) (fun k => val W (ix k)) := by
  show W (dr y.ref) = (TRef.unaryIndexed a ix y f).result W (dr y.ref) ↔ _
  rw [unaryIndexed_result]; exact ofBuf_iff y _ _

theorem holds_binaryIndexed (a : TRef sig Ta) (b : TRef sig Tb) {n : Nat} (ix : Fin n → TRef sig T) (y : TRef sig Ty)
    (f : Ta.Contents (Elt F) → Tb.Contents (Elt F) → (Fin n → T.Contents (Elt F)) → Ty.Contents (Elt F)) :
    (binaryIndexed a b ix y f).Holds W ↔ val W y = f (val W a) (val W b) (fun k => val W (ix k)) := by
  show W (dr y.ref) = (TRef.binaryIndexed a b ix y f).result W (dr y.ref) ↔ _
  rw [binaryIndexed_result]; exact ofBuf_iff y _ _

end Builders

end Cert.Line
-- ==== Proof.KernelValue.lean ====
module

public import proofs.«01_k».proof.Proof.KernelPoint
public import proofs.«01_k».proof.Proof.Args
public import proofs.«01_k».proof.Proof.Line
public import proofs.«01_k».proof.Proof.Gen.MambaIdeal.Value

@[expose] public section

set_option maxRecDepth 16384

/-!
# The kernel's result array

The kernel's windows hold the prepared arguments, so its result array is the network's result on the arguments.
-/

noncomputable section

namespace Cert.KValue

open Cert.MambaIdeal Cert.MambaIdeal.Gen Idealize.ShloMosaic Idealize.ShloMosaic.TcCoe Cert.Spec Cert.Args Cert.KLayer

/-- The preparation of the arguments. -/
def prepOps : List (Line.Op τ sig Ideal) :=
  [ Line.reshape (.of main_arg0) (.of main_v0) (rfl : (.f32 : EltTy) = .f32) shapeCasts_S256x2048_S2048x256,
    Line.reshape (.of main_v0) (.of main_v1) (rfl : (.f32 : EltTy) = .f32) shapeCasts_S2048x256_S8x256x256,
    Line.unary (.of main_arg2) (.of main_v2) ((transpose S6x256x1024 [0, 2, 1] · transposes_S6x1024x256_S6x256x1024_0_2_1) : (⟨S6x1024x256, .f32⟩ : BufTy).Contents (Elt Ideal) → (⟨S6x256x1024, .f32⟩ : BufTy).Contents (Elt Ideal)),
    Line.unary (.of main_arg3) (.of main_v3) ((transpose S6x4x512 [0, 2, 1] · transposes_S6x512x4_S6x4x512_0_2_1) : (⟨S6x512x4, .f32⟩ : BufTy).Contents (Elt Ideal) → (⟨S6x4x512, .f32⟩ : BufTy).Contents (Elt Ideal)),
    Line.unary (.of main_arg5) (.of main_v4) ((transpose S6x512x48 [0, 2, 1] · transposes_S6x48x512_S6x512x48_0_2_1) : (⟨S6x48x512, .f32⟩ : BufTy).Contents (Elt Ideal) → (⟨S6x512x48, .f32⟩ : BufTy).Contents (Elt Ideal)),
    Line.unary (.of main_arg6) (.of main_v5) ((transpose S6x16x512 [0, 2, 1] · transposes_S6x512x16_S6x16x512_0_2_1) : (⟨S6x512x16, .f32⟩ : BufTy).Contents (Elt Ideal) → (⟨S6x16x512, .f32⟩ : BufTy).Contents (Elt Ideal)),
    Line.unary (.of main_arg8) (.of main_v6) ((transpose S6x16x512 [0, 2, 1] · transposes_S6x512x16_S6x16x512_0_2_1) : (⟨S6x512x16, .f32⟩ : BufTy).Contents (Elt Ideal) → (⟨S6x16x512, .f32⟩ : BufTy).Contents (Elt Ideal)),
    Line.unary (.of main_arg10) (.of main_v7) ((transpose S6x512x256 [0, 2, 1] · transposes_S6x256x512_S6x512x256_0_2_1) : (⟨S6x256x512, .f32⟩ : BufTy).Contents (Elt Ideal) → (⟨S6x512x256, .f32⟩ : BufTy).Contents (Elt Ideal)),
    Line.reshape (.of main_arg11) (.of main_v8) (rfl : (.f32 : EltTy) = .f32) shapeCasts_S256_S1x256,
    Line.unary (.of main_arg12) (.of main_v9) ((transpose S256x64 [1, 0] · transposes_S64x256_S256x64_1_0) : (⟨S64x256, .f32⟩ : BufTy).Contents (Elt Ideal) → (⟨S256x64, .f32⟩ : BufTy).Contents (Elt Ideal)),
    Line.reshape (.of main_arg13) (.of main_v10) (rfl : (.f32 : EltTy) = .f32) shapeCasts_S64_S1x64,
    Line.reshape (.of main_arg15) (.of main_v11) (rfl : (.f32 : EltTy) = .f32) shapeCasts_S1_S1x1 ]

variable (m : (ℓ : Loc nD τ sig) → Buf (Elt Ideal) ℓ) (c : Dev nD)

/-- The arguments as launched. -/
def arrays : Arrays where
  a0 := m ((c : Thread nD τ).loc main_arg0)
  a1 := m ((c : Thread nD τ).loc main_arg1)
  a2 := m ((c : Thread nD τ).loc main_arg2)
  a3 := m ((c : Thread nD τ).loc main_arg3)
  a4 := m ((c : Thread nD τ).loc main_arg4)
  a5 := m ((c : Thread nD τ).loc main_arg5)
  a6 := m ((c : Thread nD τ).loc main_arg6)
  a7 := m ((c : Thread nD τ).loc main_arg7)
  a8 := m ((c : Thread nD τ).loc main_arg8)
  a9 := m ((c : Thread nD τ).loc main_arg9)
  a10 := m ((c : Thread nD τ).loc main_arg10)
  a11 := m ((c : Thread nD τ).loc main_arg11)
  a12 := m ((c : Thread nD τ).loc main_arg12)
  a13 := m ((c : Thread nD τ).loc main_arg13)
  a14 := m ((c : Thread nD τ).loc main_arg14)
  a15 := m ((c : Thread nD τ).loc main_arg15)

/-- Window 0's block is one sequence. -/
theorem block0 (t : Fin cfg0.N) (p q : Fin 256) : (iblk m c 0 t : Vc S1x256x256) (ix3 0 p q) = V m c main_v1 (ix3 (t.cast rfl) p q) := by
  have hi : ∀ a, win0_0.index t a = (![t.val, 0, 0] : Fin 3 → ℕ) a := (by decide +kernel : ∀ t : Fin grid0.N, ∀ a, win0_0.index t a = (![t.val, 0, 0] : Fin 3 → ℕ) a) t
  unfold iblk
  rw [View.read_apply]
  show V m c main_v1 _ = _
  congr 1
  funext a
  apply Fin.ext
  match a with
  | ⟨0, _⟩ => show win0_0.index t 0 * 1 + 1 * 0 = t.val; rw [hi 0]; show t.val * 1 + 1 * 0 = t.val; omega
  | ⟨1, _⟩ => show win0_0.index t 1 * 256 + 1 * p.val = p.val; rw [hi 1]; show 0 * 256 + 1 * p.val = p.val; omega
  | ⟨2, _⟩ => show win0_0.index t 2 * 256 + 1 * q.val = q.val; rw [hi 2]; show 0 * 256 + 1 * q.val = q.val; omega

/-- An index which a block at the origin sends to itself. -/
theorem origin {s : Shape} {i j : s.Idx} {k : Fin s.rank → ℕ} (hk : ∀ a, k a = 0) (h : ∀ a, (i a).val = k a * s.size a + 1 * (j a).val) : i = j :=
  funext fun a => Fin.ext (by rw [h a, hk a]; omega)

/-- Window 1's block is its whole array. -/
theorem block1 (t : Fin cfg0.N) : (iblk m c 1 t : Vc S6x256) = V m c main_arg1 := by
  have hi : ∀ a, win0_1.index t a = 0 := (by decide +kernel : ∀ t : Fin grid0.N, ∀ a, win0_1.index t a = 0) t
  funext j
  unfold iblk
  rw [View.read_apply]
  exact congrArg (V m c main_arg1) (origin hi fun _ => rfl)

/-- Window 2's block is its whole array. -/
theorem block2 (t : Fin cfg0.N) : (iblk m c 2 t : Vc S6x256x1024) = V m c main_v2 := by
  have hi : ∀ a, win0_2.index t a = 0 := (by decide +kernel : ∀ t : Fin grid0.N, ∀ a, win0_2.index t a = 0) t
  funext j
  unfold iblk
  rw [View.read_apply]
  exact congrArg (V m c main_v2) (origin hi fun _ => rfl)

/-- Window 3's block is its whole array. -/
theorem block3 (t : Fin cfg0.N) : (iblk m c 3 t : Vc S6x4x512) = V m c main_v3 := by
  have hi : ∀ a, win0_3.index t a = 0 := (by decide +kernel : ∀ t : Fin grid0.N, ∀ a, win0_3.index t a = 0) t
  funext j
  unfold iblk
  rw [View.read_apply]
  exact congrArg (V m c main_v3) (origin hi fun _ => rfl)

/-- Window 4's block is its whole array. -/
theorem block4 (t : Fin cfg0.N) : (iblk m c 4 t : Vc S6x512) = V m c main_arg4 := by
  have hi : ∀ a, win0_4.index t a = 0 := (by decide +kernel : ∀ t : Fin grid0.N, ∀ a, win0_4.index t a = 0) t
  funext j
  unfold iblk
  rw [View.read_apply]
  exact congrArg (V m c main_arg4) (origin hi fun _ => rfl)

/-- Window 5's block is its whole array. -/
theorem block5 (t : Fin cfg0.N) : (iblk m c 5 t : Vc S6x512x48) = V m c main_v4 := by
  have hi : ∀ a, win0_5.index t a = 0 := (by decide +kernel : ∀ t : Fin grid0.N, ∀ a, win0_5.index t a = 0) t
  funext j
  unfold iblk
  rw [View.read_apply]
  exact congrArg (V m c main_v4) (origin hi fun _ => rfl)

/-- Window 6's block is its whole array. -/
theorem block6 (t : Fin cfg0.N) : (iblk m c 6 t : Vc S6x16x512) = V m c main_v5 := by
  have hi : ∀ a, win0_6.index t a = 0 := (by decide +kernel : ∀ t : Fin grid0.N, ∀ a, win0_6.index t a = 0) t
  funext j
  unfold iblk
  rw [View.read_apply]
  exact congrArg (V m c main_v5) (origin hi fun _ => rfl)

/-- Window 7's block is its whole array. -/
theorem block7 (t : Fin cfg0.N) : (iblk m c 7 t : Vc S6x512) = V m c main_arg7 := by
  have hi : ∀ a, win0_7.index t a = 0 := (by decide +kernel : ∀ t : Fin grid0.N, ∀ a, win0_7.index t a = 0) t
  funext j
  unfold iblk
  rw [View.read_apply]
  exact congrArg (V m c main_arg7) (origin hi fun _ => rfl)

/-- Window 8's block is its whole array. -/
theorem block8 (t : Fin cfg0.N) : (iblk m c 8 t : Vc S6x16x512) = V m c main_v6 := by
  have hi : ∀ a, win0_8.index t a = 0 := (by decide +kernel : ∀ t : Fin grid0.N, ∀ a, win0_8.index t a = 0) t
  funext j
  unfold iblk
  rw [View.read_apply]
  exact congrArg (V m c main_v6) (origin hi fun _ => rfl)

/-- Window 9's block is its whole array. -/
theorem block9 (t : Fin cfg0.N) : (iblk m c 9 t : Vc S6x512) = V m c main_arg9 := by
  have hi : ∀ a, win0_9.index t a = 0 := (by decide +kernel : ∀ t : Fin grid0.N, ∀ a, win0_9.index t a = 0) t
  funext j
  unfold iblk
  rw [View.read_apply]
  exact congrArg (V m c main_arg9) (origin hi fun _ => rfl)

/-- Window 10's block is its whole array. -/
theorem block10 (t : Fin cfg0.N) : (iblk m c 10 t : Vc S6x512x256) = V m c main_v7 := by
  have hi : ∀ a, win0_10.index t a = 0 := (by decide +kernel : ∀ t : Fin grid0.N, ∀ a, win0_10.index t a = 0) t
  funext j
  unfold iblk
  rw [View.read_apply]
  exact congrArg (V m c main_v7) (origin hi fun _ => rfl)

/-- Window 11's block is its whole array. -/
theorem block11 (t : Fin cfg0.N) : (iblk m c 11 t : Vc S1x256) = V m c main_v8 := by
  have hi : ∀ a, win0_11.index t a = 0 := (by decide +kernel : ∀ t : Fin grid0.N, ∀ a, win0_11.index t a = 0) t
  funext j
  unfold iblk
  rw [View.read_apply]
  exact congrArg (V m c main_v8) (origin hi fun _ => rfl)

/-- Window 12's block is its whole array. -/
theorem block12 (t : Fin cfg0.N) : (iblk m c 12 t : Vc S256x64) = V m c main_v9 := by
  have hi : ∀ a, win0_12.index t a = 0 := (by decide +kernel : ∀ t : Fin grid0.N, ∀ a, win0_12.index t a = 0) t
  funext j
  unfold iblk
  rw [View.read_apply]
  exact congrArg (V m c main_v9) (origin hi fun _ => rfl)

/-- Window 13's block is its whole array. -/
theorem block13 (t : Fin cfg0.N) : (iblk m c 13 t : Vc S1x64) = V m c main_v10 := by
  have hi : ∀ a, win0_13.index t a = 0 := (by decide +kernel : ∀ t : Fin grid0.N, ∀ a, win0_13.index t a = 0) t
  funext j
  unfold iblk
  rw [View.read_apply]
  exact congrArg (V m c main_v10) (origin hi fun _ => rfl)

/-- Window 14's block is its whole array. -/
theorem block14 (t : Fin cfg0.N) : (iblk m c 14 t : Vc S1x64) = V m c main_arg14 := by
  have hi : ∀ a, win0_14.index t a = 0 := (by decide +kernel : ∀ t : Fin grid0.N, ∀ a, win0_14.index t a = 0) t
  funext j
  unfold iblk
  rw [View.read_apply]
  exact congrArg (V m c main_arg14) (origin hi fun _ => rfl)

/-- Window 15's block is its whole array. -/
theorem block15 (t : Fin cfg0.N) : (iblk m c 15 t : Vc S1x1) = V m c main_v11 := by
  have hi : ∀ a, win0_15.index t a = 0 := (by decide +kernel : ∀ t : Fin grid0.N, ∀ a, win0_15.index t a = 0) t
  funext j
  unfold iblk
  rw [View.read_apply]
  exact congrArg (V m c main_v11) (origin hi fun _ => rfl)

/-- What the prepared buffers hold. -/
theorem prepared :
    (∀ e p q, V m c main_v1 (ix3 e p q) = (arrays m c).seq e p q)
    ∧ (∀ l j k, V m c main_v2 (ix3 l k j) = (arrays m c).a2 (ix3 l j k))
    ∧ (∀ l j k, V m c main_v3 (ix3 l k j) = (arrays m c).a3 (ix3 l j k))
    ∧ (∀ l j k, V m c main_v4 (ix3 l k j) = (arrays m c).a5 (ix3 l j k))
    ∧ (∀ l j k, V m c main_v5 (ix3 l k j) = (arrays m c).a6 (ix3 l j k))
    ∧ (∀ l j k, V m c main_v6 (ix3 l k j) = (arrays m c).a8 (ix3 l j k))
    ∧ (∀ l j k, V m c main_v7 (ix3 l k j) = (arrays m c).a10 (ix3 l j k))
    ∧ (∀ k, V m c main_v8 (ix2 0 k) = (arrays m c).a11 (ix1 k))
    ∧ (∀ q k, V m c main_v9 (ix2 k q) = (arrays m c).a12 (ix2 q k))
    ∧ (∀ q, V m c main_v10 (ix2 0 q) = (arrays m c).a13 (ix1 q))
    ∧ V m c main_v11 (ix2 0 0) = (arrays m c).a15 (ix1 0) := by
  have hh := Line.holds_after prepOps (fun b => m (c, b)) (by decide)
  have e : ∀ b, V m c b = StableHlo.after (Line.ops prepOps) (fun b => m (c, b)) (Line.dr b) := fun b => rfl
  have k0 : Line.val (StableHlo.after (Line.ops prepOps) (fun b => m (c, b))) (.of main_arg0) = (arrays m c).a0 := V_main_arg0 m c
  have k2 : Line.val (StableHlo.after (Line.ops prepOps) (fun b => m (c, b))) (.of main_arg2) = (arrays m c).a2 := V_main_arg2 m c
  have k3 : Line.val (StableHlo.after (Line.ops prepOps) (fun b => m (c, b))) (.of main_arg3) = (arrays m c).a3 := V_main_arg3 m c
  have k5 : Line.val (StableHlo.after (Line.ops prepOps) (fun b => m (c, b))) (.of main_arg5) = (arrays m c).a5 := V_main_arg5 m c
  have k6 : Line.val (StableHlo.after (Line.ops prepOps) (fun b => m (c, b))) (.of main_arg6) = (arrays m c).a6 := V_main_arg6 m c
  have k8 : Line.val (StableHlo.after (Line.ops prepOps) (fun b => m (c, b))) (.of main_arg8) = (arrays m c).a8 := V_main_arg8 m c
  have k10 : Line.val (StableHlo.after (Line.ops prepOps) (fun b => m (c, b))) (.of main_arg10) = (arrays m c).a10 := V_main_arg10 m c
  have k11 : Line.val (StableHlo.after (Line.ops prepOps) (fun b => m (c, b))) (.of main_arg11) = (arrays m c).a11 := V_main_arg11 m c
  have k12 : Line.val (StableHlo.after (Line.ops prepOps) (fun b => m (c, b))) (.of main_arg12) = (arrays m c).a12 := V_main_arg12 m c
  have k13 : Line.val (StableHlo.after (Line.ops prepOps) (fun b => m (c, b))) (.of main_arg13) = (arrays m c).a13 := V_main_arg13 m c
  have k15 : Line.val (StableHlo.after (Line.ops prepOps) (fun b => m (c, b))) (.of main_arg15) = (arrays m c).a15 := V_main_arg15 m c
  simp only [e]
  generalize StableHlo.after (Line.ops prepOps) (fun b => m (c, b)) = W at *
  simp only [prepOps, List.forall_mem_cons, Line.holds_reshape, Line.holds_unary, k0, k2, k3, k5, k6, k8, k10, k11, k12, k13, k15] at hh
  obtain ⟨h0, h1, h2, h3, h4, h5, h6, h7, h8, h9, h10, h11, -⟩ := hh
  refine ⟨fun e p q => ?_, fun l j k => ?_, fun l j k => ?_, fun l j k => ?_, fun l j k => ?_, fun l j k => ?_, fun l j k => ?_, fun k => ?_, fun q k => ?_, fun q => ?_, ?_⟩
  · refine (congrFun h1 _).trans ?_
    rw [h0]; unfold Arrays.seq; pointwise
  · refine (congrFun h2 _).trans ?_
    pointwise
  · refine (congrFun h3 _).trans ?_
    pointwise
  · refine (congrFun h4 _).trans ?_
    pointwise
  · refine (congrFun h5 _).trans ?_
    pointwise
  · refine (congrFun h6 _).trans ?_
    pointwise
  · refine (congrFun h7 _).trans ?_
    pointwise
  · refine (congrFun h8 _).trans ?_
    pointwise
  · refine (congrFun h9 _).trans ?_
    pointwise
  · refine (congrFun h10 _).trans ?_
    pointwise
  · refine (congrFun h11 _).trans ?_
    pointwise

/-- Equal weights and inputs give equal results. -/
theorem net_congr {w w' : Fin 6 → Layer} {H H' : Head} {x x' : Steps} {t : Fin 256} (hw : w = w') (hH : H = H') (hx : x = x') :
    net w H x t = net w' H' x' t := by
  rw [hw, hH, hx]

/-- The layers' weights at a grid point are the arrays'. -/
theorem weights_eq (T : Fin cfg0.N) (l : Fin 6) : KWords.weights (iblk m c 1 T) (iblk m c 2 T) (iblk m c 3 T) (iblk m c 4 T) (iblk m c 5 T) (iblk m c 6 T)
    (iblk m c 7 T) (iblk m c 8 T) (iblk m c 9 T) (iblk m c 10 T) l = (arrays m c).layer l := by
  obtain ⟨h0, h1, h2, h3, h4, h5, h6, h7, h8, h9, h10⟩ := prepared m c
  unfold KWords.weights Arrays.layer
  simp only [block1, block2, block3, block4, block5, block6, block7, block8, block9, block10, h1, h2, h3, h4, h5, h6, V_main_arg1, V_main_arg4, V_main_arg7, V_main_arg9]
  rfl

/-- The head's weights at a grid point are the arrays'. -/
theorem head_eq (T : Fin cfg0.N) : KPoint.head (iblk m c 11 T) (iblk m c 12 T) (iblk m c 13 T) (iblk m c 14 T) (iblk m c 15 T) = (arrays m c).head := by
  obtain ⟨h0, h1, h2, h3, h4, h5, h6, h7, h8, h9, h10⟩ := prepared m c
  unfold KPoint.head Arrays.head
  simp only [block11, block12, block13, block14, block15, h7, h8, h9, h10, V_main_arg14]
  rfl

/-- The sequence at a grid point is the array's. -/
theorem seq_eq (T : Fin cfg0.N) (p q : Fin 256) : (iblk m c 0 T : Vc S1x256x256) (ix3 0 p q) = (arrays m c).seq (T.cast rfl) p q :=
  (block0 m c T p q).trans ((prepared m c).1 _ p q)

/-- The kernel's result array. -/
theorem result (e : Fin 8) (t : Fin 256) : (dats m 0 c).arrAt 16 cfg0.N (ix3 e 0 t) = (arrays m c).result e t := by
  have hi : ∀ a, win0_16.index e a = (![e.val, 0, 0] : Fin 3 → ℕ) a := (by decide +kernel : ∀ t : Fin grid0.N, ∀ a, win0_16.index t a = (![t.val, 0, 0] : Fin 3 → ℕ) a) e
  have hb := (congrFun (Value.blocks16 m c e (flush0_16 e)) (ix3 0 0 t)).trans (congrFun (Value.flushed16 m c e) (ix3 0 0 t))
  rw [View.read_apply] at hb
  refine Eq.trans (congrArg _ ?_) (hb.trans ?_)
  · funext a
    apply Fin.ext
    match a with
    | ⟨0, _⟩ => show e.val = win0_16.index e 0 * 1 + 1 * 0; rw [hi 0]; show e.val = e.val * 1 + 1 * 0; omega
    | ⟨1, _⟩ => show 0 = win0_16.index e 1 * 1 + 1 * 0; rw [hi 1]; rfl
    | ⟨2, _⟩ => show t.val = win0_16.index e 2 * 256 + 1 * t.val; rw [hi 2]; show t.val = 0 * 256 + 1 * t.val; omega
  show outsAt0 m c e (ix3 0 0 t) = _
  unfold outsAt0
  rw [KPoint.out_point]
  unfold Arrays.result
  exact net_congr (funext fun l => weights_eq m c e l) (head_eq m c e) (funext fun p => funext fun q => seq_eq m c e p q)

end Cert.KValue
-- ==== Proof.RefOps.lean ====
module

public import proofs.«01_k».proof.Proof.Gen.MambaRefIdeal
public import proofs.«01_k».proof.Proof.Line
public import Idealize.ShloMosaic.PureOps.Ideal

/-!
The reference program's operations, stretch by stretch.
-/

@[expose] public section

set_option maxRecDepth 16384

noncomputable section

namespace Cert.Ref

open Idealize Idealize.ShloMosaic Idealize.ShloMosaic.StableHlo Cert.MambaRefIdeal
open Cert.MambaRefIdeal.Facts₀ Cert.MambaRefIdeal.Facts

/-- A list of the program's operations. -/
abbrev Ops (F : FTy → Type) := List (Line.Op τ sig F)

variable {F : FTy → Type} [FloatOps F]

/-- The operations of the zero rows put before the sequence. -/
noncomputable def padOps (arg0 : TRef sig ⟨S8x256x512, .f32⟩) (arg1 : TRef sig ⟨S_, .i32⟩) (φ : fn_pad.Bufs) : Ops F :=
  [ Line.unary arg1 φ.v0 (sitofp .f32),
    Line.binary arg0 φ.v0 φ.v1 (fun x v => pad S8x259x512 ![0, 3, 0] ![0, 0, 0] ![0, 0, 0] x v pads_S8x256x512_S8x259x512_000_300_000 h_S_) ]

/-- The operations of the product of a value and its logistic. -/
noncomputable def siluOps (arg0 : TRef sig ⟨S8x256x512, .f32⟩) (φ : fn_silu.Bufs) : Ops F :=
  [ Line.unary arg0 φ.v0 Host.negf,
    Line.unary φ.v0 φ.v1 Host.exp,
    Line.nullary φ.cst (constant S_ .f32 0x3F800000#32),
    Line.unary φ.cst φ.v2 (broadcastInDim S8x256x512 ![] bcast_S_S8x256x512),
    Line.binary φ.v2 φ.v1 φ.v3 addf,
    Line.nullary φ.cst_0 (constant S_ .f32 0x3F800000#32),
    Line.unary φ.cst_0 φ.v4 (broadcastInDim S8x256x512 ![] bcast_S_S8x256x512),
    Line.binary φ.v4 φ.v3 φ.v5 Host.divf,
    Line.binary arg0 φ.v5 φ.v6 mulf ]

/-- The operations of the softplus. -/
noncomputable def softplusOps (arg0 : TRef sig ⟨S8x256x512, .f32⟩) (φ : fn_softplus.Bufs) : Ops F :=
  [ Line.nullary φ.cst (constant S_ .f32 0x00000000#32),
    Line.unary φ.cst φ.v0 (broadcastInDim S8x256x512 ![] bcast_S_S8x256x512),
    Line.binary arg0 φ.v0 φ.v1 maximumf,
    Line.unary φ.cst φ.v2 (broadcastInDim S8x256x512 ![] bcast_S_S8x256x512),
    Line.binary arg0 φ.v2 φ.v3 subf,
    Line.binary φ.v3 φ.v3 φ.v4 (cmpf .une),
    Line.unary φ.cst φ.v5 (broadcastInDim S8x256x512 ![] bcast_S_S8x256x512),
    Line.binary arg0 φ.v5 φ.v6 addf,
    Line.unary φ.v3 φ.v7 Host.absf,
    Line.unary φ.v7 φ.v8 Host.negf,
    Line.unary φ.v8 φ.v9 Host.exp,
    Line.unary φ.v9 φ.v10 Host.log1p,
    Line.binary φ.v1 φ.v10 φ.v11 addf,
    Line.ternary φ.v4 φ.v6 φ.v11 φ.v12 select ]

/-- The operations of one time step of a decay or input array. -/
noncomputable def dynamic_index_in_dimOps (arg0 : TRef sig ⟨S256x8x512x16, .f32⟩) (arg1 : TRef sig ⟨S_, .i32⟩) (φ : fn_dynamic_index_in_dim.Bufs) : Ops F :=
  [ Line.nullary φ.c (constantI S_ 32 0#32),
    Line.nullary φ.c_0 (constantI S_ 32 0#32),
    Line.nullary φ.c_1 (constantI S_ 32 0#32),
    Line.unaryIndexed arg0 ![arg1, φ.c, φ.c_0, φ.c_1] φ.v0 (fun x i => Host.dynamicSlice S1x8x512x16 x (fun k => (i k (Shape.Idx.first h_S_)).toInt) sliceFits_S256x8x512x16_S1x8x512x16),
    Line.reshape φ.v0 φ.v1 (rfl : (.f32 : EltTy) = .f32) shapeCasts_S1x8x512x16_S8x512x16 ]

/-- The operations of one time step of an output weight array. -/
noncomputable def dynamic_index_in_dim_0Ops (arg0 : TRef sig ⟨S256x8x16, .f32⟩) (arg1 : TRef sig ⟨S_, .i32⟩) (φ : fn_dynamic_index_in_dim_0.Bufs) : Ops F :=
  [ Line.nullary φ.c (constantI S_ 32 0#32),
    Line.nullary φ.c_0 (constantI S_ 32 0#32),
    Line.unaryIndexed arg0 ![arg1, φ.c, φ.c_0] φ.v0 (fun x i => Host.dynamicSlice S1x8x16 x (fun k => (i k (Shape.Idx.first h_S_)).toInt) sliceFits_S256x8x16_S1x8x16),
    Line.reshape φ.v0 φ.v1 (rfl : (.f32 : EltTy) = .f32) shapeCasts_S1x8x16_S8x16 ]

/-- The operations of one time step written into the result. -/
noncomputable def dynamic_update_index_in_dimOps (arg0 : TRef sig ⟨S256x8x512, .f32⟩) (arg1 : TRef sig ⟨S8x512, .f32⟩) (arg2 : TRef sig ⟨S_, .i32⟩) (φ : fn_dynamic_update_index_in_dim.Bufs) : Ops F :=
  [ Line.unary arg1 φ.v0 (broadcastInDim S1x8x512 ![1, 2] bcast_S8x512_S1x8x512_1_2),
    Line.nullary φ.c (constantI S_ 32 0#32),
    Line.nullary φ.c_0 (constantI S_ 32 0#32),
    Line.binaryIndexed arg0 φ.v0 ![arg2, φ.c, φ.c_0] φ.v1 (fun x u i => Host.dynamicUpdateSlice x u (fun k => (i k (Shape.Idx.first h_S_)).toInt) updateFits_S256x8x512_S1x8x512) ]

/-- The arguments of one layer. -/
structure Args where
  /-- Argument 0. -/
  arg0 : TRef sig ⟨S8x256x256, .f32⟩
  /-- Argument 1. -/
  arg1 : TRef sig ⟨S256, .f32⟩
  /-- Argument 2. -/
  arg2 : TRef sig ⟨S1024x256, .f32⟩
  /-- Argument 3. -/
  arg3 : TRef sig ⟨S512x4, .f32⟩
  /-- Argument 4. -/
  arg4 : TRef sig ⟨S512, .f32⟩
  /-- Argument 5. -/
  arg5 : TRef sig ⟨S48x512, .f32⟩
  /-- Argument 6. -/
  arg6 : TRef sig ⟨S512x16, .f32⟩
  /-- Argument 7. -/
  arg7 : TRef sig ⟨S512, .f32⟩
  /-- Argument 8. -/
  arg8 : TRef sig ⟨S512x16, .f32⟩
  /-- Argument 9. -/
  arg9 : TRef sig ⟨S512, .f32⟩
  /-- Argument 10. -/
  arg10 : TRef sig ⟨S256x512, .f32⟩

/-- A stretch of a layer's operations. -/
noncomputable def preA (A : Args) (φ : fn_mamba_block.Bufs) : Ops F :=
  [ Line.binary A.arg0 A.arg0 φ.v0 mulf,
    Line.nullary φ.cst (constant S_ .f32 0x00000000#32),
    Line.binary φ.v0 φ.cst φ.v1 (fun x v => Host.reduceAdd x v reducesTo_S8x256x256_S8x256_d2 h_S_),
    Line.unary φ.v1 φ.v2 (broadcastInDim S8x256x1 ![0, 1] bcast_S8x256_S8x256x1_0_1),
    Line.nullary φ.cst_0 (constant S_ .f32 0x43800000#32),
    Line.unary φ.cst_0 φ.v3 (broadcastInDim S8x256x1 ![] bcast_S_S8x256x1),
    Line.binary φ.v2 φ.v3 φ.v4 Host.divf,
    Line.nullary φ.cst_1 (constant S_ .f32 0x3727C5AC#32),
    Line.unary φ.cst_1 φ.v5 (broadcastInDim S8x256x1 ![] bcast_S_S8x256x1),
    Line.binary φ.v4 φ.v5 φ.v6 addf,
    Line.unary φ.v6 φ.v7 Host.rsqrt,
    Line.unary φ.v7 φ.v8 (broadcastInDim S8x256x256 ![0, 1, 2] bcast_S8x256x1_S8x256x256_0_1_2),
    Line.binary A.arg0 φ.v8 φ.v9 mulf,
    Line.unary A.arg1 φ.v10 (broadcastInDim S1x1x256 ![2] bcast_S256_S1x1x256_2),
    Line.unary φ.v10 φ.v11 (broadcastInDim S8x256x256 ![0, 1, 2] bcast_S1x1x256_S8x256x256_0_1_2),
    Line.binary φ.v9 φ.v11 φ.v12 mulf,
    Line.unary A.arg2 φ.v13 (transpose S256x1024 [1, 0] · transposes_S1024x256_S256x1024_1_0),
    Line.binary φ.v12 φ.v13 φ.v14 (fun l r => Host.dotGeneral dot_S8x256x256_S256x1024_S8x256x1024_2_0_01_1_n_n none l r),
    Line.unary φ.v14 φ.v15 (extractStridedSlice S8x256x512 ![0, 0, 0] · slices_S8x256x1024_S8x256x512_0_0_0),
    Line.unary φ.v14 φ.v16 (extractStridedSlice S8x256x512 ![0, 0, 512] · slices_S8x256x1024_S8x256x512_0_0_512),
    Line.nullary φ.c (constantI S_ 32 0#32) ]

/-- A stretch of a layer's operations. -/
noncomputable def preB (A : Args) (φ : fn_mamba_block.Bufs) : Ops F :=
  [ Line.unary φ.call0.v1 φ.v18 (extractStridedSlice S8x256x512 ![0, 0, 0] · slices_S8x259x512_S8x256x512_0_0_0),
    Line.unary A.arg3 φ.v19 (extractStridedSlice S512x1 ![0, 0] · slices_S512x4_S512x1_0_0),
    Line.reshape φ.v19 φ.v20 (rfl : (.f32 : EltTy) = .f32) shapeCasts_S512x1_S512,
    Line.unary φ.v20 φ.v21 (broadcastInDim S1x1x512 ![2] bcast_S512_S1x1x512_2),
    Line.unary φ.v21 φ.v22 (broadcastInDim S8x256x512 ![0, 1, 2] bcast_S1x1x512_S8x256x512_0_1_2),
    Line.binary φ.v18 φ.v22 φ.v23 mulf,
    Line.nullary φ.cst_2 (constant S_ .f32 0x00000000#32),
    Line.unary φ.cst_2 φ.v24 (broadcastInDim S8x256x512 ![] bcast_S_S8x256x512),
    Line.binary φ.v24 φ.v23 φ.v25 addf,
    Line.unary φ.call0.v1 φ.v26 (extractStridedSlice S8x256x512 ![0, 1, 0] · slices_S8x259x512_S8x256x512_0_1_0),
    Line.unary A.arg3 φ.v27 (extractStridedSlice S512x1 ![0, 1] · slices_S512x4_S512x1_0_1),
    Line.reshape φ.v27 φ.v28 (rfl : (.f32 : EltTy) = .f32) shapeCasts_S512x1_S512,
    Line.unary φ.v28 φ.v29 (broadcastInDim S1x1x512 ![2] bcast_S512_S1x1x512_2),
    Line.unary φ.v29 φ.v30 (broadcastInDim S8x256x512 ![0, 1, 2] bcast_S1x1x512_S8x256x512_0_1_2),
    Line.binary φ.v26 φ.v30 φ.v31 mulf,
    Line.binary φ.v25 φ.v31 φ.v32 addf,
    Line.unary φ.call0.v1 φ.v33 (extractStridedSlice S8x256x512 ![0, 2, 0] · slices_S8x259x512_S8x256x512_0_2_0),
    Line.unary A.arg3 φ.v34 (extractStridedSlice S512x1 ![0, 2] · slices_S512x4_S512x1_0_2),
    Line.reshape φ.v34 φ.v35 (rfl : (.f32 : EltTy) = .f32) shapeCasts_S512x1_S512,
    Line.unary φ.v35 φ.v36 (broadcastInDim S1x1x512 ![2] bcast_S512_S1x1x512_2),
    Line.unary φ.v36 φ.v37 (broadcastInDim S8x256x512 ![0, 1, 2] bcast_S1x1x512_S8x256x512_0_1_2),
    Line.binary φ.v33 φ.v37 φ.v38 mulf,
    Line.binary φ.v32 φ.v38 φ.v39 addf,
    Line.unary φ.call0.v1 φ.v40 (extractStridedSlice S8x256x512 ![0, 3, 0] · slices_S8x259x512_S8x256x512_0_3_0),
    Line.unary A.arg3 φ.v41 (extractStridedSlice S512x1 ![0, 3] · slices_S512x4_S512x1_0_3),
    Line.reshape φ.v41 φ.v42 (rfl : (.f32 : EltTy) = .f32) shapeCasts_S512x1_S512,
    Line.unary φ.v42 φ.v43 (broadcastInDim S1x1x512 ![2] bcast_S512_S1x1x512_2),
    Line.unary φ.v43 φ.v44 (broadcastInDim S8x256x512 ![0, 1, 2] bcast_S1x1x512_S8x256x512_0_1_2),
    Line.binary φ.v40 φ.v44 φ.v45 mulf,
    Line.binary φ.v39 φ.v45 φ.v46 addf,
    Line.unary A.arg4 φ.v47 (broadcastInDim S1x1x512 ![2] bcast_S512_S1x1x512_2),
    Line.unary φ.v47 φ.v48 (broadcastInDim S8x256x512 ![0, 1, 2] bcast_S1x1x512_S8x256x512_0_1_2),
    Line.binary φ.v46 φ.v48 φ.v49 addf ]

/-- A stretch of a layer's operations. -/
noncomputable def preC (A : Args) (φ : fn_mamba_block.Bufs) : Ops F :=
  [ Line.unary A.arg5 φ.v51 (transpose S512x48 [1, 0] · transposes_S48x512_S512x48_1_0),
    Line.binary φ.call1.v6 φ.v51 φ.v52 (fun l r => Host.dotGeneral dot_S8x256x512_S512x48_S8x256x48_2_0_01_1_n_n none l r),
    Line.unary φ.v52 φ.v53 (extractStridedSlice S8x256x16 ![0, 0, 0] · slices_S8x256x48_S8x256x16_0_0_0),
    Line.unary φ.v52 φ.v54 (extractStridedSlice S8x256x16 ![0, 0, 16] · slices_S8x256x48_S8x256x16_0_0_16),
    Line.unary φ.v52 φ.v55 (extractStridedSlice S8x256x16 ![0, 0, 32] · slices_S8x256x48_S8x256x16_0_0_32),
    Line.unary A.arg6 φ.v56 (transpose S16x512 [1, 0] · transposes_S512x16_S16x512_1_0),
    Line.binary φ.v53 φ.v56 φ.v57 (fun l r => Host.dotGeneral dot_S8x256x16_S16x512_S8x256x512_2_0_01_1_n_n none l r),
    Line.unary A.arg7 φ.v58 (broadcastInDim S1x1x512 ![2] bcast_S512_S1x1x512_2),
    Line.unary φ.v58 φ.v59 (broadcastInDim S8x256x512 ![0, 1, 2] bcast_S1x1x512_S8x256x512_0_1_2),
    Line.binary φ.v57 φ.v59 φ.v60 addf ]

/-- A stretch of a layer's operations. -/
noncomputable def preD (A : Args) (φ : fn_mamba_block.Bufs) : Ops F :=
  [ Line.unary A.arg8 φ.v62 Host.exp,
    Line.unary φ.v62 φ.v63 Host.negf,
    Line.unary φ.call2.v12 φ.v64 (broadcastInDim S8x256x512x1 ![0, 1, 2] bcast_S8x256x512_S8x256x512x1_0_1_2),
    Line.unary φ.v63 φ.v65 (broadcastInDim S1x1x512x16 ![2, 3] bcast_S512x16_S1x1x512x16_2_3),
    Line.unary φ.v64 φ.v66 (broadcastInDim S8x256x512x16 ![0, 1, 2, 3] bcast_S8x256x512x1_S8x256x512x16_0_1_2_3),
    Line.unary φ.v65 φ.v67 (broadcastInDim S8x256x512x16 ![0, 1, 2, 3] bcast_S1x1x512x16_S8x256x512x16_0_1_2_3),
    Line.binary φ.v66 φ.v67 φ.v68 mulf,
    Line.unary φ.v68 φ.v69 Host.exp,
    Line.unary φ.call2.v12 φ.v70 (broadcastInDim S8x256x512x1 ![0, 1, 2] bcast_S8x256x512_S8x256x512x1_0_1_2),
    Line.unary φ.v54 φ.v71 (broadcastInDim S8x256x1x16 ![0, 1, 3] bcast_S8x256x16_S8x256x1x16_0_1_3),
    Line.unary φ.v70 φ.v72 (broadcastInDim S8x256x512x16 ![0, 1, 2, 3] bcast_S8x256x512x1_S8x256x512x16_0_1_2_3),
    Line.unary φ.v71 φ.v73 (broadcastInDim S8x256x512x16 ![0, 1, 2, 3] bcast_S8x256x1x16_S8x256x512x16_0_1_2_3),
    Line.binary φ.v72 φ.v73 φ.v74 mulf,
    Line.unary φ.call1.v6 φ.v75 (broadcastInDim S8x256x512x1 ![0, 1, 2] bcast_S8x256x512_S8x256x512x1_0_1_2),
    Line.unary φ.v75 φ.v76 (broadcastInDim S8x256x512x16 ![0, 1, 2, 3] bcast_S8x256x512x1_S8x256x512x16_0_1_2_3),
    Line.binary φ.v74 φ.v76 φ.v77 mulf,
    Line.nullary φ.cst_3 (constant S_ .f32 0x00000000#32),
    Line.unary φ.cst_3 φ.v78 (broadcastInDim S8x512x16 ![] bcast_S_S8x512x16),
    Line.unary φ.v69 φ.v79 (transpose S256x8x512x16 [1, 0, 2, 3] · transposes_S8x256x512x16_S256x8x512x16_1_0_2_3),
    Line.unary φ.v77 φ.v80 (transpose S256x8x512x16 [1, 0, 2, 3] · transposes_S8x256x512x16_S256x8x512x16_1_0_2_3),
    Line.unary φ.v55 φ.v81 (transpose S256x8x16 [1, 0, 2] · transposes_S8x256x16_S256x8x16_1_0_2),
    Line.nullary φ.cst_4 (constant S_ .f32 0x00000000#32),
    Line.unary φ.cst_4 φ.v82 (broadcastInDim S256x8x512 ![] bcast_S_S256x8x512),
    Line.nullary φ.c_5 (constantI S_ 32 0#32),
    Line.unary φ.v79 φ.v83_0 id,
    Line.unary φ.v80 φ.v83_1 id,
    Line.unary φ.v81 φ.v83_2 id,
    Line.unary φ.c_5 φ.v83_3 id,
    Line.unary φ.v78 φ.v83_4 id,
    Line.unary φ.v82 φ.v83_5 id ]

/-- A stretch of a layer's operations. -/
noncomputable def postA (A : Args) (φ : fn_mamba_block.Bufs) : Ops F :=
  [ Line.unary φ.v83_5 φ.v84 (transpose S8x256x512 [1, 0, 2] · transposes_S256x8x512_S8x256x512_1_0_2),
    Line.unary A.arg9 φ.v85 (broadcastInDim S1x1x512 ![2] bcast_S512_S1x1x512_2),
    Line.unary φ.v85 φ.v86 (broadcastInDim S8x256x512 ![0, 1, 2] bcast_S1x1x512_S8x256x512_0_1_2),
    Line.binary φ.call1.v6 φ.v86 φ.v87 mulf,
    Line.binary φ.v84 φ.v87 φ.v88 addf ]

/-- A stretch of a layer's operations. -/
noncomputable def postB (A : Args) (φ : fn_mamba_block.Bufs) : Ops F :=
  [ Line.binary φ.v88 φ.call7.v6 φ.v90 mulf,
    Line.unary A.arg10 φ.v91 (transpose S512x256 [1, 0] · transposes_S256x512_S512x256_1_0),
    Line.binary φ.v90 φ.v91 φ.v92 (fun l r => Host.dotGeneral dot_S8x256x512_S512x256_S8x256x256_2_0_01_1_n_n none l r),
    Line.binary A.arg0 φ.v92 φ.v93 addf ]

/-- The arithmetic of one time step. -/
noncomputable def tripA (φ : fn_mamba_block.Bufs) : Ops F :=
  [ Line.binary φ.while0b_call3.v1 φ.v83_4 φ.while0b_v97 mulf,
    Line.binary φ.while0b_v97 φ.while0b_call4.v1 φ.while0b_v98 addf,
    Line.binary φ.while0b_v98 φ.while0b_call5.v1 φ.while0b_v99 (fun l r => Host.dotGeneral dot_S8x512x16_S8x16_S8x512_2_1_1_n_0_0 none l r) ]

/-- The counter's step. -/
noncomputable def tripB (φ : fn_mamba_block.Bufs) : Ops F :=
  [ Line.nullary φ.while0b_c_11 (constantI S_ 32 1#32),
    Line.binary φ.v83_3 φ.while0b_c_11 φ.while0b_v101 addi ]

/-- The carried values of the next time step. -/
noncomputable def carry (φ : fn_mamba_block.Bufs) : Ops F :=
  [ Line.unary φ.while0b_v101 φ.v83_3 id,
    Line.unary φ.while0b_v98 φ.v83_4 id,
    Line.unary φ.while0b_call6.v1 φ.v83_5 id ]

end Cert.Ref
-- ==== Proof.RefMainOps.lean ====
module

public import proofs.«01_k».proof.Proof.RefOps
public import Idealize.ShloMosaic.PureOps.Ideal

/-!
The reference program's operations, outside the layers.
-/

@[expose] public section

set_option maxRecDepth 16384

noncomputable section

namespace Cert.Ref

open Idealize Idealize.ShloMosaic Idealize.ShloMosaic.StableHlo Cert.MambaRefIdeal
open Cert.MambaRefIdeal.Facts₀ Cert.MambaRefIdeal.Facts

variable {F : FTy → Type} [FloatOps F]

/-- The operations of the whole before, between or after the layers. -/
noncomputable def mainOps0 : Ops F :=
  [ Line.reshape (.of main_arg0) (.of main_v0) (rfl : (.f32 : EltTy) = .f32) shapeCasts_S256x2048_S8x256x256,
    Line.unary (.of main_arg1) (.of main_v1) ((extractStridedSlice S1x256 ![0, 0] · slices_S6x256_S1x256_0_0) : (⟨S6x256, .f32⟩ : BufTy).Contents (Elt F) → (⟨S1x256, .f32⟩ : BufTy).Contents (Elt F)),
    Line.reshape (.of main_v1) (.of main_v2) (rfl : (.f32 : EltTy) = .f32) shapeCasts_S1x256_S256,
    Line.unary (.of main_arg2) (.of main_v3) ((extractStridedSlice S1x1024x256 ![0, 0, 0] · slices_S6x1024x256_S1x1024x256_0_0_0) : (⟨S6x1024x256, .f32⟩ : BufTy).Contents (Elt F) → (⟨S1x1024x256, .f32⟩ : BufTy).Contents (Elt F)),
    Line.reshape (.of main_v3) (.of main_v4) (rfl : (.f32 : EltTy) = .f32) shapeCasts_S1x1024x256_S1024x256,
    Line.unary (.of main_arg3) (.of main_v5) ((extractStridedSlice S1x512x4 ![0, 0, 0] · slices_S6x512x4_S1x512x4_0_0_0) : (⟨S6x512x4, .f32⟩ : BufTy).Contents (Elt F) → (⟨S1x512x4, .f32⟩ : BufTy).Contents (Elt F)),
    Line.reshape (.of main_v5) (.of main_v6) (rfl : (.f32 : EltTy) = .f32) shapeCasts_S1x512x4_S512x4,
    Line.unary (.of main_arg4) (.of main_v7) ((extractStridedSlice S1x512 ![0, 0] · slices_S6x512_S1x512_0_0) : (⟨S6x512, .f32⟩ : BufTy).Contents (Elt F) → (⟨S1x512, .f32⟩ : BufTy).Contents (Elt F)),
    Line.reshape (.of main_v7) (.of main_v8) (rfl : (.f32 : EltTy) = .f32) shapeCasts_S1x512_S512,
    Line.unary (.of main_arg5) (.of main_v9) ((extractStridedSlice S1x48x512 ![0, 0, 0] · slices_S6x48x512_S1x48x512_0_0_0) : (⟨S6x48x512, .f32⟩ : BufTy).Contents (Elt F) → (⟨S1x48x512, .f32⟩ : BufTy).Contents (Elt F)),
    Line.reshape (.of main_v9) (.of main_v10) (rfl : (.f32 : EltTy) = .f32) shapeCasts_S1x48x512_S48x512,
    Line.unary (.of main_arg6) (.of main_v11) ((extractStridedSlice S1x512x16 ![0, 0, 0] · slices_S6x512x16_S1x512x16_0_0_0) : (⟨S6x512x16, .f32⟩ : BufTy).Contents (Elt F) → (⟨S1x512x16, .f32⟩ : BufTy).Contents (Elt F)),
    Line.reshape (.of main_v11) (.of main_v12) (rfl : (.f32 : EltTy) = .f32) shapeCasts_S1x512x16_S512x16,
    Line.unary (.of main_arg7) (.of main_v13) ((extractStridedSlice S1x512 ![0, 0] · slices_S6x512_S1x512_0_0) : (⟨S6x512, .f32⟩ : BufTy).Contents (Elt F) → (⟨S1x512, .f32⟩ : BufTy).Contents (Elt F)),
    Line.reshape (.of main_v13) (.of main_v14) (rfl : (.f32 : EltTy) = .f32) shapeCasts_S1x512_S512,
    Line.unary (.of main_arg8) (.of main_v15) ((extractStridedSlice S1x512x16 ![0, 0, 0] · slices_S6x512x16_S1x512x16_0_0_0) : (⟨S6x512x16, .f32⟩ : BufTy).Contents (Elt F) → (⟨S1x512x16, .f32⟩ : BufTy).Contents (Elt F)),
    Line.reshape (.of main_v15) (.of main_v16) (rfl : (.f32 : EltTy) = .f32) shapeCasts_S1x512x16_S512x16,
    Line.unary (.of main_arg9) (.of main_v17) ((extractStridedSlice S1x512 ![0, 0] · slices_S6x512_S1x512_0_0) : (⟨S6x512, .f32⟩ : BufTy).Contents (Elt F) → (⟨S1x512, .f32⟩ : BufTy).Contents (Elt F)),
    Line.reshape (.of main_v17) (.of main_v18) (rfl : (.f32 : EltTy) = .f32) shapeCasts_S1x512_S512,
    Line.unary (.of main_arg10) (.of main_v19) ((extractStridedSlice S1x256x512 ![0, 0, 0] · slices_S6x256x512_S1x256x512_0_0_0) : (⟨S6x256x512, .f32⟩ : BufTy).Contents (Elt F) → (⟨S1x256x512, .f32⟩ : BufTy).Contents (Elt F)),
    Line.reshape (.of main_v19) (.of main_v20) (rfl : (.f32 : EltTy) = .f32) shapeCasts_S1x256x512_S256x512 ]

/-- The operations of the whole before, between or after the layers. -/
noncomputable def mainOps1 : Ops F :=
  [ Line.unary (.of main_arg1) (.of main_v22) ((extractStridedSlice S1x256 ![1, 0] · slices_S6x256_S1x256_1_0) : (⟨S6x256, .f32⟩ : BufTy).Contents (Elt F) → (⟨S1x256, .f32⟩ : BufTy).Contents (Elt F)),
    Line.reshape (.of main_v22) (.of main_v23) (rfl : (.f32 : EltTy) = .f32) shapeCasts_S1x256_S256,
    Line.unary (.of main_arg2) (.of main_v24) ((extractStridedSlice S1x1024x256 ![1, 0, 0] · slices_S6x1024x256_S1x1024x256_1_0_0) : (⟨S6x1024x256, .f32⟩ : BufTy).Contents (Elt F) → (⟨S1x1024x256, .f32⟩ : BufTy).Contents (Elt F)),
    Line.reshape (.of main_v24) (.of main_v25) (rfl : (.f32 : EltTy) = .f32) shapeCasts_S1x1024x256_S1024x256,
    Line.unary (.of main_arg3) (.of main_v26) ((extractStridedSlice S1x512x4 ![1, 0, 0] · slices_S6x512x4_S1x512x4_1_0_0) : (⟨S6x512x4, .f32⟩ : BufTy).Contents (Elt F) → (⟨S1x512x4, .f32⟩ : BufTy).Contents (Elt F)),
    Line.reshape (.of main_v26) (.of main_v27) (rfl : (.f32 : EltTy) = .f32) shapeCasts_S1x512x4_S512x4,
    Line.unary (.of main_arg4) (.of main_v28) ((extractStridedSlice S1x512 ![1, 0] · slices_S6x512_S1x512_1_0) : (⟨S6x512, .f32⟩ : BufTy).Contents (Elt F) → (⟨S1x512, .f32⟩ : BufTy).Contents (Elt F)),
    Line.reshape (.of main_v28) (.of main_v29) (rfl : (.f32 : EltTy) = .f32) shapeCasts_S1x512_S512,
    Line.unary (.of main_arg5) (.of main_v30) ((extractStridedSlice S1x48x512 ![1, 0, 0] · slices_S6x48x512_S1x48x512_1_0_0) : (⟨S6x48x512, .f32⟩ : BufTy).Contents (Elt F) → (⟨S1x48x512, .f32⟩ : BufTy).Contents (Elt F)),
    Line.reshape (.of main_v30) (.of main_v31) (rfl : (.f32 : EltTy) = .f32) shapeCasts_S1x48x512_S48x512,
    Line.unary (.of main_arg6) (.of main_v32) ((extractStridedSlice S1x512x16 ![1, 0, 0] · slices_S6x512x16_S1x512x16_1_0_0) : (⟨S6x512x16, .f32⟩ : BufTy).Contents (Elt F) → (⟨S1x512x16, .f32⟩ : BufTy).Contents (Elt F)),
    Line.reshape (.of main_v32) (.of main_v33) (rfl : (.f32 : EltTy) = .f32) shapeCasts_S1x512x16_S512x16,
    Line.unary (.of main_arg7) (.of main_v34) ((extractStridedSlice S1x512 ![1, 0] · slices_S6x512_S1x512_1_0) : (⟨S6x512, .f32⟩ : BufTy).Contents (Elt F) → (⟨S1x512, .f32⟩ : BufTy).Contents (Elt F)),
    Line.reshape (.of main_v34) (.of main_v35) (rfl : (.f32 : EltTy) = .f32) shapeCasts_S1x512_S512,
    Line.unary (.of main_arg8) (.of main_v36) ((extractStridedSlice S1x512x16 ![1, 0, 0] · slices_S6x512x16_S1x512x16_1_0_0) : (⟨S6x512x16, .f32⟩ : BufTy).Contents (Elt F) → (⟨S1x512x16, .f32⟩ : BufTy).Contents (Elt F)),
    Line.reshape (.of main_v36) (.of main_v37) (rfl : (.f32 : EltTy) = .f32) shapeCasts_S1x512x16_S512x16,
    Line.unary (.of main_arg9) (.of main_v38) ((extractStridedSlice S1x512 ![1, 0] · slices_S6x512_S1x512_1_0) : (⟨S6x512, .f32⟩ : BufTy).Contents (Elt F) → (⟨S1x512, .f32⟩ : BufTy).Contents (Elt F)),
    Line.reshape (.of main_v38) (.of main_v39) (rfl : (.f32 : EltTy) = .f32) shapeCasts_S1x512_S512,
    Line.unary (.of main_arg10) (.of main_v40) ((extractStridedSlice S1x256x512 ![1, 0, 0] · slices_S6x256x512_S1x256x512_1_0_0) : (⟨S6x256x512, .f32⟩ : BufTy).Contents (Elt F) → (⟨S1x256x512, .f32⟩ : BufTy).Contents (Elt F)),
    Line.reshape (.of main_v40) (.of main_v41) (rfl : (.f32 : EltTy) = .f32) shapeCasts_S1x256x512_S256x512 ]

/-- The operations of the whole before, between or after the layers. -/
noncomputable def mainOps2 : Ops F :=
  [ Line.unary (.of main_arg1) (.of main_v43) ((extractStridedSlice S1x256 ![2, 0] · slices_S6x256_S1x256_2_0) : (⟨S6x256, .f32⟩ : BufTy).Contents (Elt F) → (⟨S1x256, .f32⟩ : BufTy).Contents (Elt F)),
    Line.reshape (.of main_v43) (.of main_v44) (rfl : (.f32 : EltTy) = .f32) shapeCasts_S1x256_S256,
    Line.unary (.of main_arg2) (.of main_v45) ((extractStridedSlice S1x1024x256 ![2, 0, 0] · slices_S6x1024x256_S1x1024x256_2_0_0) : (⟨S6x1024x256, .f32⟩ : BufTy).Contents (Elt F) → (⟨S1x1024x256, .f32⟩ : BufTy).Contents (Elt F)),
    Line.reshape (.of main_v45) (.of main_v46) (rfl : (.f32 : EltTy) = .f32) shapeCasts_S1x1024x256_S1024x256,
    Line.unary (.of main_arg3) (.of main_v47) ((extractStridedSlice S1x512x4 ![2, 0, 0] · slices_S6x512x4_S1x512x4_2_0_0) : (⟨S6x512x4, .f32⟩ : BufTy).Contents (Elt F) → (⟨S1x512x4, .f32⟩ : BufTy).Contents (Elt F)),
    Line.reshape (.of main_v47) (.of main_v48) (rfl : (.f32 : EltTy) = .f32) shapeCasts_S1x512x4_S512x4,
    Line.unary (.of main_arg4) (.of main_v49) ((extractStridedSlice S1x512 ![2, 0] · slices_S6x512_S1x512_2_0) : (⟨S6x512, .f32⟩ : BufTy).Contents (Elt F) → (⟨S1x512, .f32⟩ : BufTy).Contents (Elt F)),
    Line.reshape (.of main_v49) (.of main_v50) (rfl : (.f32 : EltTy) = .f32) shapeCasts_S1x512_S512,
    Line.unary (.of main_arg5) (.of main_v51) ((extractStridedSlice S1x48x512 ![2, 0, 0] · slices_S6x48x512_S1x48x512_2_0_0) : (⟨S6x48x512, .f32⟩ : BufTy).Contents (Elt F) → (⟨S1x48x512, .f32⟩ : BufTy).Contents (Elt F)),
    Line.reshape (.of main_v51) (.of main_v52) (rfl : (.f32 : EltTy) = .f32) shapeCasts_S1x48x512_S48x512,
    Line.unary (.of main_arg6) (.of main_v53) ((extractStridedSlice S1x512x16 ![2, 0, 0] · slices_S6x512x16_S1x512x16_2_0_0) : (⟨S6x512x16, .f32⟩ : BufTy).Contents (Elt F) → (⟨S1x512x16, .f32⟩ : BufTy).Contents (Elt F)),
    Line.reshape (.of main_v53) (.of main_v54) (rfl : (.f32 : EltTy) = .f32) shapeCasts_S1x512x16_S512x16,
    Line.unary (.of main_arg7) (.of main_v55) ((extractStridedSlice S1x512 ![2, 0] · slices_S6x512_S1x512_2_0) : (⟨S6x512, .f32⟩ : BufTy).Contents (Elt F) → (⟨S1x512, .f32⟩ : BufTy).Contents (Elt F)),
    Line.reshape (.of main_v55) (.of main_v56) (rfl : (.f32 : EltTy) = .f32) shapeCasts_S1x512_S512,
    Line.unary (.of main_arg8) (.of main_v57) ((extractStridedSlice S1x512x16 ![2, 0, 0] · slices_S6x512x16_S1x512x16_2_0_0) : (⟨S6x512x16, .f32⟩ : BufTy).Contents (Elt F) → (⟨S1x512x16, .f32⟩ : BufTy).Contents (Elt F)),
    Line.reshape (.of main_v57) (.of main_v58) (rfl : (.f32 : EltTy) = .f32) shapeCasts_S1x512x16_S512x16,
    Line.unary (.of main_arg9) (.of main_v59) ((extractStridedSlice S1x512 ![2, 0] · slices_S6x512_S1x512_2_0) : (⟨S6x512, .f32⟩ : BufTy).Contents (Elt F) → (⟨S1x512, .f32⟩ : BufTy).Contents (Elt F)),
    Line.reshape (.of main_v59) (.of main_v60) (rfl : (.f32 : EltTy) = .f32) shapeCasts_S1x512_S512,
    Line.unary (.of main_arg10) (.of main_v61) ((extractStridedSlice S1x256x512 ![2, 0, 0] · slices_S6x256x512_S1x256x512_2_0_0) : (⟨S6x256x512, .f32⟩ : BufTy).Contents (Elt F) → (⟨S1x256x512, .f32⟩ : BufTy).Contents (Elt F)),
    Line.reshape (.of main_v61) (.of main_v62) (rfl : (.f32 : EltTy) = .f32) shapeCasts_S1x256x512_S256x512 ]

/-- The operations of the whole before, between or after the layers. -/
noncomputable def mainOps3 : Ops F :=
  [ Line.unary (.of main_arg1) (.of main_v64) ((extractStridedSlice S1x256 ![3, 0] · slices_S6x256_S1x256_3_0) : (⟨S6x256, .f32⟩ : BufTy).Contents (Elt F) → (⟨S1x256, .f32⟩ : BufTy).Contents (Elt F)),
    Line.reshape (.of main_v64) (.of main_v65) (rfl : (.f32 : EltTy) = .f32) shapeCasts_S1x256_S256,
    Line.unary (.of main_arg2) (.of main_v66) ((extractStridedSlice S1x1024x256 ![3, 0, 0] · slices_S6x1024x256_S1x1024x256_3_0_0) : (⟨S6x1024x256, .f32⟩ : BufTy).Contents (Elt F) → (⟨S1x1024x256, .f32⟩ : BufTy).Contents (Elt F)),
    Line.reshape (.of main_v66) (.of main_v67) (rfl : (.f32 : EltTy) = .f32) shapeCasts_S1x1024x256_S1024x256,
    Line.unary (.of main_arg3) (.of main_v68) ((extractStridedSlice S1x512x4 ![3, 0, 0] · slices_S6x512x4_S1x512x4_3_0_0) : (⟨S6x512x4, .f32⟩ : BufTy).Contents (Elt F) → (⟨S1x512x4, .f32⟩ : BufTy).Contents (Elt F)),
    Line.reshape (.of main_v68) (.of main_v69) (rfl : (.f32 : EltTy) = .f32) shapeCasts_S1x512x4_S512x4,
    Line.unary (.of main_arg4) (.of main_v70) ((extractStridedSlice S1x512 ![3, 0] · slices_S6x512_S1x512_3_0) : (⟨S6x512, .f32⟩ : BufTy).Contents (Elt F) → (⟨S1x512, .f32⟩ : BufTy).Contents (Elt F)),
    Line.reshape (.of main_v70) (.of main_v71) (rfl : (.f32 : EltTy) = .f32) shapeCasts_S1x512_S512,
    Line.unary (.of main_arg5) (.of main_v72) ((extractStridedSlice S1x48x512 ![3, 0, 0] · slices_S6x48x512_S1x48x512_3_0_0) : (⟨S6x48x512, .f32⟩ : BufTy).Contents (Elt F) → (⟨S1x48x512, .f32⟩ : BufTy).Contents (Elt F)),
    Line.reshape (.of main_v72) (.of main_v73) (rfl : (.f32 : EltTy) = .f32) shapeCasts_S1x48x512_S48x512,
    Line.unary (.of main_arg6) (.of main_v74) ((extractStridedSlice S1x512x16 ![3, 0, 0] · slices_S6x512x16_S1x512x16_3_0_0) : (⟨S6x512x16, .f32⟩ : BufTy).Contents (Elt F) → (⟨S1x512x16, .f32⟩ : BufTy).Contents (Elt F)),
    Line.reshape (.of main_v74) (.of main_v75) (rfl : (.f32 : EltTy) = .f32) shapeCasts_S1x512x16_S512x16,
    Line.unary (.of main_arg7) (.of main_v76) ((extractStridedSlice S1x512 ![3, 0] · slices_S6x512_S1x512_3_0) : (⟨S6x512, .f32⟩ : BufTy).Contents (Elt F) → (⟨S1x512, .f32⟩ : BufTy).Contents (Elt F)),
    Line.reshape (.of main_v76) (.of main_v77) (rfl : (.f32 : EltTy) = .f32) shapeCasts_S1x512_S512,
    Line.unary (.of main_arg8) (.of main_v78) ((extractStridedSlice S1x512x16 ![3, 0, 0] · slices_S6x512x16_S1x512x16_3_0_0) : (⟨S6x512x16, .f32⟩ : BufTy).Contents (Elt F) → (⟨S1x512x16, .f32⟩ : BufTy).Contents (Elt F)),
    Line.reshape (.of main_v78) (.of main_v79) (rfl : (.f32 : EltTy) = .f32) shapeCasts_S1x512x16_S512x16,
    Line.unary (.of main_arg9) (.of main_v80) ((extractStridedSlice S1x512 ![3, 0] · slices_S6x512_S1x512_3_0) : (⟨S6x512, .f32⟩ : BufTy).Contents (Elt F) → (⟨S1x512, .f32⟩ : BufTy).Contents (Elt F)),
    Line.reshape (.of main_v80) (.of main_v81) (rfl : (.f32 : EltTy) = .f32) shapeCasts_S1x512_S512,
    Line.unary (.of main_arg10) (.of main_v82) ((extractStridedSlice S1x256x512 ![3, 0, 0] · slices_S6x256x512_S1x256x512_3_0_0) : (⟨S6x256x512, .f32⟩ : BufTy).Contents (Elt F) → (⟨S1x256x512, .f32⟩ : BufTy).Contents (Elt F)),
    Line.reshape (.of main_v82) (.of main_v83) (rfl : (.f32 : EltTy) = .f32) shapeCasts_S1x256x512_S256x512 ]

/-- The operations of the whole before, between or after the layers. -/
noncomputable def mainOps4 : Ops F :=
  [ Line.unary (.of main_arg1) (.of main_v85) ((extractStridedSlice S1x256 ![4, 0] · slices_S6x256_S1x256_4_0) : (⟨S6x256, .f32⟩ : BufTy).Contents (Elt F) → (⟨S1x256, .f32⟩ : BufTy).Contents (Elt F)),
    Line.reshape (.of main_v85) (.of main_v86) (rfl : (.f32 : EltTy) = .f32) shapeCasts_S1x256_S256,
    Line.unary (.of main_arg2) (.of main_v87) ((extractStridedSlice S1x1024x256 ![4, 0, 0] · slices_S6x1024x256_S1x1024x256_4_0_0) : (⟨S6x1024x256, .f32⟩ : BufTy).Contents (Elt F) → (⟨S1x1024x256, .f32⟩ : BufTy).Contents (Elt F)),
    Line.reshape (.of main_v87) (.of main_v88) (rfl : (.f32 : EltTy) = .f32) shapeCasts_S1x1024x256_S1024x256,
    Line.unary (.of main_arg3) (.of main_v89) ((extractStridedSlice S1x512x4 ![4, 0, 0] · slices_S6x512x4_S1x512x4_4_0_0) : (⟨S6x512x4, .f32⟩ : BufTy).Contents (Elt F) → (⟨S1x512x4, .f32⟩ : BufTy).Contents (Elt F)),
    Line.reshape (.of main_v89) (.of main_v90) (rfl : (.f32 : EltTy) = .f32) shapeCasts_S1x512x4_S512x4,
    Line.unary (.of main_arg4) (.of main_v91) ((extractStridedSlice S1x512 ![4, 0] · slices_S6x512_S1x512_4_0) : (⟨S6x512, .f32⟩ : BufTy).Contents (Elt F) → (⟨S1x512, .f32⟩ : BufTy).Contents (Elt F)),
    Line.reshape (.of main_v91) (.of main_v92) (rfl : (.f32 : EltTy) = .f32) shapeCasts_S1x512_S512,
    Line.unary (.of main_arg5) (.of main_v93) ((extractStridedSlice S1x48x512 ![4, 0, 0] · slices_S6x48x512_S1x48x512_4_0_0) : (⟨S6x48x512, .f32⟩ : BufTy).Contents (Elt F) → (⟨S1x48x512, .f32⟩ : BufTy).Contents (Elt F)),
    Line.reshape (.of main_v93) (.of main_v94) (rfl : (.f32 : EltTy) = .f32) shapeCasts_S1x48x512_S48x512,
    Line.unary (.of main_arg6) (.of main_v95) ((extractStridedSlice S1x512x16 ![4, 0, 0] · slices_S6x512x16_S1x512x16_4_0_0) : (⟨S6x512x16, .f32⟩ : BufTy).Contents (Elt F) → (⟨S1x512x16, .f32⟩ : BufTy).Contents (Elt F)),
    Line.reshape (.of main_v95) (.of main_v96) (rfl : (.f32 : EltTy) = .f32) shapeCasts_S1x512x16_S512x16,
    Line.unary (.of main_arg7) (.of main_v97) ((extractStridedSlice S1x512 ![4, 0] · slices_S6x512_S1x512_4_0) : (⟨S6x512, .f32⟩ : BufTy).Contents (Elt F) → (⟨S1x512, .f32⟩ : BufTy).Contents (Elt F)),
    Line.reshape (.of main_v97) (.of main_v98) (rfl : (.f32 : EltTy) = .f32) shapeCasts_S1x512_S512,
    Line.unary (.of main_arg8) (.of main_v99) ((extractStridedSlice S1x512x16 ![4, 0, 0] · slices_S6x512x16_S1x512x16_4_0_0) : (⟨S6x512x16, .f32⟩ : BufTy).Contents (Elt F) → (⟨S1x512x16, .f32⟩ : BufTy).Contents (Elt F)),
    Line.reshape (.of main_v99) (.of main_v100) (rfl : (.f32 : EltTy) = .f32) shapeCasts_S1x512x16_S512x16,
    Line.unary (.of main_arg9) (.of main_v101) ((extractStridedSlice S1x512 ![4, 0] · slices_S6x512_S1x512_4_0) : (⟨S6x512, .f32⟩ : BufTy).Contents (Elt F) → (⟨S1x512, .f32⟩ : BufTy).Contents (Elt F)),
    Line.reshape (.of main_v101) (.of main_v102) (rfl : (.f32 : EltTy) = .f32) shapeCasts_S1x512_S512,
    Line.unary (.of main_arg10) (.of main_v103) ((extractStridedSlice S1x256x512 ![4, 0, 0] · slices_S6x256x512_S1x256x512_4_0_0) : (⟨S6x256x512, .f32⟩ : BufTy).Contents (Elt F) → (⟨S1x256x512, .f32⟩ : BufTy).Contents (Elt F)),
    Line.reshape (.of main_v103) (.of main_v104) (rfl : (.f32 : EltTy) = .f32) shapeCasts_S1x256x512_S256x512 ]

/-- The operations of the whole before, between or after the layers. -/
noncomputable def mainOps5 : Ops F :=
  [ Line.unary (.of main_arg1) (.of main_v106) ((extractStridedSlice S1x256 ![5, 0] · slices_S6x256_S1x256_5_0) : (⟨S6x256, .f32⟩ : BufTy).Contents (Elt F) → (⟨S1x256, .f32⟩ : BufTy).Contents (Elt F)),
    Line.reshape (.of main_v106) (.of main_v107) (rfl : (.f32 : EltTy) = .f32) shapeCasts_S1x256_S256,
    Line.unary (.of main_arg2) (.of main_v108) ((extractStridedSlice S1x1024x256 ![5, 0, 0] · slices_S6x1024x256_S1x1024x256_5_0_0) : (⟨S6x1024x256, .f32⟩ : BufTy).Contents (Elt F) → (⟨S1x1024x256, .f32⟩ : BufTy).Contents (Elt F)),
    Line.reshape (.of main_v108) (.of main_v109) (rfl : (.f32 : EltTy) = .f32) shapeCasts_S1x1024x256_S1024x256,
    Line.unary (.of main_arg3) (.of main_v110) ((extractStridedSlice S1x512x4 ![5, 0, 0] · slices_S6x512x4_S1x512x4_5_0_0) : (⟨S6x512x4, .f32⟩ : BufTy).Contents (Elt F) → (⟨S1x512x4, .f32⟩ : BufTy).Contents (Elt F)),
    Line.reshape (.of main_v110) (.of main_v111) (rfl : (.f32 : EltTy) = .f32) shapeCasts_S1x512x4_S512x4,
    Line.unary (.of main_arg4) (.of main_v112) ((extractStridedSlice S1x512 ![5, 0] · slices_S6x512_S1x512_5_0) : (⟨S6x512, .f32⟩ : BufTy).Contents (Elt F) → (⟨S1x512, .f32⟩ : BufTy).Contents (Elt F)),
    Line.reshape (.of main_v112) (.of main_v113) (rfl : (.f32 : EltTy) = .f32) shapeCasts_S1x512_S512,
    Line.unary (.of main_arg5) (.of main_v114) ((extractStridedSlice S1x48x512 ![5, 0, 0] · slices_S6x48x512_S1x48x512_5_0_0) : (⟨S6x48x512, .f32⟩ : BufTy).Contents (Elt F) → (⟨S1x48x512, .f32⟩ : BufTy).Contents (Elt F)),
    Line.reshape (.of main_v114) (.of main_v115) (rfl : (.f32 : EltTy) = .f32) shapeCasts_S1x48x512_S48x512,
    Line.unary (.of main_arg6) (.of main_v116) ((extractStridedSlice S1x512x16 ![5, 0, 0] · slices_S6x512x16_S1x512x16_5_0_0) : (⟨S6x512x16, .f32⟩ : BufTy).Contents (Elt F) → (⟨S1x512x16, .f32⟩ : BufTy).Contents (Elt F)),
    Line.reshape (.of main_v116) (.of main_v117) (rfl : (.f32 : EltTy) = .f32) shapeCasts_S1x512x16_S512x16,
    Line.unary (.of main_arg7) (.of main_v118) ((extractStridedSlice S1x512 ![5, 0] · slices_S6x512_S1x512_5_0) : (⟨S6x512, .f32⟩ : BufTy).Contents (Elt F) → (⟨S1x512, .f32⟩ : BufTy).Contents (Elt F)),
    Line.reshape (.of main_v118) (.of main_v119) (rfl : (.f32 : EltTy) = .f32) shapeCasts_S1x512_S512,
    Line.unary (.of main_arg8) (.of main_v120) ((extractStridedSlice S1x512x16 ![5, 0, 0] · slices_S6x512x16_S1x512x16_5_0_0) : (⟨S6x512x16, .f32⟩ : BufTy).Contents (Elt F) → (⟨S1x512x16, .f32⟩ : BufTy).Contents (Elt F)),
    Line.reshape (.of main_v120) (.of main_v121) (rfl : (.f32 : EltTy) = .f32) shapeCasts_S1x512x16_S512x16,
    Line.unary (.of main_arg9) (.of main_v122) ((extractStridedSlice S1x512 ![5, 0] · slices_S6x512_S1x512_5_0) : (⟨S6x512, .f32⟩ : BufTy).Contents (Elt F) → (⟨S1x512, .f32⟩ : BufTy).Contents (Elt F)),
    Line.reshape (.of main_v122) (.of main_v123) (rfl : (.f32 : EltTy) = .f32) shapeCasts_S1x512_S512,
    Line.unary (.of main_arg10) (.of main_v124) ((extractStridedSlice S1x256x512 ![5, 0, 0] · slices_S6x256x512_S1x256x512_5_0_0) : (⟨S6x256x512, .f32⟩ : BufTy).Contents (Elt F) → (⟨S1x256x512, .f32⟩ : BufTy).Contents (Elt F)),
    Line.reshape (.of main_v124) (.of main_v125) (rfl : (.f32 : EltTy) = .f32) shapeCasts_S1x256x512_S256x512 ]

/-- The operations of the whole before, between or after the layers. -/
noncomputable def mainOps6 : Ops F :=
  [ Line.binary (.of main_v126) (.of main_v126) (.of main_v127) (mulf : (⟨S8x256x256, .f32⟩ : BufTy).Contents (Elt F) → (⟨S8x256x256, .f32⟩ : BufTy).Contents (Elt F) → (⟨S8x256x256, .f32⟩ : BufTy).Contents (Elt F)),
    Line.nullary (.of main_cst) (constant S_ .f32 0x00000000#32),
    Line.binary (.of main_v127) (.of main_cst) (.of main_v128) ((fun x v => Host.reduceAdd x v reducesTo_S8x256x256_S8x256_d2 h_S_) : (⟨S8x256x256, .f32⟩ : BufTy).Contents (Elt F) → (⟨S_, .f32⟩ : BufTy).Contents (Elt F) → (⟨S8x256, .f32⟩ : BufTy).Contents (Elt F)),
    Line.unary (.of main_v128) (.of main_v129) (broadcastInDim S8x256x1 ![0, 1] bcast_S8x256_S8x256x1_0_1 : (⟨S8x256, .f32⟩ : BufTy).Contents (Elt F) → (⟨S8x256x1, .f32⟩ : BufTy).Contents (Elt F)),
    Line.nullary (.of main_cst_0) (constant S_ .f32 0x43800000#32),
    Line.unary (.of main_cst_0) (.of main_v130) (broadcastInDim S8x256x1 ![] bcast_S_S8x256x1 : (⟨S_, .f32⟩ : BufTy).Contents (Elt F) → (⟨S8x256x1, .f32⟩ : BufTy).Contents (Elt F)),
    Line.binary (.of main_v129) (.of main_v130) (.of main_v131) (Host.divf : (⟨S8x256x1, .f32⟩ : BufTy).Contents (Elt F) → (⟨S8x256x1, .f32⟩ : BufTy).Contents (Elt F) → (⟨S8x256x1, .f32⟩ : BufTy).Contents (Elt F)),
    Line.nullary (.of main_cst_1) (constant S_ .f32 0x3727C5AC#32),
    Line.unary (.of main_cst_1) (.of main_v132) (broadcastInDim S8x256x1 ![] bcast_S_S8x256x1 : (⟨S_, .f32⟩ : BufTy).Contents (Elt F) → (⟨S8x256x1, .f32⟩ : BufTy).Contents (Elt F)),
    Line.binary (.of main_v131) (.of main_v132) (.of main_v133) (addf : (⟨S8x256x1, .f32⟩ : BufTy).Contents (Elt F) → (⟨S8x256x1, .f32⟩ : BufTy).Contents (Elt F) → (⟨S8x256x1, .f32⟩ : BufTy).Contents (Elt F)),
    Line.unary (.of main_v133) (.of main_v134) (Host.rsqrt : (⟨S8x256x1, .f32⟩ : BufTy).Contents (Elt F) → (⟨S8x256x1, .f32⟩ : BufTy).Contents (Elt F)),
    Line.unary (.of main_v134) (.of main_v135) (broadcastInDim S8x256x256 ![0, 1, 2] bcast_S8x256x1_S8x256x256_0_1_2 : (⟨S8x256x1, .f32⟩ : BufTy).Contents (Elt F) → (⟨S8x256x256, .f32⟩ : BufTy).Contents (Elt F)),
    Line.binary (.of main_v126) (.of main_v135) (.of main_v136) (mulf : (⟨S8x256x256, .f32⟩ : BufTy).Contents (Elt F) → (⟨S8x256x256, .f32⟩ : BufTy).Contents (Elt F) → (⟨S8x256x256, .f32⟩ : BufTy).Contents (Elt F)),
    Line.unary (.of main_arg11) (.of main_v137) (broadcastInDim S1x1x256 ![2] bcast_S256_S1x1x256_2 : (⟨S256, .f32⟩ : BufTy).Contents (Elt F) → (⟨S1x1x256, .f32⟩ : BufTy).Contents (Elt F)),
    Line.unary (.of main_v137) (.of main_v138) (broadcastInDim S8x256x256 ![0, 1, 2] bcast_S1x1x256_S8x256x256_0_1_2 : (⟨S1x1x256, .f32⟩ : BufTy).Contents (Elt F) → (⟨S8x256x256, .f32⟩ : BufTy).Contents (Elt F)),
    Line.binary (.of main_v136) (.of main_v138) (.of main_v139) (mulf : (⟨S8x256x256, .f32⟩ : BufTy).Contents (Elt F) → (⟨S8x256x256, .f32⟩ : BufTy).Contents (Elt F) → (⟨S8x256x256, .f32⟩ : BufTy).Contents (Elt F)),
    Line.unary (.of main_arg12) (.of main_v140) ((transpose S256x64 [1, 0] · transposes_S64x256_S256x64_1_0) : (⟨S64x256, .f32⟩ : BufTy).Contents (Elt F) → (⟨S256x64, .f32⟩ : BufTy).Contents (Elt F)),
    Line.binary (.of main_v139) (.of main_v140) (.of main_v141) ((fun l r => Host.dotGeneral dot_S8x256x256_S256x64_S8x256x64_2_0_01_1_n_n none l r) : (⟨S8x256x256, .f32⟩ : BufTy).Contents (Elt F) → (⟨S256x64, .f32⟩ : BufTy).Contents (Elt F) → (⟨S8x256x64, .f32⟩ : BufTy).Contents (Elt F)),
    Line.unary (.of main_arg13) (.of main_v142) (broadcastInDim S1x1x64 ![2] bcast_S64_S1x1x64_2 : (⟨S64, .f32⟩ : BufTy).Contents (Elt F) → (⟨S1x1x64, .f32⟩ : BufTy).Contents (Elt F)),
    Line.unary (.of main_v142) (.of main_v143) (broadcastInDim S8x256x64 ![0, 1, 2] bcast_S1x1x64_S8x256x64_0_1_2 : (⟨S1x1x64, .f32⟩ : BufTy).Contents (Elt F) → (⟨S8x256x64, .f32⟩ : BufTy).Contents (Elt F)),
    Line.binary (.of main_v141) (.of main_v143) (.of main_v144) (addf : (⟨S8x256x64, .f32⟩ : BufTy).Contents (Elt F) → (⟨S8x256x64, .f32⟩ : BufTy).Contents (Elt F) → (⟨S8x256x64, .f32⟩ : BufTy).Contents (Elt F)),
    Line.binary (.of main_v144) (.of main_v144) (.of main_v145) (mulf : (⟨S8x256x64, .f32⟩ : BufTy).Contents (Elt F) → (⟨S8x256x64, .f32⟩ : BufTy).Contents (Elt F) → (⟨S8x256x64, .f32⟩ : BufTy).Contents (Elt F)),
    Line.binary (.of main_v145) (.of main_v144) (.of main_v146) (mulf : (⟨S8x256x64, .f32⟩ : BufTy).Contents (Elt F) → (⟨S8x256x64, .f32⟩ : BufTy).Contents (Elt F) → (⟨S8x256x64, .f32⟩ : BufTy).Contents (Elt F)),
    Line.nullary (.of main_cst_2) (constant S_ .f32 0x3D372713#32),
    Line.unary (.of main_cst_2) (.of main_v147) (broadcastInDim S8x256x64 ![] bcast_S_S8x256x64 : (⟨S_, .f32⟩ : BufTy).Contents (Elt F) → (⟨S8x256x64, .f32⟩ : BufTy).Contents (Elt F)),
    Line.binary (.of main_v147) (.of main_v146) (.of main_v148) (mulf : (⟨S8x256x64, .f32⟩ : BufTy).Contents (Elt F) → (⟨S8x256x64, .f32⟩ : BufTy).Contents (Elt F) → (⟨S8x256x64, .f32⟩ : BufTy).Contents (Elt F)),
    Line.binary (.of main_v144) (.of main_v148) (.of main_v149) (addf : (⟨S8x256x64, .f32⟩ : BufTy).Contents (Elt F) → (⟨S8x256x64, .f32⟩ : BufTy).Contents (Elt F) → (⟨S8x256x64, .f32⟩ : BufTy).Contents (Elt F)),
    Line.nullary (.of main_cst_3) (constant S_ .f32 0x3F4C422A#32),
    Line.unary (.of main_cst_3) (.of main_v150) (broadcastInDim S8x256x64 ![] bcast_S_S8x256x64 : (⟨S_, .f32⟩ : BufTy).Contents (Elt F) → (⟨S8x256x64, .f32⟩ : BufTy).Contents (Elt F)),
    Line.binary (.of main_v150) (.of main_v149) (.of main_v151) (mulf : (⟨S8x256x64, .f32⟩ : BufTy).Contents (Elt F) → (⟨S8x256x64, .f32⟩ : BufTy).Contents (Elt F) → (⟨S8x256x64, .f32⟩ : BufTy).Contents (Elt F)),
    Line.unary (.of main_v151) (.of main_v152) (Host.tanh : (⟨S8x256x64, .f32⟩ : BufTy).Contents (Elt F) → (⟨S8x256x64, .f32⟩ : BufTy).Contents (Elt F)),
    Line.nullary (.of main_cst_4) (constant S_ .f32 0x3F800000#32),
    Line.unary (.of main_cst_4) (.of main_v153) (broadcastInDim S8x256x64 ![] bcast_S_S8x256x64 : (⟨S_, .f32⟩ : BufTy).Contents (Elt F) → (⟨S8x256x64, .f32⟩ : BufTy).Contents (Elt F)),
    Line.binary (.of main_v153) (.of main_v152) (.of main_v154) (addf : (⟨S8x256x64, .f32⟩ : BufTy).Contents (Elt F) → (⟨S8x256x64, .f32⟩ : BufTy).Contents (Elt F) → (⟨S8x256x64, .f32⟩ : BufTy).Contents (Elt F)),
    Line.nullary (.of main_cst_5) (constant S_ .f32 0x3F000000#32),
    Line.unary (.of main_cst_5) (.of main_v155) (broadcastInDim S8x256x64 ![] bcast_S_S8x256x64 : (⟨S_, .f32⟩ : BufTy).Contents (Elt F) → (⟨S8x256x64, .f32⟩ : BufTy).Contents (Elt F)),
    Line.binary (.of main_v155) (.of main_v154) (.of main_v156) (mulf : (⟨S8x256x64, .f32⟩ : BufTy).Contents (Elt F) → (⟨S8x256x64, .f32⟩ : BufTy).Contents (Elt F) → (⟨S8x256x64, .f32⟩ : BufTy).Contents (Elt F)),
    Line.binary (.of main_v144) (.of main_v156) (.of main_v157) (mulf : (⟨S8x256x64, .f32⟩ : BufTy).Contents (Elt F) → (⟨S8x256x64, .f32⟩ : BufTy).Contents (Elt F) → (⟨S8x256x64, .f32⟩ : BufTy).Contents (Elt F)),
    Line.unary (.of main_arg14) (.of main_v158) ((transpose S64x1 [1, 0] · transposes_S1x64_S64x1_1_0) : (⟨S1x64, .f32⟩ : BufTy).Contents (Elt F) → (⟨S64x1, .f32⟩ : BufTy).Contents (Elt F)),
    Line.binary (.of main_v157) (.of main_v158) (.of main_v159) ((fun l r => Host.dotGeneral dot_S8x256x64_S64x1_S8x256x1_2_0_01_1_n_n none l r) : (⟨S8x256x64, .f32⟩ : BufTy).Contents (Elt F) → (⟨S64x1, .f32⟩ : BufTy).Contents (Elt F) → (⟨S8x256x1, .f32⟩ : BufTy).Contents (Elt F)),
    Line.unary (.of main_arg15) (.of main_v160) (broadcastInDim S1x1x1 ![2] bcast_S1_S1x1x1_2 : (⟨S1, .f32⟩ : BufTy).Contents (Elt F) → (⟨S1x1x1, .f32⟩ : BufTy).Contents (Elt F)),
    Line.unary (.of main_v160) (.of main_v161) (broadcastInDim S8x256x1 ![0, 1, 2] bcast_S1x1x1_S8x256x1_0_1_2 : (⟨S1x1x1, .f32⟩ : BufTy).Contents (Elt F) → (⟨S8x256x1, .f32⟩ : BufTy).Contents (Elt F)),
    Line.binary (.of main_v159) (.of main_v161) (.of main_v162) (addf : (⟨S8x256x1, .f32⟩ : BufTy).Contents (Elt F) → (⟨S8x256x1, .f32⟩ : BufTy).Contents (Elt F) → (⟨S8x256x1, .f32⟩ : BufTy).Contents (Elt F)),
    Line.nullary (.of main_cst_6) (constant S_ .f32 0xFF800000#32),
    Line.binary (.of main_v162) (.of main_cst_6) (.of main_v163) ((fun x v => Host.reduce FloatOps.maximumf x v reducesTo_S8x256x1_S8x1_d1 h_S_) : (⟨S8x256x1, .f32⟩ : BufTy).Contents (Elt F) → (⟨S_, .f32⟩ : BufTy).Contents (Elt F) → (⟨S8x1, .f32⟩ : BufTy).Contents (Elt F)),
    Line.nullary (.of main_cst_7) (constant S_ .f32 0xFF800000#32),
    Line.unary (.of main_cst_7) (.of main_v164) (broadcastInDim S8x1 ![] bcast_S_S8x1 : (⟨S_, .f32⟩ : BufTy).Contents (Elt F) → (⟨S8x1, .f32⟩ : BufTy).Contents (Elt F)),
    Line.binary (.of main_v164) (.of main_v163) (.of main_v165) (maximumf : (⟨S8x1, .f32⟩ : BufTy).Contents (Elt F) → (⟨S8x1, .f32⟩ : BufTy).Contents (Elt F) → (⟨S8x1, .f32⟩ : BufTy).Contents (Elt F)),
    Line.unary (.of main_v165) (.of main_v166) (broadcastInDim S8x1x1 ![0, 2] bcast_S8x1_S8x1x1_0_2 : (⟨S8x1, .f32⟩ : BufTy).Contents (Elt F) → (⟨S8x1x1, .f32⟩ : BufTy).Contents (Elt F)),
    Line.unary (.of main_v166) (.of main_v167) (broadcastInDim S8x256x1 ![0, 1, 2] bcast_S8x1x1_S8x256x1_0_1_2 : (⟨S8x1x1, .f32⟩ : BufTy).Contents (Elt F) → (⟨S8x256x1, .f32⟩ : BufTy).Contents (Elt F)),
    Line.binary (.of main_v162) (.of main_v167) (.of main_v168) (subf : (⟨S8x256x1, .f32⟩ : BufTy).Contents (Elt F) → (⟨S8x256x1, .f32⟩ : BufTy).Contents (Elt F) → (⟨S8x256x1, .f32⟩ : BufTy).Contents (Elt F)),
    Line.unary (.of main_v168) (.of main_v169) (Host.exp : (⟨S8x256x1, .f32⟩ : BufTy).Contents (Elt F) → (⟨S8x256x1, .f32⟩ : BufTy).Contents (Elt F)),
    Line.nullary (.of main_cst_8) (constant S_ .f32 0x00000000#32),
    Line.binary (.of main_v169) (.of main_cst_8) (.of main_v170) ((fun x v => Host.reduceAdd x v reducesTo_S8x256x1_S8x1_d1 h_S_) : (⟨S8x256x1, .f32⟩ : BufTy).Contents (Elt F) → (⟨S_, .f32⟩ : BufTy).Contents (Elt F) → (⟨S8x1, .f32⟩ : BufTy).Contents (Elt F)),
    Line.unary (.of main_v170) (.of main_v171) (broadcastInDim S8x1x1 ![0, 2] bcast_S8x1_S8x1x1_0_2 : (⟨S8x1, .f32⟩ : BufTy).Contents (Elt F) → (⟨S8x1x1, .f32⟩ : BufTy).Contents (Elt F)),
    Line.unary (.of main_v171) (.of main_v172) (broadcastInDim S8x256x1 ![0, 1, 2] bcast_S8x1x1_S8x256x1_0_1_2 : (⟨S8x1x1, .f32⟩ : BufTy).Contents (Elt F) → (⟨S8x256x1, .f32⟩ : BufTy).Contents (Elt F)),
    Line.binary (.of main_v169) (.of main_v172) (.of main_v173) (Host.divf : (⟨S8x256x1, .f32⟩ : BufTy).Contents (Elt F) → (⟨S8x256x1, .f32⟩ : BufTy).Contents (Elt F) → (⟨S8x256x1, .f32⟩ : BufTy).Contents (Elt F)),
    Line.nullary (.of main_c) (constantI S_ 32 0#32),
    Line.unary (.of main_c) (.of main_v174) (broadcastInDim S1 ![] bcast_S_S1 : (⟨S_, .i32⟩ : BufTy).Contents (Elt F) → (⟨S1, .i32⟩ : BufTy).Contents (Elt F)),
    Line.nullary (.of main_c_9) (constantI S_ 32 0#32),
    Line.unary (.of main_c_9) (.of main_v175) (broadcastInDim S1 ![] bcast_S_S1 : (⟨S_, .i32⟩ : BufTy).Contents (Elt F) → (⟨S1, .i32⟩ : BufTy).Contents (Elt F)),
    Line.binary (.of main_v174) (.of main_v175) (.of main_v176) ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
    Line.nullary (.of main_cst_10) (constant S_ .f32 0x00000000#32),
    Line.unary (.of main_cst_10) (.of main_v177) (broadcastInDim S8 ![] bcast_S_S8 : (⟨S_, .f32⟩ : BufTy).Contents (Elt F) → (⟨S8, .f32⟩ : BufTy).Contents (Elt F)),
    Line.ternary (.of main_v173) (.of main_v176) (.of main_v177) (.of main_v178) ((fun x i u => Host.scatter scatter_S8x256x1_S2_S8_0_12_12_0 (fun _ b => b) x i u) : (⟨S8x256x1, .f32⟩ : BufTy).Contents (Elt F) → (⟨S2, .i32⟩ : BufTy).Contents (Elt F) → (⟨S8, .f32⟩ : BufTy).Contents (Elt F) → (⟨S8x256x1, .f32⟩ : BufTy).Contents (Elt F)),
    Line.reshape (.of main_v178) (.of main_v179) (rfl : (.f32 : EltTy) = .f32) shapeCasts_S8x256x1_S8x1x256 ]

/-- The arguments of layer 0. -/
noncomputable def args0 : Args := ⟨(.of main_v0), (.of main_v2), (.of main_v4), (.of main_v6), (.of main_v8), (.of main_v10), (.of main_v12), (.of main_v14), (.of main_v16), (.of main_v18), (.of main_v20)⟩

/-- The arguments of layer 1. -/
noncomputable def args1 : Args := ⟨(.of main_v21), (.of main_v23), (.of main_v25), (.of main_v27), (.of main_v29), (.of main_v31), (.of main_v33), (.of main_v35), (.of main_v37), (.of main_v39), (.of main_v41)⟩

/-- The arguments of layer 2. -/
noncomputable def args2 : Args := ⟨(.of main_v42), (.of main_v44), (.of main_v46), (.of main_v48), (.of main_v50), (.of main_v52), (.of main_v54), (.of main_v56), (.of main_v58), (.of main_v60), (.of main_v62)⟩

/-- The arguments of layer 3. -/
noncomputable def args3 : Args := ⟨(.of main_v63), (.of main_v65), (.of main_v67), (.of main_v69), (.of main_v71), (.of main_v73), (.of main_v75), (.of main_v77), (.of main_v79), (.of main_v81), (.of main_v83)⟩

/-- The arguments of layer 4. -/
noncomputable def args4 : Args := ⟨(.of main_v84), (.of main_v86), (.of main_v88), (.of main_v90), (.of main_v92), (.of main_v94), (.of main_v96), (.of main_v98), (.of main_v100), (.of main_v102), (.of main_v104)⟩

/-- The arguments of layer 5. -/
noncomputable def args5 : Args := ⟨(.of main_v105), (.of main_v107), (.of main_v109), (.of main_v111), (.of main_v113), (.of main_v115), (.of main_v117), (.of main_v119), (.of main_v121), (.of main_v123), (.of main_v125)⟩

end Cert.Ref
-- ==== Proof.HostRun.lean ====
module

public import Idealize.ShloMosaic.Lib.StableHlo.RunLoop
public import Idealize.ShloMosaic.Lib.Pipeline.Quiescent
public import Idealize.ShloMosaic.Lib.Pipeline.CollectiveSegs

/-!
Running a host program that is a list of straight stretches and counted loops, in any order.
-/

@[expose] public section

noncomputable section

namespace Cert.HostRun

open Idealize Idealize.ShloMosaic Idealize.ShloMosaic.StableHlo
open Idealize.SL Idealize.SL.RA Idealize.SL.BI
open scoped Idealize.SL.BI
open Idealize.SL.BI.BIBase Idealize.SL.BI.Laws Idealize.SL.ProofMode Idealize.SL.Sem
open Idealize.ShloMosaic.Rounds
open TcCoe
open Idealize.ShloMosaic.Pipeline (CSeg Ticket PCfg ucRefs sub_ucRefs)

variable {nD : Nat} {τ : Topo} {sig : RefSig} {F : FTy → Type} {Λ₀ : SL.Sem.Labels}

local notation "𝕄" => MT nD τ sig Unit (Elt F) ℕ (Option PUnit) ℕ

variable (pcs : Fin 0 → PCfg sig Λ₀ (Elt F)) (defs₀ : Defs nD τ sig (Elt F) Λ₀) {nL : Nat}
  (loops : Fin nL → Prog (TpuEff nD τ sig (Elt F) (HostLoop.Sig (Pipeline.Sig Λ₀ (Fin 0) fun p => (pcs p).Adm) nL) .tc) PUnit)

/-- A counted host loop: its label, its two regions, the operations they run and its trip count. -/
structure Counted where
  /-- The loop's label. -/
  l : Fin nL
  /-- The condition region. -/
  cond : Prog (TpuEff nD τ sig (Elt F) (HostLoop.Sig (Pipeline.Sig Λ₀ (Fin 0) fun p => (pcs p).Adm) nL) .tc) (Elt F .i1)
  /-- The body region. -/
  body : Prog (TpuEff nD τ sig (Elt F) (HostLoop.Sig (Pipeline.Sig Λ₀ (Fin 0) fun p => (pcs p).Adm) nL) .tc) PUnit
  /-- The label enters these two regions. -/
  hloops : loops l = HostLoop.step l cond body
  /-- The condition's operations. -/
  condOps : List (HloOp τ sig (Elt F))
  /-- The body's operations, in stretches. -/
  bodyI : List (List (HloOp τ sig (Elt F)))
  /-- They touch TensorCore references only and allocate nothing. -/
  plain : Plain bodyI
  /-- The body is its stretches in order. -/
  hbody : body = Pipeline.chain (bodyI.map fun ops => (seq ops : Prog _ PUnit))
  /-- The number of trips. -/
  n : ℕ

/-- One piece of a host program: a stretch of operations or a counted loop. -/
inductive Item where
  | ops (l : List (HloOp τ sig (Elt F))) (h : Plain [l])
  | loop (d : Counted pcs loops)

variable {pcs loops}

/-- The program fragment of a piece. -/
def Item.prog : Item pcs loops →
    Prog (TpuEff nD τ sig (Elt F) (HostLoop.Sig (Pipeline.Sig Λ₀ (Fin 0) fun p => (pcs p).Adm) nL) .tc) PUnit
  | .ops l _ => seq l
  | .loop d => HostLoop.enter d.l

/-- Every buffer's contents after a piece, from its contents before it. -/
def Item.next : Item pcs loops → (Dev nD → Valuation τ sig (Elt F)) → Dev nD → Valuation τ sig (Elt F)
  | .ops l _, V => fun c => after l (V c)
  | .loop d, V => fun c => after d.condOps (atTrip d.condOps d.bodyI V d.n c)

/-- What a piece asks of the contents before it: a loop asks that its condition counts. -/
def Item.Ok : Item pcs loops → (Dev nD → Valuation τ sig (Elt F)) → Prop
  | .ops _ _, _ => True
  | .loop d, V => CondSpec pcs defs₀ loops d.cond d.condOps d.bodyI V d.n

/-- Every buffer's contents after a list of pieces. -/
def fold : List (Item pcs loops) → (Dev nD → Valuation τ sig (Elt F)) → Dev nD → Valuation τ sig (Elt F)
  | [], V => V
  | i :: rest, V => fold rest (i.next V)

/-- Every piece's demand, at the contents it meets. -/
def Ok : List (Item pcs loops) → (Dev nD → Valuation τ sig (Elt F)) → Prop
  | [], _ => True
  | i :: rest, V => i.Ok defs₀ V ∧ Ok rest (i.next V)

theorem fold_append : ∀ (a b : List (Item pcs loops)) (V : Dev nD → Valuation τ sig (Elt F)),
    fold (a ++ b) V = fold b (fold a V)
  | [], _, _ => rfl
  | i :: a, b, V => fold_append a b (i.next V)

theorem ok_append : ∀ (a b : List (Item pcs loops)) (V : Dev nD → Valuation τ sig (Elt F)),
    Ok defs₀ (a ++ b) V ↔ Ok defs₀ a V ∧ Ok defs₀ b (fold a V)
  | [], _, _ => by simp [Ok, fold]
  | i :: a, b, V => by simp [Ok, fold, ok_append a b (i.next V), and_assoc]

section Segs

variable (pcs) in
private abbrev adm : (p : Fin 0) → (pcs p).Adm := fun p => p.elim0
variable (pcs) in
private abbrev tk : Fin 0 → Ticket (Ix := Unit) (Name := ℕ) (U := Option PUnit) (Lvl := ℕ) (nD := nD) (τ := τ) pcs (adm pcs) :=
  fun j => j.elim0
private abbrev noL : GSem nD τ sig → Finset Unit := fun _ => ∅
private abbrev noLv : GSem nD τ sig → Unit → ℕ := fun _ _ => 0

/-- What rides beside the buffers: the core's counters at zero and what it owes. -/
private abbrev Beside (c : Dev nD) : sProp 𝕄 :=
  iprop(unscopedSems0 c ∗ ∃ W, owes (c : Thread nD τ) (0 : CellTallies nD τ sig Unit) W)

variable {defs₀} in
/-- A condition that counts still counts with anything beside the buffers. -/
private theorem loopCond (Rc : Dev nD → sProp 𝕄)
    {cond : Prog (TpuEff nD τ sig (Elt F) (HostLoop.Sig (Pipeline.Sig Λ₀ (Fin 0) fun p => (pcs p).Adm) nL) .tc) (Elt F .i1)}
    {condOps : List (HloOp τ sig (Elt F))} {bodyI : List (List (HloOp τ sig (Elt F)))}
    {W₀ : Dev nD → Valuation τ sig (Elt F)} {n : ℕ} (h : CondSpec pcs defs₀ loops cond condOps bodyI W₀ n) :
    LoopCond pcs defs₀ Variants.none loops Rc cond condOps bodyI W₀ n := fun k hk c bd => by
  refine BIBase.Entails.trans ?_ (((sep_mono_left (Q := Rc c) (h k hk c bd)).trans (wp_frame_r (R := Rc c) _ _ _)).trans
    (wp_mono _ _ _ fun v => ?_))
  · iintro ⟨Hb, Hh, HR⟩
    isplitl [Hb Hh]; · isplitl [Hb] <;> iassumption
    iexact HR
  · iintro ⟨⟨%hv, Hb, Hh⟩, HR⟩
    isplitr; · ipureintro; exact hv
    isplitl [Hb]; · iexact Hb
    isplitl [Hh] <;> iassumption

/-- The pieces as segments of the run. -/
private def segs : (items : List (Item pcs loops)) → (V : Dev nD → Valuation τ sig (Elt F)) → Ok defs₀ items V →
    List (CSeg pcs (adm pcs) defs₀ Variants.none noL noLv loops (tk pcs))
  | [], _, _ => []
  | .ops l h :: rest, V, ok => segsOf _ _ _ _ _ _ _ _ Beside [l] h V ++ segs rest _ ok.2
  | .loop d :: rest, V, ok =>
    loopSeg _ _ _ _ _ _ _ _ d.l d.cond d.body d.hloops d.condOps d.bodyI d.plain d.hbody d.n V Beside (loopCond Beside ok.1)
      :: segs rest _ ok.2

private theorem segs_prog : ∀ (items : List (Item pcs loops)) (V : Dev nD → Valuation τ sig (Elt F)) (ok : Ok defs₀ items V),
    (segs defs₀ items V ok).map CSeg.prog = items.map Item.prog
  | [], _, _ => rfl
  | .ops l h :: rest, V, ok => by
    rw [segs, List.map_append, segs_prog rest, segsOf_prog]; rfl
  | .loop d :: rest, V, ok => by
    rw [segs, List.map_cons, segs_prog rest]; rfl

private theorem segs_chains : ∀ (items : List (Item pcs loops)) (V : Dev nD → Valuation τ sig (Elt F)) (ok : Ok defs₀ items V),
    CSeg.Chains (fun c => iprop(held (c : Thread nD τ) (ucRefs τ sig) (V c) ∗ Beside c)) (segs defs₀ items V ok)
      (fun c => iprop(held (c : Thread nD τ) (ucRefs τ sig) (fold items V c) ∗ Beside c))
  | [], _, _ => fun _ => .rfl
  | .ops l h :: rest, V, ok => CSeg.Chains.append (segsOf_chains _ _ _ _ _ _ _ _ Beside [l] h V) (segs_chains rest _ ok.2)
  | .loop d :: rest, V, ok => ⟨fun _ => .rfl, segs_chains rest _ ok.2⟩

end Segs

/-- THE RUN: a host program that is a list of stretches and counted loops ends, from any memory with zero counters, with
every buffer of a tensor value at the fold of the pieces over the starting memory and every counter at zero. -/
theorem run [∀ e, Nonempty (Elt F e)]
    (main : Dev nD → Prog (TpuEff nD τ sig (Elt F) (HostLoop.Sig (Pipeline.Sig Λ₀ (Fin 0) fun p => (pcs p).Adm) nL) .tc) PUnit)
    (items : List (Item pcs loops)) (hmain : ∀ c, main c = Pipeline.chain (items.map Item.prog))
    (m : (ℓ : Loc nD τ sig) → Buf (Elt F) ℓ) (ρ : Dev nD → PrngReg)
    (ok : Ok defs₀ items (launchContents m)) :
    θ_run (HostLoop.defs loops (Pipeline.defs pcs defs₀)) (onTc (τ := τ) main) ⟨m, fun _ => 0, ρ⟩
      (fun r => (∀ (c : Dev nD) (b : Ref sig .tc), (Proc.devRef .tc b : DevRef τ sig).isScoped = false →
        r.2.mem ((c.tc : Thread nD τ).loc b) = fold items (launchContents m) c (Proc.devRef .tc b)) ∧ r.2.sem = fun _ => 0) :=
  Pipeline.θ_run_regions_loop_kit_sems (Ix := Unit) (Name := ℕ) (U := Option PUnit) (Lvl := ℕ) (J := Fin 0) (P := Fin 0) (Val := Elt F)
    pcs (adm pcs) (fun k => k.1.elim0) defs₀ Variants.none noL noLv loops (tk pcs) m ρ main
    (segs defs₀ items (launchContents m) ok)
    (fun c Q => by
      rw [hmain c]
      show wp _ _ _ (Pipeline.chain ((segs defs₀ items (launchContents m) ok).map CSeg.prog)) Q ⊢ _
      rw [segs_prog])
    (Pipeline.CSeg.pairwise_disjoint_of_T_empty _ fun s _ => Finset.eq_empty_of_isEmpty s.T)
    (O₀ := 0) (hL := fun _ _ => rfl) (G := fun _ => iprop(emp)) (u₀ := 1)
    (hu₀ := by
      iintro -
      imodintro
      isplitl []
      · rw [Finset.univ_eq_empty, BI.bigSep_empty]; iempintro
      · iapply (show (BI.emp : sProp 𝕄) ⊢ bigSep Finset.univ (fun _ : Dev nD => (BI.emp : sProp 𝕄)) from by
          rw [BI.bigSep_emp_const])
        iempintro)
    (T₀ := fun c => iprop(held (c : Thread nD τ) (ucRefs τ sig) (launchContents m c) ∗ Beside c))
    (Tₙ := fun c => iprop(held (c : Thread nD τ) (ucRefs τ sig) (fold items (launchContents m) c) ∗ unscopedSems0 c))
    (hch := CSeg.Chains.mono_right (fun c => by
      iintro ⟨Hh, HS, HO⟩
      isplitr [HO]
      · isplitl [Hh] <;> iassumption
      · iexact HO) _ _ (segs_chains defs₀ items (launchContents m) ok))
    (hinit := by
      refine Pipeline.initEach noL noLv fun c => ?_
      rw [show unscopedBufs c (fun b => m ((c : Thread nD τ).loc b)) = held (c : Thread nD τ) (ucRefs τ sig) (launchContents m c)
        from Pipeline.unscopedBufs_held c (launchContents m c)]
      iintro ⟨⟨Hh, HS, HO, -, -, -⟩, -⟩
      imodintro
      isplitl [Hh]; · iexact Hh
      isplitl [HS]; · iexact HS
      iexists ∅; iexact HO)
    (QY := fun c s => (∀ b ∈ ucRefs τ sig, s.mem ((c : Dev nD), b) = fold items (launchContents m) c b) ∧
      ∀ sm : SemLoc sig, sm.isScoped .tc = false → s.sem ((c.tc : Thread nD τ), sm) = 0)
    (hfin := fun c s' => by
      unfold held
      iintro ⟨⟨Hh, HS⟩, HSI⟩
      ihave %hs := (tcUnscoped_read c s') $$ [HS HSI]
      · isplitl [HS] <;> iassumption
      ihave Hr := (pointsTo_read_all (ucRefs τ sig) (fun b => ((c : Dev nD), b))
        (fun b => fold items (launchContents m) c b) s') $$ [Hh HSI]
      · isplitl [Hh] <;> iassumption
      icases Hr with ⟨%h, HSI⟩
      imodintro
      isplitr; · ipureintro; exact ⟨h, hs⟩
      iexact HSI)
    (hQ := fun s h hz => ⟨fun c b hb => (h c).1 _ (devRef_mem_ucRefs b hb), by
      funext g
      by_cases h1 : g.1.2 = .tc
      · obtain ⟨⟨d, p⟩, sm⟩ := g
        obtain rfl : p = .tc := h1
        by_cases h2 : sm.isScoped .tc = true
        · exact hz _ (.inr h2)
        · exact (h d).2 sm (by simpa using h2)
      · exact hz g (.inl h1)⟩)

end Cert.HostRun
-- ==== Proof.RefRun.lean ====
module

public import proofs.«01_k».proof.Proof.RefOps
public import proofs.«01_k».proof.Proof.RefMainOps
public import proofs.«01_k».proof.Proof.HostRun
public import Idealize.ShloMosaic.Lib.Scf.ExitTest

/-!
The run of the reference program: its layers as straight stretches around a counted loop, the whole as such layers
between straight stretches.
-/

@[expose] public section

set_option maxRecDepth 16384

noncomputable section

namespace Cert.Ref

open Idealize Idealize.ShloMosaic Idealize.ShloMosaic.StableHlo Cert.MambaRefIdeal
open Cert.MambaRefIdeal.Facts₀ Cert.MambaRefIdeal.Facts
open Cert.Line (ops shape once spares val dr)
open Idealize.SL Idealize.SL.RA Idealize.SL.BI
open scoped Idealize.SL.BI
open Idealize.SL.BI.BIBase Idealize.SL.BI.Laws Idealize.SL.ProofMode Idealize.SL.Sem
open Idealize.ShloMosaic.Rounds
open TcCoe
open Idealize.ShloMosaic.Pipeline (ucRefs sub_ucRefs)

local notation "𝔽" => Ideal

/-- A layer's operations before its loop. -/
def pre (A : Args) (φ : fn_mamba_block.Bufs) : Ops 𝔽 :=
  preA A φ ++ (padOps φ.v15 φ.c φ.call0 ++ (preB A φ ++ (siluOps φ.v49 φ.call1 ++ (preC A φ ++
    (softplusOps φ.v60 φ.call2 ++ preD A φ)))))

/-- A layer's operations after its loop. -/
def post (A : Args) (φ : fn_mamba_block.Bufs) : Ops 𝔽 := postA A φ ++ (siluOps φ.v16 φ.call7 ++ postB A φ)

/-- The operations of a loop's condition. -/
def condL (φ : fn_mamba_block.Bufs) : Ops 𝔽 :=
  [ Line.nullary φ.while0c_c_11 (constantI S_ 32 256#32),
    Line.binary φ.v83_3 φ.while0c_c_11 φ.while0c_v94 (cmpi .slt) ]

/-- The operations of one time step, the copies of the carried values apart. -/
def trip (φ : fn_mamba_block.Bufs) : Ops 𝔽 :=
  dynamic_index_in_dimOps φ.v83_0 φ.v83_3 φ.while0b_call3 ++ (dynamic_index_in_dimOps φ.v83_1 φ.v83_3 φ.while0b_call4 ++
    (dynamic_index_in_dim_0Ops φ.v83_2 φ.v83_3 φ.while0b_call5 ++ (tripA φ ++
    (dynamic_update_index_in_dimOps φ.v83_5 φ.while0b_v99 φ.v83_3 φ.while0b_call6 ++ tripB φ))))

/-- The operations of one time step after the condition's. -/
def step (φ : fn_mamba_block.Bufs) : Ops 𝔽 := condL φ ++ trip φ

/-- A layer's program over its arguments. -/
abbrev block (A : Args) (φ : fn_mamba_block.Bufs) :=
  fn_mamba_block.body (F := 𝔽) A.arg0 A.arg1 A.arg2 A.arg3 A.arg4 A.arg5 A.arg6 A.arg7 A.arg8 A.arg9 A.arg10 φ
/-- A layer's loop condition over its arguments. -/
abbrev blockCond (A : Args) (φ : fn_mamba_block.Bufs) :=
  fn_mamba_block.while0_cond (F := 𝔽) A.arg0 A.arg1 A.arg2 A.arg3 A.arg4 A.arg5 A.arg6 A.arg7 A.arg8 A.arg9 A.arg10 φ
/-- A layer's loop body over its arguments. -/
abbrev blockBody (A : Args) (φ : fn_mamba_block.Bufs) :=
  fn_mamba_block.while0_body (F := 𝔽) A.arg0 A.arg1 A.arg2 A.arg3 A.arg4 A.arg5 A.arg6 A.arg7 A.arg8 A.arg9 A.arg10 φ

theorem block_cut (A : Args) (φ : fn_mamba_block.Bufs) : block A φ = Pipeline.chain
    ([ops (preA A φ), ops (padOps φ.v15 φ.c φ.call0), ops (preB A φ), ops (siluOps φ.v49 φ.call1), ops (preC A φ),
        ops (softplusOps φ.v60 φ.call2), ops (preD A φ)].map seq ++ HostLoop.enter φ.while0 ::
      ([ops (postA A φ), ops (siluOps φ.v16 φ.call7), ops (postB A φ)].map seq ++ [])) := by
  chain_rfl

theorem block_eq (A : Args) (φ : fn_mamba_block.Bufs) : block A φ =
    Pipeline.chain [seq (ops (pre A φ)), HostLoop.enter φ.while0, seq (ops (post A φ))] := by
  rw [block_cut, chain_map_seq_append, Pipeline.chain_cons, chain_map_seq_append]
  simp only [Pipeline.chain_cons, pre, post, ops, List.map_append, List.flatten_cons, List.flatten_nil, List.append_nil]

theorem body_cut (A : Args) (φ : fn_mamba_block.Bufs) : blockBody A φ = Pipeline.chain
    ([ops (dynamic_index_in_dimOps φ.v83_0 φ.v83_3 φ.while0b_call3), ops (dynamic_index_in_dimOps φ.v83_1 φ.v83_3 φ.while0b_call4),
        ops (dynamic_index_in_dim_0Ops φ.v83_2 φ.v83_3 φ.while0b_call5), ops (tripA φ),
        ops (dynamic_update_index_in_dimOps φ.v83_5 φ.while0b_v99 φ.v83_3 φ.while0b_call6), ops (tripB φ)].map seq
      ++ [seq (ops (carry φ))]) := by
  chain_rfl

theorem body_eq (A : Args) (φ : fn_mamba_block.Bufs) : blockBody A φ =
    Pipeline.chain ([ops (trip φ), ops (carry φ)].map fun o => seq o) := by
  rw [body_cut, chain_map_seq_append]
  simp only [Pipeline.chain_cons, List.map_cons, List.map_nil, trip, ops, List.map_append, List.flatten_cons, List.flatten_nil,
    List.append_nil]

/-- A layer's loop enters its own two regions. -/
def Enters (A : Args) (φ : fn_mamba_block.Bufs) : Prop :=
  (loops (F := 𝔽)) φ.while0 = HostLoop.step φ.while0 (blockCond A φ) (blockBody A φ)

/-- A layer's loop as a counted loop of 256 trips. -/
def loopOf (A : Args) (φ : fn_mamba_block.Bufs) (h : Enters A φ) : HostRun.Counted (pcfgs (F := 𝔽)) loops where
  l := φ.while0
  cond := blockCond A φ
  body := blockBody A φ
  hloops := h
  condOps := ops (condL φ)
  bodyI := [ops (trip φ), ops (carry φ)]
  plain := fun o ho => by
    rcases List.mem_cons.mp ho with rfl | ho
    · exact Line.ops_plain (trip φ) _ (List.mem_singleton_self _)
    · exact Line.ops_plain (carry φ) o ho
  hbody := body_eq A φ
  n := 256

/-- A layer's pieces. -/
def pieces (A : Args) (φ : fn_mamba_block.Bufs) (h : Enters A φ) : List (HostRun.Item (pcfgs (F := 𝔽)) loops) :=
  [.ops (ops (pre A φ)) (Line.ops_plain _), .loop (loopOf A φ h), .ops (ops (post A φ)) (Line.ops_plain _)]

theorem block_pieces (A : Args) (φ : fn_mamba_block.Bufs) (h : Enters A φ) :
    block A φ = Pipeline.chain ((pieces A φ h).map HostRun.Item.prog) := block_eq A φ

/-- Every buffer before a layer's loop has run its condition for the `k`-th time. -/
abbrev trips (φ : fn_mamba_block.Bufs) (W : Dev nD → Valuation τ sig (Elt 𝔽)) (k : ℕ) (c : Dev nD) : Valuation τ sig (Elt 𝔽) :=
  atTrip (ops (condL φ)) [ops (trip φ), ops (carry φ)] W k c

theorem trips_succ (φ : fn_mamba_block.Bufs) (W : Dev nD → Valuation τ sig (Elt 𝔽)) (k : ℕ) (c : Dev nD) :
    trips φ W (k + 1) c = after (ops (carry φ)) (after (ops (step φ)) (trips φ W k c)) := by
  show _ = after (ops (carry φ)) (after ((condL φ ++ trip φ).map Line.Op.op) _)
  rw [List.map_append, after_append]; rfl

/-- What is asked of a layer's buffers: nothing is written twice, and the loop leaves what outlives it alone. -/
structure Sound (A : Args) (φ : fn_mamba_block.Bufs) : Prop where
  oncePre : once (shape (pre A φ)) = true
  onceCond : once (shape (condL φ)) = true
  onceStep : once (shape (step φ)) = true
  onceCarry : once (shape (carry φ : Ops 𝔽)) = true
  oncePost : once (shape (post A φ)) = true
  condKeeps : [φ.v83_3.ref, φ.v83_5.ref].all (spares (shape (condL φ))) = true
  stepKeeps : [φ.v83_0.ref, φ.v83_1.ref, φ.v83_2.ref, φ.v83_3.ref, φ.v83_4.ref, φ.v83_5.ref].all (spares (shape (step φ))) = true
  carryKeeps : [φ.v83_0.ref, φ.v83_1.ref, φ.v83_2.ref, φ.while0b_v101.ref, φ.while0b_v98.ref, φ.while0b_call6.v1.ref].all
    (spares (shape (carry φ : Ops 𝔽))) = true
  loopKeeps : [A.arg0.ref, A.arg9.ref, A.arg10.ref, φ.v16.ref, φ.call1.v6.ref].all (spares (shape (step φ ++ carry φ))) = true
  preKeeps : [A.arg0.ref, A.arg1.ref, A.arg2.ref, A.arg3.ref, A.arg4.ref, A.arg5.ref, A.arg6.ref, A.arg7.ref, A.arg8.ref,
    A.arg9.ref, A.arg10.ref].all (spares (shape (pre A φ))) = true
  postKeeps : [A.arg0.ref, A.arg9.ref, A.arg10.ref, φ.v16.ref, φ.call1.v6.ref, φ.v83_5.ref].all (spares (shape (post A φ))) = true

theorem spares_append (a b : Ops 𝔽) (r : Ref sig .tc) :
    spares (shape (a ++ b)) r = (spares (shape a) r && spares (shape b) r) := by
  simp [spares, shape, List.map_append, List.all_append]

/-- What neither the condition, nor the body writes keeps its contents through the trips. -/
theorem trips_keep (φ : fn_mamba_block.Bufs) (W : Dev nD → Valuation τ sig (Elt 𝔽)) (c : Dev nD) (r : Ref sig .tc)
    (h : spares (shape (step φ ++ carry φ)) r = true) : ∀ k, trips φ W k c (dr r) = W c (dr r)
  | 0 => rfl
  | k + 1 => by
    rw [spares_append, Bool.and_eq_true] at h
    rw [trips_succ, Line.after_spares _ _ _ h.2, Line.after_spares _ _ _ h.1]
    exact trips_keep φ W c r (by rw [spares_append, h.1, h.2]; rfl) k

/-- The same through the whole layer. -/
theorem fold_keep (A : Args) (φ : fn_mamba_block.Bufs) (h : Enters A φ) (W : Dev nD → Valuation τ sig (Elt 𝔽)) (c : Dev nD)
    (r : Ref sig .tc) (hr : spares (shape (pre A φ ++ (step φ ++ carry φ) ++ post A φ)) r = true) :
    HostRun.fold (pieces A φ h) W c (dr r) = W c (dr r) := by
  rw [spares_append, spares_append, Bool.and_eq_true, Bool.and_eq_true] at hr
  have h1 := hr.1.2
  rw [spares_append, step, spares_append, Bool.and_eq_true, Bool.and_eq_true] at h1
  show after (ops (post A φ)) (after (ops (condL φ)) (trips φ _ 256 c)) (dr r) = _
  rw [Line.after_spares _ _ _ hr.2, Line.after_spares _ _ _ h1.1.1, trips_keep φ _ c r hr.1.2]
  exact Line.after_spares _ _ _ hr.1.1

/-- The loop's counter at trip `k`. -/
theorem counter (A : Args) (φ : fn_mamba_block.Bufs) (S : Sound A φ) (W : Dev nD → Valuation τ sig (Elt 𝔽)) (c : Dev nD)
    (h0 : val (W c) φ.v83_3 = constantI S_ 32 0#32) : ∀ k, val (trips φ W k c) φ.v83_3 = constantI S_ 32 (Scf.iv 0#32 1#32 k)
  | 0 => by rw [Scf.iv_zero]; exact h0
  | k + 1 => by
    have hc := Line.holds_after (carry φ) (after (ops (step φ)) (trips φ W k c)) S.onceCarry
    have hs := Line.holds_after (step φ) (trips φ W k c) S.onceStep
    have hk := S.carryKeeps
    have hk' := S.stepKeeps
    simp only [List.all_cons, List.all_nil, Bool.and_eq_true] at hk hk'
    rw [trips_succ]
    generalize hW1 : after (ops (step φ)) (trips φ W k c) = W1 at *
    generalize hW2 : after (ops (carry φ)) W1 = W2 at *
    simp only [carry, List.forall_mem_cons, Line.holds_unary] at hc
    simp only [step, trip, tripB, List.forall_mem_append, List.forall_mem_cons, Line.holds_nullary, Line.holds_binary] at hs
    rw [hc.1, ← hW2, Line.val_spares (carry φ) W1 φ.while0b_v101 hk.2.2.2.1, hs.2.2.2.2.2.2.2.1, hs.2.2.2.2.2.2.1, ← hW1,
      Line.val_spares (step φ) _ φ.v83_3 hk'.2.2.2.1, counter A φ S W c h0 k, Scf.iv_succ]
    rfl

/-- The loop's condition holds for the first 256 trips and fails then. -/
theorem cond_spec (A : Args) (φ : fn_mamba_block.Bufs) (S : Sound A φ) (W : Dev nD → Valuation τ sig (Elt 𝔽))
    (h0 : ∀ c, val (W c) φ.v83_3 = constantI S_ 32 0#32) :
    CondSpec (pcfgs (F := 𝔽)) defs₀ loops (blockCond A φ) (ops (condL φ)) [ops (trip φ), ops (carry φ)] W 256 := fun k hk c bd => by
  have hctr := counter A φ S W c (h0 c) k
  have hh := Line.holds_after (condL φ) (trips φ W k c) S.onceCond
  have hkeep := S.condKeeps
  simp only [List.all_cons, List.all_nil, Bool.and_eq_true] at hkeep
  have hval : val (after (ops (condL φ)) (trips φ W k c)) φ.while0c_v94 HostLoop.idx0 = 1#1 ↔ k < 256 := by
    have e : val (after (ops (condL φ)) (trips φ W k c)) φ.v83_3 = constantI S_ 32 (Scf.iv 0#32 1#32 k) :=
      (Line.val_spares (condL φ) _ φ.v83_3 hkeep.1).trans hctr
    generalize after (ops (condL φ)) (trips φ W k c) = W1 at *
    simp only [condL, List.forall_mem_cons, Line.holds_nullary, Line.holds_binary] at hh
    rw [hh.2.1, hh.1, e]
    exact Scf.cmpi_slt_iv_ub_iff (lb := 0#32) (ub := 256#32) (st := 1#32) main_while0_ok hk
  show _ ⊢ wp _ _ _ (fn_mamba_block.while0_cond A.arg0 A.arg1 A.arg2 A.arg3 A.arg4 A.arg5 A.arg6 A.arg7 A.arg8 A.arg9 A.arg10 φ) _
  unfold fn_mamba_block.while0_cond
  simp only [bind_pure]
  rw [wp_bind]
  iintro ⟨Hb, Hh⟩
  iapply (StableHlo.wp_hlo_within (Variants.lift Variants.none) (c : Thread nD τ) bd Set.univ
    (sub_ucRefs _ (StableHlo.nullary_bufs_sub ..))) $$ [Hb Hh]
  · isplitl [Hb]; · iexact Hb
    iexact Hh
  iintro ⟨Hb, Hh⟩
  rw [wp_ret]; imodintro
  iapply (StableHlo.wp_hlo_within (Variants.lift Variants.none) (c : Thread nD τ) bd Set.univ
    (sub_ucRefs _ (StableHlo.binary_bufs_sub ..))) $$ [Hb Hh]
  · isplitl [Hb]; · iexact Hb
    iexact Hh
  iintro ⟨Hb, Hh⟩
  rw [wp_ret]; imodintro
  isplitr
  · ipureintro
    rw [val, show after (ops (condL φ)) (trips φ W k c) (dr φ.while0c_v94.ref) = _ from
      HloOp.result_of_mem _ _ (Finset.mem_singleton_self _)] at hval
    exact hval
  isplitl [Hb]; · iexact Hb
  iexact Hh

/-- A layer asks nothing of the contents it meets. -/
theorem pieces_ok (A : Args) (φ : fn_mamba_block.Bufs) (h : Enters A φ) (S : Sound A φ) (W : Dev nD → Valuation τ sig (Elt 𝔽)) :
    HostRun.Ok defs₀ (pieces A φ h) W := by
  refine ⟨trivial, cond_spec A φ S _ fun c => ?_, trivial, trivial⟩
  have hh := Line.holds_after (pre A φ) (W c) S.oncePre
  show val (after (ops (pre A φ)) (W c)) φ.v83_3 = _
  generalize after (ops (pre A φ)) (W c) = W1 at *
  simp only [pre, preD, List.forall_mem_append, List.forall_mem_cons, Line.holds_nullary, Line.holds_unary] at hh
  obtain ⟨-, -, -, -, -, -, hh⟩ := hh
  obtain ⟨-, -, -, -, -, -, -, -, -, -, -, -, -, -, -, -, -, -, -, -, -, -, -, hc, -, -, -, e, -⟩ := hh
  rw [e, hc]
  rfl

end Cert.Ref
-- ==== Proof.RefPre.lean ====
module

public import proofs.«01_k».proof.Proof.RefRun
public import proofs.«01_k».proof.Proof.Spec

@[expose] public section

set_option maxRecDepth 16384

/-!
# One layer of the reference before its loop

What the reference's arrays hold before a layer's loop, read at an index: the quantities of the mathematics.
-/

noncomputable section

namespace Cert.RefPre

open Idealize Idealize.ShloMosaic Idealize.ShloMosaic.StableHlo Cert.MambaRefIdeal
open Cert.MambaRefIdeal.Facts₀ Cert.MambaRefIdeal.Facts
open Cert.Line (ops shape once spares val dr)
open Cert.Ref Cert.Spec

/-- A valuation of the reference's buffers. -/
abbrev Vals := Valuation τ sig (Elt Ideal)

/-- A layer's arguments hold its weights and the sequences before it. -/
structure Given (A : Ref.Args) (W : Vals) (L : Layer) (X : Fin 8 → Steps) : Prop where
  x : ∀ e t k, val W A.arg0 (ix3 e t k) = X e t k
  nw : ∀ k, val W A.arg1 (ix1 k) = L.nw k
  inW : ∀ j k, val W A.arg2 (ix2 j k) = L.inW j k
  cw : ∀ d r, val W A.arg3 (ix2 d r) = L.cw d r
  cb : ∀ d, val W A.arg4 (ix1 d) = L.cb d
  xW : ∀ j d, val W A.arg5 (ix2 j d) = L.xW j d
  dW : ∀ d r, val W A.arg6 (ix2 d r) = L.dW d r
  db : ∀ d, val W A.arg7 (ix1 d) = L.db d
  alog : ∀ d n, val W A.arg8 (ix2 d n) = L.alog d n
  skip : ∀ d, val W A.arg9 (ix1 d) = L.skip d
  outW : ∀ j d, val W A.arg10 (ix2 j d) = L.outW j d

/-- The integer zero as a number. -/
theorem zero_word : FloatOps.sitofp (F := Ideal) FTy.f32 (0#32) = 0 := by
  show (((0#32 : BitVec 32).toInt : ℝ) : EReal) = 0
  norm_num

/-- The exponential form of the logistic. -/
theorem silu_eq (v : EReal) : silu v = v * Ideal.div 1 (1 + Ideal.exp (-v)) := rfl

variable {A : Ref.Args} {φ : fn_mamba_block.Bufs} {W : Vals} {L : Layer} {X : Fin 8 → Steps}

/-- The product of a value and its logistic. -/
theorem silu_at {x : TRef sig ⟨S8x256x512, .f32⟩} {ψ : fn_silu.Bufs} (h : ∀ o ∈ (siluOps x ψ : Ops Ideal), o.Holds W) {f : Fin 8 → Fin 256 → Fin 512 → EReal}
    (hx : ∀ e t d, val W x (ix3 e t d) = f e t d) (e : Fin 8) (t : Fin 256) (d : Fin 512) : val W ψ.v6 (ix3 e t d) = silu (f e t d) := by
  simp only [siluOps, List.forall_mem_cons, Line.holds_nullary, Line.holds_unary, Line.holds_binary, Line.holds_ternary, Line.holds_reshape, Line.holds_unaryIndexed, Line.holds_binaryIndexed] at h
  obtain ⟨h_v0, h_v1, h_cst, h_v2, h_v3, h_cst_0, h_v4, h_v5, h_v6, -⟩ := h
  simp only [h_v0, h_v1, h_cst, h_v2, h_v3, h_cst_0, h_v4, h_v5, h_v6]
  pointwise
  simp only [hx]
  rw [silu_eq]

/-- The softplus. -/
theorem softplus_at {x : TRef sig ⟨S8x256x512, .f32⟩} {ψ : fn_softplus.Bufs} (h : ∀ o ∈ (softplusOps x ψ : Ops Ideal), o.Holds W) {f : Fin 8 → Fin 256 → Fin 512 → EReal}
    (hx : ∀ e t d, val W x (ix3 e t d) = f e t d) (e : Fin 8) (t : Fin 256) (d : Fin 512) : val W ψ.v12 (ix3 e t d) = softplus (f e t d) := by
  simp only [softplusOps, List.forall_mem_cons, Line.holds_nullary, Line.holds_unary, Line.holds_binary, Line.holds_ternary, Line.holds_reshape, Line.holds_unaryIndexed, Line.holds_binaryIndexed] at h
  obtain ⟨h_cst, h_v0, h_v1, h_v2, h_v3, h_v4, h_v5, h_v6, h_v7, h_v8, h_v9, h_v10, h_v11, h_v12, -⟩ := h
  simp only [h_cst, h_v0, h_v1, h_v2, h_v3, h_v4, h_v5, h_v6, h_v7, h_v8, h_v9, h_v10, h_v11, h_v12]
  pointwise
  simp only [hx]
  rw [if_neg (fun e => e rfl), softplus, zero_sub]

/-- The two halves of the input projection. -/
theorem preA_at (G : Given A W L X) (h : ∀ o ∈ (preA A φ : Ops Ideal), o.Holds W) :
    (∀ e t d, val W φ.v15 (ix3 e t d) = L.xin (X e) t d) ∧ (∀ e t d, val W φ.v16 (ix3 e t d) = L.z (X e) t d)
    ∧ val W φ.c = constantI S_ 32 0#32 := by
  simp only [preA, List.forall_mem_cons, Line.holds_nullary, Line.holds_unary, Line.holds_binary, Line.holds_ternary, Line.holds_reshape, Line.holds_unaryIndexed, Line.holds_binaryIndexed] at h
  obtain ⟨h_v0, h_cst, h_v1, h_v2, h_cst_0, h_v3, h_v4, h_cst_1, h_v5, h_v6, h_v7, h_v8, h_v9, h_v10, h_v11, h_v12, h_v13, h_v14, h_v15, h_v16, h_c, -⟩ := h
  have xz : ∀ e t j, val W φ.v14 (ix3 e t j) = L.xz (X e) t j := fun e t j => by
    simp only [h_v0, h_cst, h_v1, h_v2, h_cst_0, h_v3, h_v4, h_cst_1, h_v5, h_v6, h_v7, h_v8, h_v9, h_v10, h_v11, h_v12, h_v13, h_v14]
    pointwise
    simp only [G.x, G.nw, G.inW]
    rfl
  refine ⟨fun e t d => ?_, fun e t d => ?_, h_c⟩
  · rw [h_v15]; pointwise; rw [xz]; rfl
  · rw [h_v16]; pointwise; rw [xz]; rfl

/-- The first half with three zero steps before it. -/
theorem pad_at (hx : ∀ e t d, val W φ.v15 (ix3 e t d) = L.xin (X e) t d) (hc : val W φ.c = constantI S_ 32 0#32)
    (h : ∀ o ∈ (padOps φ.v15 φ.c φ.call0 : Ops Ideal), o.Holds W) (e : Fin 8) (t : Fin 259) (d : Fin 512) :
    val W φ.call0.v1 (ix3 e t d) = if h : t.val < 3 then 0 else L.xin (X e) ⟨t.val - 3, by omega⟩ d := by
  simp only [padOps, List.forall_mem_cons, Line.holds_nullary, Line.holds_unary, Line.holds_binary, Line.holds_ternary, Line.holds_reshape, Line.holds_unaryIndexed, Line.holds_binaryIndexed] at h
  obtain ⟨h_v0, h_v1, -⟩ := h
  simp only [h_v0, h_v1, hc]
  pointwise
  by_cases ht : t.val < 3
  · rw [dif_neg (by omega), dif_pos ht]; exact zero_word
  · rw [dif_pos (by omega), dif_neg ht, hx]

/-- The convolution before its activation. -/
theorem preB_at (G : Given A W L X)
    (hp : ∀ e t d, val W φ.call0.v1 (ix3 e t d) = if h : t.val < 3 then 0 else L.xin (X e) ⟨t.val - 3, by omega⟩ d)
    (h : ∀ o ∈ (preB A φ : Ops Ideal), o.Holds W) (e : Fin 8) (t : Fin 256) (d : Fin 512) :
    val W φ.v49 (ix3 e t d) = L.pre (X e) t d := by
  simp only [preB, List.forall_mem_cons, Line.holds_nullary, Line.holds_unary, Line.holds_binary, Line.holds_ternary, Line.holds_reshape, Line.holds_unaryIndexed, Line.holds_binaryIndexed] at h
  obtain ⟨h_v18, h_v19, h_v20, h_v21, h_v22, h_v23, h_cst_2, h_v24, h_v25, h_v26, h_v27, h_v28, h_v29, h_v30, h_v31, h_v32, h_v33, h_v34, h_v35, h_v36, h_v37, h_v38, h_v39, h_v40, h_v41, h_v42, h_v43, h_v44, h_v45, h_v46, h_v47, h_v48, h_v49, -⟩ := h
  simp only [h_v18, h_v19, h_v20, h_v21, h_v22, h_v23, h_cst_2, h_v24, h_v25, h_v26, h_v27, h_v28, h_v29, h_v30, h_v31, h_v32, h_v33, h_v34, h_v35, h_v36, h_v37, h_v38, h_v39, h_v40, h_v41, h_v42, h_v43, h_v44, h_v45, h_v46, h_v47, h_v48, h_v49]
  pointwise
  simp only [hp, G.cw, G.cb]
  have hb : ∀ r s : ℕ, ∀ h3 : r + s = 3, (if h : r + t.val < 3 then (0 : EReal) else L.xin (X e) ⟨r + t.val - 3, by omega⟩ d) = L.back (X e) s t d := fun r s h3 => by
    unfold Layer.back
    by_cases ht : t.val < s
    · rw [dif_pos (by omega), if_pos ht]
    · rw [dif_neg (by omega), if_neg ht]
      congr 2; omega
  have h0 : (if h : t.val < 3 then (0 : EReal) else L.xin (X e) ⟨t.val - 3, by omega⟩ d) = L.back (X e) 3 t d := by
    unfold Layer.back; rfl
  have h3 : (if h : 3 + t.val < 3 then (0 : EReal) else L.xin (X e) ⟨3 + t.val - 3, by omega⟩ d) = L.xin (X e) t d := by
    rw [dif_neg (by omega)]; congr 1; apply Fin.ext; show 3 + t.val - 3 = t.val; omega
  rw [h0, hb 1 2 rfl, hb 2 1 rfl, h3]
  unfold Layer.pre
  rw [add_comm _ (L.xin (X e) t d * L.cw d 3), ← add_assoc, ← add_assoc]

/-- The projection of the convolution and the step size before its activation. -/
theorem preC_at (G : Given A W L X) (hu : ∀ e t d, val W φ.call1.v6 (ix3 e t d) = L.xc (X e) t d)
    (h : ∀ o ∈ (preC A φ : Ops Ideal), o.Holds W) :
    (∀ e t n, val W φ.v54 (ix3 e t n) = L.dbc (X e) t ⟨16 + n.val, by omega⟩) ∧ (∀ e t n, val W φ.v55 (ix3 e t n) = L.dbc (X e) t ⟨32 + n.val, by omega⟩)
    ∧ ∀ e t d, val W φ.v60 (ix3 e t d) = ∑ r : Fin 16, L.dbc (X e) t ⟨r.val, by omega⟩ * L.dW d r + L.db d := by
  simp only [preC, List.forall_mem_cons, Line.holds_nullary, Line.holds_unary, Line.holds_binary, Line.holds_ternary, Line.holds_reshape, Line.holds_unaryIndexed, Line.holds_binaryIndexed] at h
  obtain ⟨h_v51, h_v52, h_v53, h_v54, h_v55, h_v56, h_v57, h_v58, h_v59, h_v60, -⟩ := h
  have dbc : ∀ e t j, val W φ.v52 (ix3 e t j) = L.dbc (X e) t j := fun e t j => by
    simp only [h_v52, h_v51]
    pointwise
    simp only [hu, G.xW]; rfl
  refine ⟨fun e t n => ?_, fun e t n => ?_, fun e t d => ?_⟩
  · rw [h_v54]; pointwise; rw [dbc]
  · rw [h_v55]; pointwise; rw [dbc]
  · simp only [h_v60, h_v59, h_v58, h_v57, h_v56, h_v53]; pointwise
    simp only [dbc, G.dW, G.db]

/-- The decays, the inputs and the output weights by step, and the first state. -/
theorem preD_at (G : Given A W L X) (hu : ∀ e t d, val W φ.call1.v6 (ix3 e t d) = L.xc (X e) t d)
    (hd : ∀ e t d, val W φ.call2.v12 (ix3 e t d) = L.delta (X e) t d)
    (hB : ∀ e t n, val W φ.v54 (ix3 e t n) = L.dbc (X e) t ⟨16 + n.val, by omega⟩) (hC : ∀ e t n, val W φ.v55 (ix3 e t n) = L.dbc (X e) t ⟨32 + n.val, by omega⟩)
    (h : ∀ o ∈ (preD A φ : Ops Ideal), o.Holds W) :
    (∀ k e d n, val W φ.v83_0 (ix4 k e d n) = L.decay (X e) k n d) ∧ (∀ k e d n, val W φ.v83_1 (ix4 k e d n) = L.inp (X e) k n d)
    ∧ (∀ k e n, val W φ.v83_2 (ix3 k e n) = L.dbc (X e) k ⟨32 + n.val, by omega⟩) ∧ val W φ.v83_3 = constantI S_ 32 0#32
    ∧ ∀ e d n, val W φ.v83_4 (ix3 e d n) = 0 := by
  simp only [preD, List.forall_mem_cons, Line.holds_nullary, Line.holds_unary, Line.holds_binary, Line.holds_ternary, Line.holds_reshape, Line.holds_unaryIndexed, Line.holds_binaryIndexed] at h
  obtain ⟨h_v62, h_v63, h_v64, h_v65, h_v66, h_v67, h_v68, h_v69, h_v70, h_v71, h_v72, h_v73, h_v74, h_v75, h_v76, h_v77, h_cst_3, h_v78, h_v79, h_v80, h_v81, h_cst_4, h_v82, h_c_5, h_v83_0, h_v83_1, h_v83_2, h_v83_3, h_v83_4, h_v83_5, -⟩ := h
  refine ⟨fun k e d n => ?_, fun k e d n => ?_, fun k e n => ?_, ?_, fun e d n => ?_⟩
  · simp only [h_v62, h_v63, h_v64, h_v65, h_v66, h_v67, h_v68, h_v69, h_v79, h_v83_0, id]
    pointwise
    simp only [hd, G.alog]
    unfold Layer.decay
    rw [zero_sub]
  · simp only [h_v70, h_v71, h_v72, h_v73, h_v74, h_v75, h_v76, h_v77, h_v80, h_v83_1, id]
    pointwise
    simp only [hd, hu, hB]
    exact mul_right_comm _ _ _
  · simp only [h_v83_2, h_v81, id]
    pointwise
    rw [hC]
  · rw [h_v83_3, h_c_5]; rfl
  · simp only [h_v83_4, h_v78, h_cst_3, id]
    pointwise

end Cert.RefPre
-- ==== Proof.RefLoop.lean ====
module

public import proofs.«01_k».proof.Proof.RefPre
public import Idealize.ShloMosaic.Lib.WordCmp

@[expose] public section

set_option maxRecDepth 16384

/-!
# One layer of the reference through its loop

What the carried arrays hold at each trip of a layer's loop, and what the layer leaves after it.
-/

noncomputable section

namespace Cert.RefLoop

open Idealize Idealize.ShloMosaic Idealize.ShloMosaic.StableHlo Cert.MambaRefIdeal
open Cert.MambaRefIdeal.Facts₀ Cert.MambaRefIdeal.Facts
open Cert.Line (ops shape once spares val dr)
open Cert.Ref Cert.Spec Cert.RefPre

/-- The counter's word read as a number. -/
theorem iv_toInt {k : ℕ} (hk : k < 256) : (Scf.iv 0#32 1#32 k).toInt = (k : ℤ) := by
  have e := Scf.toInt_iv (lb := 0#32) (ub := 256#32) (st := 1#32) main_while0_ok (k := k) (le_of_lt hk)
  rw [e]
  show (0 : ℤ) + k * 1 = k
  omega

variable {A : Ref.Args} {φ : fn_mamba_block.Bufs} {W : Vals} {L : Layer} {X : Fin 8 → Steps}

/-- A state array's slice of one time step. -/
theorem slice4_at {x : TRef sig ⟨S256x8x512x16, .f32⟩} {i : TRef sig ⟨S_, .i32⟩} {ψ : fn_dynamic_index_in_dim.Bufs}
    (h : ∀ o ∈ (dynamic_index_in_dimOps x i ψ : Ops Ideal), o.Holds W) {k : ℕ} (hk : k < 256)
    (hi : val W i = constantI S_ 32 (Scf.iv 0#32 1#32 k)) (e : Fin 8) (d : Fin 512) (n : Fin 16) :
    val W ψ.v1 (ix3 e d n) = val W x (ix4 ⟨k, hk⟩ e d n) := by
  simp only [dynamic_index_in_dimOps, List.forall_mem_cons, Line.holds_nullary, Line.holds_reshape, Line.holds_unaryIndexed] at h
  obtain ⟨h0, h1, h2, h3, h4, -⟩ := h
  have hs : S256x8x512x16.Slices (![k, 0, 0, 0] : Fin 4 → ℕ) S1x8x512x16 :=
    ⟨rfl, fun a => by change Fin 4 at a; fin_cases a <;> simp <;> omega⟩
  rw [h4, h3, WordCmp.dynamicSlice_eq_extract S1x8x512x16 _ _ _ (![k, 0, 0, 0] : Fin 4 → ℕ) hs (fun a => by
    change Fin 4 at a
    fin_cases a
    · show (val W i _).toInt = _; rw [hi]; exact iv_toInt hk
    · show (val W ψ.c _).toInt = _; rw [h0]; rfl
    · show (val W ψ.c_0 _).toInt = _; rw [h1]; rfl
    · show (val W ψ.c_1 _).toInt = _; rw [h2]; rfl)]
  pointwise

/-- An output weight array's slice of one time step. -/
theorem slice3_at {x : TRef sig ⟨S256x8x16, .f32⟩} {i : TRef sig ⟨S_, .i32⟩} {ψ : fn_dynamic_index_in_dim_0.Bufs}
    (h : ∀ o ∈ (dynamic_index_in_dim_0Ops x i ψ : Ops Ideal), o.Holds W) {k : ℕ} (hk : k < 256)
    (hi : val W i = constantI S_ 32 (Scf.iv 0#32 1#32 k)) (e : Fin 8) (n : Fin 16) :
    val W ψ.v1 (ix2 e n) = val W x (ix3 ⟨k, hk⟩ e n) := by
  simp only [dynamic_index_in_dim_0Ops, List.forall_mem_cons, Line.holds_nullary, Line.holds_reshape, Line.holds_unaryIndexed] at h
  obtain ⟨h0, h1, h3, h4, -⟩ := h
  have hs : S256x8x16.Slices (![k, 0, 0] : Fin 3 → ℕ) S1x8x16 :=
    ⟨rfl, fun a => by change Fin 3 at a; fin_cases a <;> simp <;> omega⟩
  rw [h4, h3, WordCmp.dynamicSlice_eq_extract S1x8x16 _ _ _ (![k, 0, 0] : Fin 3 → ℕ) hs (fun a => by
    change Fin 3 at a
    fin_cases a
    · show (val W i _).toInt = _; rw [hi]; exact iv_toInt hk
    · show (val W ψ.c _).toInt = _; rw [h0]; rfl
    · show (val W ψ.c_0 _).toInt = _; rw [h1]; rfl)]
  pointwise

/-- The result array with one time step written into it. -/
theorem update_at {x : TRef sig ⟨S256x8x512, .f32⟩} {u : TRef sig ⟨S8x512, .f32⟩} {i : TRef sig ⟨S_, .i32⟩}
    {ψ : fn_dynamic_update_index_in_dim.Bufs}
    (h : ∀ o ∈ (dynamic_update_index_in_dimOps x u i ψ : Ops Ideal), o.Holds W) {k : ℕ} (hk : k < 256)
    (hi : val W i = constantI S_ 32 (Scf.iv 0#32 1#32 k)) (s : Fin 256) (e : Fin 8) (d : Fin 512) :
    val W ψ.v1 (ix3 s e d) = ((if s.val = k then val W u (ix2 e d) else val W x (ix3 s e d)) : EReal) := by
  simp only [dynamic_update_index_in_dimOps, List.forall_mem_cons, Line.holds_nullary, Line.holds_unary, Line.holds_binaryIndexed] at h
  obtain ⟨h0, h1, h2, h3, -⟩ := h
  have hs : S256x8x512.Slices (![k, 0, 0] : Fin 3 → ℕ) S1x8x512 :=
    ⟨rfl, fun a => by change Fin 3 at a; fin_cases a <;> simp <;> omega⟩
  rw [h3, WordCmp.dynamicUpdateSlice_eq_update _ _ _ _ (![k, 0, 0] : Fin 3 → ℕ) hs (fun a => by
    change Fin 3 at a
    fin_cases a
    · show (val W i _).toInt = _; rw [hi]; exact iv_toInt hk
    · show (val W ψ.c _).toInt = _; rw [h1]; rfl
    · show (val W ψ.c_0 _).toInt = _; rw [h2]; rfl), h0]
  by_cases hsk : s.val = k
  · rw [if_pos hsk]
    subst hsk
    pointwise
    rw [dif_pos (by omega)]
  · rw [if_neg hsk]
    pointwise
    rw [dif_neg (by omega)]

/-- What the carried arrays hold before trip `k`. -/
structure Inv (φ : fn_mamba_block.Bufs) (W : Vals) (L : Layer) (X : Fin 8 → Steps) (k : ℕ) : Prop where
  a : ∀ s e d n, val W φ.v83_0 (ix4 s e d n) = L.decay (X e) s n d
  b : ∀ s e d n, val W φ.v83_1 (ix4 s e d n) = L.inp (X e) s n d
  c : ∀ s e n, val W φ.v83_2 (ix3 s e n) = L.dbc (X e) s ⟨32 + n.val, by omega⟩
  st : ∀ e d n, val W φ.v83_4 (ix3 e d n) = state (L.decay (X e)) (L.inp (X e)) k n d
  ys : ∀ s e d, s.val < k → val W φ.v83_5 (ix3 s e d)
    = ∑ n : Fin 16, state (L.decay (X e)) (L.inp (X e)) (s.val + 1) n d * L.dbc (X e) s ⟨32 + n.val, by omega⟩

/-- One trip. -/
theorem Inv.next (S : Sound A φ) {k : ℕ} (hk : k < 256) (I : Inv φ W L X k) (hc : val W φ.v83_3 = constantI S_ 32 (Scf.iv 0#32 1#32 k)) :
    Inv φ (after (ops (carry φ)) (after (ops (step φ)) W)) L X (k + 1) := by
  have hca := Line.holds_after (carry φ) (after (ops (step φ)) W) S.onceCarry
  have hs := Line.holds_after (step φ) W S.onceStep
  have hk1 := S.carryKeeps
  have hk2 := S.stepKeeps
  simp only [List.all_cons, List.all_nil, Bool.and_eq_true] at hk1 hk2
  obtain ⟨p0, p1, p2, p3, p4, p5, -⟩ := hk1
  obtain ⟨q0, q1, q2, q3, q4, q5, -⟩ := hk2
  have k0 := Line.val_spares (step φ) W φ.v83_0 q0
  have k1 := Line.val_spares (step φ) W φ.v83_1 q1
  have k2 := Line.val_spares (step φ) W φ.v83_2 q2
  have k3 := (Line.val_spares (step φ) W φ.v83_3 q3).trans hc
  have k4 := Line.val_spares (step φ) W φ.v83_4 q4
  have k5 := Line.val_spares (step φ) W φ.v83_5 q5
  generalize after (ops (step φ)) W = W1 at *
  have c0 := Line.val_spares (carry φ) W1 φ.v83_0 p0
  have c1 := Line.val_spares (carry φ) W1 φ.v83_1 p1
  have c2 := Line.val_spares (carry φ) W1 φ.v83_2 p2
  have c4 := Line.val_spares (carry φ) W1 φ.while0b_v98 p4
  have c5 := Line.val_spares (carry φ) W1 φ.while0b_call6.v1 p5
  generalize after (ops (carry φ)) W1 = W2 at *
  simp only [carry, List.forall_mem_cons, Line.holds_unary, id] at hca
  obtain ⟨-, d4, d5, -⟩ := hca
  simp only [step, trip, List.forall_mem_append] at hs
  obtain ⟨-, t3, t4, t5, tA, t6, -⟩ := hs
  simp only [tripA, List.forall_mem_cons, Line.holds_binary] at tA
  obtain ⟨e97, e98, e99, -⟩ := tA
  have s98 : ∀ e d n, val W1 φ.while0b_v98 (ix3 e d n) = state (L.decay (X e)) (L.inp (X e)) (k + 1) n d := fun e d n => by
    rw [e98, e97]
    pointwise
    rw [slice4_at t3 hk k3, slice4_at t4 hk k3, k0, k1, k4, I.a, I.b, I.st, state_succ _ _ hk]
  have s99 : ∀ e d, val W1 φ.while0b_v99 (ix2 e d) = ∑ n : Fin 16, state (L.decay (X e)) (L.inp (X e)) (k + 1) n d * L.dbc (X e) ⟨k, hk⟩ ⟨32 + n.val, by omega⟩ := fun e d => by
    rw [e99]
    pointwise
    simp only [s98, slice3_at t5 hk k3, k2, I.c]
  refine ⟨?_, ?_, ?_, ?_, ?_⟩
  · rw [c0, k0]; exact I.a
  · rw [c1, k1]; exact I.b
  · rw [c2, k2]; exact I.c
  · rw [d4, c4]; exact s98
  · intro s e d hs'
    rw [d5, c5, update_at t6 hk k3]
    by_cases hsk : s.val = k
    · rw [if_pos hsk, s99]; subst hsk; rfl
    · rw [if_neg hsk, k5]; exact I.ys s e d (by omega)

/-- The arrays after the operations before the loop. -/
theorem before (G : Given A W L X) (S : Sound A φ) :
    Inv φ (after (ops (pre A φ)) W) L X 0 ∧ val (after (ops (pre A φ)) W) φ.v83_3 = constantI S_ 32 0#32
    ∧ (∀ e t d, val (after (ops (pre A φ)) W) φ.v16 (ix3 e t d) = L.z (X e) t d)
    ∧ (∀ e t d, val (after (ops (pre A φ)) W) φ.call1.v6 (ix3 e t d) = L.xc (X e) t d)
    ∧ Given A (after (ops (pre A φ)) W) L X := by
  have hs := Line.holds_after (pre A φ) W S.oncePre
  have hk := S.preKeeps
  simp only [List.all_cons, List.all_nil, Bool.and_eq_true] at hk
  obtain ⟨k0, k1, k2, k3, k4, k5, k6, k7, k8, k9, k10, -⟩ := hk
  have G1 : Given A (after (ops (pre A φ)) W) L X := by
    refine ⟨?_, ?_, ?_, ?_, ?_, ?_, ?_, ?_, ?_, ?_, ?_⟩
    · rw [Line.val_spares _ _ _ k0]; exact G.x
    · rw [Line.val_spares _ _ _ k1]; exact G.nw
    · rw [Line.val_spares _ _ _ k2]; exact G.inW
    · rw [Line.val_spares _ _ _ k3]; exact G.cw
    · rw [Line.val_spares _ _ _ k4]; exact G.cb
    · rw [Line.val_spares _ _ _ k5]; exact G.xW
    · rw [Line.val_spares _ _ _ k6]; exact G.dW
    · rw [Line.val_spares _ _ _ k7]; exact G.db
    · rw [Line.val_spares _ _ _ k8]; exact G.alog
    · rw [Line.val_spares _ _ _ k9]; exact G.skip
    · rw [Line.val_spares _ _ _ k10]; exact G.outW
  generalize after (ops (pre A φ)) W = W1 at *
  simp only [pre, List.forall_mem_append] at hs
  obtain ⟨hA, hP, hB, hS, hC, hT, hD⟩ := hs
  obtain ⟨rx, rz, rc⟩ := preA_at G1 hA
  have rp := pad_at rx rc hP
  have rb := preB_at G1 rp hB
  have ru : ∀ e t d, val W1 φ.call1.v6 (ix3 e t d) = L.xc (X e) t d := silu_at hS (f := fun e => L.pre (X e)) rb
  obtain ⟨rB, rC, rd⟩ := preC_at G1 ru hC
  have rs : ∀ e t d, val W1 φ.call2.v12 (ix3 e t d) = L.delta (X e) t d :=
    softplus_at hT (f := fun e t d => ∑ r : Fin 16, L.dbc (X e) t ⟨r.val, by omega⟩ * L.dW d r + L.db d) rd
  obtain ⟨ra, rb', rc', r3, r4⟩ := preD_at G1 ru rs rB rC hD
  exact ⟨⟨ra, rb', rc', r4, fun s e d h => absurd h (Nat.not_lt_zero _)⟩, r3, rz, ru, G1⟩

/-- The layer's result after the operations behind the loop. -/
theorem behind (S : Sound A φ) (hx : ∀ e t k, val W A.arg0 (ix3 e t k) = X e t k) (hsk : ∀ d, val W A.arg9 (ix1 d) = L.skip d)
    (ho : ∀ j d, val W A.arg10 (ix2 j d) = L.outW j d) (hz : ∀ e t d, val W φ.v16 (ix3 e t d) = L.z (X e) t d)
    (hu : ∀ e t d, val W φ.call1.v6 (ix3 e t d) = L.xc (X e) t d)
    (hy : ∀ s e d, val W φ.v83_5 (ix3 s e d)
      = ∑ n : Fin 16, state (L.decay (X e)) (L.inp (X e)) (s.val + 1) n d * L.dbc (X e) s ⟨32 + n.val, by omega⟩)
    (e : Fin 8) (t j : Fin 256) : val (after (ops (post A φ)) W) φ.v93 (ix3 e t j) = L.out (X e) t j := by
  have hs := Line.holds_after (post A φ) W S.oncePost
  have hk := S.postKeeps
  simp only [List.all_cons, List.all_nil, Bool.and_eq_true] at hk
  obtain ⟨k0, k1, k2, k3, k4, k5, -⟩ := hk
  rw [← Line.val_spares (post A φ) W _ k0] at hx
  rw [← Line.val_spares (post A φ) W _ k1] at hsk
  rw [← Line.val_spares (post A φ) W _ k2] at ho
  rw [← Line.val_spares (post A φ) W _ k3] at hz
  rw [← Line.val_spares (post A φ) W _ k4] at hu
  rw [← Line.val_spares (post A φ) W _ k5] at hy
  generalize after (ops (post A φ)) W = W1 at *
  rw [show Ref.post A φ = postA A φ ++ (siluOps φ.v16 φ.call7 ++ postB A φ) from rfl] at hs
  simp only [List.forall_mem_append] at hs
  obtain ⟨hA, hS, hB⟩ := hs
  have hg := silu_at hS (f := fun e => L.z (X e)) hz
  simp only [postA, List.forall_mem_cons, Line.holds_unary, Line.holds_binary] at hA
  simp only [postB, List.forall_mem_cons, Line.holds_unary, Line.holds_binary] at hB
  obtain ⟨e84, e85, e86, e87, e88, -⟩ := hA
  obtain ⟨e90, e91, e92, e93, -⟩ := hB
  simp only [e93, e92, e91, e90, e88, e87, e86, e85, e84]
  pointwise
  simp only [hx, hsk, ho, hu, hy, hg]
  rfl

/-- A layer. -/
theorem layer (h : Enters A φ) (S : Sound A φ) (W : Dev nD → Vals) (c : Dev nD) (G : Given A (W c) L X) (e : Fin 8) (t j : Fin 256) :
    val (HostRun.fold (pieces A φ h) W c) φ.v93 (ix3 e t j) = L.out (X e) t j := by
  obtain ⟨I0, h3, hz, hu, G1⟩ := before (φ := φ) G S
  let V : Dev nD → Vals := fun c => after (ops (pre A φ)) (W c)
  have hI : ∀ k, k ≤ 256 → Inv φ (trips φ V k c) L X k := fun k => by
    induction k with
    | zero => exact fun _ => I0
    | succ k ih =>
      intro hk
      rw [trips_succ]
      exact (ih (by omega)).next S hk (counter A φ S V c h3 k)
  have I := hI 256 le_rfl
  have hl := S.loopKeeps
  have hc := S.condKeeps
  simp only [List.all_cons, List.all_nil, Bool.and_eq_true] at hl hc
  obtain ⟨l0, l9, l10, l16, lu, -⟩ := hl
  have keep : ∀ {T : BufTy} (x : TRef sig T), spares (shape (step φ ++ carry φ)) x.ref = true →
      val (after (ops (condL φ)) (trips φ V 256 c)) x = val (V c) x := fun x hx => by
    have hx' := hx
    rw [step, spares_append, spares_append, Bool.and_eq_true, Bool.and_eq_true] at hx'
    rw [Line.val_spares (condL φ) _ x hx'.1.1]
    exact Line.val_congr (trips_keep φ V c x.ref hx 256)
  show val (after (ops (post A φ)) (after (ops (condL φ)) (trips φ V 256 c))) φ.v93 (ix3 e t j) = _
  refine behind S ?_ ?_ ?_ ?_ ?_ ?_ e t j
  · rw [keep _ l0]; exact G1.x
  · rw [keep _ l9]; exact G1.skip
  · rw [keep _ l10]; exact G1.outW
  · rw [keep _ l16]; exact hz
  · rw [keep _ lu]; exact hu
  · intro s e d
    rw [Line.val_spares (condL φ) _ φ.v83_5 hc.2.1]
    exact I.ys s e d s.isLt

end Cert.RefLoop
-- ==== Proof.RefMain.lean ====
module

public import proofs.«01_k».proof.Proof.RefRun

/-!
The reference program as its layers between straight stretches, and the run of it: where it ends, no argument has
changed and the result is what the layers leave.
-/

@[expose] public section

set_option maxRecDepth 16384

noncomputable section

namespace Cert.Ref

open Idealize Idealize.ShloMosaic Idealize.ShloMosaic.StableHlo Cert.MambaRefIdeal
open Cert.Line (ops shape once spares val dr)

local notation "𝔽" => Ideal

theorem main_cut (d : Dev nD) : main (F := 𝔽) d = Pipeline.chain
    [seq (ops mainOps0), block args0 main_call0, seq (ops mainOps1), block args1 main_call1, seq (ops mainOps2),
      block args2 main_call2, seq (ops mainOps3), block args3 main_call3, seq (ops mainOps4), block args4 main_call4,
      seq (ops mainOps5), block args5 main_call5, seq (ops mainOps6)] := by
  chain_rfl

theorem once_main : once (shape (mainOps0 : Ops 𝔽)) = true ∧ once (shape (mainOps1 : Ops 𝔽)) = true ∧
    once (shape (mainOps2 : Ops 𝔽)) = true ∧ once (shape (mainOps3 : Ops 𝔽)) = true ∧ once (shape (mainOps4 : Ops 𝔽)) = true ∧
    once (shape (mainOps5 : Ops 𝔽)) = true ∧ once (shape (mainOps6 : Ops 𝔽)) = true := by
  decide +kernel

/-- The program's arguments. -/
def inputs : List (Ref sig .tc) :=
  [main_arg0, main_arg1, main_arg2, main_arg3, main_arg4, main_arg5, main_arg6, main_arg7, main_arg8, main_arg9, main_arg10,
    main_arg11, main_arg12, main_arg13, main_arg14, main_arg15]

theorem main_keeps : [(mainOps0 : Ops 𝔽), mainOps1, mainOps2, mainOps3, mainOps4, mainOps5, mainOps6].all
    (fun l => inputs.all (spares (shape l))) = true := by
  decide +kernel

theorem enters0 : Enters args0 main_call0 := rfl

theorem sound0 : Sound args0 main_call0 := by
  constructor <;> decide +kernel

theorem enters1 : Enters args1 main_call1 := rfl

theorem sound1 : Sound args1 main_call1 := by
  constructor <;> decide +kernel

theorem enters2 : Enters args2 main_call2 := rfl

theorem sound2 : Sound args2 main_call2 := by
  constructor <;> decide +kernel

theorem enters3 : Enters args3 main_call3 := rfl

theorem sound3 : Sound args3 main_call3 := by
  constructor <;> decide +kernel

theorem enters4 : Enters args4 main_call4 := rfl

theorem sound4 : Sound args4 main_call4 := by
  constructor <;> decide +kernel

theorem enters5 : Enters args5 main_call5 := rfl

theorem sound5 : Sound args5 main_call5 := by
  constructor <;> decide +kernel

/-- A layer leaves the program's arguments alone. -/
def Keeps (A : Args) (φ : fn_mamba_block.Bufs) : Prop :=
  inputs.all (spares (shape (pre A φ ++ (step φ ++ carry φ) ++ post A φ))) = true

theorem layers_keep : Keeps args0 main_call0 ∧ Keeps args1 main_call1 ∧ Keeps args2 main_call2 ∧ Keeps args3 main_call3 ∧
    Keeps args4 main_call4 ∧ Keeps args5 main_call5 := by
  unfold Keeps; decide +kernel

/-- A stretch as one piece. -/
def line (l : Ops 𝔽) : HostRun.Item (pcfgs (F := 𝔽)) loops := .ops (ops l) (Line.ops_plain _)

/-- The program's pieces. -/
def items : List (HostRun.Item (pcfgs (F := 𝔽)) loops) :=
  line mainOps0 :: (pieces args0 main_call0 enters0 ++
    line mainOps1 :: (pieces args1 main_call1 enters1 ++
    line mainOps2 :: (pieces args2 main_call2 enters2 ++
    line mainOps3 :: (pieces args3 main_call3 enters3 ++
    line mainOps4 :: (pieces args4 main_call4 enters4 ++
    line mainOps5 :: (pieces args5 main_call5 enters5 ++ [line mainOps6]))))))

theorem main_items (d : Dev nD) : main (F := 𝔽) d = Pipeline.chain (items.map HostRun.Item.prog) := by
  rw [main_cut]
  simp only [items, block_eq, List.map_cons, List.map_append, Pipeline.chain_cons, pieces, line, HostRun.Item.prog, loopOf]
  chain_rfl

end Cert.Ref
-- ==== Proof.RefHead.lean ====
module

public import proofs.«01_k».proof.Proof.RefLoop
public import proofs.«01_k».proof.Proof.RefMain
public import proofs.«01_k».proof.Proof.Args
public import Idealize.ShloMosaic.Lib.Routing.OpsSet

@[expose] public section

set_option maxRecDepth 16384

/-!
# The reference's head

What the reference's operations after the last layer leave in its result.
-/

noncomputable section

namespace Cert.RefHead

open Idealize Idealize.ShloMosaic Idealize.ShloMosaic.StableHlo Cert.MambaRefIdeal
open Cert.MambaRefIdeal.Facts₀ Cert.MambaRefIdeal.Facts
open Cert.Line (ops shape once spares val dr)
open Cert.Ref Cert.Spec Cert.RefPre Cert.Args

/-- The program's arguments hold the given arrays. -/
structure Reads (W : Vals) (A : Arrays) : Prop where
  a0 : val W (.of main_arg0 : TRef sig ⟨S256x2048, .f32⟩) = A.a0
  a1 : val W (.of main_arg1 : TRef sig ⟨S6x256, .f32⟩) = A.a1
  a2 : val W (.of main_arg2 : TRef sig ⟨S6x1024x256, .f32⟩) = A.a2
  a3 : val W (.of main_arg3 : TRef sig ⟨S6x512x4, .f32⟩) = A.a3
  a4 : val W (.of main_arg4 : TRef sig ⟨S6x512, .f32⟩) = A.a4
  a5 : val W (.of main_arg5 : TRef sig ⟨S6x48x512, .f32⟩) = A.a5
  a6 : val W (.of main_arg6 : TRef sig ⟨S6x512x16, .f32⟩) = A.a6
  a7 : val W (.of main_arg7 : TRef sig ⟨S6x512, .f32⟩) = A.a7
  a8 : val W (.of main_arg8 : TRef sig ⟨S6x512x16, .f32⟩) = A.a8
  a9 : val W (.of main_arg9 : TRef sig ⟨S6x512, .f32⟩) = A.a9
  a10 : val W (.of main_arg10 : TRef sig ⟨S6x256x512, .f32⟩) = A.a10
  a11 : val W (.of main_arg11 : TRef sig ⟨S256, .f32⟩) = A.a11
  a12 : val W (.of main_arg12 : TRef sig ⟨S64x256, .f32⟩) = A.a12
  a13 : val W (.of main_arg13 : TRef sig ⟨S64, .f32⟩) = A.a13
  a14 : val W (.of main_arg14 : TRef sig ⟨S1x64, .f32⟩) = A.a14
  a15 : val W (.of main_arg15 : TRef sig ⟨S1, .f32⟩) = A.a15

/-- Contents that agree on the program's arguments hold the same arrays. -/
theorem Reads.keep {W W' : Vals} {A : Arrays} (R : Reads W A) (h : ∀ r ∈ inputs, W' (dr r) = W (dr r)) : Reads W' A := by
  simp only [inputs, List.forall_mem_cons] at h
  obtain ⟨k0, k1, k2, k3, k4, k5, k6, k7, k8, k9, k10, k11, k12, k13, k14, k15, -⟩ := h
  exact ⟨(Line.val_congr k0).trans R.a0,
    (Line.val_congr k1).trans R.a1,
    (Line.val_congr k2).trans R.a2,
    (Line.val_congr k3).trans R.a3,
    (Line.val_congr k4).trans R.a4,
    (Line.val_congr k5).trans R.a5,
    (Line.val_congr k6).trans R.a6,
    (Line.val_congr k7).trans R.a7,
    (Line.val_congr k8).trans R.a8,
    (Line.val_congr k9).trans R.a9,
    (Line.val_congr k10).trans R.a10,
    (Line.val_congr k11).trans R.a11,
    (Line.val_congr k12).trans R.a12,
    (Line.val_congr k13).trans R.a13,
    (Line.val_congr k14).trans R.a14,
    (Line.val_congr k15).trans R.a15⟩

/-- The zero index vector puts update `e` at the first step of sequence `e`. -/
theorem lands (e : Fin 8) : scatter_S8x256x1_S2_S8_0_12_12_0.resultIdx? (ix1 e) (fun _ => 0#32 : IVec S2 32) = some (ix3 e 0 0) :=
  (by decide +kernel : ∀ e : Fin 8, scatter_S8x256x1_S2_S8_0_12_12_0.resultIdx? (ix1 e) (fun _ => 0#32 : IVec S2 32) = some (ix3 e 0 0)) e

/-- Zeros put at the first step of every sequence. -/
theorem scatter_at (x : FVec Ideal S8x256x1 .f32) (u : FVec Ideal S8 .f32) (hu : ∀ e, u (ix1 e) = 0) (e : Fin 8) (t : Fin 256) :
    Host.scatter scatter_S8x256x1_S2_S8_0_12_12_0 (fun _ b => b) x (fun _ => 0#32 : IVec S2 32) u (ix3 e t 0) = if t = 0 then 0 else x (ix3 e t 0) := by
  by_cases ht : t = 0
  · subst ht
    rw [if_pos rfl]
    exact Routing.scatter_set_hit _ x _ u _ 0 (fun k _ => by rw [eq_ix1 k]; exact hu _) (ix1 e) (lands e)
  · rw [if_neg ht]
    refine Routing.scatter_set_miss _ x _ u _ fun k hk => ht ?_
    have hk' := (lands (k 0)).symm.trans ((congrArg (fun j => scatter_S8x256x1_S2_S8_0_12_12_0.resultIdx? j (fun _ => 0#32 : IVec S2 32)) (eq_ix1 k)).symm.trans hk)
    have := congrFun (Option.some.inj hk') 1
    exact this.symm

/-- A pair of zero index vectors is a zero index vector. -/
theorem pair_zero (a b : IVec S1 32) (ha : a = fun _ => 0#32) (hb : b = fun _ => 0#32) :
    concatenate S2 0 [⟨S1, a⟩, ⟨S1, b⟩] concatenates_S1_S1_S2_d0 = fun _ => 0#32 := by
  subst ha hb
  funext i
  refine (congrArg _ (eq_ix1 i)).trans ?_
  exact (by decide : ∀ k : Fin 2, concatenate S2 0 [⟨S1, (fun _ => 0#32 : IVec S1 32)⟩, ⟨S1, (fun _ => 0#32 : IVec S1 32)⟩] concatenates_S1_S1_S2_d0 (ix1 k) = 0#32) (i 0)

variable {W : Vals} {A : Arrays} {Y : Fin 8 → Steps}

/-- The result. -/
theorem result_at (h : ∀ o ∈ (mainOps6 : Ops Ideal), o.Holds W) (R : Reads W A)
    (hx : ∀ e t k, val W (.of main_v126 : TRef sig ⟨S8x256x256, .f32⟩) (ix3 e t k) = Y e t k) (e : Fin 8) (t : Fin 256) :
    val W (.of main_v179 : TRef sig ⟨S8x1x256, .f32⟩) (ix3 e 0 t) = A.head.result (Y e) t := by
  simp only [mainOps6, List.forall_mem_cons, Line.holds_nullary, Line.holds_unary, Line.holds_binary, Line.holds_ternary, Line.holds_reshape] at h
  obtain ⟨h_v127, h_cst, h_v128, h_v129, h_cst_0, h_v130, h_v131, h_cst_1, h_v132, h_v133, h_v134, h_v135, h_v136, h_v137, h_v138, h_v139, h_v140, h_v141, h_v142, h_v143, h_v144, h_v145, h_v146, h_cst_2, h_v147, h_v148, h_v149, h_cst_3, h_v150, h_v151, h_v152, h_cst_4, h_v153, h_v154, h_cst_5, h_v155, h_v156, h_v157, h_v158, h_v159, h_v160, h_v161, h_v162, h_cst_6, h_v163, h_cst_7, h_v164, h_v165, h_v166, h_v167, h_v168, h_v169, h_cst_8, h_v170, h_v171, h_v172, h_v173, h_c, h_v174, h_c_9, h_v175, h_v176, h_cst_10, h_v177, h_v178, h_v179, -⟩ := h
  have nf : ∀ k, val W (.of main_arg11 : TRef sig ⟨S256, .f32⟩) (ix1 k) = A.head.nf k := fun k => by rw [R.a11]; rfl
  have w1 : ∀ q k, val W (.of main_arg12 : TRef sig ⟨S64x256, .f32⟩) (ix2 q k) = A.head.w1 q k := fun q k => by rw [R.a12]; rfl
  have b1 : ∀ q, val W (.of main_arg13 : TRef sig ⟨S64, .f32⟩) (ix1 q) = A.head.b1 q := fun q => by rw [R.a13]; rfl
  have w2 : ∀ q, val W (.of main_arg14 : TRef sig ⟨S1x64, .f32⟩) (ix2 0 q) = A.head.w2 q := fun q => by rw [R.a14]; rfl
  have b2 : val W (.of main_arg15 : TRef sig ⟨S1, .f32⟩) (ix1 0) = A.head.b2 := by rw [R.a15]; rfl
  have hid : ∀ e t q, val W (.of main_v144 : TRef sig ⟨S8x256x64, .f32⟩) (ix3 e t q) = A.head.hid (Y e) t q := fun e t q => by
    simp only [h_v127, h_cst, h_v128, h_v129, h_cst_0, h_v130, h_v131, h_cst_1, h_v132, h_v133, h_v134, h_v135, h_v136, h_v137, h_v138, h_v139, h_v140, h_v141, h_v142, h_v143, h_v144]
    pointwise
    simp only [hx, nf, w1, b1]
    rfl
  have act : ∀ e t q, val W (.of main_v157 : TRef sig ⟨S8x256x64, .f32⟩) (ix3 e t q) = gelu (A.head.hid (Y e) t q) := fun e t q => by
    simp only [h_v145, h_v146, h_cst_2, h_v147, h_v148, h_v149, h_cst_3, h_v150, h_v151, h_v152, h_cst_4, h_v153, h_v154, h_cst_5, h_v155, h_v156, h_v157]
    pointwise
    simp only [hid]
    rw [mul_comm (A.head.hid (Y e) t q * A.head.hid (Y e) t q) (A.head.hid (Y e) t q)]
    rfl
  have logit : ∀ e t, val W (.of main_v162 : TRef sig ⟨S8x256x1, .f32⟩) (ix3 e t 0) = A.head.logit (Y e) t := fun e t => by
    simp only [h_v158, h_v159, h_v160, h_v161, h_v162]
    pointwise
    simp only [act, w2, b2]
    rfl
  have top : ∀ e, val W (.of main_v165 : TRef sig ⟨S8x1, .f32⟩) (ix2 e 0) = A.head.top (Y e) := fun e => by
    simp only [h_cst_6, h_v163, h_cst_7, h_v164, h_v165]
    pointwise
    simp only [logit]
    exact max_eq_right ((Finset.le_fold_max _).2 (Or.inl le_rfl))
  have weight : ∀ e t, val W (.of main_v169 : TRef sig ⟨S8x256x1, .f32⟩) (ix3 e t 0) = A.head.weight (Y e) t := fun e t => by
    simp only [h_v166, h_v167, h_v168, h_v169]
    pointwise
    simp only [logit, top]
    rfl
  have quot : ∀ e t, val W (.of main_v173 : TRef sig ⟨S8x256x1, .f32⟩) (ix3 e t 0)
      = Ideal.div (A.head.weight (Y e) t) (∑ s, A.head.weight (Y e) s) := fun e t => by
    simp only [h_cst_8, h_v170, h_v171, h_v172, h_v173]
    pointwise
    simp only [weight]
  have index : val W (.of main_v176 : TRef sig ⟨S2, .i32⟩) = (fun _ => 0#32) :=
    h_v176.trans (pair_zero _ _ (by rw [h_v174, h_c]; rfl) (by rw [h_v175, h_c_9]; rfl))
  have zeros : ∀ e, val W (.of main_v177 : TRef sig ⟨S8, .f32⟩) (ix1 e) = 0 := fun e => by
    simp only [h_v177, h_cst_10]
    pointwise
  have put : ∀ e t, val W (.of main_v178 : TRef sig ⟨S8x256x1, .f32⟩) (ix3 e t 0) = A.head.result (Y e) t := fun e t => by
    rw [h_v178, index]
    refine (scatter_at _ _ zeros e t).trans ?_
    rw [quot]; rfl
  rw [h_v179]
  pointwise
  exact put e t

end Cert.RefHead
-- ==== Proof.RefValue.lean ====
module

public import proofs.«01_k».proof.Proof.RefHead

@[expose] public section

set_option maxRecDepth 16384

/-!
# The reference's value

The run of the reference: its layers take their weights from the program's arguments, and where it ends its result holds
the network of those arguments.
-/

noncomputable section

namespace Cert.RefValue

open Idealize Idealize.ShloMosaic Idealize.ShloMosaic.StableHlo Cert.MambaRefIdeal
open Cert.MambaRefIdeal.Facts₀ Cert.MambaRefIdeal.Facts
open Cert.Line (ops shape once spares val dr)
open Cert.Ref Cert.Spec Cert.RefPre Cert.Args Cert.RefHead

/-- The buffers between the program's arguments and a layer's. -/
structure Raw where
  r1 : TRef sig ⟨S1x256, .f32⟩
  r2 : TRef sig ⟨S1x1024x256, .f32⟩
  r3 : TRef sig ⟨S1x512x4, .f32⟩
  r4 : TRef sig ⟨S1x512, .f32⟩
  r5 : TRef sig ⟨S1x48x512, .f32⟩
  r6 : TRef sig ⟨S1x512x16, .f32⟩
  r7 : TRef sig ⟨S1x512, .f32⟩
  r8 : TRef sig ⟨S1x512x16, .f32⟩
  r9 : TRef sig ⟨S1x512, .f32⟩
  r10 : TRef sig ⟨S1x256x512, .f32⟩

/-- One of six matrices. -/
theorem fits2 {l : ℕ} (hl : l < 6) (a : ℕ) : (⟨2, ![6, a]⟩ : Shape).Slices (![l, 0] : Fin 2 → ℕ) ⟨2, ![1, a]⟩ :=
  ⟨rfl, fun b => by change Fin 2 at b; fin_cases b <;> simp <;> omega⟩

/-- One of six arrays of rank two. -/
theorem fits3 {l : ℕ} (hl : l < 6) (a b : ℕ) : (⟨3, ![6, a, b]⟩ : Shape).Slices (![l, 0, 0] : Fin 3 → ℕ) ⟨3, ![1, a, b]⟩ :=
  ⟨rfl, fun c => by change Fin 3 at c; fin_cases c <;> simp <;> omega⟩

/-- The operations that take layer `l`'s weights from the program's arguments. -/
def cut (l : ℕ) (hl : l < 6) (r : Raw) (R : Ref.Args) : Ops Ideal :=
  [ Line.unary (.of main_arg1 : TRef sig ⟨S6x256, .f32⟩) r.r1 (extractStridedSlice S1x256 ![l, 0] · (fits2 hl 256)),
    Line.reshape r.r1 R.arg1 (rfl : (.f32 : EltTy) = .f32) shapeCasts_S1x256_S256,
    Line.unary (.of main_arg2 : TRef sig ⟨S6x1024x256, .f32⟩) r.r2 (extractStridedSlice S1x1024x256 ![l, 0, 0] · (fits3 hl 1024 256)),
    Line.reshape r.r2 R.arg2 (rfl : (.f32 : EltTy) = .f32) shapeCasts_S1x1024x256_S1024x256,
    Line.unary (.of main_arg3 : TRef sig ⟨S6x512x4, .f32⟩) r.r3 (extractStridedSlice S1x512x4 ![l, 0, 0] · (fits3 hl 512 4)),
    Line.reshape r.r3 R.arg3 (rfl : (.f32 : EltTy) = .f32) shapeCasts_S1x512x4_S512x4,
    Line.unary (.of main_arg4 : TRef sig ⟨S6x512, .f32⟩) r.r4 (extractStridedSlice S1x512 ![l, 0] · (fits2 hl 512)),
    Line.reshape r.r4 R.arg4 (rfl : (.f32 : EltTy) = .f32) shapeCasts_S1x512_S512,
    Line.unary (.of main_arg5 : TRef sig ⟨S6x48x512, .f32⟩) r.r5 (extractStridedSlice S1x48x512 ![l, 0, 0] · (fits3 hl 48 512)),
    Line.reshape r.r5 R.arg5 (rfl : (.f32 : EltTy) = .f32) shapeCasts_S1x48x512_S48x512,
    Line.unary (.of main_arg6 : TRef sig ⟨S6x512x16, .f32⟩) r.r6 (extractStridedSlice S1x512x16 ![l, 0, 0] · (fits3 hl 512 16)),
    Line.reshape r.r6 R.arg6 (rfl : (.f32 : EltTy) = .f32) shapeCasts_S1x512x16_S512x16,
    Line.unary (.of main_arg7 : TRef sig ⟨S6x512, .f32⟩) r.r7 (extractStridedSlice S1x512 ![l, 0] · (fits2 hl 512)),
    Line.reshape r.r7 R.arg7 (rfl : (.f32 : EltTy) = .f32) shapeCasts_S1x512_S512,
    Line.unary (.of main_arg8 : TRef sig ⟨S6x512x16, .f32⟩) r.r8 (extractStridedSlice S1x512x16 ![l, 0, 0] · (fits3 hl 512 16)),
    Line.reshape r.r8 R.arg8 (rfl : (.f32 : EltTy) = .f32) shapeCasts_S1x512x16_S512x16,
    Line.unary (.of main_arg9 : TRef sig ⟨S6x512, .f32⟩) r.r9 (extractStridedSlice S1x512 ![l, 0] · (fits2 hl 512)),
    Line.reshape r.r9 R.arg9 (rfl : (.f32 : EltTy) = .f32) shapeCasts_S1x512_S512,
    Line.unary (.of main_arg10 : TRef sig ⟨S6x256x512, .f32⟩) r.r10 (extractStridedSlice S1x256x512 ![l, 0, 0] · (fits3 hl 256 512)),
    Line.reshape r.r10 R.arg10 (rfl : (.f32 : EltTy) = .f32) shapeCasts_S1x256x512_S256x512 ]

variable {W : Vals} {A : Arrays} {X : Fin 8 → Steps} {R : Ref.Args}

/-- After them the layer's arguments hold its weights. -/
theorem given_of_cut {l : ℕ} (hl : l < 6) {r : Raw} (h : ∀ o ∈ cut l hl r R, o.Holds W) (I : Reads W A)
    (hx : ∀ e t k, val W R.arg0 (ix3 e t k) = X e t k) : Given R W (A.layer ⟨l, hl⟩) X := by
  simp only [cut, List.forall_mem_cons, Line.holds_unary, Line.holds_reshape] at h
  obtain ⟨u1, s1, u2, s2, u3, s3, u4, s4, u5, s5, u6, s6, u7, s7, u8, s8, u9, s9, u10, s10, -⟩ := h
  refine ⟨hx, ?_, ?_, ?_, ?_, ?_, ?_, ?_, ?_, ?_, ?_⟩
  · intro i; rw [s1, u1, I.a1]; pointwise; rfl
  · intro i j; rw [s2, u2, I.a2]; pointwise; rfl
  · intro i j; rw [s3, u3, I.a3]; pointwise; rfl
  · intro i; rw [s4, u4, I.a4]; pointwise; rfl
  · intro i j; rw [s5, u5, I.a5]; pointwise; rfl
  · intro i j; rw [s6, u6, I.a6]; pointwise; rfl
  · intro i; rw [s7, u7, I.a7]; pointwise; rfl
  · intro i j; rw [s8, u8, I.a8]; pointwise; rfl
  · intro i; rw [s9, u9, I.a9]; pointwise; rfl
  · intro i j; rw [s10, u10, I.a10]; pointwise; rfl

/-- One layer with the operations before it. -/
theorem stage {l : ℕ} (hl : l < 6) {φ : fn_mamba_block.Bufs} (h : Enters R φ) (S : Sound R φ) (K : Keeps R φ) {p : Ops Ideal} {r : Raw}
    (ho : once (shape (p ++ cut l hl r R)) = true) (hk : inputs.all (spares (shape (p ++ cut l hl r R))) = true) {V : Dev nD → Vals} {c : Dev nD}
    (I : Reads (V c) A) (hx : ∀ e t k, val (after (ops (p ++ cut l hl r R)) (V c)) R.arg0 (ix3 e t k) = X e t k) :
    Reads (HostRun.fold (line (p ++ cut l hl r R) :: pieces R φ h) V c) A
    ∧ ∀ e t j, val (HostRun.fold (line (p ++ cut l hl r R) :: pieces R φ h) V c) φ.v93 (ix3 e t j) = (A.layer ⟨l, hl⟩).out (X e) t j := by
  have hh := Line.holds_after (p ++ cut l hl r R) (V c) ho
  rw [List.forall_mem_append] at hh
  have I1 : Reads (after (ops (p ++ cut l hl r R)) (V c)) A := I.keep fun b hb => Line.after_spares _ _ b (List.all_eq_true.mp hk b hb)
  have G := given_of_cut hl hh.2 I1 hx
  refine ⟨I1.keep fun b hb => ?_, fun e t j => ?_⟩
  · exact fold_keep R φ h (fun c => after (ops (p ++ cut l hl r R)) (V c)) c b (List.all_eq_true.mp K b hb)
  · exact RefLoop.layer h S (fun c => after (ops (p ++ cut l hl r R)) (V c)) c G e t j

/-- Layer 0's intermediate buffers. -/
def raw0 : Raw := ⟨.of main_v1, .of main_v3, .of main_v5, .of main_v7, .of main_v9, .of main_v11, .of main_v13, .of main_v15, .of main_v17, .of main_v19⟩

theorem main_cut0 : (mainOps0 : Ops Ideal) = [Line.reshape (.of main_arg0 : TRef sig ⟨S256x2048, .f32⟩) (.of main_v0) (rfl : (.f32 : EltTy) = .f32) shapeCasts_S256x2048_S8x256x256] ++ cut 0 (by decide) raw0 args0 := rfl

/-- Layer 1's intermediate buffers. -/
def raw1 : Raw := ⟨.of main_v22, .of main_v24, .of main_v26, .of main_v28, .of main_v30, .of main_v32, .of main_v34, .of main_v36, .of main_v38, .of main_v40⟩

theorem main_cut1 : (mainOps1 : Ops Ideal) = [] ++ cut 1 (by decide) raw1 args1 := rfl

/-- Layer 2's intermediate buffers. -/
def raw2 : Raw := ⟨.of main_v43, .of main_v45, .of main_v47, .of main_v49, .of main_v51, .of main_v53, .of main_v55, .of main_v57, .of main_v59, .of main_v61⟩

theorem main_cut2 : (mainOps2 : Ops Ideal) = [] ++ cut 2 (by decide) raw2 args2 := rfl

/-- Layer 3's intermediate buffers. -/
def raw3 : Raw := ⟨.of main_v64, .of main_v66, .of main_v68, .of main_v70, .of main_v72, .of main_v74, .of main_v76, .of main_v78, .of main_v80, .of main_v82⟩

theorem main_cut3 : (mainOps3 : Ops Ideal) = [] ++ cut 3 (by decide) raw3 args3 := rfl

/-- Layer 4's intermediate buffers. -/
def raw4 : Raw := ⟨.of main_v85, .of main_v87, .of main_v89, .of main_v91, .of main_v93, .of main_v95, .of main_v97, .of main_v99, .of main_v101, .of main_v103⟩

theorem main_cut4 : (mainOps4 : Ops Ideal) = [] ++ cut 4 (by decide) raw4 args4 := rfl

/-- Layer 5's intermediate buffers. -/
def raw5 : Raw := ⟨.of main_v106, .of main_v108, .of main_v110, .of main_v112, .of main_v114, .of main_v116, .of main_v118, .of main_v120, .of main_v122, .of main_v124⟩

theorem main_cut5 : (mainOps5 : Ops Ideal) = [] ++ cut 5 (by decide) raw5 args5 := rfl

end Cert.RefValue
-- ==== Proof.RefEnd.lean ====
module

public import proofs.«01_k».proof.Proof.RefValue
public import Idealize.ShloMosaic.Lib.StableHlo.RunHlo

@[expose] public section

set_option maxRecDepth 16384

/-!
# Where the reference ends

Every run of the reference leaves its arguments alone, and its result is the network of those arguments.
-/

noncomputable section

namespace Cert.RefEnd

open Idealize Idealize.ShloMosaic Idealize.ShloMosaic.StableHlo Cert.MambaRefIdeal Idealize.SL.Sem
open Cert.MambaRefIdeal.Facts₀ Cert.MambaRefIdeal.Facts
open Cert.Line (ops shape once spares val dr)
open Cert.Ref Cert.Spec Cert.RefPre Cert.Args Cert.RefHead Cert.RefValue

/-- The operations outside the layers leave the program's arguments alone. -/
theorem outside_keep {l : Ops Ideal} (hl : l ∈ [(mainOps0 : Ops Ideal), mainOps1, mainOps2, mainOps3, mainOps4, mainOps5, mainOps6]) :
    inputs.all (spares (shape l)) = true := List.all_eq_true.mp main_keeps l hl

/-- One layer's pieces with the operations before it. -/
def part (l : Ops Ideal) (R : Ref.Args) (φ : fn_mamba_block.Bufs) (h : Enters R φ) : List (HostRun.Item (pcfgs (F := Ideal)) loops) :=
  line l :: pieces R φ h

/-- The program's pieces, layer by layer. -/
theorem items_eq : items = part mainOps0 args0 main_call0 enters0 ++ (part mainOps1 args1 main_call1 enters1 ++ (part mainOps2 args2 main_call2 enters2 ++ (part mainOps3 args3 main_call3 enters3 ++ (part mainOps4 args4 main_call4 enters4 ++ (part mainOps5 args5 main_call5 enters5 ++ [line mainOps6]))))) := rfl

/-- A layer with the operations before it asks nothing of the contents it meets. -/
theorem part_ok {l : Ops Ideal} {R : Ref.Args} {φ : fn_mamba_block.Bufs} (h : Enters R φ) (S : Sound R φ) (W : Dev nD → Vals) :
    HostRun.Ok defs₀ (part l R φ h) W := ⟨trivial, pieces_ok R φ h S _⟩

/-- The program asks nothing of the contents it meets. -/
theorem items_ok (W : Dev nD → Vals) : HostRun.Ok defs₀ items W := by
  rw [items_eq]
  simp only [HostRun.ok_append]
  exact ⟨part_ok enters0 sound0 _, part_ok enters1 sound1 _, part_ok enters2 sound2 _, part_ok enters3 sound3 _, part_ok enters4 sound4 _, part_ok enters5 sound5 _, trivial, trivial⟩

/-- What neither the operations nor a layer write keeps its contents. -/
theorem part_keep {l : Ops Ideal} {R : Ref.Args} {φ : fn_mamba_block.Bufs} (h : Enters R φ) (K : Keeps R φ)
    (hl : inputs.all (spares (shape l)) = true) (W : Dev nD → Vals) (c : Dev nD) (b : Ref sig .tc) (hb : b ∈ inputs) :
    HostRun.fold (part l R φ h) W c (dr b) = W c (dr b) :=
  (fold_keep R φ h (fun c => after (ops l) (W c)) c b (List.all_eq_true.mp K b hb)).trans (Line.after_spares _ _ b (List.all_eq_true.mp hl b hb))

/-- The program's arguments keep their contents. -/
theorem items_keep (W : Dev nD → Vals) (c : Dev nD) (b : Ref sig .tc) (hb : b ∈ inputs) : HostRun.fold items W c (dr b) = W c (dr b) := by
  obtain ⟨K0, K1, K2, K3, K4, K5⟩ := layers_keep
  rw [items_eq]
  simp only [HostRun.fold_append]
  refine (Line.after_spares mainOps6 _ b (List.all_eq_true.mp (outside_keep (by simp)) b hb)).trans ?_
  rw [part_keep enters5 K5 (outside_keep (by simp)) _ c b hb, part_keep enters4 K4 (outside_keep (by simp)) _ c b hb, part_keep enters3 K3 (outside_keep (by simp)) _ c b hb, part_keep enters2 K2 (outside_keep (by simp)) _ c b hb, part_keep enters1 K1 (outside_keep (by simp)) _ c b hb, part_keep enters0 K0 (outside_keep (by simp)) _ c b hb]

variable {A : Arrays}

/-- The program's result is the network of its arguments. -/
theorem items_result (W : Dev nD → Vals) (c : Dev nD) (I : Reads (W c) A) (e : Fin 8) (t : Fin 256) :
    val (HostRun.fold items W c) (.of main_v179 : TRef sig ⟨S8x1x256, .f32⟩) (ix3 e 0 t) = A.result e t := by
  obtain ⟨K0, K1, K2, K3, K4, K5⟩ := layers_keep
  obtain ⟨o0, o1, o2, o3, o4, o5, o6⟩ := once_main
  have hx0 : ∀ e t k, val (after (ops (mainOps0 : Ops Ideal)) (W c)) args0.arg0 (ix3 e t k) = A.seq e t k := fun e t k => by
    have hh := Line.holds_after mainOps0 (W c) o0
    have ha := (I.keep fun b hb => Line.after_spares mainOps0 (W c) b (List.all_eq_true.mp (outside_keep (by simp)) b hb)).a0
    generalize after (ops (mainOps0 : Ops Ideal)) (W c) = W1 at *
    rw [main_cut0, List.forall_mem_append] at hh
    have h0 := hh.1
    simp only [List.forall_mem_cons, Line.holds_reshape] at h0
    have h1 : val W1 args0.arg0 = _ := h0.1
    rw [h1, ha]
    rfl
  rw [items_eq]
  simp only [HostRun.fold_append]
  have s0 : Reads (HostRun.fold (part mainOps0 args0 main_call0 enters0) W c) A ∧ ∀ e t j, val (HostRun.fold (part mainOps0 args0 main_call0 enters0) W c) main_call0.v93 (ix3 e t j) = (A.layer 0).out (A.seq e) t j :=
    stage (by decide) enters0 sound0 K0 (p := [Line.reshape (.of main_arg0 : TRef sig ⟨S256x2048, .f32⟩) (.of main_v0) (rfl : (.f32 : EltTy) = .f32) shapeCasts_S256x2048_S8x256x256]) (r := raw0) o0 (outside_keep (l := mainOps0) (by simp)) I hx0
  generalize HostRun.fold (part mainOps0 args0 main_call0 enters0) W = V0 at s0 ⊢
  have s1 : Reads (HostRun.fold (part mainOps1 args1 main_call1 enters1) V0 c) A ∧ ∀ e t j, val (HostRun.fold (part mainOps1 args1 main_call1 enters1) V0 c) main_call1.v93 (ix3 e t j) = (A.layer 1).out ((A.layer 0).out (A.seq e)) t j :=
    stage (by decide) enters1 sound1 K1 (p := []) (r := raw1) o1 (outside_keep (l := mainOps1) (by simp)) s0.1
      (fun e t k => (congrFun (Line.val_spares mainOps1 (V0 c) args1.arg0 (by decide +kernel)) (ix3 e t k)).trans (s0.2 e t k))
  generalize HostRun.fold (part mainOps1 args1 main_call1 enters1) V0 = V1 at s1 ⊢
  have s2 : Reads (HostRun.fold (part mainOps2 args2 main_call2 enters2) V1 c) A ∧ ∀ e t j, val (HostRun.fold (part mainOps2 args2 main_call2 enters2) V1 c) main_call2.v93 (ix3 e t j) = (A.layer 2).out ((A.layer 1).out ((A.layer 0).out (A.seq e))) t j :=
    stage (by decide) enters2 sound2 K2 (p := []) (r := raw2) o2 (outside_keep (l := mainOps2) (by simp)) s1.1
      (fun e t k => (congrFun (Line.val_spares mainOps2 (V1 c) args2.arg0 (by decide +kernel)) (ix3 e t k)).trans (s1.2 e t k))
  generalize HostRun.fold (part mainOps2 args2 main_call2 enters2) V1 = V2 at s2 ⊢
  have s3 : Reads (HostRun.fold (part mainOps3 args3 main_call3 enters3) V2 c) A ∧ ∀ e t j, val (HostRun.fold (part mainOps3 args3 main_call3 enters3) V2 c) main_call3.v93 (ix3 e t j) = (A.layer 3).out ((A.layer 2).out ((A.layer 1).out ((A.layer 0).out (A.seq e)))) t j :=
    stage (by decide) enters3 sound3 K3 (p := []) (r := raw3) o3 (outside_keep (l := mainOps3) (by simp)) s2.1
      (fun e t k => (congrFun (Line.val_spares mainOps3 (V2 c) args3.arg0 (by decide +kernel)) (ix3 e t k)).trans (s2.2 e t k))
  generalize HostRun.fold (part mainOps3 args3 main_call3 enters3) V2 = V3 at s3 ⊢
  have s4 : Reads (HostRun.fold (part mainOps4 args4 main_call4 enters4) V3 c) A ∧ ∀ e t j, val (HostRun.fold (part mainOps4 args4 main_call4 enters4) V3 c) main_call4.v93 (ix3 e t j) = (A.layer 4).out ((A.layer 3).out ((A.layer 2).out ((A.layer 1).out ((A.layer 0).out (A.seq e))))) t j :=
    stage (by decide) enters4 sound4 K4 (p := []) (r := raw4) o4 (outside_keep (l := mainOps4) (by simp)) s3.1
      (fun e t k => (congrFun (Line.val_spares mainOps4 (V3 c) args4.arg0 (by decide +kernel)) (ix3 e t k)).trans (s3.2 e t k))
  generalize HostRun.fold (part mainOps4 args4 main_call4 enters4) V3 = V4 at s4 ⊢
  have s5 : Reads (HostRun.fold (part mainOps5 args5 main_call5 enters5) V4 c) A ∧ ∀ e t j, val (HostRun.fold (part mainOps5 args5 main_call5 enters5) V4 c) main_call5.v93 (ix3 e t j) = (A.layer 5).out ((A.layer 4).out ((A.layer 3).out ((A.layer 2).out ((A.layer 1).out ((A.layer 0).out (A.seq e)))))) t j :=
    stage (by decide) enters5 sound5 K5 (p := []) (r := raw5) o5 (outside_keep (l := mainOps5) (by simp)) s4.1
      (fun e t k => (congrFun (Line.val_spares mainOps5 (V4 c) args5.arg0 (by decide +kernel)) (ix3 e t k)).trans (s4.2 e t k))
  generalize HostRun.fold (part mainOps5 args5 main_call5 enters5) V4 = V5 at s5 ⊢
  have hh := Line.holds_after mainOps6 (V5 c) o6
  have I6 := s5.1.keep fun b hb => Line.after_spares mainOps6 (V5 c) b (List.all_eq_true.mp (outside_keep (by simp)) b hb)
  exact result_at hh I6 (fun e t k => (congrFun (Line.val_spares mainOps6 (V5 c) (.of main_v126 : TRef sig ⟨S8x256x256, .f32⟩) (by decide +kernel)) (ix3 e t k)).trans (s5.2 e t k)) e t

/-- The arguments of a launch. -/
def arrays (m : (ℓ : Loc nD τ sig) → Buf (Elt Ideal) ℓ) (c : Dev nD) : Arrays where
  a0 := m ((c.tc : Thread nD τ).loc main_arg0)
  a1 := m ((c.tc : Thread nD τ).loc main_arg1)
  a2 := m ((c.tc : Thread nD τ).loc main_arg2)
  a3 := m ((c.tc : Thread nD τ).loc main_arg3)
  a4 := m ((c.tc : Thread nD τ).loc main_arg4)
  a5 := m ((c.tc : Thread nD τ).loc main_arg5)
  a6 := m ((c.tc : Thread nD τ).loc main_arg6)
  a7 := m ((c.tc : Thread nD τ).loc main_arg7)
  a8 := m ((c.tc : Thread nD τ).loc main_arg8)
  a9 := m ((c.tc : Thread nD τ).loc main_arg9)
  a10 := m ((c.tc : Thread nD τ).loc main_arg10)
  a11 := m ((c.tc : Thread nD τ).loc main_arg11)
  a12 := m ((c.tc : Thread nD τ).loc main_arg12)
  a13 := m ((c.tc : Thread nD τ).loc main_arg13)
  a14 := m ((c.tc : Thread nD τ).loc main_arg14)
  a15 := m ((c.tc : Thread nD τ).loc main_arg15)

theorem reads (m : (ℓ : Loc nD τ sig) → Buf (Elt Ideal) ℓ) (c : Dev nD) : Reads (launchContents m c) (arrays m c) :=
  ⟨rfl, rfl, rfl, rfl, rfl, rfl, rfl, rfl, rfl, rfl, rfl, rfl, rfl, rfl, rfl, rfl⟩

/-- Every run ends with the arguments as they were, the result the network of them, and every semaphore at zero. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r =>
      (∀ c : Dev nD, (∀ b ∈ inputs, r.2.mem ((c.tc : Thread nD τ).loc b) = m ((c.tc : Thread nD τ).loc b))
        ∧ ∀ (e : Fin 8) (t : Fin 256), (r.2.mem ((c.tc : Thread nD τ).loc main_v179) : FVec Ideal S8x1x256 .f32) (ix3 e 0 t) = (arrays m c).result e t)
      ∧ r.2.sem = fun _ => 0) := by
  refine θ_run_mono (HostRun.run (defs₀ := defs₀) main items main_items m ρ (items_ok _)) fun r h => ⟨fun c => ⟨fun b hb => ?_, fun e t => ?_⟩, h.2⟩
  · have hs : ∀ b ∈ inputs, (Proc.devRef .tc b : DevRef τ sig).isScoped = false := by decide +kernel
    exact (h.1 c b (hs b hb)).trans (items_keep _ c b hb)
  · rw [h.1 c main_v179 (by decide +kernel)]
    exact items_result _ c (reads m c) e t

end Cert.RefEnd
-- ==== Proof.lean ====
module

public import proofs.«01_k».proof.Defs
public import proofs.«01_k».proof.Proof.Gen.Mamba
public import proofs.«01_k».proof.Proof.Gen.Mamba.Skeleton
public import proofs.«01_k».proof.Proof.Gen.Mamba.Loops
public import proofs.«01_k».proof.Proof.Gen.Mamba.Launch
public import proofs.«01_k».proof.Proof.Gen.Mamba.Points
public import proofs.«01_k».proof.Proof.Gen.Mamba.Frame
public import proofs.«01_k».proof.Proof.Gen.MambaIdeal
public import proofs.«01_k».proof.Proof.Gen.MambaIdeal.Skeleton
public import proofs.«01_k».proof.Proof.Gen.MambaIdeal.Loops
public import proofs.«01_k».proof.Proof.Gen.MambaIdeal.Launch
public import proofs.«01_k».proof.Proof.Gen.MambaIdeal.Points
public import proofs.«01_k».proof.Proof.Gen.MambaIdeal.Frame
public import proofs.«01_k».proof.Proof.Gen.MambaRefIdeal
public import proofs.«01_k».proof.Proof.Gen.MambaIdeal.Value
public import proofs.«01_k».proof.Proof.KernelValue
public import proofs.«01_k».proof.Proof.RefEnd
public import Idealize.ShloMosaic.Adequacy
public import Idealize.ShloMosaic.Init

@[expose] public section

noncomputable section

namespace Cert.Proof

open Idealize.ShloMosaic Idealize.SL.Sem

/-- The reference's arguments keep their contents and every semaphore counter ends at zero. -/
theorem frame_reference : Cert.quiescent_MambaRefIdeal := fun m ρ _ =>
  θ_run_mono (Cert.RefEnd.run m ρ) fun r h => ⟨fun c => by
    have k := (h.1 c).1
    simp only [Cert.Ref.inputs, List.forall_mem_cons] at k
    obtain ⟨k0, k1, k2, k3, k4, k5, k6, k7, k8, k9, k10, k11, k12, k13, k14, k15, -⟩ := k
    exact ⟨k0, k1, k2, k3, k4, k5, k6, k7, k8, k9, k10, k11, k12, k13, k14, k15⟩, h.2⟩

/-- From the same arguments the kernel and the reference end with the same result: the network of the arguments. -/
theorem same_result : Cert.algebraic_MambaIdeal_MambaRefIdeal := fun m ρ m' ρ' _ hm =>
  ⟨fun c => fun i => (Cert.KValue.arrays m c).result (i 0) (i 2),
    θ_run_mono (Cert.MambaIdeal.Value.run_blocks m ρ) fun r h c => ⟨(h c).1.trans (funext fun i => by
      have hi : i = ix3 (n0 := 8) (n1 := 1) (n2 := 256) (i 0) 0 (i 2) := (eq_ix3 (n0 := 8) (n1 := 1) (n2 := 256) i).trans
        (congrArg (fun z : Fin 1 => ix3 (n0 := 8) (n1 := 1) (n2 := 256) (i 0) z (i 2)) (Subsingleton.elim _ _))
      exact (congrArg _ hi).trans (Cert.KValue.result m c (i 0) (i 2))), (h c).2⟩,
    θ_run_mono (Cert.RefEnd.run m' ρ') fun r h c => by
      have e : Cert.RefEnd.arrays m' c = Cert.KValue.arrays m c := by
        obtain ⟨e0, e1, e2, e3, e4, e5, e6, e7, e8, e9, e10, e11, e12, e13, e14, e15⟩ := hm c
        unfold Cert.RefEnd.arrays Cert.KValue.arrays
        rw [e0, e1, e2, e3, e4, e5, e6, e7, e8, e9, e10, e11, e12, e13, e14, e15]
      have k := (h.1 c).1
      simp only [Cert.Ref.inputs, List.forall_mem_cons] at k
      obtain ⟨k0, k1, k2, k3, k4, k5, k6, k7, k8, k9, k10, k11, k12, k13, k14, k15, -⟩ := k
      refine ⟨funext fun i => ?_, k0, k1, k2, k3, k4, k5, k6, k7, k8, k9, k10, k11, k12, k13, k14, k15⟩
      have hi : i = ix3 (n0 := 8) (n1 := 1) (n2 := 256) (i 0) 0 (i 2) := (eq_ix3 (n0 := 8) (n1 := 1) (n2 := 256) i).trans
        (congrArg (fun z : Fin 1 => ix3 (n0 := 8) (n1 := 1) (n2 := 256) (i 0) z (i 2)) (Subsingleton.elim _ _))
      refine (congrArg _ hi).trans (((h.1 c).2 (i 0) (i 2)).trans ?_)
      rw [e]⟩

/-- All the claims. -/
theorem claim : Cert.Claim := ⟨Cert.Mamba.Gen.facts, Cert.MambaIdeal.Gen.facts, Cert.MambaRefIdeal.Gen.facts,
  fun m ρ _ => Cert.Mamba.Gen.frame m ρ, fun m ρ _ => Cert.MambaIdeal.Gen.frame m ρ, frame_reference, trivial, same_result⟩

end Cert.Proof

end
